-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_4)) (v5 : (c : Dev Cert.Kernel4Ideal.nD) → Buf (Elt Ideal) ((c.tc : Thread Cert.Kernel4Ideal.nD Cert.Kernel4Ideal.τ).loc Cert.Kernel4Ideal.main_v46_5)) (v6 : (c : Dev Cert.Kernel4Ideal.nD) → Buf (Elt Ideal) ((c.tc : Thread Cert.Kernel4Ideal.nD Cert.Kernel4Ideal.τ).loc Cert.Kernel4Ideal.main_v46_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_4) = v4 c
          ∧ r.2.mem ((c.tc : Thread Cert.Kernel4Ideal.nD Cert.Kernel4Ideal.τ).loc Cert.Kernel4Ideal.main_v46_5) = v5 c
          ∧ r.2.mem ((c.tc : Thread Cert.Kernel4Ideal.nD Cert.Kernel4Ideal.τ).loc Cert.Kernel4Ideal.main_v46_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v164) = v0 c
          ∧ r.2.mem ((c.tc : Thread Cert.Reference4Ideal.nD Cert.Reference4Ideal.τ).loc Cert.Reference4Ideal.main_v166) = v1 c
          ∧ r.2.mem ((c.tc : Thread Cert.Reference4Ideal.nD Cert.Reference4Ideal.τ).loc Cert.Reference4Ideal.main_v168) = v2 c
          ∧ r.2.mem ((c.tc : Thread Cert.Reference4Ideal.nD Cert.Reference4Ideal.τ).loc Cert.Reference4Ideal.main_v171) = v3 c
          ∧ r.2.mem ((c.tc : Thread Cert.Reference4Ideal.nD Cert.Reference4Ideal.τ).loc Cert.Reference4Ideal.main_v173) = v4 c
          ∧ r.2.mem ((c.tc : Thread Cert.Reference4Ideal.nD Cert.Reference4Ideal.τ).loc Cert.Reference4Ideal.main_v175) = v5 c
          ∧ r.2.mem ((c.tc : Thread Cert.Reference4Ideal.nD Cert.Reference4Ideal.τ).loc Cert.Reference4Ideal.main_v177) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S1024x32768 : Shape := ⟨2, ![1024, 32768]⟩
abbrev S16x32768 : Shape := ⟨2, ![16, 32768]⟩
abbrev S32768x4224 : Shape := ⟨2, ![32768, 4224]⟩
abbrev S32768x256 : Shape := ⟨2, ![32768, 256]⟩
abbrev S128x288x256 : Shape := ⟨3, ![128, 288, 256]⟩
abbrev S32768x64 : Shape := ⟨2, ![32768, 64]⟩
abbrev S32768x1024 : Shape := ⟨2, ![32768, 1024]⟩
abbrev S1024x256 : Shape := ⟨2, ![1024, 256]⟩
abbrev S16x256 : Shape := ⟨2, ![16, 256]⟩
abbrev S256x1024 : Shape := ⟨2, ![256, 1024]⟩
abbrev S4096x256 : Shape := ⟨2, ![4096, 256]⟩
abbrev S16x288x256 : Shape := ⟨3, ![16, 288, 256]⟩
abbrev S4096x64 : Shape := ⟨2, ![4096, 64]⟩
abbrev S32x128x256 : Shape := ⟨3, ![32, 128, 256]⟩
abbrev S2x1024 : Shape := ⟨2, ![2, 1024]⟩
abbrev S2x128x1024 : Shape := ⟨3, ![2, 128, 1024]⟩
abbrev S2x256x2048 : Shape := ⟨3, ![2, 256, 2048]⟩
abbrev S2x8x256 : Shape := ⟨3, ![2, 8, 256]⟩
abbrev S1x256 : Shape := ⟨2, ![1, 256]⟩
abbrev S128x64 : Shape := ⟨2, ![128, 64]⟩
abbrev S128x256 : Shape := ⟨2, ![128, 256]⟩
abbrev S64x256 : Shape := ⟨2, ![64, 256]⟩
abbrev S128x1 : Shape := ⟨2, ![128, 1]⟩
abbrev S256x256 : Shape := ⟨2, ![256, 256]⟩
abbrev S8x256 : Shape := ⟨2, ![8, 256]⟩
abbrev S1x8x256 : Shape := ⟨3, ![1, 8, 256]⟩
abbrev S1x128x256 : Shape := ⟨3, ![1, 128, 256]⟩
abbrev S256 : Shape := ⟨1, ![256]⟩
abbrev S96x256 : Shape := ⟨2, ![96, 256]⟩
abbrev S1x96x256 : Shape := ⟨3, ![1, 96, 256]⟩
abbrev S32x256 : Shape := ⟨2, ![32, 256]⟩
abbrev S1x64x256 : Shape := ⟨3, ![1, 64, 256]⟩
abbrev S1x32x256 : Shape := ⟨3, ![1, 32, 256]⟩
abbrev S1x1x256 : Shape := ⟨3, ![1, 1, 256]⟩
abbrev S1 : Shape := ⟨1, ![1]⟩
abbrev S1x1x1 : Shape := ⟨3, ![1, 1, 1]⟩
abbrev S256x1 : Shape := ⟨2, ![256, 1]⟩
abbrev S128x1024 : Shape := ⟨2, ![128, 1024]⟩
abbrev S256x128 : Shape := ⟨2, ![256, 128]⟩
abbrev S1x256x256 : Shape := ⟨3, ![1, 256, 256]⟩
abbrev S1x144x256 : Shape := ⟨3, ![1, 144, 256]⟩
abbrev S144x256 : Shape := ⟨2, ![144, 256]⟩

abbrev nBuf : Space → Nat
  | .hbm => 8
  | .vmem => 24
  | .smem => 0
  | _ => 0

abbrev bufTy : (tb : Table) → Fin (tcTables nBuf tb) → BufTy
  | .hbm, ⟨0, _⟩ => ⟨S1024x32768, .bf16⟩
  | .hbm, ⟨1, _⟩ => ⟨S1024x32768, .bf16⟩
  | .hbm, ⟨2, _⟩ => ⟨S16x32768, .f32⟩
  | .hbm, ⟨3, _⟩ => ⟨S32768x4224, .f32⟩
  | .hbm, ⟨4, _⟩ => ⟨S32768x256, .bf16⟩
  | .hbm, ⟨5, _⟩ => ⟨S128x288x256, .bf16⟩
  | .hbm, ⟨6, _⟩ => ⟨S32768x64, .bf16⟩
  | .hbm, ⟨7, _⟩ => ⟨S32768x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S16x256, .f32⟩
  | .local _ .vmem, ⟨5, _⟩ => ⟨S16x256, .f32⟩
  | .local _ .vmem, ⟨6, _⟩ => ⟨S256x1024, .f32⟩
  | .local _ .vmem, ⟨7, _⟩ => ⟨S256x1024, .f32⟩
  | .local _ .vmem, ⟨8, _⟩ => ⟨S4096x256, .bf16⟩
  | .local _ .vmem, ⟨9, _⟩ => ⟨S4096x256, .bf16⟩
  | .local _ .vmem, ⟨10, _⟩ => ⟨S16x288x256, .bf16⟩
  | .local _ .vmem, ⟨11, _⟩ => ⟨S16x288x256, .bf16⟩
  | .local _ .vmem, ⟨12, _⟩ => ⟨S4096x64, .bf16⟩
  | .local _ .vmem, ⟨13, _⟩ => ⟨S4096x64, .bf16⟩
  | .local _ .vmem, ⟨14, _⟩ => ⟨S256x1024, .bf16⟩
  | .local _ .vmem, ⟨15, _⟩ => ⟨S256x1024, .bf16⟩
  | .local _ .vmem, ⟨16, _⟩ => ⟨S4096x256, .i32⟩
  | .local _ .vmem, ⟨17, _⟩ => ⟨S32x128x256, .i32⟩
  | .local _ .vmem, ⟨18, _⟩ => ⟨S4096x256, .f32⟩
  | .local _ .vmem, ⟨19, _⟩ => ⟨S2x1024, .f32⟩
  | .local _ .vmem, ⟨20, _⟩ => ⟨S2x1024, .f32⟩
  | .local _ .vmem, ⟨21, _⟩ => ⟨S2x128x1024, .f32⟩
  | .local _ .vmem, ⟨22, _⟩ => ⟨S2x256x2048, .f32⟩
  | .local _ .vmem, ⟨23, _⟩ => ⟨S2x8x256, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![8, 16], ![false, false]⟩

def k0_mult1 (i : grid0.Coords) : BitVec 32 :=
  let c2_i32 : BitVec 32 := 2#32
  let arg1 : BitVec 32 := BitVec.ofNat 32 (i 1).val
  let v0 : BitVec 32 := Scalar.muli c2_i32 arg1
  let c0_i32_7 : BitVec 32 := 0#32
  let v34 : BitVec 32 := Scalar.addi v0 c0_i32_7
  let c128_i32 : BitVec 32 := 128#32
  let v35 : BitVec 32 := Scalar.muli v34 c128_i32
  v35
def k0_off1 (i : grid0.Coords) (c0_i32_7 : BitVec 32) : Fin 2 → Nat :=
  let c2_i32 : BitVec 32 := 2#32
  let arg1 : BitVec 32 := BitVec.ofNat 32 (i 1).val
  let v0 : BitVec 32 := Scalar.muli c2_i32 arg1
  let v34 : BitVec 32 := Scalar.addi v0 c0_i32_7
  let c128_i32 : BitVec 32 := 128#32
  let v35 : BitVec 32 := Scalar.muli v34 c128_i32
  let v36 : BitVec 32 := v35
  let v37 : Index := Scalar.indexCast v36
  let c0 : Index := 0#32
  ![v37.toNat, 0]
def k0_off2 (i : grid0.Coords) (c0_i32_7 : BitVec 32) : Fin 2 → Nat :=
  let c2_i32 : BitVec 32 := 2#32
  let arg1 : BitVec 32 := BitVec.ofNat 32 (i 1).val
  let v0 : BitVec 32 := Scalar.muli c2_i32 arg1
  let v34 : BitVec 32 := Scalar.addi v0 c0_i32_7
  let c128_i32 : BitVec 32 := 128#32
  let v35 : BitVec 32 := Scalar.muli v34 c128_i32
  let v36 : BitVec 32 := v35
  let v207 : Index := Scalar.indexCast v36
  let c0_82 : Index := 0#32
  ![v207.toNat, 0]
def k0_mult2 (i : grid0.Coords) : BitVec 32 :=
  let c2_i32 : BitVec 32 := 2#32
  let arg1 : BitVec 32 := BitVec.ofNat 32 (i 1).val
  let v0 : BitVec 32 := Scalar.muli c2_i32 arg1
  let c1_i32_83 : BitVec 32 := 1#32
  let v211 : BitVec 32 := Scalar.addi v0 c1_i32_83
  let c128_i32_84 : BitVec 32 := 128#32
  let v212 : BitVec 32 := Scalar.muli v211 c128_i32_84
  v212
@[reducible] def k0_t1_loop (i : grid0.Coords) : Scf.Loop 32 :=
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_205 : BitVec 32 := 1#32
  ⟨c0_i32_203, v409, c1_i32_205⟩
def k0_mult3 (i : grid0.Coords) (k0_t1 : Fin (k0_t1_loop i).trips) : BitVec 32 :=
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c2_i32_774 : BitVec 32 := 2#32
  let v1860 : BitVec 32 := Scalar.muli v1859 c2_i32_774
  let c128_i32_775 : BitVec 32 := 128#32
  let v1861 : BitVec 32 := Scalar.muli v1860 c128_i32_775
  v1861
def k0_off3 (i : grid0.Coords) (k0_t1 : Fin (k0_t1_loop i).trips) : Fin 2 → Nat :=
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c2_i32_774 : BitVec 32 := 2#32
  let v1860 : BitVec 32 := Scalar.muli v1859 c2_i32_774
  let c128_i32_775 : BitVec 32 := 128#32
  let v1861 : BitVec 32 := Scalar.muli v1860 c128_i32_775
  let v1862 : BitVec 32 := v1861
  let v1863 : Index := Scalar.indexCast v1862
  let c0_776 : Index := 0#32
  ![v1863.toNat, 0]
def k0_mult4 (i : grid0.Coords) (k0_t1 : Fin (k0_t1_loop i).trips) : BitVec 32 :=
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  v2619
def k0_off4 (i : grid0.Coords) (k0_t1 : Fin (k0_t1_loop i).trips) : Fin 3 → Nat :=
  let c0_1019 : Index := 0#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2621 : Index := Scalar.indexCast v2620
  let c0_1020 : Index := 0#32
  ![0, v2621.toNat, 0]
def k0_off5 (i : grid0.Coords) (k0_t1 : Fin (k0_t1_loop i).trips) : Fin 3 → Nat :=
  let c1_1021 : Index := 1#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2625 : Index := Scalar.indexCast v2620
  let c0_1022 : Index := 0#32
  ![1, v2625.toNat, 0]
def k0_off6 (i : grid0.Coords) (k0_t1 : Fin (k0_t1_loop i).trips) : Fin 3 → Nat :=
  let c2_1023 : Index := 2#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2629 : Index := Scalar.indexCast v2620
  let c0_1024 : Index := 0#32
  ![2, v2629.toNat, 0]
def k0_off7 (i : grid0.Coords) (k0_t1 : Fin (k0_t1_loop i).trips) : Fin 3 → Nat :=
  let c3_1025 : Index := 3#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2633 : Index := Scalar.indexCast v2620
  let c0_1026 : Index := 0#32
  ![3, v2633.toNat, 0]
def k0_off8 (i : grid0.Coords) (k0_t1 : Fin (k0_t1_loop i).trips) : Fin 3 → Nat :=
  let c4_1027 : Index := 4#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2637 : Index := Scalar.indexCast v2620
  let c0_1028 : Index := 0#32
  ![4, v2637.toNat, 0]
def k0_off9 (i : grid0.Coords) (k0_t1 : Fin (k0_t1_loop i).trips) : Fin 3 → Nat :=
  let c5_1029 : Index := 5#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2641 : Index := Scalar.indexCast v2620
  let c0_1030 : Index := 0#32
  ![5, v2641.toNat, 0]
def k0_off10 (i : grid0.Coords) (k0_t1 : Fin (k0_t1_loop i).trips) : Fin 3 → Nat :=
  let c6_1031 : Index := 6#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2645 : Index := Scalar.indexCast v2620
  let c0_1032 : Index := 0#32
  ![6, v2645.toNat, 0]
def k0_off11 (i : grid0.Coords) (k0_t1 : Fin (k0_t1_loop i).trips) : Fin 3 → Nat :=
  let c7_1033 : Index := 7#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2649 : Index := Scalar.indexCast v2620
  let c0_1034 : Index := 0#32
  ![7, v2649.toNat, 0]
def k0_off12 (i : grid0.Coords) (k0_t1 : Fin (k0_t1_loop i).trips) : Fin 3 → Nat :=
  let c8_1035 : Index := 8#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2653 : Index := Scalar.indexCast v2620
  let c0_1036 : Index := 0#32
  ![8, v2653.toNat, 0]
def k0_off13 (i : grid0.Coords) (k0_t1 : Fin (k0_t1_loop i).trips) : Fin 3 → Nat :=
  let c9_1037 : Index := 9#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2657 : Index := Scalar.indexCast v2620
  let c0_1038 : Index := 0#32
  ![9, v2657.toNat, 0]
def k0_off14 (i : grid0.Coords) (k0_t1 : Fin (k0_t1_loop i).trips) : Fin 3 → Nat :=
  let c10_1039 : Index := 10#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2661 : Index := Scalar.indexCast v2620
  let c0_1040 : Index := 0#32
  ![10, v2661.toNat, 0]
def k0_off15 (i : grid0.Coords) (k0_t1 : Fin (k0_t1_loop i).trips) : Fin 3 → Nat :=
  let c11_1041 : Index := 11#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2665 : Index := Scalar.indexCast v2620
  let c0_1042 : Index := 0#32
  ![11, v2665.toNat, 0]
def k0_off16 (i : grid0.Coords) (k0_t1 : Fin (k0_t1_loop i).trips) : Fin 3 → Nat :=
  let c12_1043 : Index := 12#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2669 : Index := Scalar.indexCast v2620
  let c0_1044 : Index := 0#32
  ![12, v2669.toNat, 0]
def k0_off17 (i : grid0.Coords) (k0_t1 : Fin (k0_t1_loop i).trips) : Fin 3 → Nat :=
  let c13_1045 : Index := 13#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2673 : Index := Scalar.indexCast v2620
  let c0_1046 : Index := 0#32
  ![13, v2673.toNat, 0]
def k0_off18 (i : grid0.Coords) (k0_t1 : Fin (k0_t1_loop i).trips) : Fin 3 → Nat :=
  let c14_1047 : Index := 14#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2677 : Index := Scalar.indexCast v2620
  let c0_1048 : Index := 0#32
  ![14, v2677.toNat, 0]
def k0_off19 (i : grid0.Coords) (k0_t1 : Fin (k0_t1_loop i).trips) : Fin 3 → Nat :=
  let c15_1049 : Index := 15#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2681 : Index := Scalar.indexCast v2620
  let c0_1050 : Index := 0#32
  ![15, v2681.toNat, 0]
def k0_off20 (i : grid0.Coords) (k0_t1 : Fin (k0_t1_loop i).trips) : Fin 3 → Nat :=
  let c16_1051 : Index := 16#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2685 : Index := Scalar.indexCast v2620
  let c0_1052 : Index := 0#32
  ![16, v2685.toNat, 0]
def k0_off21 (i : grid0.Coords) (k0_t1 : Fin (k0_t1_loop i).trips) : Fin 3 → Nat :=
  let c17_1053 : Index := 17#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2689 : Index := Scalar.indexCast v2620
  let c0_1054 : Index := 0#32
  ![17, v2689.toNat, 0]
def k0_off22 (i : grid0.Coords) (k0_t1 : Fin (k0_t1_loop i).trips) : Fin 3 → Nat :=
  let c18_1055 : Index := 18#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2693 : Index := Scalar.indexCast v2620
  let c0_1056 : Index := 0#32
  ![18, v2693.toNat, 0]
def k0_off23 (i : grid0.Coords) (k0_t1 : Fin (k0_t1_loop i).trips) : Fin 3 → Nat :=
  let c19_1057 : Index := 19#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2697 : Index := Scalar.indexCast v2620
  let c0_1058 : Index := 0#32
  ![19, v2697.toNat, 0]
def k0_off24 (i : grid0.Coords) (k0_t1 : Fin (k0_t1_loop i).trips) : Fin 3 → Nat :=
  let c20_1059 : Index := 20#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2701 : Index := Scalar.indexCast v2620
  let c0_1060 : Index := 0#32
  ![20, v2701.toNat, 0]
def k0_off25 (i : grid0.Coords) (k0_t1 : Fin (k0_t1_loop i).trips) : Fin 3 → Nat :=
  let c21_1061 : Index := 21#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2705 : Index := Scalar.indexCast v2620
  let c0_1062 : Index := 0#32
  ![21, v2705.toNat, 0]
def k0_off26 (i : grid0.Coords) (k0_t1 : Fin (k0_t1_loop i).trips) : Fin 3 → Nat :=
  let c22_1063 : Index := 22#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2709 : Index := Scalar.indexCast v2620
  let c0_1064 : Index := 0#32
  ![22, v2709.toNat, 0]
def k0_off27 (i : grid0.Coords) (k0_t1 : Fin (k0_t1_loop i).trips) : Fin 3 → Nat :=
  let c23_1065 : Index := 23#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2713 : Index := Scalar.indexCast v2620
  let c0_1066 : Index := 0#32
  ![23, v2713.toNat, 0]
def k0_off28 (i : grid0.Coords) (k0_t1 : Fin (k0_t1_loop i).trips) : Fin 3 → Nat :=
  let c24_1067 : Index := 24#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2717 : Index := Scalar.indexCast v2620
  let c0_1068 : Index := 0#32
  ![24, v2717.toNat, 0]
def k0_off29 (i : grid0.Coords) (k0_t1 : Fin (k0_t1_loop i).trips) : Fin 3 → Nat :=
  let c25_1069 : Index := 25#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2721 : Index := Scalar.indexCast v2620
  let c0_1070 : Index := 0#32
  ![25, v2721.toNat, 0]
def k0_off30 (i : grid0.Coords) (k0_t1 : Fin (k0_t1_loop i).trips) : Fin 3 → Nat :=
  let c26_1071 : Index := 26#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2725 : Index := Scalar.indexCast v2620
  let c0_1072 : Index := 0#32
  ![26, v2725.toNat, 0]
def k0_off31 (i : grid0.Coords) (k0_t1 : Fin (k0_t1_loop i).trips) : Fin 3 → Nat :=
  let c27_1073 : Index := 27#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2729 : Index := Scalar.indexCast v2620
  let c0_1074 : Index := 0#32
  ![27, v2729.toNat, 0]
def k0_off32 (i : grid0.Coords) (k0_t1 : Fin (k0_t1_loop i).trips) : Fin 3 → Nat :=
  let c28_1075 : Index := 28#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2733 : Index := Scalar.indexCast v2620
  let c0_1076 : Index := 0#32
  ![28, v2733.toNat, 0]
def k0_off33 (i : grid0.Coords) (k0_t1 : Fin (k0_t1_loop i).trips) : Fin 3 → Nat :=
  let c29_1077 : Index := 29#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2737 : Index := Scalar.indexCast v2620
  let c0_1078 : Index := 0#32
  ![29, v2737.toNat, 0]
def k0_off34 (i : grid0.Coords) (k0_t1 : Fin (k0_t1_loop i).trips) : Fin 3 → Nat :=
  let c30_1079 : Index := 30#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2741 : Index := Scalar.indexCast v2620
  let c0_1080 : Index := 0#32
  ![30, v2741.toNat, 0]
def k0_off35 (i : grid0.Coords) (k0_t1 : Fin (k0_t1_loop i).trips) : Fin 3 → Nat :=
  let c31_1081 : Index := 31#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let c0_i32_772 : BitVec 32 := 0#32
  let v1857 : BitVec 1 := Scalar.cmpi .eq v1856 c0_i32_772
  let arg1 : BitVec 32 := BitVec.ofNat 32 (i 1).val
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2745 : Index := Scalar.indexCast v2620
  let c0_1082 : Index := 0#32
  ![31, v2745.toNat, 0]
def k0_mult5 (i : grid0.Coords) (k0_t1 : Fin (k0_t1_loop i).trips) : BitVec 32 :=
  let c2_i32_1083 : BitVec 32 := 2#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let v2749 : BitVec 32 := Scalar.muli c2_i32_1083 v1856
  let c0_i32_1084 : BitVec 32 := 0#32
  let v2750 : BitVec 32 := Scalar.addi v2749 c0_i32_1084
  let c128_i32_1085 : BitVec 32 := 128#32
  let v2751 : BitVec 32 := Scalar.muli v2750 c128_i32_1085
  v2751
def k0_off36 (i : grid0.Coords) (k0_t1 : Fin (k0_t1_loop i).trips) (c0_i32_1084 : BitVec 32) : Fin 2 → Nat :=
  let c2_i32_1083 : BitVec 32 := 2#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let v2749 : BitVec 32 := Scalar.muli c2_i32_1083 v1856
  let v2750 : BitVec 32 := Scalar.addi v2749 c0_i32_1084
  let c128_i32_1085 : BitVec 32 := 128#32
  let v2751 : BitVec 32 := Scalar.muli v2750 c128_i32_1085
  let v2752 : BitVec 32 := v2751
  let v2753 : Index := Scalar.indexCast v2752
  let c0_1086 : Index := 0#32
  ![v2753.toNat, 0]
def k0_off37 (i : grid0.Coords) (k0_t1 : Fin (k0_t1_loop i).trips) (c0_i32_1084 : BitVec 32) : Fin 2 → Nat :=
  let c2_i32_1083 : BitVec 32 := 2#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let v2749 : BitVec 32 := Scalar.muli c2_i32_1083 v1856
  let v2750 : BitVec 32 := Scalar.addi v2749 c0_i32_1084
  let c128_i32_1085 : BitVec 32 := 128#32
  let v2751 : BitVec 32 := Scalar.muli v2750 c128_i32_1085
  let v2752 : BitVec 32 := v2751
  let v2890 : Index := Scalar.indexCast v2752
  let c0_1186 : Index := 0#32
  ![v2890.toNat, 0]
def k0_mult6 (i : grid0.Coords) (k0_t1 : Fin (k0_t1_loop i).trips) : BitVec 32 :=
  let c2_i32_1187 : BitVec 32 := 2#32
  let c2_i32_771 : BitVec 32 := 2#32
  let c0_i32_203 : BitVec 32 := 0#32
  let c1_i32_205 : BitVec 32 := 1#32
  let arg18 : BitVec 32 := Scf.iv c0_i32_203 c1_i32_205 k0_t1
  let v1856 : BitVec 32 := Scalar.muli c2_i32_771 arg18
  let v2894 : BitVec 32 := Scalar.muli c2_i32_1187 v1856
  let c1_i32_1188 : BitVec 32 := 1#32
  let v2895 : BitVec 32 := Scalar.addi v2894 c1_i32_1188
  let c128_i32_1189 : BitVec 32 := 128#32
  let v2896 : BitVec 32 := Scalar.muli v2895 c128_i32_1189
  v2896
def k0_mult7 (i : grid0.Coords) (k0_t1 : Fin (k0_t1_loop i).trips) : BitVec 32 :=
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c2_i32_1295 : BitVec 32 := 2#32
  let v3044 : BitVec 32 := Scalar.muli v3043 c2_i32_1295
  let c128_i32_1296 : BitVec 32 := 128#32
  let v3045 : BitVec 32 := Scalar.muli v3044 c128_i32_1296
  v3045
def k0_off38 (i : grid0.Coords) (k0_t1 : Fin (k0_t1_loop i).trips) : Fin 2 → Nat :=
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c2_i32_1295 : BitVec 32 := 2#32
  let v3044 : BitVec 32 := Scalar.muli v3043 c2_i32_1295
  let c128_i32_1296 : BitVec 32 := 128#32
  let v3045 : BitVec 32 := Scalar.muli v3044 c128_i32_1296
  let v3046 : BitVec 32 := v3045
  let v3047 : Index := Scalar.indexCast v3046
  let c0_1297 : Index := 0#32
  ![v3047.toNat, 0]
def k0_mult8 (i : grid0.Coords) (k0_t1 : Fin (k0_t1_loop i).trips) : BitVec 32 :=
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  v3803
def k0_off39 (i : grid0.Coords) (k0_t1 : Fin (k0_t1_loop i).trips) : Fin 3 → Nat :=
  let c0_1540 : Index := 0#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3805 : Index := Scalar.indexCast v3804
  let c0_1541 : Index := 0#32
  ![0, v3805.toNat, 0]
def k0_off40 (i : grid0.Coords) (k0_t1 : Fin (k0_t1_loop i).trips) : Fin 3 → Nat :=
  let c1_1542 : Index := 1#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3809 : Index := Scalar.indexCast v3804
  let c0_1543 : Index := 0#32
  ![1, v3809.toNat, 0]
def k0_off41 (i : grid0.Coords) (k0_t1 : Fin (k0_t1_loop i).trips) : Fin 3 → Nat :=
  let c2_1544 : Index := 2#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3813 : Index := Scalar.indexCast v3804
  let c0_1545 : Index := 0#32
  ![2, v3813.toNat, 0]
def k0_off42 (i : grid0.Coords) (k0_t1 : Fin (k0_t1_loop i).trips) : Fin 3 → Nat :=
  let c3_1546 : Index := 3#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3817 : Index := Scalar.indexCast v3804
  let c0_1547 : Index := 0#32
  ![3, v3817.toNat, 0]
def k0_off43 (i : grid0.Coords) (k0_t1 : Fin (k0_t1_loop i).trips) : Fin 3 → Nat :=
  let c4_1548 : Index := 4#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3821 : Index := Scalar.indexCast v3804
  let c0_1549 : Index := 0#32
  ![4, v3821.toNat, 0]
def k0_off44 (i : grid0.Coords) (k0_t1 : Fin (k0_t1_loop i).trips) : Fin 3 → Nat :=
  let c5_1550 : Index := 5#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3825 : Index := Scalar.indexCast v3804
  let c0_1551 : Index := 0#32
  ![5, v3825.toNat, 0]
def k0_off45 (i : grid0.Coords) (k0_t1 : Fin (k0_t1_loop i).trips) : Fin 3 → Nat :=
  let c6_1552 : Index := 6#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3829 : Index := Scalar.indexCast v3804
  let c0_1553 : Index := 0#32
  ![6, v3829.toNat, 0]
def k0_off46 (i : grid0.Coords) (k0_t1 : Fin (k0_t1_loop i).trips) : Fin 3 → Nat :=
  let c7_1554 : Index := 7#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3833 : Index := Scalar.indexCast v3804
  let c0_1555 : Index := 0#32
  ![7, v3833.toNat, 0]
def k0_off47 (i : grid0.Coords) (k0_t1 : Fin (k0_t1_loop i).trips) : Fin 3 → Nat :=
  let c8_1556 : Index := 8#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3837 : Index := Scalar.indexCast v3804
  let c0_1557 : Index := 0#32
  ![8, v3837.toNat, 0]
def k0_off48 (i : grid0.Coords) (k0_t1 : Fin (k0_t1_loop i).trips) : Fin 3 → Nat :=
  let c9_1558 : Index := 9#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3841 : Index := Scalar.indexCast v3804
  let c0_1559 : Index := 0#32
  ![9, v3841.toNat, 0]
def k0_off49 (i : grid0.Coords) (k0_t1 : Fin (k0_t1_loop i).trips) : Fin 3 → Nat :=
  let c10_1560 : Index := 10#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3845 : Index := Scalar.indexCast v3804
  let c0_1561 : Index := 0#32
  ![10, v3845.toNat, 0]
def k0_off50 (i : grid0.Coords) (k0_t1 : Fin (k0_t1_loop i).trips) : Fin 3 → Nat :=
  let c11_1562 : Index := 11#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3849 : Index := Scalar.indexCast v3804
  let c0_1563 : Index := 0#32
  ![11, v3849.toNat, 0]
def k0_off51 (i : grid0.Coords) (k0_t1 : Fin (k0_t1_loop i).trips) : Fin 3 → Nat :=
  let c12_1564 : Index := 12#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3853 : Index := Scalar.indexCast v3804
  let c0_1565 : Index := 0#32
  ![12, v3853.toNat, 0]
def k0_off52 (i : grid0.Coords) (k0_t1 : Fin (k0_t1_loop i).trips) : Fin 3 → Nat :=
  let c13_1566 : Index := 13#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3857 : Index := Scalar.indexCast v3804
  let c0_1567 : Index := 0#32
  ![13, v3857.toNat, 0]
def k0_off53 (i : grid0.Coords) (k0_t1 : Fin (k0_t1_loop i).trips) : Fin 3 → Nat :=
  let c14_1568 : Index := 14#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3861 : Index := Scalar.indexCast v3804
  let c0_1569 : Index := 0#32
  ![14, v3861.toNat, 0]
def k0_off54 (i : grid0.Coords) (k0_t1 : Fin (k0_t1_loop i).trips) : Fin 3 → Nat :=
  let c15_1570 : Index := 15#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3865 : Index := Scalar.indexCast v3804
  let c0_1571 : Index := 0#32
  ![15, v3865.toNat, 0]
def k0_off55 (i : grid0.Coords) (k0_t1 : Fin (k0_t1_loop i).trips) : Fin 3 → Nat :=
  let c16_1572 : Index := 16#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3869 : Index := Scalar.indexCast v3804
  let c0_1573 : Index := 0#32
  ![16, v3869.toNat, 0]
def k0_off56 (i : grid0.Coords) (k0_t1 : Fin (k0_t1_loop i).trips) : Fin 3 → Nat :=
  let c17_1574 : Index := 17#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3873 : Index := Scalar.indexCast v3804
  let c0_1575 : Index := 0#32
  ![17, v3873.toNat, 0]
def k0_off57 (i : grid0.Coords) (k0_t1 : Fin (k0_t1_loop i).trips) : Fin 3 → Nat :=
  let c18_1576 : Index := 18#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3877 : Index := Scalar.indexCast v3804
  let c0_1577 : Index := 0#32
  ![18, v3877.toNat, 0]
def k0_off58 (i : grid0.Coords) (k0_t1 : Fin (k0_t1_loop i).trips) : Fin 3 → Nat :=
  let c19_1578 : Index := 19#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3881 : Index := Scalar.indexCast v3804
  let c0_1579 : Index := 0#32
  ![19, v3881.toNat, 0]
def k0_off59 (i : grid0.Coords) (k0_t1 : Fin (k0_t1_loop i).trips) : Fin 3 → Nat :=
  let c20_1580 : Index := 20#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3885 : Index := Scalar.indexCast v3804
  let c0_1581 : Index := 0#32
  ![20, v3885.toNat, 0]
def k0_off60 (i : grid0.Coords) (k0_t1 : Fin (k0_t1_loop i).trips) : Fin 3 → Nat :=
  let c21_1582 : Index := 21#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3889 : Index := Scalar.indexCast v3804
  let c0_1583 : Index := 0#32
  ![21, v3889.toNat, 0]
def k0_off61 (i : grid0.Coords) (k0_t1 : Fin (k0_t1_loop i).trips) : Fin 3 → Nat :=
  let c22_1584 : Index := 22#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3893 : Index := Scalar.indexCast v3804
  let c0_1585 : Index := 0#32
  ![22, v3893.toNat, 0]
def k0_off62 (i : grid0.Coords) (k0_t1 : Fin (k0_t1_loop i).trips) : Fin 3 → Nat :=
  let c23_1586 : Index := 23#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3897 : Index := Scalar.indexCast v3804
  let c0_1587 : Index := 0#32
  ![23, v3897.toNat, 0]
def k0_off63 (i : grid0.Coords) (k0_t1 : Fin (k0_t1_loop i).trips) : Fin 3 → Nat :=
  let c24_1588 : Index := 24#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3901 : Index := Scalar.indexCast v3804
  let c0_1589 : Index := 0#32
  ![24, v3901.toNat, 0]
def k0_off64 (i : grid0.Coords) (k0_t1 : Fin (k0_t1_loop i).trips) : Fin 3 → Nat :=
  let c25_1590 : Index := 25#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3905 : Index := Scalar.indexCast v3804
  let c0_1591 : Index := 0#32
  ![25, v3905.toNat, 0]
def k0_off65 (i : grid0.Coords) (k0_t1 : Fin (k0_t1_loop i).trips) : Fin 3 → Nat :=
  let c26_1592 : Index := 26#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3909 : Index := Scalar.indexCast v3804
  let c0_1593 : Index := 0#32
  ![26, v3909.toNat, 0]
def k0_off66 (i : grid0.Coords) (k0_t1 : Fin (k0_t1_loop i).trips) : Fin 3 → Nat :=
  let c27_1594 : Index := 27#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3913 : Index := Scalar.indexCast v3804
  let c0_1595 : Index := 0#32
  ![27, v3913.toNat, 0]
def k0_off67 (i : grid0.Coords) (k0_t1 : Fin (k0_t1_loop i).trips) : Fin 3 → Nat :=
  let c28_1596 : Index := 28#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3917 : Index := Scalar.indexCast v3804
  let c0_1597 : Index := 0#32
  ![28, v3917.toNat, 0]
def k0_off68 (i : grid0.Coords) (k0_t1 : Fin (k0_t1_loop i).trips) : Fin 3 → Nat :=
  let c29_1598 : Index := 29#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3921 : Index := Scalar.indexCast v3804
  let c0_1599 : Index := 0#32
  ![29, v3921.toNat, 0]
def k0_off69 (i : grid0.Coords) (k0_t1 : Fin (k0_t1_loop i).trips) : Fin 3 → Nat :=
  let c30_1600 : Index := 30#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3925 : Index := Scalar.indexCast v3804
  let c0_1601 : Index := 0#32
  ![30, v3925.toNat, 0]
def k0_off70 (i : grid0.Coords) (k0_t1 : Fin (k0_t1_loop i).trips) : Fin 3 → Nat :=
  let c31_1602 : Index := 31#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let arg1 : BitVec 32 := BitVec.ofNat 32 (i 1).val
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3929 : Index := Scalar.indexCast v3804
  let c0_1603 : Index := 0#32
  ![31, v3929.toNat, 0]
def k0_mult9 (i : grid0.Coords) (k0_t1 : Fin (k0_t1_loop i).trips) : BitVec 32 :=
  let c2_i32_1604 : BitVec 32 := 2#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let v3933 : BitVec 32 := Scalar.muli c2_i32_1604 v3040
  let c0_i32_1605 : BitVec 32 := 0#32
  let v3934 : BitVec 32 := Scalar.addi v3933 c0_i32_1605
  let c128_i32_1606 : BitVec 32 := 128#32
  let v3935 : BitVec 32 := Scalar.muli v3934 c128_i32_1606
  v3935
def k0_off71 (i : grid0.Coords) (k0_t1 : Fin (k0_t1_loop i).trips) (c0_i32_1605 : BitVec 32) : Fin 2 → Nat :=
  let c2_i32_1604 : BitVec 32 := 2#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let v3933 : BitVec 32 := Scalar.muli c2_i32_1604 v3040
  let v3934 : BitVec 32 := Scalar.addi v3933 c0_i32_1605
  let c128_i32_1606 : BitVec 32 := 128#32
  let v3935 : BitVec 32 := Scalar.muli v3934 c128_i32_1606
  let v3936 : BitVec 32 := v3935
  let v3937 : Index := Scalar.indexCast v3936
  let c0_1607 : Index := 0#32
  ![v3937.toNat, 0]
def k0_off72 (i : grid0.Coords) (k0_t1 : Fin (k0_t1_loop i).trips) (c0_i32_1605 : BitVec 32) : Fin 2 → Nat :=
  let c2_i32_1604 : BitVec 32 := 2#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let v3933 : BitVec 32 := Scalar.muli c2_i32_1604 v3040
  let v3934 : BitVec 32 := Scalar.addi v3933 c0_i32_1605
  let c128_i32_1606 : BitVec 32 := 128#32
  let v3935 : BitVec 32 := Scalar.muli v3934 c128_i32_1606
  let v3936 : BitVec 32 := v3935
  let v4074 : Index := Scalar.indexCast v3936
  let c0_1707 : Index := 0#32
  ![v4074.toNat, 0]
def k0_mult10 (i : grid0.Coords) (k0_t1 : Fin (k0_t1_loop i).trips) : BitVec 32 :=
  let c2_i32_1708 : BitVec 32 := 2#32
  let c2_i32_1291 : BitVec 32 := 2#32
  let c0_i32_203 : BitVec 32 := 0#32
  let c1_i32_205 : BitVec 32 := 1#32
  let arg18 : BitVec 32 := Scf.iv c0_i32_203 c1_i32_205 k0_t1
  let v3039 : BitVec 32 := Scalar.muli c2_i32_1291 arg18
  let c1_i32_1292 : BitVec 32 := 1#32
  let v3040 : BitVec 32 := Scalar.addi v3039 c1_i32_1292
  let v4078 : BitVec 32 := Scalar.muli c2_i32_1708 v3040
  let c1_i32_1709 : BitVec 32 := 1#32
  let v4079 : BitVec 32 := Scalar.addi v4078 c1_i32_1709
  let c128_i32_1710 : BitVec 32 := 128#32
  let v4080 : BitVec 32 := Scalar.muli v4079 c128_i32_1710
  v4080
@[reducible] def k0_t2_loop (i : grid0.Coords) : Scf.Loop 32 :=
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let v406 : BitVec 32 := Scalar.addi c0_i32_203 v405
  let c1_i32_206 : BitVec 32 := 1#32
  ⟨v409, v406, c1_i32_206⟩
def k0_mult11 (i : grid0.Coords) (k0_t2 : Fin (k0_t2_loop i).trips) : BitVec 32 :=
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c2_i32_774 : BitVec 32 := 2#32
  let v1860 : BitVec 32 := Scalar.muli v1859 c2_i32_774
  let c128_i32_775 : BitVec 32 := 128#32
  let v1861 : BitVec 32 := Scalar.muli v1860 c128_i32_775
  v1861
def k0_off73 (i : grid0.Coords) (k0_t2 : Fin (k0_t2_loop i).trips) : Fin 2 → Nat :=
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c2_i32_774 : BitVec 32 := 2#32
  let v1860 : BitVec 32 := Scalar.muli v1859 c2_i32_774
  let c128_i32_775 : BitVec 32 := 128#32
  let v1861 : BitVec 32 := Scalar.muli v1860 c128_i32_775
  let v1862 : BitVec 32 := v1861
  let v1863 : Index := Scalar.indexCast v1862
  let c0_776 : Index := 0#32
  ![v1863.toNat, 0]
def k0_mult12 (i : grid0.Coords) (k0_t2 : Fin (k0_t2_loop i).trips) : BitVec 32 :=
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  v2619
def k0_off74 (i : grid0.Coords) (k0_t2 : Fin (k0_t2_loop i).trips) : Fin 3 → Nat :=
  let c0_1019 : Index := 0#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2621 : Index := Scalar.indexCast v2620
  let c0_1020 : Index := 0#32
  ![0, v2621.toNat, 0]
def k0_off75 (i : grid0.Coords) (k0_t2 : Fin (k0_t2_loop i).trips) : Fin 3 → Nat :=
  let c1_1021 : Index := 1#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2625 : Index := Scalar.indexCast v2620
  let c0_1022 : Index := 0#32
  ![1, v2625.toNat, 0]
def k0_off76 (i : grid0.Coords) (k0_t2 : Fin (k0_t2_loop i).trips) : Fin 3 → Nat :=
  let c2_1023 : Index := 2#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2629 : Index := Scalar.indexCast v2620
  let c0_1024 : Index := 0#32
  ![2, v2629.toNat, 0]
def k0_off77 (i : grid0.Coords) (k0_t2 : Fin (k0_t2_loop i).trips) : Fin 3 → Nat :=
  let c3_1025 : Index := 3#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2633 : Index := Scalar.indexCast v2620
  let c0_1026 : Index := 0#32
  ![3, v2633.toNat, 0]
def k0_off78 (i : grid0.Coords) (k0_t2 : Fin (k0_t2_loop i).trips) : Fin 3 → Nat :=
  let c4_1027 : Index := 4#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2637 : Index := Scalar.indexCast v2620
  let c0_1028 : Index := 0#32
  ![4, v2637.toNat, 0]
def k0_off79 (i : grid0.Coords) (k0_t2 : Fin (k0_t2_loop i).trips) : Fin 3 → Nat :=
  let c5_1029 : Index := 5#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2641 : Index := Scalar.indexCast v2620
  let c0_1030 : Index := 0#32
  ![5, v2641.toNat, 0]
def k0_off80 (i : grid0.Coords) (k0_t2 : Fin (k0_t2_loop i).trips) : Fin 3 → Nat :=
  let c6_1031 : Index := 6#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2645 : Index := Scalar.indexCast v2620
  let c0_1032 : Index := 0#32
  ![6, v2645.toNat, 0]
def k0_off81 (i : grid0.Coords) (k0_t2 : Fin (k0_t2_loop i).trips) : Fin 3 → Nat :=
  let c7_1033 : Index := 7#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2649 : Index := Scalar.indexCast v2620
  let c0_1034 : Index := 0#32
  ![7, v2649.toNat, 0]
def k0_off82 (i : grid0.Coords) (k0_t2 : Fin (k0_t2_loop i).trips) : Fin 3 → Nat :=
  let c8_1035 : Index := 8#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2653 : Index := Scalar.indexCast v2620
  let c0_1036 : Index := 0#32
  ![8, v2653.toNat, 0]
def k0_off83 (i : grid0.Coords) (k0_t2 : Fin (k0_t2_loop i).trips) : Fin 3 → Nat :=
  let c9_1037 : Index := 9#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2657 : Index := Scalar.indexCast v2620
  let c0_1038 : Index := 0#32
  ![9, v2657.toNat, 0]
def k0_off84 (i : grid0.Coords) (k0_t2 : Fin (k0_t2_loop i).trips) : Fin 3 → Nat :=
  let c10_1039 : Index := 10#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2661 : Index := Scalar.indexCast v2620
  let c0_1040 : Index := 0#32
  ![10, v2661.toNat, 0]
def k0_off85 (i : grid0.Coords) (k0_t2 : Fin (k0_t2_loop i).trips) : Fin 3 → Nat :=
  let c11_1041 : Index := 11#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2665 : Index := Scalar.indexCast v2620
  let c0_1042 : Index := 0#32
  ![11, v2665.toNat, 0]
def k0_off86 (i : grid0.Coords) (k0_t2 : Fin (k0_t2_loop i).trips) : Fin 3 → Nat :=
  let c12_1043 : Index := 12#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2669 : Index := Scalar.indexCast v2620
  let c0_1044 : Index := 0#32
  ![12, v2669.toNat, 0]
def k0_off87 (i : grid0.Coords) (k0_t2 : Fin (k0_t2_loop i).trips) : Fin 3 → Nat :=
  let c13_1045 : Index := 13#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2673 : Index := Scalar.indexCast v2620
  let c0_1046 : Index := 0#32
  ![13, v2673.toNat, 0]
def k0_off88 (i : grid0.Coords) (k0_t2 : Fin (k0_t2_loop i).trips) : Fin 3 → Nat :=
  let c14_1047 : Index := 14#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2677 : Index := Scalar.indexCast v2620
  let c0_1048 : Index := 0#32
  ![14, v2677.toNat, 0]
def k0_off89 (i : grid0.Coords) (k0_t2 : Fin (k0_t2_loop i).trips) : Fin 3 → Nat :=
  let c15_1049 : Index := 15#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2681 : Index := Scalar.indexCast v2620
  let c0_1050 : Index := 0#32
  ![15, v2681.toNat, 0]
def k0_off90 (i : grid0.Coords) (k0_t2 : Fin (k0_t2_loop i).trips) : Fin 3 → Nat :=
  let c16_1051 : Index := 16#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2685 : Index := Scalar.indexCast v2620
  let c0_1052 : Index := 0#32
  ![16, v2685.toNat, 0]
def k0_off91 (i : grid0.Coords) (k0_t2 : Fin (k0_t2_loop i).trips) : Fin 3 → Nat :=
  let c17_1053 : Index := 17#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2689 : Index := Scalar.indexCast v2620
  let c0_1054 : Index := 0#32
  ![17, v2689.toNat, 0]
def k0_off92 (i : grid0.Coords) (k0_t2 : Fin (k0_t2_loop i).trips) : Fin 3 → Nat :=
  let c18_1055 : Index := 18#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2693 : Index := Scalar.indexCast v2620
  let c0_1056 : Index := 0#32
  ![18, v2693.toNat, 0]
def k0_off93 (i : grid0.Coords) (k0_t2 : Fin (k0_t2_loop i).trips) : Fin 3 → Nat :=
  let c19_1057 : Index := 19#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2697 : Index := Scalar.indexCast v2620
  let c0_1058 : Index := 0#32
  ![19, v2697.toNat, 0]
def k0_off94 (i : grid0.Coords) (k0_t2 : Fin (k0_t2_loop i).trips) : Fin 3 → Nat :=
  let c20_1059 : Index := 20#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2701 : Index := Scalar.indexCast v2620
  let c0_1060 : Index := 0#32
  ![20, v2701.toNat, 0]
def k0_off95 (i : grid0.Coords) (k0_t2 : Fin (k0_t2_loop i).trips) : Fin 3 → Nat :=
  let c21_1061 : Index := 21#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2705 : Index := Scalar.indexCast v2620
  let c0_1062 : Index := 0#32
  ![21, v2705.toNat, 0]
def k0_off96 (i : grid0.Coords) (k0_t2 : Fin (k0_t2_loop i).trips) : Fin 3 → Nat :=
  let c22_1063 : Index := 22#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2709 : Index := Scalar.indexCast v2620
  let c0_1064 : Index := 0#32
  ![22, v2709.toNat, 0]
def k0_off97 (i : grid0.Coords) (k0_t2 : Fin (k0_t2_loop i).trips) : Fin 3 → Nat :=
  let c23_1065 : Index := 23#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2713 : Index := Scalar.indexCast v2620
  let c0_1066 : Index := 0#32
  ![23, v2713.toNat, 0]
def k0_off98 (i : grid0.Coords) (k0_t2 : Fin (k0_t2_loop i).trips) : Fin 3 → Nat :=
  let c24_1067 : Index := 24#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2717 : Index := Scalar.indexCast v2620
  let c0_1068 : Index := 0#32
  ![24, v2717.toNat, 0]
def k0_off99 (i : grid0.Coords) (k0_t2 : Fin (k0_t2_loop i).trips) : Fin 3 → Nat :=
  let c25_1069 : Index := 25#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2721 : Index := Scalar.indexCast v2620
  let c0_1070 : Index := 0#32
  ![25, v2721.toNat, 0]
def k0_off100 (i : grid0.Coords) (k0_t2 : Fin (k0_t2_loop i).trips) : Fin 3 → Nat :=
  let c26_1071 : Index := 26#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2725 : Index := Scalar.indexCast v2620
  let c0_1072 : Index := 0#32
  ![26, v2725.toNat, 0]
def k0_off101 (i : grid0.Coords) (k0_t2 : Fin (k0_t2_loop i).trips) : Fin 3 → Nat :=
  let c27_1073 : Index := 27#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2729 : Index := Scalar.indexCast v2620
  let c0_1074 : Index := 0#32
  ![27, v2729.toNat, 0]
def k0_off102 (i : grid0.Coords) (k0_t2 : Fin (k0_t2_loop i).trips) : Fin 3 → Nat :=
  let c28_1075 : Index := 28#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2733 : Index := Scalar.indexCast v2620
  let c0_1076 : Index := 0#32
  ![28, v2733.toNat, 0]
def k0_off103 (i : grid0.Coords) (k0_t2 : Fin (k0_t2_loop i).trips) : Fin 3 → Nat :=
  let c29_1077 : Index := 29#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2737 : Index := Scalar.indexCast v2620
  let c0_1078 : Index := 0#32
  ![29, v2737.toNat, 0]
def k0_off104 (i : grid0.Coords) (k0_t2 : Fin (k0_t2_loop i).trips) : Fin 3 → Nat :=
  let c30_1079 : Index := 30#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2741 : Index := Scalar.indexCast v2620
  let c0_1080 : Index := 0#32
  ![30, v2741.toNat, 0]
def k0_off105 (i : grid0.Coords) (k0_t2 : Fin (k0_t2_loop i).trips) : Fin 3 → Nat :=
  let c31_1081 : Index := 31#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let c0_i32_772 : BitVec 32 := 0#32
  let v1857 : BitVec 1 := Scalar.cmpi .eq v1856 c0_i32_772
  let c1_i32_773 : BitVec 32 := 1#32
  let v1858 : BitVec 32 := Scalar.subi v1856 c1_i32_773
  let v1859 : BitVec 32 := Scalar.select v1857 arg1 v1858
  let c8_i32_1018 : BitVec 32 := 8#32
  let v2619 : BitVec 32 := Scalar.muli v1859 c8_i32_1018
  let v2620 : BitVec 32 := v2619
  let v2745 : Index := Scalar.indexCast v2620
  let c0_1082 : Index := 0#32
  ![31, v2745.toNat, 0]
def k0_mult13 (i : grid0.Coords) (k0_t2 : Fin (k0_t2_loop i).trips) : BitVec 32 :=
  let c2_i32_1083 : BitVec 32 := 2#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let v2749 : BitVec 32 := Scalar.muli c2_i32_1083 v1856
  let c0_i32_1084 : BitVec 32 := 0#32
  let v2750 : BitVec 32 := Scalar.addi v2749 c0_i32_1084
  let c128_i32_1085 : BitVec 32 := 128#32
  let v2751 : BitVec 32 := Scalar.muli v2750 c128_i32_1085
  v2751
def k0_off106 (i : grid0.Coords) (k0_t2 : Fin (k0_t2_loop i).trips) (c0_i32_1084 : BitVec 32) : Fin 2 → Nat :=
  let c2_i32_1083 : BitVec 32 := 2#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let v2749 : BitVec 32 := Scalar.muli c2_i32_1083 v1856
  let v2750 : BitVec 32 := Scalar.addi v2749 c0_i32_1084
  let c128_i32_1085 : BitVec 32 := 128#32
  let v2751 : BitVec 32 := Scalar.muli v2750 c128_i32_1085
  let v2752 : BitVec 32 := v2751
  let v2753 : Index := Scalar.indexCast v2752
  let c0_1086 : Index := 0#32
  ![v2753.toNat, 0]
def k0_off107 (i : grid0.Coords) (k0_t2 : Fin (k0_t2_loop i).trips) (c0_i32_1084 : BitVec 32) : Fin 2 → Nat :=
  let c2_i32_1083 : BitVec 32 := 2#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let v2749 : BitVec 32 := Scalar.muli c2_i32_1083 v1856
  let v2750 : BitVec 32 := Scalar.addi v2749 c0_i32_1084
  let c128_i32_1085 : BitVec 32 := 128#32
  let v2751 : BitVec 32 := Scalar.muli v2750 c128_i32_1085
  let v2752 : BitVec 32 := v2751
  let v2890 : Index := Scalar.indexCast v2752
  let c0_1186 : Index := 0#32
  ![v2890.toNat, 0]
def k0_mult14 (i : grid0.Coords) (k0_t2 : Fin (k0_t2_loop i).trips) : BitVec 32 :=
  let c2_i32_1187 : BitVec 32 := 2#32
  let c2_i32_771 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v1856 : BitVec 32 := Scalar.muli c2_i32_771 arg18
  let v2894 : BitVec 32 := Scalar.muli c2_i32_1187 v1856
  let c1_i32_1188 : BitVec 32 := 1#32
  let v2895 : BitVec 32 := Scalar.addi v2894 c1_i32_1188
  let c128_i32_1189 : BitVec 32 := 128#32
  let v2896 : BitVec 32 := Scalar.muli v2895 c128_i32_1189
  v2896
def k0_mult15 (i : grid0.Coords) (k0_t2 : Fin (k0_t2_loop i).trips) : BitVec 32 :=
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c2_i32_1295 : BitVec 32 := 2#32
  let v3044 : BitVec 32 := Scalar.muli v3043 c2_i32_1295
  let c128_i32_1296 : BitVec 32 := 128#32
  let v3045 : BitVec 32 := Scalar.muli v3044 c128_i32_1296
  v3045
def k0_off108 (i : grid0.Coords) (k0_t2 : Fin (k0_t2_loop i).trips) : Fin 2 → Nat :=
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c2_i32_1295 : BitVec 32 := 2#32
  let v3044 : BitVec 32 := Scalar.muli v3043 c2_i32_1295
  let c128_i32_1296 : BitVec 32 := 128#32
  let v3045 : BitVec 32 := Scalar.muli v3044 c128_i32_1296
  let v3046 : BitVec 32 := v3045
  let v3047 : Index := Scalar.indexCast v3046
  let c0_1297 : Index := 0#32
  ![v3047.toNat, 0]
def k0_mult16 (i : grid0.Coords) (k0_t2 : Fin (k0_t2_loop i).trips) : BitVec 32 :=
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  v3803
def k0_off109 (i : grid0.Coords) (k0_t2 : Fin (k0_t2_loop i).trips) : Fin 3 → Nat :=
  let c0_1540 : Index := 0#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3805 : Index := Scalar.indexCast v3804
  let c0_1541 : Index := 0#32
  ![0, v3805.toNat, 0]
def k0_off110 (i : grid0.Coords) (k0_t2 : Fin (k0_t2_loop i).trips) : Fin 3 → Nat :=
  let c1_1542 : Index := 1#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3809 : Index := Scalar.indexCast v3804
  let c0_1543 : Index := 0#32
  ![1, v3809.toNat, 0]
def k0_off111 (i : grid0.Coords) (k0_t2 : Fin (k0_t2_loop i).trips) : Fin 3 → Nat :=
  let c2_1544 : Index := 2#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3813 : Index := Scalar.indexCast v3804
  let c0_1545 : Index := 0#32
  ![2, v3813.toNat, 0]
def k0_off112 (i : grid0.Coords) (k0_t2 : Fin (k0_t2_loop i).trips) : Fin 3 → Nat :=
  let c3_1546 : Index := 3#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3817 : Index := Scalar.indexCast v3804
  let c0_1547 : Index := 0#32
  ![3, v3817.toNat, 0]
def k0_off113 (i : grid0.Coords) (k0_t2 : Fin (k0_t2_loop i).trips) : Fin 3 → Nat :=
  let c4_1548 : Index := 4#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3821 : Index := Scalar.indexCast v3804
  let c0_1549 : Index := 0#32
  ![4, v3821.toNat, 0]
def k0_off114 (i : grid0.Coords) (k0_t2 : Fin (k0_t2_loop i).trips) : Fin 3 → Nat :=
  let c5_1550 : Index := 5#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3825 : Index := Scalar.indexCast v3804
  let c0_1551 : Index := 0#32
  ![5, v3825.toNat, 0]
def k0_off115 (i : grid0.Coords) (k0_t2 : Fin (k0_t2_loop i).trips) : Fin 3 → Nat :=
  let c6_1552 : Index := 6#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3829 : Index := Scalar.indexCast v3804
  let c0_1553 : Index := 0#32
  ![6, v3829.toNat, 0]
def k0_off116 (i : grid0.Coords) (k0_t2 : Fin (k0_t2_loop i).trips) : Fin 3 → Nat :=
  let c7_1554 : Index := 7#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3833 : Index := Scalar.indexCast v3804
  let c0_1555 : Index := 0#32
  ![7, v3833.toNat, 0]
def k0_off117 (i : grid0.Coords) (k0_t2 : Fin (k0_t2_loop i).trips) : Fin 3 → Nat :=
  let c8_1556 : Index := 8#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3837 : Index := Scalar.indexCast v3804
  let c0_1557 : Index := 0#32
  ![8, v3837.toNat, 0]
def k0_off118 (i : grid0.Coords) (k0_t2 : Fin (k0_t2_loop i).trips) : Fin 3 → Nat :=
  let c9_1558 : Index := 9#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3841 : Index := Scalar.indexCast v3804
  let c0_1559 : Index := 0#32
  ![9, v3841.toNat, 0]
def k0_off119 (i : grid0.Coords) (k0_t2 : Fin (k0_t2_loop i).trips) : Fin 3 → Nat :=
  let c10_1560 : Index := 10#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3845 : Index := Scalar.indexCast v3804
  let c0_1561 : Index := 0#32
  ![10, v3845.toNat, 0]
def k0_off120 (i : grid0.Coords) (k0_t2 : Fin (k0_t2_loop i).trips) : Fin 3 → Nat :=
  let c11_1562 : Index := 11#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3849 : Index := Scalar.indexCast v3804
  let c0_1563 : Index := 0#32
  ![11, v3849.toNat, 0]
def k0_off121 (i : grid0.Coords) (k0_t2 : Fin (k0_t2_loop i).trips) : Fin 3 → Nat :=
  let c12_1564 : Index := 12#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3853 : Index := Scalar.indexCast v3804
  let c0_1565 : Index := 0#32
  ![12, v3853.toNat, 0]
def k0_off122 (i : grid0.Coords) (k0_t2 : Fin (k0_t2_loop i).trips) : Fin 3 → Nat :=
  let c13_1566 : Index := 13#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3857 : Index := Scalar.indexCast v3804
  let c0_1567 : Index := 0#32
  ![13, v3857.toNat, 0]
def k0_off123 (i : grid0.Coords) (k0_t2 : Fin (k0_t2_loop i).trips) : Fin 3 → Nat :=
  let c14_1568 : Index := 14#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3861 : Index := Scalar.indexCast v3804
  let c0_1569 : Index := 0#32
  ![14, v3861.toNat, 0]
def k0_off124 (i : grid0.Coords) (k0_t2 : Fin (k0_t2_loop i).trips) : Fin 3 → Nat :=
  let c15_1570 : Index := 15#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3865 : Index := Scalar.indexCast v3804
  let c0_1571 : Index := 0#32
  ![15, v3865.toNat, 0]
def k0_off125 (i : grid0.Coords) (k0_t2 : Fin (k0_t2_loop i).trips) : Fin 3 → Nat :=
  let c16_1572 : Index := 16#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3869 : Index := Scalar.indexCast v3804
  let c0_1573 : Index := 0#32
  ![16, v3869.toNat, 0]
def k0_off126 (i : grid0.Coords) (k0_t2 : Fin (k0_t2_loop i).trips) : Fin 3 → Nat :=
  let c17_1574 : Index := 17#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3873 : Index := Scalar.indexCast v3804
  let c0_1575 : Index := 0#32
  ![17, v3873.toNat, 0]
def k0_off127 (i : grid0.Coords) (k0_t2 : Fin (k0_t2_loop i).trips) : Fin 3 → Nat :=
  let c18_1576 : Index := 18#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3877 : Index := Scalar.indexCast v3804
  let c0_1577 : Index := 0#32
  ![18, v3877.toNat, 0]
def k0_off128 (i : grid0.Coords) (k0_t2 : Fin (k0_t2_loop i).trips) : Fin 3 → Nat :=
  let c19_1578 : Index := 19#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3881 : Index := Scalar.indexCast v3804
  let c0_1579 : Index := 0#32
  ![19, v3881.toNat, 0]
def k0_off129 (i : grid0.Coords) (k0_t2 : Fin (k0_t2_loop i).trips) : Fin 3 → Nat :=
  let c20_1580 : Index := 20#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3885 : Index := Scalar.indexCast v3804
  let c0_1581 : Index := 0#32
  ![20, v3885.toNat, 0]
def k0_off130 (i : grid0.Coords) (k0_t2 : Fin (k0_t2_loop i).trips) : Fin 3 → Nat :=
  let c21_1582 : Index := 21#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3889 : Index := Scalar.indexCast v3804
  let c0_1583 : Index := 0#32
  ![21, v3889.toNat, 0]
def k0_off131 (i : grid0.Coords) (k0_t2 : Fin (k0_t2_loop i).trips) : Fin 3 → Nat :=
  let c22_1584 : Index := 22#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3893 : Index := Scalar.indexCast v3804
  let c0_1585 : Index := 0#32
  ![22, v3893.toNat, 0]
def k0_off132 (i : grid0.Coords) (k0_t2 : Fin (k0_t2_loop i).trips) : Fin 3 → Nat :=
  let c23_1586 : Index := 23#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3897 : Index := Scalar.indexCast v3804
  let c0_1587 : Index := 0#32
  ![23, v3897.toNat, 0]
def k0_off133 (i : grid0.Coords) (k0_t2 : Fin (k0_t2_loop i).trips) : Fin 3 → Nat :=
  let c24_1588 : Index := 24#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3901 : Index := Scalar.indexCast v3804
  let c0_1589 : Index := 0#32
  ![24, v3901.toNat, 0]
def k0_off134 (i : grid0.Coords) (k0_t2 : Fin (k0_t2_loop i).trips) : Fin 3 → Nat :=
  let c25_1590 : Index := 25#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3905 : Index := Scalar.indexCast v3804
  let c0_1591 : Index := 0#32
  ![25, v3905.toNat, 0]
def k0_off135 (i : grid0.Coords) (k0_t2 : Fin (k0_t2_loop i).trips) : Fin 3 → Nat :=
  let c26_1592 : Index := 26#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3909 : Index := Scalar.indexCast v3804
  let c0_1593 : Index := 0#32
  ![26, v3909.toNat, 0]
def k0_off136 (i : grid0.Coords) (k0_t2 : Fin (k0_t2_loop i).trips) : Fin 3 → Nat :=
  let c27_1594 : Index := 27#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3913 : Index := Scalar.indexCast v3804
  let c0_1595 : Index := 0#32
  ![27, v3913.toNat, 0]
def k0_off137 (i : grid0.Coords) (k0_t2 : Fin (k0_t2_loop i).trips) : Fin 3 → Nat :=
  let c28_1596 : Index := 28#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3917 : Index := Scalar.indexCast v3804
  let c0_1597 : Index := 0#32
  ![28, v3917.toNat, 0]
def k0_off138 (i : grid0.Coords) (k0_t2 : Fin (k0_t2_loop i).trips) : Fin 3 → Nat :=
  let c29_1598 : Index := 29#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3921 : Index := Scalar.indexCast v3804
  let c0_1599 : Index := 0#32
  ![29, v3921.toNat, 0]
def k0_off139 (i : grid0.Coords) (k0_t2 : Fin (k0_t2_loop i).trips) : Fin 3 → Nat :=
  let c30_1600 : Index := 30#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3925 : Index := Scalar.indexCast v3804
  let c0_1601 : Index := 0#32
  ![30, v3925.toNat, 0]
def k0_off140 (i : grid0.Coords) (k0_t2 : Fin (k0_t2_loop i).trips) : Fin 3 → Nat :=
  let c31_1602 : Index := 31#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let c0_i32_1293 : BitVec 32 := 0#32
  let v3041 : BitVec 1 := Scalar.cmpi .eq v3040 c0_i32_1293
  let c1_i32_1294 : BitVec 32 := 1#32
  let v3042 : BitVec 32 := Scalar.subi v3040 c1_i32_1294
  let v3043 : BitVec 32 := Scalar.select v3041 arg1 v3042
  let c8_i32_1539 : BitVec 32 := 8#32
  let v3803 : BitVec 32 := Scalar.muli v3043 c8_i32_1539
  let v3804 : BitVec 32 := v3803
  let v3929 : Index := Scalar.indexCast v3804
  let c0_1603 : Index := 0#32
  ![31, v3929.toNat, 0]
def k0_mult17 (i : grid0.Coords) (k0_t2 : Fin (k0_t2_loop i).trips) : BitVec 32 :=
  let c2_i32_1604 : BitVec 32 := 2#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let v3933 : BitVec 32 := Scalar.muli c2_i32_1604 v3040
  let c0_i32_1605 : BitVec 32 := 0#32
  let v3934 : BitVec 32 := Scalar.addi v3933 c0_i32_1605
  let c128_i32_1606 : BitVec 32 := 128#32
  let v3935 : BitVec 32 := Scalar.muli v3934 c128_i32_1606
  v3935
def k0_off141 (i : grid0.Coords) (k0_t2 : Fin (k0_t2_loop i).trips) (c0_i32_1605 : BitVec 32) : Fin 2 → Nat :=
  let c2_i32_1604 : BitVec 32 := 2#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let v3933 : BitVec 32 := Scalar.muli c2_i32_1604 v3040
  let v3934 : BitVec 32 := Scalar.addi v3933 c0_i32_1605
  let c128_i32_1606 : BitVec 32 := 128#32
  let v3935 : BitVec 32 := Scalar.muli v3934 c128_i32_1606
  let v3936 : BitVec 32 := v3935
  let v3937 : Index := Scalar.indexCast v3936
  let c0_1607 : Index := 0#32
  ![v3937.toNat, 0]
def k0_off142 (i : grid0.Coords) (k0_t2 : Fin (k0_t2_loop i).trips) (c0_i32_1605 : BitVec 32) : Fin 2 → Nat :=
  let c2_i32_1604 : BitVec 32 := 2#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let v3933 : BitVec 32 := Scalar.muli c2_i32_1604 v3040
  let v3934 : BitVec 32 := Scalar.addi v3933 c0_i32_1605
  let c128_i32_1606 : BitVec 32 := 128#32
  let v3935 : BitVec 32 := Scalar.muli v3934 c128_i32_1606
  let v3936 : BitVec 32 := v3935
  let v4074 : Index := Scalar.indexCast v3936
  let c0_1707 : Index := 0#32
  ![v4074.toNat, 0]
def k0_mult18 (i : grid0.Coords) (k0_t2 : Fin (k0_t2_loop i).trips) : BitVec 32 :=
  let c2_i32_1708 : BitVec 32 := 2#32
  let c2_i32_1291 : BitVec 32 := 2#32
  let c0_i32_203 : BitVec 32 := 0#32
  let arg1 : BitVec 32 := BitVec.ofNat 32 (i 1).val
  let c0_i32_196 : BitVec 32 := 0#32
  let v389 : BitVec 1 := Scalar.cmpi .sgt arg1 c0_i32_196
  let v390 : BitVec 32 := Scalar.extui v389
  let c0_i32_197 : BitVec 32 := 0#32
  let v391 : BitVec 1 := Scalar.cmpi .slt arg1 c0_i32_197
  let v392 : BitVec 32 := Scalar.extui v391
  let v393 : BitVec 32 := Scalar.subi v390 v392
  let c2_i32_195 : BitVec 32 := 2#32
  let c0_i32_198 : BitVec 32 := 0#32
  let v394 : BitVec 1 := Scalar.cmpi .sgt c2_i32_195 c0_i32_198
  let v395 : BitVec 32 := Scalar.extui v394
  let c0_i32_199 : BitVec 32 := 0#32
  let v396 : BitVec 1 := Scalar.cmpi .slt c2_i32_195 c0_i32_199
  let v397 : BitVec 32 := Scalar.extui v396
  let v398 : BitVec 32 := Scalar.subi v395 v397
  let v399 : BitVec 1 := Scalar.cmpi .ne v393 v398
  let v400 : BitVec 32 := Scalar.remsi arg1 c2_i32_195
  let c0_i32_200 : BitVec 32 := 0#32
  let v401 : BitVec 1 := Scalar.cmpi .ne v400 c0_i32_200
  let v402 : BitVec 1 := Scalar.andi v399 v401
  let v388 : BitVec 32 := Scalar.divsi arg1 c2_i32_195
  let c1_i32_201 : BitVec 32 := 1#32
  let v403 : BitVec 32 := Scalar.subi v388 c1_i32_201
  let v404 : BitVec 32 := Scalar.select v402 v403 v388
  let v405 : BitVec 32 := Scalar.subi v404 c0_i32_203
  let c1_i32_204 : BitVec 32 := 1#32
  let v407 : BitVec 32 := Scalar.divsi v405 c1_i32_204
  let v408 : BitVec 32 := Scalar.muli v407 c1_i32_204
  let v409 : BitVec 32 := Scalar.addi c0_i32_203 v408
  let c1_i32_206 : BitVec 32 := 1#32
  let arg18 : BitVec 32 := Scf.iv v409 c1_i32_206 k0_t2
  let v3039 : BitVec 32 := Scalar.muli c2_i32_1291 arg18
  let c1_i32_1292 : BitVec 32 := 1#32
  let v3040 : BitVec 32 := Scalar.addi v3039 c1_i32_1292
  let v4078 : BitVec 32 := Scalar.muli c2_i32_1708 v3040
  let c1_i32_1709 : BitVec 32 := 1#32
  let v4079 : BitVec 32 := Scalar.addi v4078 c1_i32_1709
  let c128_i32_1710 : BitVec 32 := 128#32
  let v4080 : BitVec 32 := Scalar.muli v4079 c128_i32_1710
  v4080
@[reducible] def k0_t3_loop (i : grid0.Coords) : Scf.Loop 32 :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_217 : BitVec 32 := 1#32
  ⟨v427, v432, c1_i32_217⟩
def k0_mult19 (i : grid0.Coords) (k0_t3 : Fin (k0_t3_loop i).trips) : BitVec 32 :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c2_i32_773 : BitVec 32 := 2#32
  let v1859 : BitVec 32 := Scalar.muli v1858 c2_i32_773
  let c128_i32_774 : BitVec 32 := 128#32
  let v1860 : BitVec 32 := Scalar.muli v1859 c128_i32_774
  v1860
def k0_off143 (i : grid0.Coords) (k0_t3 : Fin (k0_t3_loop i).trips) : Fin 2 → Nat :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c2_i32_773 : BitVec 32 := 2#32
  let v1859 : BitVec 32 := Scalar.muli v1858 c2_i32_773
  let c128_i32_774 : BitVec 32 := 128#32
  let v1860 : BitVec 32 := Scalar.muli v1859 c128_i32_774
  let v1861 : BitVec 32 := v1860
  let v1862 : Index := Scalar.indexCast v1861
  let c0_775 : Index := 0#32
  ![v1862.toNat, 0]
def k0_mult20 (i : grid0.Coords) (k0_t3 : Fin (k0_t3_loop i).trips) : BitVec 32 :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  v2618
def k0_off144 (i : grid0.Coords) (k0_t3 : Fin (k0_t3_loop i).trips) : Fin 3 → Nat :=
  let c0_1018 : Index := 0#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2620 : Index := Scalar.indexCast v2619
  let c0_1019 : Index := 0#32
  ![0, v2620.toNat, 0]
def k0_off145 (i : grid0.Coords) (k0_t3 : Fin (k0_t3_loop i).trips) : Fin 3 → Nat :=
  let c1_1020 : Index := 1#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2624 : Index := Scalar.indexCast v2619
  let c0_1021 : Index := 0#32
  ![1, v2624.toNat, 0]
def k0_off146 (i : grid0.Coords) (k0_t3 : Fin (k0_t3_loop i).trips) : Fin 3 → Nat :=
  let c2_1022 : Index := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2628 : Index := Scalar.indexCast v2619
  let c0_1023 : Index := 0#32
  ![2, v2628.toNat, 0]
def k0_off147 (i : grid0.Coords) (k0_t3 : Fin (k0_t3_loop i).trips) : Fin 3 → Nat :=
  let c3_1024 : Index := 3#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2632 : Index := Scalar.indexCast v2619
  let c0_1025 : Index := 0#32
  ![3, v2632.toNat, 0]
def k0_off148 (i : grid0.Coords) (k0_t3 : Fin (k0_t3_loop i).trips) : Fin 3 → Nat :=
  let c4_1026 : Index := 4#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2636 : Index := Scalar.indexCast v2619
  let c0_1027 : Index := 0#32
  ![4, v2636.toNat, 0]
def k0_off149 (i : grid0.Coords) (k0_t3 : Fin (k0_t3_loop i).trips) : Fin 3 → Nat :=
  let c5_1028 : Index := 5#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2640 : Index := Scalar.indexCast v2619
  let c0_1029 : Index := 0#32
  ![5, v2640.toNat, 0]
def k0_off150 (i : grid0.Coords) (k0_t3 : Fin (k0_t3_loop i).trips) : Fin 3 → Nat :=
  let c6_1030 : Index := 6#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2644 : Index := Scalar.indexCast v2619
  let c0_1031 : Index := 0#32
  ![6, v2644.toNat, 0]
def k0_off151 (i : grid0.Coords) (k0_t3 : Fin (k0_t3_loop i).trips) : Fin 3 → Nat :=
  let c7_1032 : Index := 7#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2648 : Index := Scalar.indexCast v2619
  let c0_1033 : Index := 0#32
  ![7, v2648.toNat, 0]
def k0_off152 (i : grid0.Coords) (k0_t3 : Fin (k0_t3_loop i).trips) : Fin 3 → Nat :=
  let c8_1034 : Index := 8#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2652 : Index := Scalar.indexCast v2619
  let c0_1035 : Index := 0#32
  ![8, v2652.toNat, 0]
def k0_off153 (i : grid0.Coords) (k0_t3 : Fin (k0_t3_loop i).trips) : Fin 3 → Nat :=
  let c9_1036 : Index := 9#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2656 : Index := Scalar.indexCast v2619
  let c0_1037 : Index := 0#32
  ![9, v2656.toNat, 0]
def k0_off154 (i : grid0.Coords) (k0_t3 : Fin (k0_t3_loop i).trips) : Fin 3 → Nat :=
  let c10_1038 : Index := 10#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2660 : Index := Scalar.indexCast v2619
  let c0_1039 : Index := 0#32
  ![10, v2660.toNat, 0]
def k0_off155 (i : grid0.Coords) (k0_t3 : Fin (k0_t3_loop i).trips) : Fin 3 → Nat :=
  let c11_1040 : Index := 11#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2664 : Index := Scalar.indexCast v2619
  let c0_1041 : Index := 0#32
  ![11, v2664.toNat, 0]
def k0_off156 (i : grid0.Coords) (k0_t3 : Fin (k0_t3_loop i).trips) : Fin 3 → Nat :=
  let c12_1042 : Index := 12#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2668 : Index := Scalar.indexCast v2619
  let c0_1043 : Index := 0#32
  ![12, v2668.toNat, 0]
def k0_off157 (i : grid0.Coords) (k0_t3 : Fin (k0_t3_loop i).trips) : Fin 3 → Nat :=
  let c13_1044 : Index := 13#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2672 : Index := Scalar.indexCast v2619
  let c0_1045 : Index := 0#32
  ![13, v2672.toNat, 0]
def k0_off158 (i : grid0.Coords) (k0_t3 : Fin (k0_t3_loop i).trips) : Fin 3 → Nat :=
  let c14_1046 : Index := 14#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2676 : Index := Scalar.indexCast v2619
  let c0_1047 : Index := 0#32
  ![14, v2676.toNat, 0]
def k0_off159 (i : grid0.Coords) (k0_t3 : Fin (k0_t3_loop i).trips) : Fin 3 → Nat :=
  let c15_1048 : Index := 15#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2680 : Index := Scalar.indexCast v2619
  let c0_1049 : Index := 0#32
  ![15, v2680.toNat, 0]
def k0_off160 (i : grid0.Coords) (k0_t3 : Fin (k0_t3_loop i).trips) : Fin 3 → Nat :=
  let c16_1050 : Index := 16#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2684 : Index := Scalar.indexCast v2619
  let c0_1051 : Index := 0#32
  ![16, v2684.toNat, 0]
def k0_off161 (i : grid0.Coords) (k0_t3 : Fin (k0_t3_loop i).trips) : Fin 3 → Nat :=
  let c17_1052 : Index := 17#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2688 : Index := Scalar.indexCast v2619
  let c0_1053 : Index := 0#32
  ![17, v2688.toNat, 0]
def k0_off162 (i : grid0.Coords) (k0_t3 : Fin (k0_t3_loop i).trips) : Fin 3 → Nat :=
  let c18_1054 : Index := 18#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2692 : Index := Scalar.indexCast v2619
  let c0_1055 : Index := 0#32
  ![18, v2692.toNat, 0]
def k0_off163 (i : grid0.Coords) (k0_t3 : Fin (k0_t3_loop i).trips) : Fin 3 → Nat :=
  let c19_1056 : Index := 19#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2696 : Index := Scalar.indexCast v2619
  let c0_1057 : Index := 0#32
  ![19, v2696.toNat, 0]
def k0_off164 (i : grid0.Coords) (k0_t3 : Fin (k0_t3_loop i).trips) : Fin 3 → Nat :=
  let c20_1058 : Index := 20#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2700 : Index := Scalar.indexCast v2619
  let c0_1059 : Index := 0#32
  ![20, v2700.toNat, 0]
def k0_off165 (i : grid0.Coords) (k0_t3 : Fin (k0_t3_loop i).trips) : Fin 3 → Nat :=
  let c21_1060 : Index := 21#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2704 : Index := Scalar.indexCast v2619
  let c0_1061 : Index := 0#32
  ![21, v2704.toNat, 0]
def k0_off166 (i : grid0.Coords) (k0_t3 : Fin (k0_t3_loop i).trips) : Fin 3 → Nat :=
  let c22_1062 : Index := 22#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2708 : Index := Scalar.indexCast v2619
  let c0_1063 : Index := 0#32
  ![22, v2708.toNat, 0]
def k0_off167 (i : grid0.Coords) (k0_t3 : Fin (k0_t3_loop i).trips) : Fin 3 → Nat :=
  let c23_1064 : Index := 23#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2712 : Index := Scalar.indexCast v2619
  let c0_1065 : Index := 0#32
  ![23, v2712.toNat, 0]
def k0_off168 (i : grid0.Coords) (k0_t3 : Fin (k0_t3_loop i).trips) : Fin 3 → Nat :=
  let c24_1066 : Index := 24#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2716 : Index := Scalar.indexCast v2619
  let c0_1067 : Index := 0#32
  ![24, v2716.toNat, 0]
def k0_off169 (i : grid0.Coords) (k0_t3 : Fin (k0_t3_loop i).trips) : Fin 3 → Nat :=
  let c25_1068 : Index := 25#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2720 : Index := Scalar.indexCast v2619
  let c0_1069 : Index := 0#32
  ![25, v2720.toNat, 0]
def k0_off170 (i : grid0.Coords) (k0_t3 : Fin (k0_t3_loop i).trips) : Fin 3 → Nat :=
  let c26_1070 : Index := 26#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2724 : Index := Scalar.indexCast v2619
  let c0_1071 : Index := 0#32
  ![26, v2724.toNat, 0]
def k0_off171 (i : grid0.Coords) (k0_t3 : Fin (k0_t3_loop i).trips) : Fin 3 → Nat :=
  let c27_1072 : Index := 27#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2728 : Index := Scalar.indexCast v2619
  let c0_1073 : Index := 0#32
  ![27, v2728.toNat, 0]
def k0_off172 (i : grid0.Coords) (k0_t3 : Fin (k0_t3_loop i).trips) : Fin 3 → Nat :=
  let c28_1074 : Index := 28#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2732 : Index := Scalar.indexCast v2619
  let c0_1075 : Index := 0#32
  ![28, v2732.toNat, 0]
def k0_off173 (i : grid0.Coords) (k0_t3 : Fin (k0_t3_loop i).trips) : Fin 3 → Nat :=
  let c29_1076 : Index := 29#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2736 : Index := Scalar.indexCast v2619
  let c0_1077 : Index := 0#32
  ![29, v2736.toNat, 0]
def k0_off174 (i : grid0.Coords) (k0_t3 : Fin (k0_t3_loop i).trips) : Fin 3 → Nat :=
  let c30_1078 : Index := 30#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2740 : Index := Scalar.indexCast v2619
  let c0_1079 : Index := 0#32
  ![30, v2740.toNat, 0]
def k0_off175 (i : grid0.Coords) (k0_t3 : Fin (k0_t3_loop i).trips) : Fin 3 → Nat :=
  let c31_1080 : Index := 31#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2744 : Index := Scalar.indexCast v2619
  let c0_1081 : Index := 0#32
  ![31, v2744.toNat, 0]
def k0_mult21 (i : grid0.Coords) (k0_t3 : Fin (k0_t3_loop i).trips) : BitVec 32 :=
  let c2_i32_1082 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let v2748 : BitVec 32 := Scalar.muli c2_i32_1082 arg18
  let c0_i32_1083 : BitVec 32 := 0#32
  let v2749 : BitVec 32 := Scalar.addi v2748 c0_i32_1083
  let c128_i32_1084 : BitVec 32 := 128#32
  let v2750 : BitVec 32 := Scalar.muli v2749 c128_i32_1084
  v2750
def k0_off176 (i : grid0.Coords) (k0_t3 : Fin (k0_t3_loop i).trips) (c0_i32_1083 : BitVec 32) : Fin 2 → Nat :=
  let c2_i32_1082 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let v2748 : BitVec 32 := Scalar.muli c2_i32_1082 arg18
  let v2749 : BitVec 32 := Scalar.addi v2748 c0_i32_1083
  let c128_i32_1084 : BitVec 32 := 128#32
  let v2750 : BitVec 32 := Scalar.muli v2749 c128_i32_1084
  let v2751 : BitVec 32 := v2750
  let v2752 : Index := Scalar.indexCast v2751
  let c0_1085 : Index := 0#32
  ![v2752.toNat, 0]
def k0_off177 (i : grid0.Coords) (k0_t3 : Fin (k0_t3_loop i).trips) (c0_i32_1083 : BitVec 32) : Fin 2 → Nat :=
  let c2_i32_1082 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let v2748 : BitVec 32 := Scalar.muli c2_i32_1082 arg18
  let v2749 : BitVec 32 := Scalar.addi v2748 c0_i32_1083
  let c128_i32_1084 : BitVec 32 := 128#32
  let v2750 : BitVec 32 := Scalar.muli v2749 c128_i32_1084
  let v2751 : BitVec 32 := v2750
  let v2889 : Index := Scalar.indexCast v2751
  let c0_1185 : Index := 0#32
  ![v2889.toNat, 0]
def k0_mult22 (i : grid0.Coords) (k0_t3 : Fin (k0_t3_loop i).trips) : BitVec 32 :=
  let c2_i32_1186 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let c1_i32_217 : BitVec 32 := 1#32
  let arg18 : BitVec 32 := Scf.iv v427 c1_i32_217 k0_t3
  let v2893 : BitVec 32 := Scalar.muli c2_i32_1186 arg18
  let c1_i32_1187 : BitVec 32 := 1#32
  let v2894 : BitVec 32 := Scalar.addi v2893 c1_i32_1187
  let c128_i32_1188 : BitVec 32 := 128#32
  let v2895 : BitVec 32 := Scalar.muli v2894 c128_i32_1188
  v2895
@[reducible] def k0_t4_loop (i : grid0.Coords) : Scf.Loop 32 :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let v429 : BitVec 32 := Scalar.addi v427 v428
  let c1_i32_218 : BitVec 32 := 1#32
  ⟨v432, v429, c1_i32_218⟩
def k0_mult23 (i : grid0.Coords) (k0_t4 : Fin (k0_t4_loop i).trips) : BitVec 32 :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c2_i32_773 : BitVec 32 := 2#32
  let v1859 : BitVec 32 := Scalar.muli v1858 c2_i32_773
  let c128_i32_774 : BitVec 32 := 128#32
  let v1860 : BitVec 32 := Scalar.muli v1859 c128_i32_774
  v1860
def k0_off178 (i : grid0.Coords) (k0_t4 : Fin (k0_t4_loop i).trips) : Fin 2 → Nat :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c2_i32_773 : BitVec 32 := 2#32
  let v1859 : BitVec 32 := Scalar.muli v1858 c2_i32_773
  let c128_i32_774 : BitVec 32 := 128#32
  let v1860 : BitVec 32 := Scalar.muli v1859 c128_i32_774
  let v1861 : BitVec 32 := v1860
  let v1862 : Index := Scalar.indexCast v1861
  let c0_775 : Index := 0#32
  ![v1862.toNat, 0]
def k0_mult24 (i : grid0.Coords) (k0_t4 : Fin (k0_t4_loop i).trips) : BitVec 32 :=
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  v2618
def k0_off179 (i : grid0.Coords) (k0_t4 : Fin (k0_t4_loop i).trips) : Fin 3 → Nat :=
  let c0_1018 : Index := 0#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2620 : Index := Scalar.indexCast v2619
  let c0_1019 : Index := 0#32
  ![0, v2620.toNat, 0]
def k0_off180 (i : grid0.Coords) (k0_t4 : Fin (k0_t4_loop i).trips) : Fin 3 → Nat :=
  let c1_1020 : Index := 1#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2624 : Index := Scalar.indexCast v2619
  let c0_1021 : Index := 0#32
  ![1, v2624.toNat, 0]
def k0_off181 (i : grid0.Coords) (k0_t4 : Fin (k0_t4_loop i).trips) : Fin 3 → Nat :=
  let c2_1022 : Index := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2628 : Index := Scalar.indexCast v2619
  let c0_1023 : Index := 0#32
  ![2, v2628.toNat, 0]
def k0_off182 (i : grid0.Coords) (k0_t4 : Fin (k0_t4_loop i).trips) : Fin 3 → Nat :=
  let c3_1024 : Index := 3#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2632 : Index := Scalar.indexCast v2619
  let c0_1025 : Index := 0#32
  ![3, v2632.toNat, 0]
def k0_off183 (i : grid0.Coords) (k0_t4 : Fin (k0_t4_loop i).trips) : Fin 3 → Nat :=
  let c4_1026 : Index := 4#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2636 : Index := Scalar.indexCast v2619
  let c0_1027 : Index := 0#32
  ![4, v2636.toNat, 0]
def k0_off184 (i : grid0.Coords) (k0_t4 : Fin (k0_t4_loop i).trips) : Fin 3 → Nat :=
  let c5_1028 : Index := 5#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2640 : Index := Scalar.indexCast v2619
  let c0_1029 : Index := 0#32
  ![5, v2640.toNat, 0]
def k0_off185 (i : grid0.Coords) (k0_t4 : Fin (k0_t4_loop i).trips) : Fin 3 → Nat :=
  let c6_1030 : Index := 6#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2644 : Index := Scalar.indexCast v2619
  let c0_1031 : Index := 0#32
  ![6, v2644.toNat, 0]
def k0_off186 (i : grid0.Coords) (k0_t4 : Fin (k0_t4_loop i).trips) : Fin 3 → Nat :=
  let c7_1032 : Index := 7#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2648 : Index := Scalar.indexCast v2619
  let c0_1033 : Index := 0#32
  ![7, v2648.toNat, 0]
def k0_off187 (i : grid0.Coords) (k0_t4 : Fin (k0_t4_loop i).trips) : Fin 3 → Nat :=
  let c8_1034 : Index := 8#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2652 : Index := Scalar.indexCast v2619
  let c0_1035 : Index := 0#32
  ![8, v2652.toNat, 0]
def k0_off188 (i : grid0.Coords) (k0_t4 : Fin (k0_t4_loop i).trips) : Fin 3 → Nat :=
  let c9_1036 : Index := 9#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2656 : Index := Scalar.indexCast v2619
  let c0_1037 : Index := 0#32
  ![9, v2656.toNat, 0]
def k0_off189 (i : grid0.Coords) (k0_t4 : Fin (k0_t4_loop i).trips) : Fin 3 → Nat :=
  let c10_1038 : Index := 10#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2660 : Index := Scalar.indexCast v2619
  let c0_1039 : Index := 0#32
  ![10, v2660.toNat, 0]
def k0_off190 (i : grid0.Coords) (k0_t4 : Fin (k0_t4_loop i).trips) : Fin 3 → Nat :=
  let c11_1040 : Index := 11#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2664 : Index := Scalar.indexCast v2619
  let c0_1041 : Index := 0#32
  ![11, v2664.toNat, 0]
def k0_off191 (i : grid0.Coords) (k0_t4 : Fin (k0_t4_loop i).trips) : Fin 3 → Nat :=
  let c12_1042 : Index := 12#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2668 : Index := Scalar.indexCast v2619
  let c0_1043 : Index := 0#32
  ![12, v2668.toNat, 0]
def k0_off192 (i : grid0.Coords) (k0_t4 : Fin (k0_t4_loop i).trips) : Fin 3 → Nat :=
  let c13_1044 : Index := 13#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2672 : Index := Scalar.indexCast v2619
  let c0_1045 : Index := 0#32
  ![13, v2672.toNat, 0]
def k0_off193 (i : grid0.Coords) (k0_t4 : Fin (k0_t4_loop i).trips) : Fin 3 → Nat :=
  let c14_1046 : Index := 14#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2676 : Index := Scalar.indexCast v2619
  let c0_1047 : Index := 0#32
  ![14, v2676.toNat, 0]
def k0_off194 (i : grid0.Coords) (k0_t4 : Fin (k0_t4_loop i).trips) : Fin 3 → Nat :=
  let c15_1048 : Index := 15#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2680 : Index := Scalar.indexCast v2619
  let c0_1049 : Index := 0#32
  ![15, v2680.toNat, 0]
def k0_off195 (i : grid0.Coords) (k0_t4 : Fin (k0_t4_loop i).trips) : Fin 3 → Nat :=
  let c16_1050 : Index := 16#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2684 : Index := Scalar.indexCast v2619
  let c0_1051 : Index := 0#32
  ![16, v2684.toNat, 0]
def k0_off196 (i : grid0.Coords) (k0_t4 : Fin (k0_t4_loop i).trips) : Fin 3 → Nat :=
  let c17_1052 : Index := 17#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2688 : Index := Scalar.indexCast v2619
  let c0_1053 : Index := 0#32
  ![17, v2688.toNat, 0]
def k0_off197 (i : grid0.Coords) (k0_t4 : Fin (k0_t4_loop i).trips) : Fin 3 → Nat :=
  let c18_1054 : Index := 18#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2692 : Index := Scalar.indexCast v2619
  let c0_1055 : Index := 0#32
  ![18, v2692.toNat, 0]
def k0_off198 (i : grid0.Coords) (k0_t4 : Fin (k0_t4_loop i).trips) : Fin 3 → Nat :=
  let c19_1056 : Index := 19#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2696 : Index := Scalar.indexCast v2619
  let c0_1057 : Index := 0#32
  ![19, v2696.toNat, 0]
def k0_off199 (i : grid0.Coords) (k0_t4 : Fin (k0_t4_loop i).trips) : Fin 3 → Nat :=
  let c20_1058 : Index := 20#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2700 : Index := Scalar.indexCast v2619
  let c0_1059 : Index := 0#32
  ![20, v2700.toNat, 0]
def k0_off200 (i : grid0.Coords) (k0_t4 : Fin (k0_t4_loop i).trips) : Fin 3 → Nat :=
  let c21_1060 : Index := 21#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2704 : Index := Scalar.indexCast v2619
  let c0_1061 : Index := 0#32
  ![21, v2704.toNat, 0]
def k0_off201 (i : grid0.Coords) (k0_t4 : Fin (k0_t4_loop i).trips) : Fin 3 → Nat :=
  let c22_1062 : Index := 22#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2708 : Index := Scalar.indexCast v2619
  let c0_1063 : Index := 0#32
  ![22, v2708.toNat, 0]
def k0_off202 (i : grid0.Coords) (k0_t4 : Fin (k0_t4_loop i).trips) : Fin 3 → Nat :=
  let c23_1064 : Index := 23#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2712 : Index := Scalar.indexCast v2619
  let c0_1065 : Index := 0#32
  ![23, v2712.toNat, 0]
def k0_off203 (i : grid0.Coords) (k0_t4 : Fin (k0_t4_loop i).trips) : Fin 3 → Nat :=
  let c24_1066 : Index := 24#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2716 : Index := Scalar.indexCast v2619
  let c0_1067 : Index := 0#32
  ![24, v2716.toNat, 0]
def k0_off204 (i : grid0.Coords) (k0_t4 : Fin (k0_t4_loop i).trips) : Fin 3 → Nat :=
  let c25_1068 : Index := 25#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2720 : Index := Scalar.indexCast v2619
  let c0_1069 : Index := 0#32
  ![25, v2720.toNat, 0]
def k0_off205 (i : grid0.Coords) (k0_t4 : Fin (k0_t4_loop i).trips) : Fin 3 → Nat :=
  let c26_1070 : Index := 26#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2724 : Index := Scalar.indexCast v2619
  let c0_1071 : Index := 0#32
  ![26, v2724.toNat, 0]
def k0_off206 (i : grid0.Coords) (k0_t4 : Fin (k0_t4_loop i).trips) : Fin 3 → Nat :=
  let c27_1072 : Index := 27#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2728 : Index := Scalar.indexCast v2619
  let c0_1073 : Index := 0#32
  ![27, v2728.toNat, 0]
def k0_off207 (i : grid0.Coords) (k0_t4 : Fin (k0_t4_loop i).trips) : Fin 3 → Nat :=
  let c28_1074 : Index := 28#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2732 : Index := Scalar.indexCast v2619
  let c0_1075 : Index := 0#32
  ![28, v2732.toNat, 0]
def k0_off208 (i : grid0.Coords) (k0_t4 : Fin (k0_t4_loop i).trips) : Fin 3 → Nat :=
  let c29_1076 : Index := 29#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2736 : Index := Scalar.indexCast v2619
  let c0_1077 : Index := 0#32
  ![29, v2736.toNat, 0]
def k0_off209 (i : grid0.Coords) (k0_t4 : Fin (k0_t4_loop i).trips) : Fin 3 → Nat :=
  let c30_1078 : Index := 30#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2740 : Index := Scalar.indexCast v2619
  let c0_1079 : Index := 0#32
  ![30, v2740.toNat, 0]
def k0_off210 (i : grid0.Coords) (k0_t4 : Fin (k0_t4_loop i).trips) : Fin 3 → Nat :=
  let c31_1080 : Index := 31#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let c0_i32_771 : BitVec 32 := 0#32
  let v1856 : BitVec 1 := Scalar.cmpi .eq arg18 c0_i32_771
  let c1_i32_772 : BitVec 32 := 1#32
  let v1857 : BitVec 32 := Scalar.subi arg18 c1_i32_772
  let v1858 : BitVec 32 := Scalar.select v1856 arg1 v1857
  let c8_i32_1017 : BitVec 32 := 8#32
  let v2618 : BitVec 32 := Scalar.muli v1858 c8_i32_1017
  let v2619 : BitVec 32 := v2618
  let v2744 : Index := Scalar.indexCast v2619
  let c0_1081 : Index := 0#32
  ![31, v2744.toNat, 0]
def k0_mult25 (i : grid0.Coords) (k0_t4 : Fin (k0_t4_loop i).trips) : BitVec 32 :=
  let c2_i32_1082 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let v2748 : BitVec 32 := Scalar.muli c2_i32_1082 arg18
  let c0_i32_1083 : BitVec 32 := 0#32
  let v2749 : BitVec 32 := Scalar.addi v2748 c0_i32_1083
  let c128_i32_1084 : BitVec 32 := 128#32
  let v2750 : BitVec 32 := Scalar.muli v2749 c128_i32_1084
  v2750
def k0_off211 (i : grid0.Coords) (k0_t4 : Fin (k0_t4_loop i).trips) (c0_i32_1083 : BitVec 32) : Fin 2 → Nat :=
  let c2_i32_1082 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let v2748 : BitVec 32 := Scalar.muli c2_i32_1082 arg18
  let v2749 : BitVec 32 := Scalar.addi v2748 c0_i32_1083
  let c128_i32_1084 : BitVec 32 := 128#32
  let v2750 : BitVec 32 := Scalar.muli v2749 c128_i32_1084
  let v2751 : BitVec 32 := v2750
  let v2752 : Index := Scalar.indexCast v2751
  let c0_1085 : Index := 0#32
  ![v2752.toNat, 0]
def k0_off212 (i : grid0.Coords) (k0_t4 : Fin (k0_t4_loop i).trips) (c0_i32_1083 : BitVec 32) : Fin 2 → Nat :=
  let c2_i32_1082 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let v2748 : BitVec 32 := Scalar.muli c2_i32_1082 arg18
  let v2749 : BitVec 32 := Scalar.addi v2748 c0_i32_1083
  let c128_i32_1084 : BitVec 32 := 128#32
  let v2750 : BitVec 32 := Scalar.muli v2749 c128_i32_1084
  let v2751 : BitVec 32 := v2750
  let v2889 : Index := Scalar.indexCast v2751
  let c0_1185 : Index := 0#32
  ![v2889.toNat, 0]
def k0_mult26 (i : grid0.Coords) (k0_t4 : Fin (k0_t4_loop i).trips) : BitVec 32 :=
  let c2_i32_1186 : BitVec 32 := 2#32
  let c2_i32_214 : BitVec 32 := 2#32
  let arg1 : BitVec 32 := BitVec.ofNat 32 (i 1).val
  let c0_i32_208 : BitVec 32 := 0#32
  let v411 : BitVec 1 := Scalar.cmpi .sgt arg1 c0_i32_208
  let v412 : BitVec 32 := Scalar.extui v411
  let c0_i32_209 : BitVec 32 := 0#32
  let v413 : BitVec 1 := Scalar.cmpi .slt arg1 c0_i32_209
  let v414 : BitVec 32 := Scalar.extui v413
  let v415 : BitVec 32 := Scalar.subi v412 v414
  let c2_i32_207 : BitVec 32 := 2#32
  let c0_i32_210 : BitVec 32 := 0#32
  let v416 : BitVec 1 := Scalar.cmpi .sgt c2_i32_207 c0_i32_210
  let v417 : BitVec 32 := Scalar.extui v416
  let c0_i32_211 : BitVec 32 := 0#32
  let v418 : BitVec 1 := Scalar.cmpi .slt c2_i32_207 c0_i32_211
  let v419 : BitVec 32 := Scalar.extui v418
  let v420 : BitVec 32 := Scalar.subi v417 v419
  let v421 : BitVec 1 := Scalar.cmpi .ne v415 v420
  let v422 : BitVec 32 := Scalar.remsi arg1 c2_i32_207
  let c0_i32_212 : BitVec 32 := 0#32
  let v423 : BitVec 1 := Scalar.cmpi .ne v422 c0_i32_212
  let v424 : BitVec 1 := Scalar.andi v421 v423
  let v410 : BitVec 32 := Scalar.divsi arg1 c2_i32_207
  let c1_i32_213 : BitVec 32 := 1#32
  let v425 : BitVec 32 := Scalar.subi v410 c1_i32_213
  let v426 : BitVec 32 := Scalar.select v424 v425 v410
  let v427 : BitVec 32 := Scalar.muli c2_i32_214 v426
  let v428 : BitVec 32 := Scalar.subi arg1 v427
  let c1_i32_216 : BitVec 32 := 1#32
  let v430 : BitVec 32 := Scalar.divsi v428 c1_i32_216
  let v431 : BitVec 32 := Scalar.muli v430 c1_i32_216
  let v432 : BitVec 32 := Scalar.addi v427 v431
  let c1_i32_218 : BitVec 32 := 1#32
  let arg18 : BitVec 32 := Scf.iv v432 c1_i32_218 k0_t4
  let v2893 : BitVec 32 := Scalar.muli c2_i32_1186 arg18
  let c1_i32_1187 : BitVec 32 := 1#32
  let v2894 : BitVec 32 := Scalar.addi v2893 c1_i32_1187
  let c128_i32_1188 : BitVec 32 := 128#32
  let v2895 : BitVec 32 := Scalar.muli v2894 c128_i32_1188
  v2895
def k0_mult27 (i : grid0.Coords) : BitVec 32 :=
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c2_i32_222 : BitVec 32 := 2#32
  let v436 : BitVec 32 := Scalar.muli v435 c2_i32_222
  let c128_i32_223 : BitVec 32 := 128#32
  let v437 : BitVec 32 := Scalar.muli v436 c128_i32_223
  v437
def k0_off213 (i : grid0.Coords) : Fin 2 → Nat :=
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c2_i32_222 : BitVec 32 := 2#32
  let v436 : BitVec 32 := Scalar.muli v435 c2_i32_222
  let c128_i32_223 : BitVec 32 := 128#32
  let v437 : BitVec 32 := Scalar.muli v436 c128_i32_223
  let v438 : BitVec 32 := v437
  let v439 : Index := Scalar.indexCast v438
  let c0_224 : Index := 0#32
  ![v439.toNat, 0]
def k0_mult28 (i : grid0.Coords) : BitVec 32 :=
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  v1195
def k0_off214 (i : grid0.Coords) : Fin 3 → Nat :=
  let c0_459 : Index := 0#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1197 : Index := Scalar.indexCast v1196
  let c0_460 : Index := 0#32
  ![0, v1197.toNat, 0]
def k0_off215 (i : grid0.Coords) : Fin 3 → Nat :=
  let c1_461 : Index := 1#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1201 : Index := Scalar.indexCast v1196
  let c0_462 : Index := 0#32
  ![1, v1201.toNat, 0]
def k0_off216 (i : grid0.Coords) : Fin 3 → Nat :=
  let c2_463 : Index := 2#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1205 : Index := Scalar.indexCast v1196
  let c0_464 : Index := 0#32
  ![2, v1205.toNat, 0]
def k0_off217 (i : grid0.Coords) : Fin 3 → Nat :=
  let c3_465 : Index := 3#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1209 : Index := Scalar.indexCast v1196
  let c0_466 : Index := 0#32
  ![3, v1209.toNat, 0]
def k0_off218 (i : grid0.Coords) : Fin 3 → Nat :=
  let c4_467 : Index := 4#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1213 : Index := Scalar.indexCast v1196
  let c0_468 : Index := 0#32
  ![4, v1213.toNat, 0]
def k0_off219 (i : grid0.Coords) : Fin 3 → Nat :=
  let c5_469 : Index := 5#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1217 : Index := Scalar.indexCast v1196
  let c0_470 : Index := 0#32
  ![5, v1217.toNat, 0]
def k0_off220 (i : grid0.Coords) : Fin 3 → Nat :=
  let c6_471 : Index := 6#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1221 : Index := Scalar.indexCast v1196
  let c0_472 : Index := 0#32
  ![6, v1221.toNat, 0]
def k0_off221 (i : grid0.Coords) : Fin 3 → Nat :=
  let c7_473 : Index := 7#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1225 : Index := Scalar.indexCast v1196
  let c0_474 : Index := 0#32
  ![7, v1225.toNat, 0]
def k0_off222 (i : grid0.Coords) : Fin 3 → Nat :=
  let c8_475 : Index := 8#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1229 : Index := Scalar.indexCast v1196
  let c0_476 : Index := 0#32
  ![8, v1229.toNat, 0]
def k0_off223 (i : grid0.Coords) : Fin 3 → Nat :=
  let c9_477 : Index := 9#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1233 : Index := Scalar.indexCast v1196
  let c0_478 : Index := 0#32
  ![9, v1233.toNat, 0]
def k0_off224 (i : grid0.Coords) : Fin 3 → Nat :=
  let c10_479 : Index := 10#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1237 : Index := Scalar.indexCast v1196
  let c0_480 : Index := 0#32
  ![10, v1237.toNat, 0]
def k0_off225 (i : grid0.Coords) : Fin 3 → Nat :=
  let c11_481 : Index := 11#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1241 : Index := Scalar.indexCast v1196
  let c0_482 : Index := 0#32
  ![11, v1241.toNat, 0]
def k0_off226 (i : grid0.Coords) : Fin 3 → Nat :=
  let c12_483 : Index := 12#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1245 : Index := Scalar.indexCast v1196
  let c0_484 : Index := 0#32
  ![12, v1245.toNat, 0]
def k0_off227 (i : grid0.Coords) : Fin 3 → Nat :=
  let c13_485 : Index := 13#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1249 : Index := Scalar.indexCast v1196
  let c0_486 : Index := 0#32
  ![13, v1249.toNat, 0]
def k0_off228 (i : grid0.Coords) : Fin 3 → Nat :=
  let c14_487 : Index := 14#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1253 : Index := Scalar.indexCast v1196
  let c0_488 : Index := 0#32
  ![14, v1253.toNat, 0]
def k0_off229 (i : grid0.Coords) : Fin 3 → Nat :=
  let c15_489 : Index := 15#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1257 : Index := Scalar.indexCast v1196
  let c0_490 : Index := 0#32
  ![15, v1257.toNat, 0]
def k0_off230 (i : grid0.Coords) : Fin 3 → Nat :=
  let c16 : Index := 16#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1261 : Index := Scalar.indexCast v1196
  let c0_491 : Index := 0#32
  ![16, v1261.toNat, 0]
def k0_off231 (i : grid0.Coords) : Fin 3 → Nat :=
  let c17 : Index := 17#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1265 : Index := Scalar.indexCast v1196
  let c0_492 : Index := 0#32
  ![17, v1265.toNat, 0]
def k0_off232 (i : grid0.Coords) : Fin 3 → Nat :=
  let c18 : Index := 18#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1269 : Index := Scalar.indexCast v1196
  let c0_493 : Index := 0#32
  ![18, v1269.toNat, 0]
def k0_off233 (i : grid0.Coords) : Fin 3 → Nat :=
  let c19 : Index := 19#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1273 : Index := Scalar.indexCast v1196
  let c0_494 : Index := 0#32
  ![19, v1273.toNat, 0]
def k0_off234 (i : grid0.Coords) : Fin 3 → Nat :=
  let c20 : Index := 20#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1277 : Index := Scalar.indexCast v1196
  let c0_495 : Index := 0#32
  ![20, v1277.toNat, 0]
def k0_off235 (i : grid0.Coords) : Fin 3 → Nat :=
  let c21 : Index := 21#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1281 : Index := Scalar.indexCast v1196
  let c0_496 : Index := 0#32
  ![21, v1281.toNat, 0]
def k0_off236 (i : grid0.Coords) : Fin 3 → Nat :=
  let c22 : Index := 22#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1285 : Index := Scalar.indexCast v1196
  let c0_497 : Index := 0#32
  ![22, v1285.toNat, 0]
def k0_off237 (i : grid0.Coords) : Fin 3 → Nat :=
  let c23 : Index := 23#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1289 : Index := Scalar.indexCast v1196
  let c0_498 : Index := 0#32
  ![23, v1289.toNat, 0]
def k0_off238 (i : grid0.Coords) : Fin 3 → Nat :=
  let c24 : Index := 24#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1293 : Index := Scalar.indexCast v1196
  let c0_499 : Index := 0#32
  ![24, v1293.toNat, 0]
def k0_off239 (i : grid0.Coords) : Fin 3 → Nat :=
  let c25 : Index := 25#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1297 : Index := Scalar.indexCast v1196
  let c0_500 : Index := 0#32
  ![25, v1297.toNat, 0]
def k0_off240 (i : grid0.Coords) : Fin 3 → Nat :=
  let c26 : Index := 26#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1301 : Index := Scalar.indexCast v1196
  let c0_501 : Index := 0#32
  ![26, v1301.toNat, 0]
def k0_off241 (i : grid0.Coords) : Fin 3 → Nat :=
  let c27 : Index := 27#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1305 : Index := Scalar.indexCast v1196
  let c0_502 : Index := 0#32
  ![27, v1305.toNat, 0]
def k0_off242 (i : grid0.Coords) : Fin 3 → Nat :=
  let c28 : Index := 28#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1309 : Index := Scalar.indexCast v1196
  let c0_503 : Index := 0#32
  ![28, v1309.toNat, 0]
def k0_off243 (i : grid0.Coords) : Fin 3 → Nat :=
  let c29 : Index := 29#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1313 : Index := Scalar.indexCast v1196
  let c0_504 : Index := 0#32
  ![29, v1313.toNat, 0]
def k0_off244 (i : grid0.Coords) : Fin 3 → Nat :=
  let c30 : Index := 30#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1317 : Index := Scalar.indexCast v1196
  let c0_505 : Index := 0#32
  ![30, v1317.toNat, 0]
def k0_off245 (i : grid0.Coords) : Fin 3 → Nat :=
  let c31 : Index := 31#32
  let arg1 : BitVec 32 := BitVec.ofNat 32 (i 1).val
  let c0_i32_219 : BitVec 32 := 0#32
  let v433 : BitVec 1 := Scalar.cmpi .eq arg1 c0_i32_219
  let c0_i32_221 : BitVec 32 := 0#32
  let c1_i32_220 : BitVec 32 := 1#32
  let v434 : BitVec 32 := Scalar.subi arg1 c1_i32_220
  let v435 : BitVec 32 := Scalar.select v433 c0_i32_221 v434
  let c8_i32_458 : BitVec 32 := 8#32
  let v1195 : BitVec 32 := Scalar.muli v435 c8_i32_458
  let v1196 : BitVec 32 := v1195
  let v1321 : Index := Scalar.indexCast v1196
  let c0_506 : Index := 0#32
  ![31, v1321.toNat, 0]
@[reducible] def k0_t5_loop (i : grid0.Coords) : Scf.Loop 32 :=
  let c0_i32_773 : BitVec 32 := 0#32
  let arg1 : BitVec 32 := BitVec.ofNat 32 (i 1).val
  let c1_i32_771 : BitVec 32 := 1#32
  let v1856 : BitVec 32 := Scalar.addi arg1 c1_i32_771
  let v1857 : BitVec 32 := Scalar.subi v1856 c0_i32_773
  let c1_i32_774 : BitVec 32 := 1#32
  let v1859 : BitVec 32 := Scalar.divsi v1857 c1_i32_774
  let v1860 : BitVec 32 := Scalar.muli v1859 c1_i32_774
  let v1861 : BitVec 32 := Scalar.addi c0_i32_773 v1860
  let c1_i32_775 : BitVec 32 := 1#32
  ⟨c0_i32_773, v1861, c1_i32_775⟩
def k0_mult29 (i : grid0.Coords) (k0_t5 : Fin (k0_t5_loop i).trips) : BitVec 32 :=
  let c0_i32_773 : BitVec 32 := 0#32
  let c1_i32_775 : BitVec 32 := 1#32
  let arg18 : BitVec 32 := Scf.iv c0_i32_773 c1_i32_775 k0_t5
  let c256_i32_777 : BitVec 32 := 256#32
  let v1862 : BitVec 32 := Scalar.muli arg18 c256_i32_777
  v1862
def k0_off246 (i : grid0.Coords) (k0_t5 : Fin (k0_t5_loop i).trips) : Fin 2 → Nat :=
  let c0_i32_773 : BitVec 32 := 0#32
  let c1_i32_775 : BitVec 32 := 1#32
  let arg18 : BitVec 32 := Scf.iv c0_i32_773 c1_i32_775 k0_t5
  let c256_i32_777 : BitVec 32 := 256#32
  let v1862 : BitVec 32 := Scalar.muli arg18 c256_i32_777
  let v1863 : BitVec 32 := v1862
  let v1864 : Index := Scalar.indexCast v1863
  let c0_778 : Index := 0#32
  ![v1864.toNat, 0]
@[reducible] def k0_t6_loop (i : grid0.Coords) : Scf.Loop 32 :=
  let c0_i32_773 : BitVec 32 := 0#32
  let arg1 : BitVec 32 := BitVec.ofNat 32 (i 1).val
  let c1_i32_771 : BitVec 32 := 1#32
  let v1856 : BitVec 32 := Scalar.addi arg1 c1_i32_771
  let v1857 : BitVec 32 := Scalar.subi v1856 c0_i32_773
  let c1_i32_774 : BitVec 32 := 1#32
  let v1859 : BitVec 32 := Scalar.divsi v1857 c1_i32_774
  let v1860 : BitVec 32 := Scalar.muli v1859 c1_i32_774
  let v1861 : BitVec 32 := Scalar.addi c0_i32_773 v1860
  let v1858 : BitVec 32 := Scalar.addi c0_i32_773 v1857
  let c1_i32_776 : BitVec 32 := 1#32
  ⟨v1861, v1858, c1_i32_776⟩
def k0_mult30 (i : grid0.Coords) (k0_t6 : Fin (k0_t6_loop i).trips) : BitVec 32 :=
  let c0_i32_773 : BitVec 32 := 0#32
  let arg1 : BitVec 32 := BitVec.ofNat 32 (i 1).val
  let c1_i32_771 : BitVec 32 := 1#32
  let v1856 : BitVec 32 := Scalar.addi arg1 c1_i32_771
  let v1857 : BitVec 32 := Scalar.subi v1856 c0_i32_773
  let c1_i32_774 : BitVec 32 := 1#32
  let v1859 : BitVec 32 := Scalar.divsi v1857 c1_i32_774
  let v1860 : BitVec 32 := Scalar.muli v1859 c1_i32_774
  let v1861 : BitVec 32 := Scalar.addi c0_i32_773 v1860
  let c1_i32_776 : BitVec 32 := 1#32
  let arg18 : BitVec 32 := Scf.iv v1861 c1_i32_776 k0_t6
  let c256_i32_777 : BitVec 32 := 256#32
  let v1862 : BitVec 32 := Scalar.muli arg18 c256_i32_777
  v1862
def k0_off247 (i : grid0.Coords) (k0_t6 : Fin (k0_t6_loop i).trips) : Fin 2 → Nat :=
  let c0_i32_773 : BitVec 32 := 0#32
  let arg1 : BitVec 32 := BitVec.ofNat 32 (i 1).val
  let c1_i32_771 : BitVec 32 := 1#32
  let v1856 : BitVec 32 := Scalar.addi arg1 c1_i32_771
  let v1857 : BitVec 32 := Scalar.subi v1856 c0_i32_773
  let c1_i32_774 : BitVec 32 := 1#32
  let v1859 : BitVec 32 := Scalar.divsi v1857 c1_i32_774
  let v1860 : BitVec 32 := Scalar.muli v1859 c1_i32_774
  let v1861 : BitVec 32 := Scalar.addi c0_i32_773 v1860
  let c1_i32_776 : BitVec 32 := 1#32
  let arg18 : BitVec 32 := Scf.iv v1861 c1_i32_776 k0_t6
  let c256_i32_777 : BitVec 32 := 256#32
  let v1862 : BitVec 32 := Scalar.muli arg18 c256_i32_777
  let v1863 : BitVec 32 := v1862
  let v1864 : Index := Scalar.indexCast v1863
  let c0_778 : Index := 0#32
  ![v1864.toNat, 0]
@[reducible] def k0_t7_loop (i : grid0.Coords) : Scf.Loop 32 :=
  let c0_i32_845 : BitVec 32 := 0#32
  let arg1 : BitVec 32 := BitVec.ofNat 32 (i 1).val
  let c1_i32_843 : BitVec 32 := 1#32
  let v2472 : BitVec 32 := Scalar.addi arg1 c1_i32_843
  let v2473 : BitVec 32 := Scalar.subi v2472 c0_i32_845
  let c1_i32_846 : BitVec 32 := 1#32
  let v2475 : BitVec 32 := Scalar.divsi v2473 c1_i32_846
  let v2476 : BitVec 32 := Scalar.muli v2475 c1_i32_846
  let v2477 : BitVec 32 := Scalar.addi c0_i32_845 v2476
  let c1_i32_847 : BitVec 32 := 1#32
  ⟨c0_i32_845, v2477, c1_i32_847⟩
def k0_mult31 (i : grid0.Coords) (k0_t7 : Fin (k0_t7_loop i).trips) : BitVec 32 :=
  let c0_i32_845 : BitVec 32 := 0#32
  let c1_i32_847 : BitVec 32 := 1#32
  let arg18 : BitVec 32 := Scf.iv c0_i32_845 c1_i32_847 k0_t7
  let c256_i32_849 : BitVec 32 := 256#32
  let v2478 : BitVec 32 := Scalar.muli arg18 c256_i32_849
  v2478
def k0_off248 (i : grid0.Coords) (k0_t7 : Fin (k0_t7_loop i).trips) : Fin 2 → Nat :=
  let c0_i32_845 : BitVec 32 := 0#32
  let c1_i32_847 : BitVec 32 := 1#32
  let arg18 : BitVec 32 := Scf.iv c0_i32_845 c1_i32_847 k0_t7
  let c256_i32_849 : BitVec 32 := 256#32
  let v2478 : BitVec 32 := Scalar.muli arg18 c256_i32_849
  let v2479 : BitVec 32 := v2478
  let v2480 : Index := Scalar.indexCast v2479
  let c0_850 : Index := 0#32
  ![v2480.toNat, 0]
@[reducible] def k0_t8_loop (i : grid0.Coords) : Scf.Loop 32 :=
  let c0_i32_845 : BitVec 32 := 0#32
  let arg1 : BitVec 32 := BitVec.ofNat 32 (i 1).val
  let c1_i32_843 : BitVec 32 := 1#32
  let v2472 : BitVec 32 := Scalar.addi arg1 c1_i32_843
  let v2473 : BitVec 32 := Scalar.subi v2472 c0_i32_845
  let c1_i32_846 : BitVec 32 := 1#32
  let v2475 : BitVec 32 := Scalar.divsi v2473 c1_i32_846
  let v2476 : BitVec 32 := Scalar.muli v2475 c1_i32_846
  let v2477 : BitVec 32 := Scalar.addi c0_i32_845 v2476
  let v2474 : BitVec 32 := Scalar.addi c0_i32_845 v2473
  let c1_i32_848 : BitVec 32 := 1#32
  ⟨v2477, v2474, c1_i32_848⟩
def k0_mult32 (i : grid0.Coords) (k0_t8 : Fin (k0_t8_loop i).trips) : BitVec 32 :=
  let c0_i32_845 : BitVec 32 := 0#32
  let arg1 : BitVec 32 := BitVec.ofNat 32 (i 1).val
  let c1_i32_843 : BitVec 32 := 1#32
  let v2472 : BitVec 32 := Scalar.addi arg1 c1_i32_843
  let v2473 : BitVec 32 := Scalar.subi v2472 c0_i32_845
  let c1_i32_846 : BitVec 32 := 1#32
  let v2475 : BitVec 32 := Scalar.divsi v2473 c1_i32_846
  let v2476 : BitVec 32 := Scalar.muli v2475 c1_i32_846
  let v2477 : BitVec 32 := Scalar.addi c0_i32_845 v2476
  let c1_i32_848 : BitVec 32 := 1#32
  let arg18 : BitVec 32 := Scf.iv v2477 c1_i32_848 k0_t8
  let c256_i32_849 : BitVec 32 := 256#32
  let v2478 : BitVec 32 := Scalar.muli arg18 c256_i32_849
  v2478
def k0_off249 (i : grid0.Coords) (k0_t8 : Fin (k0_t8_loop i).trips) : Fin 2 → Nat :=
  let c0_i32_845 : BitVec 32 := 0#32
  let arg1 : BitVec 32 := BitVec.ofNat 32 (i 1).val
  let c1_i32_843 : BitVec 32 := 1#32
  let v2472 : BitVec 32 := Scalar.addi arg1 c1_i32_843
  let v2473 : BitVec 32 := Scalar.subi v2472 c0_i32_845
  let c1_i32_846 : BitVec 32 := 1#32
  let v2475 : BitVec 32 := Scalar.divsi v2473 c1_i32_846
  let v2476 : BitVec 32 := Scalar.muli v2475 c1_i32_846
  let v2477 : BitVec 32 := Scalar.addi c0_i32_845 v2476
  let c1_i32_848 : BitVec 32 := 1#32
  let arg18 : BitVec 32 := Scf.iv v2477 c1_i32_848 k0_t8
  let c256_i32_849 : BitVec 32 := 256#32
  let v2478 : BitVec 32 := Scalar.muli arg18 c256_i32_849
  let v2479 : BitVec 32 := v2478
  let v2480 : Index := Scalar.indexCast v2479
  let c0_850 : Index := 0#32
  ![v2480.toNat, 0]
def k0_cond7 (i : grid0.Coords) : BitVec 1 :=
  let arg1 : BitVec 32 := BitVec.ofNat 32 (i 1).val
  let c1_i32_550 : BitVec 32 := 1#32
  let v1458 : BitVec 32 := Scalar.addi arg1 c1_i32_550
  let c16_i32_551 : BitVec 32 := 16#32
  let v1459 : BitVec 1 := Scalar.cmpi .slt v1458 c16_i32_551
  let v1460 : BitVec 32 := Scalar.extui v1459
  let c0_i32_552 : BitVec 32 := 0#32
  let v1461 : BitVec 1 := Scalar.cmpi .ne v1460 c0_i32_552
  v1461

def k0_mult33 (i : grid0.Coords) : BitVec 32 :=
  let arg1 : BitVec 32 := BitVec.ofNat 32 (i 1).val
  let c1_i32_772 : BitVec 32 := 1#32
  let v1857 : BitVec 32 := Scalar.addi arg1 c1_i32_772
  let c256_i32_773 : BitVec 32 := 256#32
  let v1858 : BitVec 32 := Scalar.muli v1857 c256_i32_773
  v1858
def k0_off250 (i : grid0.Coords) : Fin 2 → Nat :=
  let arg1 : BitVec 32 := BitVec.ofNat 32 (i 1).val
  let c1_i32_772 : BitVec 32 := 1#32
  let v1857 : BitVec 32 := Scalar.addi arg1 c1_i32_772
  let c256_i32_773 : BitVec 32 := 256#32
  let v1858 : BitVec 32 := Scalar.muli v1857 c256_i32_773
  let v1859 : BitVec 32 := v1858
  let v1860 : Index := Scalar.indexCast v1859
  let c0_774 : Index := 0#32
  ![v1860.toNat, 0]
def k0_mult34 (i : grid0.Coords) : BitVec 32 :=
  let c0_i32_553 : BitVec 32 := 0#32
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1462 : BitVec 32 := Scalar.minsi c0_i32_553 v1457
  let c256_i32_554 : BitVec 32 := 256#32
  let v1463 : BitVec 32 := Scalar.muli v1462 c256_i32_554
  v1463
def k0_off251 (i : grid0.Coords) : Fin 2 → Nat :=
  let c0_i32_553 : BitVec 32 := 0#32
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1462 : BitVec 32 := Scalar.minsi c0_i32_553 v1457
  let c256_i32_554 : BitVec 32 := 256#32
  let v1463 : BitVec 32 := Scalar.muli v1462 c256_i32_554
  let v1464 : BitVec 32 := v1463
  let v1470 : Index := Scalar.indexCast v1464
  let c0_563 : Index := 0#32
  ![v1470.toNat, 0]
def k0_off252 (i : grid0.Coords) : Fin 2 → Nat :=
  let c0_i32_553 : BitVec 32 := 0#32
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1462 : BitVec 32 := Scalar.minsi c0_i32_553 v1457
  let c256_i32_554 : BitVec 32 := 256#32
  let v1463 : BitVec 32 := Scalar.muli v1462 c256_i32_554
  let v1464 : BitVec 32 := v1463
  let v1474 : Index := Scalar.indexCast v1464
  let c0_565 : Index := 0#32
  ![v1474.toNat, 0]
def k0_off253 (i : grid0.Coords) : Fin 2 → Nat :=
  let c0_i32_553 : BitVec 32 := 0#32
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1462 : BitVec 32 := Scalar.minsi c0_i32_553 v1457
  let c256_i32_554 : BitVec 32 := 256#32
  let v1463 : BitVec 32 := Scalar.muli v1462 c256_i32_554
  let v1464 : BitVec 32 := v1463
  let v1554 : Index := Scalar.indexCast v1464
  let c128_605 : Index := 128#32
  ![v1554.toNat, 128]
@[reducible] def k0_t9_loop (i : grid0.Coords) : Scf.Loop 32 :=
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_653 : BitVec 32 := 1#32
  ⟨c0_i32_651, v1672, c1_i32_653⟩
def k0_mult35 (i : grid0.Coords) (k0_t9 : Fin (k0_t9_loop i).trips) : BitVec 32 :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let c1_i32_773 : BitVec 32 := 1#32
  let v1858 : BitVec 32 := Scalar.addi v1857 c1_i32_773
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  v1860
def k0_off254 (i : grid0.Coords) (k0_t9 : Fin (k0_t9_loop i).trips) (c1_i32_773 : BitVec 32) : Fin 2 → Nat :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let v1858 : BitVec 32 := Scalar.addi v1857 c1_i32_773
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  let v1861 : BitVec 32 := v1860
  let v1867 : Index := Scalar.indexCast v1861
  let c0_783 : Index := 0#32
  ![v1867.toNat, 0]
def k0_off255 (i : grid0.Coords) (k0_t9 : Fin (k0_t9_loop i).trips) (c1_i32_773 : BitVec 32) : Fin 2 → Nat :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let v1858 : BitVec 32 := Scalar.addi v1857 c1_i32_773
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  let v1861 : BitVec 32 := v1860
  let v1871 : Index := Scalar.indexCast v1861
  let c0_785 : Index := 0#32
  ![v1871.toNat, 0]
def k0_off256 (i : grid0.Coords) (k0_t9 : Fin (k0_t9_loop i).trips) (c1_i32_773 : BitVec 32) : Fin 2 → Nat :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let v1858 : BitVec 32 := Scalar.addi v1857 c1_i32_773
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  let v1861 : BitVec 32 := v1860
  let v1951 : Index := Scalar.indexCast v1861
  let c128_825 : Index := 128#32
  ![v1951.toNat, 128]
def k0_off257 (i : grid0.Coords) (k0_t9 : Fin (k0_t9_loop i).trips) : Fin 3 → Nat :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2030 : BitVec 32 := Scalar.minsi v1857 v1457
  let v2046 : Index := Scalar.indexCast v2030
  let c0_869 : Index := 0#32
  let c0_870 : Index := 0#32
  ![v2046.toNat, 0, 0]
def k0_off258 (i : grid0.Coords) (k0_t9 : Fin (k0_t9_loop i).trips) : Fin 3 → Nat :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2030 : BitVec 32 := Scalar.minsi v1857 v1457
  let v2202 : Index := Scalar.indexCast v2030
  let c144 : Index := 144#32
  let c0_969 : Index := 0#32
  ![v2202.toNat, 144, 0]
def k0_mult36 (i : grid0.Coords) (k0_t9 : Fin (k0_t9_loop i).trips) : BitVec 32 :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let c2_i32_1058 : BitVec 32 := 2#32
  let v2343 : BitVec 32 := Scalar.addi v1857 c2_i32_1058
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2344 : BitVec 32 := Scalar.minsi v2343 v1457
  let c256_i32_1059 : BitVec 32 := 256#32
  let v2345 : BitVec 32 := Scalar.muli v2344 c256_i32_1059
  v2345
def k0_off259 (i : grid0.Coords) (k0_t9 : Fin (k0_t9_loop i).trips) : Fin 3 → Nat :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let c1_i32_1144 : BitVec 32 := 1#32
  let v2515 : BitVec 32 := Scalar.addi v1857 c1_i32_1144
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2516 : BitVec 32 := Scalar.minsi v2515 v1457
  let v2532 : Index := Scalar.indexCast v2516
  let c0_1155 : Index := 0#32
  let c0_1156 : Index := 0#32
  ![v2532.toNat, 0, 0]
def k0_off260 (i : grid0.Coords) (k0_t9 : Fin (k0_t9_loop i).trips) : Fin 3 → Nat :=
  let c2_i32_772 : BitVec 32 := 2#32
  let c2_i32_771 : BitVec 32 := 2#32
  let c0_i32_651 : BitVec 32 := 0#32
  let c1_i32_653 : BitVec 32 := 1#32
  let arg18 : BitVec 32 := Scf.iv c0_i32_651 c1_i32_653 k0_t9
  let v1856 : BitVec 32 := Scalar.muli c2_i32_771 arg18
  let v1857 : BitVec 32 := Scalar.muli c2_i32_772 v1856
  let c1_i32_1144 : BitVec 32 := 1#32
  let v2515 : BitVec 32 := Scalar.addi v1857 c1_i32_1144
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2516 : BitVec 32 := Scalar.minsi v2515 v1457
  let v2688 : Index := Scalar.indexCast v2516
  let c144_1255 : Index := 144#32
  let c0_1256 : Index := 0#32
  ![v2688.toNat, 144, 0]
def k0_mult37 (i : grid0.Coords) (k0_t9 : Fin (k0_t9_loop i).trips) : BitVec 32 :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_1348 : BitVec 32 := 1#32
  let v2832 : BitVec 32 := Scalar.addi v2831 c1_i32_1348
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  v2834
def k0_off261 (i : grid0.Coords) (k0_t9 : Fin (k0_t9_loop i).trips) (c1_i32_1348 : BitVec 32) : Fin 2 → Nat :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let v2832 : BitVec 32 := Scalar.addi v2831 c1_i32_1348
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  let v2835 : BitVec 32 := v2834
  let v2841 : Index := Scalar.indexCast v2835
  let c0_1358 : Index := 0#32
  ![v2841.toNat, 0]
def k0_off262 (i : grid0.Coords) (k0_t9 : Fin (k0_t9_loop i).trips) (c1_i32_1348 : BitVec 32) : Fin 2 → Nat :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let v2832 : BitVec 32 := Scalar.addi v2831 c1_i32_1348
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  let v2835 : BitVec 32 := v2834
  let v2845 : Index := Scalar.indexCast v2835
  let c0_1360 : Index := 0#32
  ![v2845.toNat, 0]
def k0_off263 (i : grid0.Coords) (k0_t9 : Fin (k0_t9_loop i).trips) (c1_i32_1348 : BitVec 32) : Fin 2 → Nat :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let v2832 : BitVec 32 := Scalar.addi v2831 c1_i32_1348
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  let v2835 : BitVec 32 := v2834
  let v2925 : Index := Scalar.indexCast v2835
  let c128_1400 : Index := 128#32
  ![v2925.toNat, 128]
def k0_off264 (i : grid0.Coords) (k0_t9 : Fin (k0_t9_loop i).trips) : Fin 3 → Nat :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v3004 : BitVec 32 := Scalar.minsi v2831 v1457
  let v3020 : Index := Scalar.indexCast v3004
  let c0_1444 : Index := 0#32
  let c0_1445 : Index := 0#32
  ![v3020.toNat, 0, 0]
def k0_off265 (i : grid0.Coords) (k0_t9 : Fin (k0_t9_loop i).trips) : Fin 3 → Nat :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v3004 : BitVec 32 := Scalar.minsi v2831 v1457
  let v3176 : Index := Scalar.indexCast v3004
  let c144_1544 : Index := 144#32
  let c0_1545 : Index := 0#32
  ![v3176.toNat, 144, 0]
def k0_mult38 (i : grid0.Coords) (k0_t9 : Fin (k0_t9_loop i).trips) : BitVec 32 :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c2_i32_1634 : BitVec 32 := 2#32
  let v3317 : BitVec 32 := Scalar.addi v2831 c2_i32_1634
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v3318 : BitVec 32 := Scalar.minsi v3317 v1457
  let c256_i32_1635 : BitVec 32 := 256#32
  let v3319 : BitVec 32 := Scalar.muli v3318 c256_i32_1635
  v3319
def k0_off266 (i : grid0.Coords) (k0_t9 : Fin (k0_t9_loop i).trips) : Fin 3 → Nat :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_1720 : BitVec 32 := 1#32
  let v3489 : BitVec 32 := Scalar.addi v2831 c1_i32_1720
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v3490 : BitVec 32 := Scalar.minsi v3489 v1457
  let v3506 : Index := Scalar.indexCast v3490
  let c0_1731 : Index := 0#32
  let c0_1732 : Index := 0#32
  ![v3506.toNat, 0, 0]
def k0_off267 (i : grid0.Coords) (k0_t9 : Fin (k0_t9_loop i).trips) : Fin 3 → Nat :=
  let c2_i32_1347 : BitVec 32 := 2#32
  let c2_i32_1345 : BitVec 32 := 2#32
  let c0_i32_651 : BitVec 32 := 0#32
  let c1_i32_653 : BitVec 32 := 1#32
  let arg18 : BitVec 32 := Scf.iv c0_i32_651 c1_i32_653 k0_t9
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_1720 : BitVec 32 := 1#32
  let v3489 : BitVec 32 := Scalar.addi v2831 c1_i32_1720
  let arg1 : BitVec 32 := BitVec.ofNat 32 (i 1).val
  let c1_i32_549 : BitVec 32 := 1#32
  let v1456 : BitVec 32 := Scalar.addi arg1 c1_i32_549
  let c15_i32 : BitVec 32 := 15#32
  let v1457 : BitVec 32 := Scalar.minsi v1456 c15_i32
  let v3490 : BitVec 32 := Scalar.minsi v3489 v1457
  let v3662 : Index := Scalar.indexCast v3490
  let c144_1831 : Index := 144#32
  let c0_1832 : Index := 0#32
  ![v3662.toNat, 144, 0]
@[reducible] def k0_t10_loop (i : grid0.Coords) : Scf.Loop 32 :=
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let v1669 : BitVec 32 := Scalar.addi c0_i32_651 v1668
  let c1_i32_654 : BitVec 32 := 1#32
  ⟨v1672, v1669, c1_i32_654⟩
def k0_mult39 (i : grid0.Coords) (k0_t10 : Fin (k0_t10_loop i).trips) : BitVec 32 :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let c1_i32_773 : BitVec 32 := 1#32
  let v1858 : BitVec 32 := Scalar.addi v1857 c1_i32_773
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  v1860
def k0_off268 (i : grid0.Coords) (k0_t10 : Fin (k0_t10_loop i).trips) (c1_i32_773 : BitVec 32) : Fin 2 → Nat :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let v1858 : BitVec 32 := Scalar.addi v1857 c1_i32_773
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  let v1861 : BitVec 32 := v1860
  let v1867 : Index := Scalar.indexCast v1861
  let c0_783 : Index := 0#32
  ![v1867.toNat, 0]
def k0_off269 (i : grid0.Coords) (k0_t10 : Fin (k0_t10_loop i).trips) (c1_i32_773 : BitVec 32) : Fin 2 → Nat :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let v1858 : BitVec 32 := Scalar.addi v1857 c1_i32_773
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  let v1861 : BitVec 32 := v1860
  let v1871 : Index := Scalar.indexCast v1861
  let c0_785 : Index := 0#32
  ![v1871.toNat, 0]
def k0_off270 (i : grid0.Coords) (k0_t10 : Fin (k0_t10_loop i).trips) (c1_i32_773 : BitVec 32) : Fin 2 → Nat :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let v1858 : BitVec 32 := Scalar.addi v1857 c1_i32_773
  let c1_i32_549 : BitVec 32 := 1#32
  let v1456 : BitVec 32 := Scalar.addi arg1 c1_i32_549
  let c15_i32 : BitVec 32 := 15#32
  let v1457 : BitVec 32 := Scalar.minsi v1456 c15_i32
  let v1859 : BitVec 32 := Scalar.minsi v1858 v1457
  let c256_i32_774 : BitVec 32 := 256#32
  let v1860 : BitVec 32 := Scalar.muli v1859 c256_i32_774
  let v1861 : BitVec 32 := v1860
  let v1951 : Index := Scalar.indexCast v1861
  let c128_825 : Index := 128#32
  ![v1951.toNat, 128]
def k0_off271 (i : grid0.Coords) (k0_t10 : Fin (k0_t10_loop i).trips) : Fin 3 → Nat :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let c1_i32_549 : BitVec 32 := 1#32
  let v1456 : BitVec 32 := Scalar.addi arg1 c1_i32_549
  let c15_i32 : BitVec 32 := 15#32
  let v1457 : BitVec 32 := Scalar.minsi v1456 c15_i32
  let v2030 : BitVec 32 := Scalar.minsi v1857 v1457
  let v2046 : Index := Scalar.indexCast v2030
  let c0_869 : Index := 0#32
  let c0_870 : Index := 0#32
  ![v2046.toNat, 0, 0]
def k0_off272 (i : grid0.Coords) (k0_t10 : Fin (k0_t10_loop i).trips) : Fin 3 → Nat :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let c1_i32_549 : BitVec 32 := 1#32
  let v1456 : BitVec 32 := Scalar.addi arg1 c1_i32_549
  let c15_i32 : BitVec 32 := 15#32
  let v1457 : BitVec 32 := Scalar.minsi v1456 c15_i32
  let v2030 : BitVec 32 := Scalar.minsi v1857 v1457
  let v2202 : Index := Scalar.indexCast v2030
  let c144 : Index := 144#32
  let c0_969 : Index := 0#32
  ![v2202.toNat, 144, 0]
def k0_mult40 (i : grid0.Coords) (k0_t10 : Fin (k0_t10_loop i).trips) : BitVec 32 :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let c2_i32_1058 : BitVec 32 := 2#32
  let v2343 : BitVec 32 := Scalar.addi v1857 c2_i32_1058
  let c1_i32_549 : BitVec 32 := 1#32
  let v1456 : BitVec 32 := Scalar.addi arg1 c1_i32_549
  let c15_i32 : BitVec 32 := 15#32
  let v1457 : BitVec 32 := Scalar.minsi v1456 c15_i32
  let v2344 : BitVec 32 := Scalar.minsi v2343 v1457
  let c256_i32_1059 : BitVec 32 := 256#32
  let v2345 : BitVec 32 := Scalar.muli v2344 c256_i32_1059
  v2345
def k0_off273 (i : grid0.Coords) (k0_t10 : Fin (k0_t10_loop i).trips) : Fin 3 → Nat :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let c1_i32_1144 : BitVec 32 := 1#32
  let v2515 : BitVec 32 := Scalar.addi v1857 c1_i32_1144
  let c1_i32_549 : BitVec 32 := 1#32
  let v1456 : BitVec 32 := Scalar.addi arg1 c1_i32_549
  let c15_i32 : BitVec 32 := 15#32
  let v1457 : BitVec 32 := Scalar.minsi v1456 c15_i32
  let v2516 : BitVec 32 := Scalar.minsi v2515 v1457
  let v2532 : Index := Scalar.indexCast v2516
  let c0_1155 : Index := 0#32
  let c0_1156 : Index := 0#32
  ![v2532.toNat, 0, 0]
def k0_off274 (i : grid0.Coords) (k0_t10 : Fin (k0_t10_loop i).trips) : Fin 3 → Nat :=
  let c2_i32_772 : BitVec 32 := 2#32
  let c2_i32_771 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v1856 : BitVec 32 := Scalar.muli c2_i32_771 arg18
  let v1857 : BitVec 32 := Scalar.muli c2_i32_772 v1856
  let c1_i32_1144 : BitVec 32 := 1#32
  let v2515 : BitVec 32 := Scalar.addi v1857 c1_i32_1144
  let c1_i32_549 : BitVec 32 := 1#32
  let v1456 : BitVec 32 := Scalar.addi arg1 c1_i32_549
  let c15_i32 : BitVec 32 := 15#32
  let v1457 : BitVec 32 := Scalar.minsi v1456 c15_i32
  let v2516 : BitVec 32 := Scalar.minsi v2515 v1457
  let v2688 : Index := Scalar.indexCast v2516
  let c144_1255 : Index := 144#32
  let c0_1256 : Index := 0#32
  ![v2688.toNat, 144, 0]
def k0_mult41 (i : grid0.Coords) (k0_t10 : Fin (k0_t10_loop i).trips) : BitVec 32 :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_1348 : BitVec 32 := 1#32
  let v2832 : BitVec 32 := Scalar.addi v2831 c1_i32_1348
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  v2834
def k0_off275 (i : grid0.Coords) (k0_t10 : Fin (k0_t10_loop i).trips) (c1_i32_1348 : BitVec 32) : Fin 2 → Nat :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let v2832 : BitVec 32 := Scalar.addi v2831 c1_i32_1348
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  let v2835 : BitVec 32 := v2834
  let v2841 : Index := Scalar.indexCast v2835
  let c0_1358 : Index := 0#32
  ![v2841.toNat, 0]
def k0_off276 (i : grid0.Coords) (k0_t10 : Fin (k0_t10_loop i).trips) (c1_i32_1348 : BitVec 32) : Fin 2 → Nat :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let v2832 : BitVec 32 := Scalar.addi v2831 c1_i32_1348
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  let v2835 : BitVec 32 := v2834
  let v2845 : Index := Scalar.indexCast v2835
  let c0_1360 : Index := 0#32
  ![v2845.toNat, 0]
def k0_off277 (i : grid0.Coords) (k0_t10 : Fin (k0_t10_loop i).trips) (c1_i32_1348 : BitVec 32) : Fin 2 → Nat :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let v2832 : BitVec 32 := Scalar.addi v2831 c1_i32_1348
  let c1_i32_549 : BitVec 32 := 1#32
  let v1456 : BitVec 32 := Scalar.addi arg1 c1_i32_549
  let c15_i32 : BitVec 32 := 15#32
  let v1457 : BitVec 32 := Scalar.minsi v1456 c15_i32
  let v2833 : BitVec 32 := Scalar.minsi v2832 v1457
  let c256_i32_1349 : BitVec 32 := 256#32
  let v2834 : BitVec 32 := Scalar.muli v2833 c256_i32_1349
  let v2835 : BitVec 32 := v2834
  let v2925 : Index := Scalar.indexCast v2835
  let c128_1400 : Index := 128#32
  ![v2925.toNat, 128]
def k0_off278 (i : grid0.Coords) (k0_t10 : Fin (k0_t10_loop i).trips) : Fin 3 → Nat :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_549 : BitVec 32 := 1#32
  let v1456 : BitVec 32 := Scalar.addi arg1 c1_i32_549
  let c15_i32 : BitVec 32 := 15#32
  let v1457 : BitVec 32 := Scalar.minsi v1456 c15_i32
  let v3004 : BitVec 32 := Scalar.minsi v2831 v1457
  let v3020 : Index := Scalar.indexCast v3004
  let c0_1444 : Index := 0#32
  let c0_1445 : Index := 0#32
  ![v3020.toNat, 0, 0]
def k0_off279 (i : grid0.Coords) (k0_t10 : Fin (k0_t10_loop i).trips) : Fin 3 → Nat :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_549 : BitVec 32 := 1#32
  let v1456 : BitVec 32 := Scalar.addi arg1 c1_i32_549
  let c15_i32 : BitVec 32 := 15#32
  let v1457 : BitVec 32 := Scalar.minsi v1456 c15_i32
  let v3004 : BitVec 32 := Scalar.minsi v2831 v1457
  let v3176 : Index := Scalar.indexCast v3004
  let c144_1544 : Index := 144#32
  let c0_1545 : Index := 0#32
  ![v3176.toNat, 144, 0]
def k0_mult42 (i : grid0.Coords) (k0_t10 : Fin (k0_t10_loop i).trips) : BitVec 32 :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c2_i32_1634 : BitVec 32 := 2#32
  let v3317 : BitVec 32 := Scalar.addi v2831 c2_i32_1634
  let c1_i32_549 : BitVec 32 := 1#32
  let v1456 : BitVec 32 := Scalar.addi arg1 c1_i32_549
  let c15_i32 : BitVec 32 := 15#32
  let v1457 : BitVec 32 := Scalar.minsi v1456 c15_i32
  let v3318 : BitVec 32 := Scalar.minsi v3317 v1457
  let c256_i32_1635 : BitVec 32 := 256#32
  let v3319 : BitVec 32 := Scalar.muli v3318 c256_i32_1635
  v3319
def k0_off280 (i : grid0.Coords) (k0_t10 : Fin (k0_t10_loop i).trips) : Fin 3 → Nat :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_1720 : BitVec 32 := 1#32
  let v3489 : BitVec 32 := Scalar.addi v2831 c1_i32_1720
  let c1_i32_549 : BitVec 32 := 1#32
  let v1456 : BitVec 32 := Scalar.addi arg1 c1_i32_549
  let c15_i32 : BitVec 32 := 15#32
  let v1457 : BitVec 32 := Scalar.minsi v1456 c15_i32
  let v3490 : BitVec 32 := Scalar.minsi v3489 v1457
  let v3506 : Index := Scalar.indexCast v3490
  let c0_1731 : Index := 0#32
  let c0_1732 : Index := 0#32
  ![v3506.toNat, 0, 0]
def k0_off281 (i : grid0.Coords) (k0_t10 : Fin (k0_t10_loop i).trips) : Fin 3 → Nat :=
  let c2_i32_1347 : BitVec 32 := 2#32
  let c2_i32_1345 : BitVec 32 := 2#32
  let c0_i32_651 : BitVec 32 := 0#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_644 : BitVec 32 := 0#32
  let v1652 : BitVec 1 := Scalar.cmpi .sgt v1650 c0_i32_644
  let v1653 : BitVec 32 := Scalar.extui v1652
  let c0_i32_645 : BitVec 32 := 0#32
  let v1654 : BitVec 1 := Scalar.cmpi .slt v1650 c0_i32_645
  let v1655 : BitVec 32 := Scalar.extui v1654
  let v1656 : BitVec 32 := Scalar.subi v1653 v1655
  let c2_i32_643 : BitVec 32 := 2#32
  let c0_i32_646 : BitVec 32 := 0#32
  let v1657 : BitVec 1 := Scalar.cmpi .sgt c2_i32_643 c0_i32_646
  let v1658 : BitVec 32 := Scalar.extui v1657
  let c0_i32_647 : BitVec 32 := 0#32
  let v1659 : BitVec 1 := Scalar.cmpi .slt c2_i32_643 c0_i32_647
  let v1660 : BitVec 32 := Scalar.extui v1659
  let v1661 : BitVec 32 := Scalar.subi v1658 v1660
  let v1662 : BitVec 1 := Scalar.cmpi .ne v1656 v1661
  let v1663 : BitVec 32 := Scalar.remsi v1650 c2_i32_643
  let c0_i32_648 : BitVec 32 := 0#32
  let v1664 : BitVec 1 := Scalar.cmpi .ne v1663 c0_i32_648
  let v1665 : BitVec 1 := Scalar.andi v1662 v1664
  let v1651 : BitVec 32 := Scalar.divsi v1650 c2_i32_643
  let c1_i32_649 : BitVec 32 := 1#32
  let v1666 : BitVec 32 := Scalar.subi v1651 c1_i32_649
  let v1667 : BitVec 32 := Scalar.select v1665 v1666 v1651
  let v1668 : BitVec 32 := Scalar.subi v1667 c0_i32_651
  let c1_i32_652 : BitVec 32 := 1#32
  let v1670 : BitVec 32 := Scalar.divsi v1668 c1_i32_652
  let v1671 : BitVec 32 := Scalar.muli v1670 c1_i32_652
  let v1672 : BitVec 32 := Scalar.addi c0_i32_651 v1671
  let c1_i32_654 : BitVec 32 := 1#32
  let arg18 : BitVec 32 := Scf.iv v1672 c1_i32_654 k0_t10
  let v2829 : BitVec 32 := Scalar.muli c2_i32_1345 arg18
  let c1_i32_1346 : BitVec 32 := 1#32
  let v2830 : BitVec 32 := Scalar.addi v2829 c1_i32_1346
  let v2831 : BitVec 32 := Scalar.muli c2_i32_1347 v2830
  let c1_i32_1720 : BitVec 32 := 1#32
  let v3489 : BitVec 32 := Scalar.addi v2831 c1_i32_1720
  let c1_i32_549 : BitVec 32 := 1#32
  let v1456 : BitVec 32 := Scalar.addi arg1 c1_i32_549
  let c15_i32 : BitVec 32 := 15#32
  let v1457 : BitVec 32 := Scalar.minsi v1456 c15_i32
  let v3490 : BitVec 32 := Scalar.minsi v3489 v1457
  let v3662 : Index := Scalar.indexCast v3490
  let c144_1831 : Index := 144#32
  let c0_1832 : Index := 0#32
  ![v3662.toNat, 144, 0]
@[reducible] def k0_t11_loop (i : grid0.Coords) : Scf.Loop 32 :=
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_665 : BitVec 32 := 1#32
  ⟨v1690, v1695, c1_i32_665⟩
def k0_mult43 (i : grid0.Coords) (k0_t11 : Fin (k0_t11_loop i).trips) : BitVec 32 :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let c1_i32_772 : BitVec 32 := 1#32
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  v1859
def k0_off282 (i : grid0.Coords) (k0_t11 : Fin (k0_t11_loop i).trips) (c1_i32_772 : BitVec 32) : Fin 2 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  let v1860 : BitVec 32 := v1859
  let v1866 : Index := Scalar.indexCast v1860
  let c0_782 : Index := 0#32
  ![v1866.toNat, 0]
def k0_off283 (i : grid0.Coords) (k0_t11 : Fin (k0_t11_loop i).trips) (c1_i32_772 : BitVec 32) : Fin 2 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  let v1860 : BitVec 32 := v1859
  let v1870 : Index := Scalar.indexCast v1860
  let c0_784 : Index := 0#32
  ![v1870.toNat, 0]
def k0_off284 (i : grid0.Coords) (k0_t11 : Fin (k0_t11_loop i).trips) (c1_i32_772 : BitVec 32) : Fin 2 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  let v1860 : BitVec 32 := v1859
  let v1950 : Index := Scalar.indexCast v1860
  let c128_824 : Index := 128#32
  ![v1950.toNat, 128]
def k0_off285 (i : grid0.Coords) (k0_t11 : Fin (k0_t11_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let c1_i32_549 : BitVec 32 := 1#32
  let v1456 : BitVec 32 := Scalar.addi arg1 c1_i32_549
  let c15_i32 : BitVec 32 := 15#32
  let v1457 : BitVec 32 := Scalar.minsi v1456 c15_i32
  let v2029 : BitVec 32 := Scalar.minsi v1856 v1457
  let v2045 : Index := Scalar.indexCast v2029
  let c0_868 : Index := 0#32
  let c0_869 : Index := 0#32
  ![v2045.toNat, 0, 0]
def k0_off286 (i : grid0.Coords) (k0_t11 : Fin (k0_t11_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let c1_i32_549 : BitVec 32 := 1#32
  let v1456 : BitVec 32 := Scalar.addi arg1 c1_i32_549
  let c15_i32 : BitVec 32 := 15#32
  let v1457 : BitVec 32 := Scalar.minsi v1456 c15_i32
  let v2029 : BitVec 32 := Scalar.minsi v1856 v1457
  let v2201 : Index := Scalar.indexCast v2029
  let c144 : Index := 144#32
  let c0_968 : Index := 0#32
  ![v2201.toNat, 144, 0]
def k0_mult44 (i : grid0.Coords) (k0_t11 : Fin (k0_t11_loop i).trips) : BitVec 32 :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let c2_i32_1057 : BitVec 32 := 2#32
  let v2342 : BitVec 32 := Scalar.addi v1856 c2_i32_1057
  let c1_i32_549 : BitVec 32 := 1#32
  let v1456 : BitVec 32 := Scalar.addi arg1 c1_i32_549
  let c15_i32 : BitVec 32 := 15#32
  let v1457 : BitVec 32 := Scalar.minsi v1456 c15_i32
  let v2343 : BitVec 32 := Scalar.minsi v2342 v1457
  let c256_i32_1058 : BitVec 32 := 256#32
  let v2344 : BitVec 32 := Scalar.muli v2343 c256_i32_1058
  v2344
def k0_off287 (i : grid0.Coords) (k0_t11 : Fin (k0_t11_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let c1_i32_1143 : BitVec 32 := 1#32
  let v2514 : BitVec 32 := Scalar.addi v1856 c1_i32_1143
  let c1_i32_549 : BitVec 32 := 1#32
  let v1456 : BitVec 32 := Scalar.addi arg1 c1_i32_549
  let c15_i32 : BitVec 32 := 15#32
  let v1457 : BitVec 32 := Scalar.minsi v1456 c15_i32
  let v2515 : BitVec 32 := Scalar.minsi v2514 v1457
  let v2531 : Index := Scalar.indexCast v2515
  let c0_1154 : Index := 0#32
  let c0_1155 : Index := 0#32
  ![v2531.toNat, 0, 0]
def k0_off288 (i : grid0.Coords) (k0_t11 : Fin (k0_t11_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let c1_i32_665 : BitVec 32 := 1#32
  let arg18 : BitVec 32 := Scf.iv v1690 c1_i32_665 k0_t11
  let v1856 : BitVec 32 := Scalar.muli c2_i32_771 arg18
  let c1_i32_1143 : BitVec 32 := 1#32
  let v2514 : BitVec 32 := Scalar.addi v1856 c1_i32_1143
  let c1_i32_549 : BitVec 32 := 1#32
  let v1456 : BitVec 32 := Scalar.addi arg1 c1_i32_549
  let c15_i32 : BitVec 32 := 15#32
  let v1457 : BitVec 32 := Scalar.minsi v1456 c15_i32
  let v2515 : BitVec 32 := Scalar.minsi v2514 v1457
  let v2687 : Index := Scalar.indexCast v2515
  let c144_1254 : Index := 144#32
  let c0_1255 : Index := 0#32
  ![v2687.toNat, 144, 0]
@[reducible] def k0_t12_loop (i : grid0.Coords) : Scf.Loop 32 :=
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let v1692 : BitVec 32 := Scalar.addi v1690 v1691
  let c1_i32_666 : BitVec 32 := 1#32
  ⟨v1695, v1692, c1_i32_666⟩
def k0_mult45 (i : grid0.Coords) (k0_t12 : Fin (k0_t12_loop i).trips) : BitVec 32 :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let c1_i32_772 : BitVec 32 := 1#32
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  v1859
def k0_off289 (i : grid0.Coords) (k0_t12 : Fin (k0_t12_loop i).trips) (c1_i32_772 : BitVec 32) : Fin 2 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  let v1860 : BitVec 32 := v1859
  let v1866 : Index := Scalar.indexCast v1860
  let c0_782 : Index := 0#32
  ![v1866.toNat, 0]
def k0_off290 (i : grid0.Coords) (k0_t12 : Fin (k0_t12_loop i).trips) (c1_i32_772 : BitVec 32) : Fin 2 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  let v1860 : BitVec 32 := v1859
  let v1870 : Index := Scalar.indexCast v1860
  let c0_784 : Index := 0#32
  ![v1870.toNat, 0]
def k0_off291 (i : grid0.Coords) (k0_t12 : Fin (k0_t12_loop i).trips) (c1_i32_772 : BitVec 32) : Fin 2 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let v1857 : BitVec 32 := Scalar.addi v1856 c1_i32_772
  let c1_i32_549 : BitVec 32 := 1#32
  let v1456 : BitVec 32 := Scalar.addi arg1 c1_i32_549
  let c15_i32 : BitVec 32 := 15#32
  let v1457 : BitVec 32 := Scalar.minsi v1456 c15_i32
  let v1858 : BitVec 32 := Scalar.minsi v1857 v1457
  let c256_i32_773 : BitVec 32 := 256#32
  let v1859 : BitVec 32 := Scalar.muli v1858 c256_i32_773
  let v1860 : BitVec 32 := v1859
  let v1950 : Index := Scalar.indexCast v1860
  let c128_824 : Index := 128#32
  ![v1950.toNat, 128]
def k0_off292 (i : grid0.Coords) (k0_t12 : Fin (k0_t12_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let c1_i32_549 : BitVec 32 := 1#32
  let v1456 : BitVec 32 := Scalar.addi arg1 c1_i32_549
  let c15_i32 : BitVec 32 := 15#32
  let v1457 : BitVec 32 := Scalar.minsi v1456 c15_i32
  let v2029 : BitVec 32 := Scalar.minsi v1856 v1457
  let v2045 : Index := Scalar.indexCast v2029
  let c0_868 : Index := 0#32
  let c0_869 : Index := 0#32
  ![v2045.toNat, 0, 0]
def k0_off293 (i : grid0.Coords) (k0_t12 : Fin (k0_t12_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let c1_i32_549 : BitVec 32 := 1#32
  let v1456 : BitVec 32 := Scalar.addi arg1 c1_i32_549
  let c15_i32 : BitVec 32 := 15#32
  let v1457 : BitVec 32 := Scalar.minsi v1456 c15_i32
  let v2029 : BitVec 32 := Scalar.minsi v1856 v1457
  let v2201 : Index := Scalar.indexCast v2029
  let c144 : Index := 144#32
  let c0_968 : Index := 0#32
  ![v2201.toNat, 144, 0]
def k0_mult46 (i : grid0.Coords) (k0_t12 : Fin (k0_t12_loop i).trips) : BitVec 32 :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let c2_i32_1057 : BitVec 32 := 2#32
  let v2342 : BitVec 32 := Scalar.addi v1856 c2_i32_1057
  let c1_i32_549 : BitVec 32 := 1#32
  let v1456 : BitVec 32 := Scalar.addi arg1 c1_i32_549
  let c15_i32 : BitVec 32 := 15#32
  let v1457 : BitVec 32 := Scalar.minsi v1456 c15_i32
  let v2343 : BitVec 32 := Scalar.minsi v2342 v1457
  let c256_i32_1058 : BitVec 32 := 256#32
  let v2344 : BitVec 32 := Scalar.muli v2343 c256_i32_1058
  v2344
def k0_off294 (i : grid0.Coords) (k0_t12 : Fin (k0_t12_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let c1_i32_1143 : BitVec 32 := 1#32
  let v2514 : BitVec 32 := Scalar.addi v1856 c1_i32_1143
  let c1_i32_549 : BitVec 32 := 1#32
  let v1456 : BitVec 32 := Scalar.addi arg1 c1_i32_549
  let c15_i32 : BitVec 32 := 15#32
  let v1457 : BitVec 32 := Scalar.minsi v1456 c15_i32
  let v2515 : BitVec 32 := Scalar.minsi v2514 v1457
  let v2531 : Index := Scalar.indexCast v2515
  let c0_1154 : Index := 0#32
  let c0_1155 : Index := 0#32
  ![v2531.toNat, 0, 0]
def k0_off295 (i : grid0.Coords) (k0_t12 : Fin (k0_t12_loop i).trips) : Fin 3 → Nat :=
  let c2_i32_771 : BitVec 32 := 2#32
  let c2_i32_662 : BitVec 32 := 2#32
  let arg1 : BitVec 32 := BitVec.ofNat 32 (i 1).val
  let c2_i32_635 : BitVec 32 := 2#32
  let v1633 : BitVec 32 := Scalar.addi arg1 c2_i32_635
  let c0_i32_637 : BitVec 32 := 0#32
  let v1635 : BitVec 1 := Scalar.cmpi .sgt v1633 c0_i32_637
  let v1636 : BitVec 32 := Scalar.extui v1635
  let c0_i32_638 : BitVec 32 := 0#32
  let v1637 : BitVec 1 := Scalar.cmpi .slt v1633 c0_i32_638
  let v1638 : BitVec 32 := Scalar.extui v1637
  let v1639 : BitVec 32 := Scalar.subi v1636 v1638
  let c2_i32_636 : BitVec 32 := 2#32
  let c0_i32_639 : BitVec 32 := 0#32
  let v1640 : BitVec 1 := Scalar.cmpi .sgt c2_i32_636 c0_i32_639
  let v1641 : BitVec 32 := Scalar.extui v1640
  let c0_i32_640 : BitVec 32 := 0#32
  let v1642 : BitVec 1 := Scalar.cmpi .slt c2_i32_636 c0_i32_640
  let v1643 : BitVec 32 := Scalar.extui v1642
  let v1644 : BitVec 32 := Scalar.subi v1641 v1643
  let v1645 : BitVec 1 := Scalar.cmpi .ne v1639 v1644
  let v1646 : BitVec 32 := Scalar.remsi v1633 c2_i32_636
  let c0_i32_641 : BitVec 32 := 0#32
  let v1647 : BitVec 1 := Scalar.cmpi .ne v1646 c0_i32_641
  let v1648 : BitVec 1 := Scalar.andi v1645 v1647
  let v1634 : BitVec 32 := Scalar.divsi v1633 c2_i32_636
  let c1_i32_642 : BitVec 32 := 1#32
  let v1649 : BitVec 32 := Scalar.subi v1634 c1_i32_642
  let v1650 : BitVec 32 := Scalar.select v1648 v1649 v1634
  let c0_i32_656 : BitVec 32 := 0#32
  let v1674 : BitVec 1 := Scalar.cmpi .sgt v1650 c0_i32_656
  let v1675 : BitVec 32 := Scalar.extui v1674
  let c0_i32_657 : BitVec 32 := 0#32
  let v1676 : BitVec 1 := Scalar.cmpi .slt v1650 c0_i32_657
  let v1677 : BitVec 32 := Scalar.extui v1676
  let v1678 : BitVec 32 := Scalar.subi v1675 v1677
  let c2_i32_655 : BitVec 32 := 2#32
  let c0_i32_658 : BitVec 32 := 0#32
  let v1679 : BitVec 1 := Scalar.cmpi .sgt c2_i32_655 c0_i32_658
  let v1680 : BitVec 32 := Scalar.extui v1679
  let c0_i32_659 : BitVec 32 := 0#32
  let v1681 : BitVec 1 := Scalar.cmpi .slt c2_i32_655 c0_i32_659
  let v1682 : BitVec 32 := Scalar.extui v1681
  let v1683 : BitVec 32 := Scalar.subi v1680 v1682
  let v1684 : BitVec 1 := Scalar.cmpi .ne v1678 v1683
  let v1685 : BitVec 32 := Scalar.remsi v1650 c2_i32_655
  let c0_i32_660 : BitVec 32 := 0#32
  let v1686 : BitVec 1 := Scalar.cmpi .ne v1685 c0_i32_660
  let v1687 : BitVec 1 := Scalar.andi v1684 v1686
  let v1673 : BitVec 32 := Scalar.divsi v1650 c2_i32_655
  let c1_i32_661 : BitVec 32 := 1#32
  let v1688 : BitVec 32 := Scalar.subi v1673 c1_i32_661
  let v1689 : BitVec 32 := Scalar.select v1687 v1688 v1673
  let v1690 : BitVec 32 := Scalar.muli c2_i32_662 v1689
  let v1691 : BitVec 32 := Scalar.subi v1650 v1690
  let c1_i32_664 : BitVec 32 := 1#32
  let v1693 : BitVec 32 := Scalar.divsi v1691 c1_i32_664
  let v1694 : BitVec 32 := Scalar.muli v1693 c1_i32_664
  let v1695 : BitVec 32 := Scalar.addi v1690 v1694
  let c1_i32_666 : BitVec 32 := 1#32
  let arg18 : BitVec 32 := Scf.iv v1695 c1_i32_666 k0_t12
  let v1856 : BitVec 32 := Scalar.muli c2_i32_771 arg18
  let c1_i32_1143 : BitVec 32 := 1#32
  let v2514 : BitVec 32 := Scalar.addi v1856 c1_i32_1143
  let c1_i32_549 : BitVec 32 := 1#32
  let v1456 : BitVec 32 := Scalar.addi arg1 c1_i32_549
  let c15_i32 : BitVec 32 := 15#32
  let v1457 : BitVec 32 := Scalar.minsi v1456 c15_i32
  let v2515 : BitVec 32 := Scalar.minsi v2514 v1457
  let v2687 : Index := Scalar.indexCast v2515
  let c144_1254 : Index := 144#32
  let c0_1255 : Index := 0#32
  ![v2687.toNat, 144, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x288x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S8x4096x2048 : Shape := ⟨3, ![8, 4096, 2048]⟩
abbrev S1x2048x6752 : Shape := ⟨3, ![1, 2048, 6752]⟩
abbrev S32768x2048 : Shape := ⟨2, ![32768, 2048]⟩
abbrev S1x2048x16 : Shape := ⟨3, ![1, 2048, 16]⟩
abbrev S2048x16 : Shape := ⟨2, ![2048, 16]⟩
abbrev S1x2048x2048 : Shape := ⟨3, ![1, 2048, 2048]⟩
abbrev S2048x2048 : Shape := ⟨2, ![2048, 2048]⟩
abbrev S1x2048x1024 : Shape := ⟨3, ![1, 2048, 1024]⟩
abbrev S2048x1024 : Shape := ⟨2, ![2048, 1024]⟩
abbrev S2048x32 : Shape := ⟨2, ![2048, 32]⟩
abbrev S_ : Shape := ⟨0, ![]⟩
abbrev S2048x128 : Shape := ⟨2, ![2048, 128]⟩
abbrev S2048x4224 : Shape := ⟨2, ![2048, 4224]⟩
abbrev S32768x4224 : Shape := ⟨2, ![32768, 4224]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 19
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S1x2048x6752, .f32⟩
  | .hbm, ⟨2, _⟩ => ⟨S32768x2048, .f32⟩
  | .hbm, ⟨3, _⟩ => ⟨S32768x2048, .bf16⟩
  | .hbm, ⟨4, _⟩ => ⟨S1x2048x16, .f32⟩
  | .hbm, ⟨5, _⟩ => ⟨S2048x16, .f32⟩
  | .hbm, ⟨6, _⟩ => ⟨S1x2048x2048, .f32⟩
  | .hbm, ⟨7, _⟩ => ⟨S2048x2048, .f32⟩
  | .hbm, ⟨8, _⟩ => ⟨S1x2048x1024, .f32⟩
  | .hbm, ⟨9, _⟩ => ⟨S2048x1024, .f32⟩
  | .hbm, ⟨10, _⟩ => ⟨S1x2048x1024, .f32⟩
  | .hbm, ⟨11, _⟩ => ⟨S2048x1024, .f32⟩
  | .hbm, ⟨12, _⟩ => ⟨S2048x32, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x4224, .f32⟩
  | .hbm, ⟨17, _⟩ => ⟨S2048x4224, .bf16⟩
  | .hbm, ⟨18, _⟩ => ⟨S32768x4224, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x4096x2048 : Shape := ⟨3, ![8, 4096, 2048]⟩
abbrev S1x2048x6752 : Shape := ⟨3, ![1, 2048, 6752]⟩
abbrev S2048x6752 : Shape := ⟨2, ![2048, 6752]⟩
abbrev S8x4096x6752 : Shape := ⟨3, ![8, 4096, 6752]⟩
abbrev S8x4096x1024 : Shape := ⟨3, ![8, 4096, 1024]⟩
abbrev S8x4096x16 : Shape := ⟨3, ![8, 4096, 16]⟩
abbrev S_ : Shape := ⟨0, ![]⟩
abbrev S8x4096x96 : Shape := ⟨3, ![8, 4096, 96]⟩
abbrev S8x4096x4224 : Shape := ⟨3, ![8, 4096, 4224]⟩
abbrev S32768x4224 : Shape := ⟨2, ![32768, 4224]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048x6752, .f32⟩
  | .hbm, ⟨2, _⟩ => ⟨S2048x6752, .f32⟩
  | .hbm, ⟨3, _⟩ => ⟨S8x4096x6752, .f32⟩
  | .hbm, ⟨4, _⟩ => ⟨S8x4096x1024, .f32⟩
  | .hbm, ⟨5, _⟩ => ⟨S8x4096x1024, .f32⟩
  | .hbm, ⟨6, _⟩ => ⟨S8x4096x2048, .f32⟩
  | .hbm, ⟨7, _⟩ => ⟨S8x4096x16, .f32⟩
  | .hbm, ⟨8, _⟩ => ⟨S_, .f32⟩
  | .hbm, ⟨9, _⟩ => ⟨S8x4096x96, .f32⟩
  | .hbm, ⟨10, _⟩ => ⟨S8x4096x4224, .f32⟩
  | .hbm, ⟨11, _⟩ => ⟨S32768x4224, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S32768x1024 : Shape := ⟨2, ![32768, 1024]⟩
abbrev S8x4096x2048 : Shape := ⟨3, ![8, 4096, 2048]⟩
abbrev S1x2048x2048 : Shape := ⟨3, ![1, 2048, 2048]⟩
abbrev S1x2048 : Shape := ⟨2, ![1, 2048]⟩
abbrev S32768x2048 : Shape := ⟨2, ![32768, 2048]⟩
abbrev S1x1024x2048 : Shape := ⟨3, ![1, 1024, 2048]⟩
abbrev S1024x2048 : Shape := ⟨2, ![1024, 2048]⟩
abbrev S2048 : Shape := ⟨1, ![2048]⟩
abbrev S512x1024 : Shape := ⟨2, ![512, 1024]⟩
abbrev S512x2048 : Shape := ⟨2, ![512, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 18
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x4096x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S32768x2048, .f32⟩
  | .hbm, ⟨7, _⟩ => ⟨S1x1024x2048, .f32⟩
  | .hbm, ⟨8, _⟩ => ⟨S1024x2048, .f32⟩
  | .hbm, ⟨9, _⟩ => ⟨S1024x2048, .bf16⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x1024 : Shape := ⟨2, ![32768, 1024]⟩
abbrev S8x4096x2048 : Shape := ⟨3, ![8, 4096, 2048]⟩
abbrev S1x2048x2048 : Shape := ⟨3, ![1, 2048, 2048]⟩
abbrev S1x2048 : Shape := ⟨2, ![1, 2048]⟩
abbrev S8x4096x1024 : Shape := ⟨3, ![8, 4096, 1024]⟩
abbrev S2048x2048 : Shape := ⟨2, ![2048, 2048]⟩
abbrev S_ : Shape := ⟨0, ![]⟩
abbrev S8x4096 : Shape := ⟨2, ![8, 4096]⟩
abbrev S8x4096x1 : Shape := ⟨3, ![8, 4096, 1]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x4096x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S32768x1024, .f32⟩
  | .hbm, ⟨7, _⟩ => ⟨S8x4096x1024, .f32⟩
  | .hbm, ⟨8, _⟩ => ⟨S32768x1024, .f32⟩
  | .hbm, ⟨9, _⟩ => ⟨S8x4096x1024, .f32⟩
  | .hbm, ⟨10, _⟩ => ⟨S8x4096x2048, .f32⟩
  | .hbm, ⟨11, _⟩ => ⟨S2048x2048, .f32⟩
  | .hbm, ⟨12, _⟩ => ⟨S8x4096x2048, .f32⟩
  | .hbm, ⟨13, _⟩ => ⟨S_, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x2048, .f32⟩
  | .hbm, ⟨33, _⟩ => ⟨S8x4096x2048, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x2048, .f32⟩
  | .hbm, ⟨39, _⟩ => ⟨S8x4096x2048, .f32⟩
  | .hbm, ⟨40, _⟩ => ⟨S2048, .f32⟩
  | .hbm, ⟨41, _⟩ => ⟨S1x1x2048, .f32⟩
  | .hbm, ⟨42, _⟩ => ⟨S8x4096x2048, .f32⟩
  | .hbm, ⟨43, _⟩ => ⟨S8x4096x2048, .f32⟩
  | .hbm, ⟨44, _⟩ => ⟨S2048, .f32⟩
  | .hbm, ⟨45, _⟩ => ⟨S1x1x2048, .f32⟩
  | .hbm, ⟨46, _⟩ => ⟨S8x4096x2048, .f32⟩
  | .hbm, ⟨47, _⟩ => ⟨S8x4096x2048, .f32⟩
  | .hbm, ⟨48, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel4.lean ====
abbrev S8x4096x2048 : Shape := ⟨3, ![8, 4096, 2048]⟩
abbrev S1x2048x6752 : Shape := ⟨3, ![1, 2048, 6752]⟩
abbrev S32768x2048 : Shape := ⟨2, ![32768, 2048]⟩
abbrev S1x2048x1536 : Shape := ⟨3, ![1, 2048, 1536]⟩
abbrev S2048x1536 : Shape := ⟨2, ![2048, 1536]⟩
abbrev S1536x2048 : Shape := ⟨2, ![1536, 2048]⟩
abbrev S1x2048x1104 : Shape := ⟨3, ![1, 2048, 1104]⟩
abbrev S2048x1104 : Shape := ⟨2, ![2048, 1104]⟩
abbrev S1104x2048 : Shape := ⟨2, ![1104, 2048]⟩
abbrev S1024x2048 : Shape := ⟨2, ![1024, 2048]⟩
abbrev S512x2048 : Shape := ⟨2, ![512, 2048]⟩
abbrev S80x2048 : Shape := ⟨2, ![80, 2048]⟩
abbrev S_ : Shape := ⟨0, ![]⟩
abbrev S128x2048 : Shape := ⟨2, ![128, 2048]⟩
abbrev S16 : Shape := ⟨1, ![16]⟩
abbrev S16x1 : Shape := ⟨2, ![16, 1]⟩
abbrev S4096 : Shape := ⟨1, ![4096]⟩
abbrev S1x4096 : Shape := ⟨2, ![1, 4096]⟩
abbrev S16x4096 : Shape := ⟨2, ![16, 4096]⟩
abbrev S8 : Shape := ⟨1, ![8]⟩
abbrev S8x1 : Shape := ⟨2, ![8, 1]⟩
abbrev S8x4096 : Shape := ⟨2, ![8, 4096]⟩
abbrev S1024x32768 : Shape := ⟨2, ![1024, 32768]⟩
abbrev S32768x256 : Shape := ⟨2, ![32768, 256]⟩
abbrev S128x288x256 : Shape := ⟨3, ![128, 288, 256]⟩
abbrev S32768x64 : Shape := ⟨2, ![32768, 64]⟩
abbrev S16x32768 : Shape := ⟨2, ![16, 32768]⟩
abbrev S16x1024 : Shape := ⟨2, ![16, 1024]⟩
abbrev S8x1024 : Shape := ⟨2, ![8, 1024]⟩
abbrev S1024x1024 : Shape := ⟨2, ![1024, 1024]⟩
abbrev S1024x256 : Shape := ⟨2, ![1024, 256]⟩
abbrev S4x288x256 : Shape := ⟨3, ![4, 288, 256]⟩
abbrev S1024x64 : Shape := ⟨2, ![1024, 64]⟩
abbrev S96x1024 : Shape := ⟨2, ![96, 1024]⟩
abbrev S512x1024 : Shape := ⟨2, ![512, 1024]⟩
abbrev S256x1024 : Shape := ⟨2, ![256, 1024]⟩
abbrev S16x256 : Shape := ⟨2, ![16, 256]⟩
abbrev S128x256 : Shape := ⟨2, ![128, 256]⟩
abbrev S144x256 : Shape := ⟨2, ![144, 256]⟩
abbrev S1x144x256 : Shape := ⟨3, ![1, 144, 256]⟩
abbrev S48x1024 : Shape := ⟨2, ![48, 1024]⟩
abbrev S128x1024 : Shape := ⟨2, ![128, 1024]⟩
abbrev S64x1024 : Shape := ⟨2, ![64, 1024]⟩

abbrev nBuf : Space → Nat
  | .hbm => 63
  | .vmem => 28
  | .smem => 0
  | _ => 0

abbrev bufTy : (tb : Table) → Fin (tcTables nBuf tb) → BufTy
  | .hbm, ⟨0, _⟩ => ⟨S8x4096x2048, .f32⟩
  | .hbm, ⟨1, _⟩ => ⟨S1x2048x6752, .f32⟩
  | .hbm, ⟨2, _⟩ => ⟨S32768x2048, .f32⟩
  | .hbm, ⟨3, _⟩ => ⟨S1x2048x1536, .f32⟩
  | .hbm, ⟨4, _⟩ => ⟨S2048x1536, .f32⟩
  | .hbm, ⟨5, _⟩ => ⟨S1536x2048, .f32⟩
  | .hbm, ⟨6, _⟩ => ⟨S1536x2048, .bf16⟩
  | .hbm, ⟨7, _⟩ => ⟨S1x2048x1104, .f32⟩
  | .hbm, ⟨8, _⟩ => ⟨S2048x1104, .f32⟩
  | .hbm, ⟨9, _⟩ => ⟨S1104x2048, .f32⟩
  | .hbm, ⟨10, _⟩ => ⟨S1104x2048, .bf16⟩
  | .hbm, ⟨11, _⟩ => ⟨S1024x2048, .bf16⟩
  | .hbm, ⟨12, _⟩ => ⟨S512x2048, .bf16⟩
  | .hbm, ⟨13, _⟩ => ⟨S1024x2048, .bf16⟩
  | .hbm, ⟨14, _⟩ => ⟨S80x2048, .bf16⟩
  | .hbm, ⟨15, _⟩ => ⟨S_, .i32⟩
  | .hbm, ⟨16, _⟩ => ⟨S_, .bf16⟩
  | .hbm, ⟨17, _⟩ => ⟨S128x2048, .bf16⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16x1, .f32⟩
  | .hbm, ⟨30, _⟩ => ⟨S4096, .f32⟩
  | .hbm, ⟨31, _⟩ => ⟨S1x4096, .f32⟩
  | .hbm, ⟨32, _⟩ => ⟨S16x4096, .f32⟩
  | .hbm, ⟨33, _⟩ => ⟨S16x4096, .f32⟩
  | .hbm, ⟨34, _⟩ => ⟨S16x4096, .f32⟩
  | .hbm, ⟨35, _⟩ => ⟨S16x4096, .f32⟩
  | .hbm, ⟨36, _⟩ => ⟨S16x4096, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8x1, .f32⟩
  | .hbm, ⟨49, _⟩ => ⟨S4096, .f32⟩
  | .hbm, ⟨50, _⟩ => ⟨S1x4096, .f32⟩
  | .hbm, ⟨51, _⟩ => ⟨S8x4096, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S1024x32768, .bf16⟩
  | .hbm, ⟨57, _⟩ => ⟨S32768x256, .bf16⟩
  | .hbm, ⟨58, _⟩ => ⟨S128x288x256, .bf16⟩
  | .hbm, ⟨59, _⟩ => ⟨S1024x32768, .bf16⟩
  | .hbm, ⟨60, _⟩ => ⟨S32768x64, .bf16⟩
  | .hbm, ⟨61, _⟩ => ⟨S16x32768, .f32⟩
  | .hbm, ⟨62, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S512x2048, .bf16⟩
  | .local _ .vmem, ⟨4, _⟩ => ⟨S1024x2048, .bf16⟩
  | .local _ .vmem, ⟨5, _⟩ => ⟨S128x2048, .bf16⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x256, .bf16⟩
  | .local _ .vmem, ⟨17, _⟩ => ⟨S1024x256, .bf16⟩
  | .local _ .vmem, ⟨18, _⟩ => ⟨S4x288x256, .bf16⟩
  | .local _ .vmem, ⟨19, _⟩ => ⟨S4x288x256, .bf16⟩
  | .local _ .vmem, ⟨20, _⟩ => ⟨S1024x1024, .bf16⟩
  | .local _ .vmem, ⟨21, _⟩ => ⟨S1024x1024, .bf16⟩
  | .local _ .vmem, ⟨22, _⟩ => ⟨S1024x64, .bf16⟩
  | .local _ .vmem, ⟨23, _⟩ => ⟨S1024x64, .bf16⟩
  | .local _ .vmem, ⟨24, _⟩ => ⟨S16x1024, .f32⟩
  | .local _ .vmem, ⟨25, _⟩ => ⟨S16x1024, .f32⟩
  | .local _ .vmem, ⟨26, _⟩ => ⟨S1024x2048, .bf16⟩
  | .local _ .vmem, ⟨27, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev main_v46_3 : Ref sig .tc := ⟨.hbm, 59, rfl⟩
abbrev main_v46_4 : Ref sig .tc := ⟨.hbm, 60, rfl⟩
abbrev main_v46_5 : Ref sig .tc := ⟨.hbm, 61, rfl⟩
abbrev main_v46_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x288x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8x4096x2048 : Shape := ⟨3, ![8, 4096, 2048]⟩
abbrev S1x2048x6752 : Shape := ⟨3, ![1, 2048, 6752]⟩
abbrev S4096 : Shape := ⟨1, ![4096]⟩
abbrev S2048x6752 : Shape := ⟨2, ![2048, 6752]⟩
abbrev S8x4096x6752 : Shape := ⟨3, ![8, 4096, 6752]⟩
abbrev S8x4096x1024 : Shape := ⟨3, ![8, 4096, 1024]⟩
abbrev S8x4096x8x128 : Shape := ⟨4, ![8, 4096, 8, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S8x4096x8x16 : Shape := ⟨4, ![8, 4096, 8, 16]⟩
abbrev S1x4096x1x16 : Shape := ⟨4, ![1, 4096, 1, 16]⟩
abbrev S8x4096x8x96 : Shape := ⟨4, ![8, 4096, 8, 96]⟩
abbrev S8x4096x256 : Shape := ⟨3, ![8, 4096, 256]⟩
abbrev S8x4096x2x128 : Shape := ⟨4, ![8, 4096, 2, 128]⟩
abbrev S8x4096x2x16 : Shape := ⟨4, ![8, 4096, 2, 16]⟩
abbrev S8x4096x2x96 : Shape := ⟨4, ![8, 4096, 2, 96]⟩
abbrev S8x4096x16x64 : Shape := ⟨4, ![8, 4096, 16, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S8x4096x16x8 : Shape := ⟨4, ![8, 4096, 16, 8]⟩
abbrev S1x4096x1x8 : Shape := ⟨4, ![1, 4096, 1, 8]⟩
abbrev S8x4096x16x48 : Shape := ⟨4, ![8, 4096, 16, 48]⟩
abbrev S8x4096x64 : Shape := ⟨3, ![8, 4096, 64]⟩
abbrev S8x4096x1x64 : Shape := ⟨4, ![8, 4096, 1, 64]⟩
abbrev S8x4096x1x8 : Shape := ⟨4, ![8, 4096, 1, 8]⟩
abbrev S8x4096x1x48 : Shape := ⟨4, ![8, 4096, 1, 48]⟩
abbrev S8x4096x16 : Shape := ⟨3, ![8, 4096, 16]⟩
abbrev S128x256x2x128 : Shape := ⟨4, ![128, 256, 2, 128]⟩
abbrev S128x2x128x256 : Shape := ⟨4, ![128, 2, 128, 256]⟩
abbrev S128x2x16x256 : Shape := ⟨4, ![128, 2, 16, 256]⟩
abbrev S128x2x144x256 : Shape := ⟨4, ![128, 2, 144, 256]⟩
abbrev S32768x1024 : Shape := ⟨2, ![32768, 1024]⟩
abbrev S1024x32768 : Shape := ⟨2, ![1024, 32768]⟩
abbrev S32768x256 : Shape := ⟨2, ![32768, 256]⟩
abbrev S128x288x256 : Shape := ⟨3, ![128, 288, 256]⟩
abbrev S32768x64 : Shape := ⟨2, ![32768, 64]⟩
abbrev S32768x16 : Shape := ⟨2, ![32768, 16]⟩
abbrev S16x32768 : Shape := ⟨2, ![16, 32768]⟩
abbrev S32768x2048 : Shape := ⟨2, ![32768, 2048]⟩

abbrev nBuf : Space → Nat
  | .hbm => 195
  | .vmem => 0
  | .smem => 0
  | _ => 0

abbrev hbmTy0_0 (i : Nat) : BufTy := match i % 128 with
  | 0 => ⟨S8x4096x2048, .f32⟩
  | 1 => ⟨S1x2048x6752, .f32⟩
  | 2 => ⟨S4096, .f32⟩
  | 3 => ⟨S2048x6752, .f32⟩
  | 4 => ⟨S8x4096x6752, .f32⟩
  | 5 => ⟨S8x4096x1024, .f32⟩
  | 6 => ⟨S8x4096x8x128, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S4096x16, .f32⟩
  | 24 => ⟨S4096x1x16, .f32⟩
  | 25 => ⟨S4096x16, .f32⟩
  | 26 => ⟨S4096x1x16, .f32⟩
  | 27 => ⟨S8x4096x8x16, .f32⟩
  | 28 => ⟨S8x4096x8x16, .f32⟩
  | 29 => ⟨S1x4096x1x16, .f32⟩
  | 30 => ⟨S8x4096x8x16, .f32⟩
  | 31 => ⟨S8x4096x8x16, .f32⟩
  | 32 => ⟨S1x4096x1x16, .f32⟩
  | 33 => ⟨S8x4096x8x16, .f32⟩
  | 34 => ⟨S8x4096x8x16, .f32⟩
  | 35 => ⟨S8x4096x8x16, .f32⟩
  | 36 => ⟨S1x4096x1x16, .f32⟩
  | 37 => ⟨S8x4096x8x16, .f32⟩
  | 38 => ⟨S8x4096x8x16, .f32⟩
  | 39 => ⟨S1x4096x1x16, .f32⟩
  | 40 => ⟨S8x4096x8x16, .f32⟩
  | 41 => ⟨S8x4096x8x16, .f32⟩
  | 42 => ⟨S8x4096x8x16, .f32⟩
  | 43 => ⟨S8x4096x8x96, .f32⟩
  | 44 => ⟨S8x4096x8x128, .f32⟩
  | 45 => ⟨S8x4096x256, .f32⟩
  | 46 => ⟨S8x4096x2x128, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S4096x16, .f32⟩
  | 64 => ⟨S4096x1x16, .f32⟩
  | 65 => ⟨S4096x16, .f32⟩
  | 66 => ⟨S4096x1x16, .f32⟩
  | 67 => ⟨S8x4096x2x16, .f32⟩
  | 68 => ⟨S8x4096x2x16, .f32⟩
  | 69 => ⟨S1x4096x1x16, .f32⟩
  | 70 => ⟨S8x4096x2x16, .f32⟩
  | 71 => ⟨S8x4096x2x16, .f32⟩
  | 72 => ⟨S1x4096x1x16, .f32⟩
  | 73 => ⟨S8x4096x2x16, .f32⟩
  | 74 => ⟨S8x4096x2x16, .f32⟩
  | 75 => ⟨S8x4096x2x16, .f32⟩
  | 76 => ⟨S1x4096x1x16, .f32⟩
  | 77 => ⟨S8x4096x2x16, .f32⟩
  | 78 => ⟨S8x4096x2x16, .f32⟩
  | 79 => ⟨S1x4096x1x16, .f32⟩
  | 80 => ⟨S8x4096x2x16, .f32⟩
  | 81 => ⟨S8x4096x2x16, .f32⟩
  | 82 => ⟨S8x4096x2x16, .f32⟩
  | 83 => ⟨S8x4096x2x96, .f32⟩
  | 84 => ⟨S8x4096x2x128, .f32⟩
  | 85 => ⟨S8x4096x256, .f32⟩
  | 86 => ⟨S8x4096x1024, .f32⟩
  | 87 => ⟨S8x4096x16x64, .f32⟩
  | 88 => ⟨S8, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S4096x1, .f32⟩
  | 100 => ⟨S1x8, .f32⟩
  | 101 => ⟨S4096x8, .f32⟩
  | 102 => ⟨S4096x8, .f32⟩
  | 103 => ⟨S4096x8, .f32⟩
  | 104 => ⟨S4096x8, .f32⟩
  | 105 => ⟨S4096x1x8, .f32⟩
  | 106 => ⟨S4096x8, .f32⟩
  | 107 => ⟨S4096x1x8, .f32⟩
  | 108 => ⟨S8x4096x16x8, .f32⟩
  | 109 => ⟨S8x4096x16x8, .f32⟩
  | 110 => ⟨S1x4096x1x8, .f32⟩
  | 111 => ⟨S8x4096x16x8, .f32⟩
  | 112 => ⟨S8x4096x16x8, .f32⟩
  | 113 => ⟨S1x4096x1x8, .f32⟩
  | 114 => ⟨S8x4096x16x8, .f32⟩
  | 115 => ⟨S8x4096x16x8, .f32⟩
  | 116 => ⟨S8x4096x16x8, .f32⟩
  | 117 => ⟨S1x4096x1x8, .f32⟩
  | 118 => ⟨S8x4096x16x8, .f32⟩
  | 119 => ⟨S8x4096x16x8, .f32⟩
  | 120 => ⟨S1x4096x1x8, .f32⟩
  | 121 => ⟨S8x4096x16x8, .f32⟩
  | 122 => ⟨S8x4096x16x8, .f32⟩
  | 123 => ⟨S8x4096x16x8, .f32⟩
  | 124 => ⟨S8x4096x16x48, .f32⟩
  | 125 => ⟨S8x4096x16x64, .f32⟩
  | 126 => ⟨S8x4096x64, .f32⟩
  | 127 => ⟨S8x4096x1x64, .f32⟩
  | _ => ⟨S8x4096x2048, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S4096x1, .f32⟩
  | 12 => ⟨S1x8, .f32⟩
  | 13 => ⟨S4096x8, .f32⟩
  | 14 => ⟨S4096x8, .f32⟩
  | 15 => ⟨S4096x8, .f32⟩
  | 16 => ⟨S4096x8, .f32⟩
  | 17 => ⟨S4096x1x8, .f32⟩
  | 18 => ⟨S4096x8, .f32⟩
  | 19 => ⟨S4096x1x8, .f32⟩
  | 20 => ⟨S8x4096x1x8, .f32⟩
  | 21 => ⟨S8x4096x1x8, .f32⟩
  | 22 => ⟨S1x4096x1x8, .f32⟩
  | 23 => ⟨S8x4096x1x8, .f32⟩
  | 24 => ⟨S8x4096x1x8, .f32⟩
  | 25 => ⟨S1x4096x1x8, .f32⟩
  | 26 => ⟨S8x4096x1x8, .f32⟩
  | 27 => ⟨S8x4096x1x8, .f32⟩
  | 28 => ⟨S8x4096x1x8, .f32⟩
  | 29 => ⟨S1x4096x1x8, .f32⟩
  | 30 => ⟨S8x4096x1x8, .f32⟩
  | 31 => ⟨S8x4096x1x8, .f32⟩
  | 32 => ⟨S1x4096x1x8, .f32⟩
  | 33 => ⟨S8x4096x1x8, .f32⟩
  | 34 => ⟨S8x4096x1x8, .f32⟩
  | 35 => ⟨S8x4096x1x8, .f32⟩
  | 36 => ⟨S8x4096x1x48, .f32⟩
  | 37 => ⟨S8x4096x1x64, .f32⟩
  | 38 => ⟨S8x4096x64, .f32⟩
  | 39 => ⟨S8x4096x16, .f32⟩
  | 40 => ⟨S_, .f32⟩
  | 41 => ⟨S8x4096x16, .f32⟩
  | 42 => ⟨S8x4096x16, .f32⟩
  | 43 => ⟨S_, .f32⟩
  | 44 => ⟨S8x4096x8x128, .f32⟩
  | 45 => ⟨S8x4096x8x128, .f32⟩
  | 46 => ⟨S128x256x2x128, .f32⟩
  | 47 => ⟨S128x2x128x256, .f32⟩
  | 48 => ⟨S_, .f32⟩
  | 49 => ⟨S128x2x16x256, .f32⟩
  | 50 => ⟨S128x2x144x256, .f32⟩
  | 51 => ⟨S32768x1024, .f32⟩
  | 52 => ⟨S1024x32768, .f32⟩
  | 53 => ⟨S1024x32768, .bf16⟩
  | 54 => ⟨S32768x256, .f32⟩
  | 55 => ⟨S32768x256, .bf16⟩
  | 56 => ⟨S128x288x256, .f32⟩
  | 57 => ⟨S128x288x256, .bf16⟩
  | 58 => ⟨S32768x1024, .f32⟩
  | 59 => ⟨S1024x32768, .f32⟩
  | 60 => ⟨S1024x32768, .bf16⟩
  | 61 => ⟨S32768x64, .f32⟩
  | 62 => ⟨S32768x64, .bf16⟩
  | 63 => ⟨S32768x16, .f32⟩
  | 64 => ⟨S16x32768, .f32⟩
  | 65 => ⟨S32768x2048, .f32⟩
  | 66 => ⟨S32768x2048, .bf16⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_cst_4 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_cst_5 : Ref sig .tc := ⟨.hbm, 90, rfl⟩
abbrev main_v82 : Ref sig .tc := ⟨.hbm, 91, rfl⟩
abbrev main_v83 : Ref sig .tc := ⟨.hbm, 92, rfl⟩
abbrev main_cst_6 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_cst_8 : Ref sig .tc := ⟨.hbm, 130, rfl⟩
abbrev main_v119 : Ref sig .tc := ⟨.hbm, 131, rfl⟩
abbrev main_v120 : Ref sig .tc := ⟨.hbm, 132, rfl⟩
abbrev main_cst_9 : Ref sig .tc := ⟨.hbm, 133, rfl⟩
abbrev main_v121 : Ref sig .tc := ⟨.hbm, 134, rfl⟩
abbrev main_v122 : Ref sig .tc := ⟨.hbm, 135, rfl⟩
abbrev main_cst_10 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_cst_11 : Ref sig .tc := ⟨.hbm, 168, rfl⟩
abbrev main_v154 : Ref sig .tc := ⟨.hbm, 169, rfl⟩
abbrev main_v155 : Ref sig .tc := ⟨.hbm, 170, rfl⟩
abbrev main_cst_12 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_cst_13 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩

abbrev nD : Nat := 1
abbrev τ : Topo := Topo.v7x

variable {F : FTy → Type} [FloatOps F]
-- ==== Kernel5.lean ====
abbrev S32768x4224 : Shape := ⟨2, ![32768, 4224]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S1x2048 : Shape := ⟨2, ![1, 2048]⟩
abbrev S1x1024 : Shape := ⟨2, ![1, 1024]⟩
abbrev S32 : Shape := ⟨1, ![32]⟩
abbrev S1x32 : Shape := ⟨2, ![1, 32]⟩
abbrev S_ : Shape := ⟨0, ![]⟩
abbrev S1x128 : Shape := ⟨2, ![1, 128]⟩
abbrev S128x1024 : Shape := ⟨2, ![128, 1024]⟩
abbrev S512x512 : Shape := ⟨2, ![512, 512]⟩
abbrev S16x64 : Shape := ⟨2, ![16, 64]⟩
abbrev S32768x1024 : Shape := ⟨2, ![32768, 1024]⟩
abbrev S512x2048 : Shape := ⟨2, ![512, 2048]⟩
abbrev S512x1024 : Shape := ⟨2, ![512, 1024]⟩
abbrev S512x128 : Shape := ⟨2, ![512, 128]⟩
abbrev S520x2048 : Shape := ⟨2, ![520, 2048]⟩
abbrev S8x2048 : Shape := ⟨2, ![8, 2048]⟩
abbrev S4x128x256 : Shape := ⟨3, ![4, 128, 256]⟩
abbrev S64x2048 : Shape := ⟨2, ![64, 2048]⟩
abbrev S64x1024 : Shape := ⟨2, ![64, 1024]⟩
abbrev S64x256 : Shape := ⟨2, ![64, 256]⟩
abbrev S128x128 : Shape := ⟨2, ![128, 128]⟩
abbrev S64x128 : Shape := ⟨2, ![64, 128]⟩
abbrev S1x256 : Shape := ⟨2, ![1, 256]⟩
abbrev S256x128 : Shape := ⟨2, ![256, 128]⟩
abbrev S256 : Shape := ⟨1, ![256]⟩
abbrev S1x128x256 : Shape := ⟨3, ![1, 128, 256]⟩
abbrev S128x256 : Shape := ⟨2, ![128, 256]⟩
abbrev S128x64 : Shape := ⟨2, ![128, 64]⟩
abbrev S64 : Shape := ⟨1, ![64]⟩
abbrev S64x1 : Shape := ⟨2, ![64, 1]⟩

abbrev nBuf : Space → Nat
  | .hbm => 90
  | .vmem => 24
  | .smem => 0
  | _ => 0

abbrev bufTy : (tb : Table) → Fin (tcTables nBuf tb) → BufTy
  | .hbm, ⟨0, _⟩ => ⟨S32768x4224, .f32⟩
  | .hbm, ⟨1, _⟩ => ⟨S4x2048, .f32⟩
  | .hbm, ⟨2, _⟩ => ⟨S2048, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S1x2048, .f32⟩
  | .hbm, ⟨8, _⟩ => ⟨S1x1024, .f32⟩
  | .hbm, ⟨9, _⟩ => ⟨S32, .f32⟩
  | .hbm, ⟨10, _⟩ => ⟨S1x32, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S128x1024, .i32⟩
  | .hbm, ⟨15, _⟩ => ⟨S128x1024, .i32⟩
  | .hbm, ⟨16, _⟩ => ⟨S_, .i32⟩
  | .hbm, ⟨17, _⟩ => ⟨S_, .i32⟩
  | .hbm, ⟨18, _⟩ => ⟨S128x1024, .i32⟩
  | .hbm, ⟨19, _⟩ => ⟨S128x1024, .i32⟩
  | .hbm, ⟨20, _⟩ => ⟨S128x1024, .i32⟩
  | .hbm, ⟨21, _⟩ => ⟨S_, .i32⟩
  | .hbm, ⟨22, _⟩ => ⟨S128x1024, .i32⟩
  | .hbm, ⟨23, _⟩ => ⟨S128x1024, .i1⟩
  | .hbm, ⟨24, _⟩ => ⟨S128x1024, .i32⟩
  | .hbm, ⟨25, _⟩ => ⟨S128x1024, .i32⟩
  | .hbm, ⟨26, _⟩ => ⟨S_, .i32⟩
  | .hbm, ⟨27, _⟩ => ⟨S128x1024, .i32⟩
  | .hbm, ⟨28, _⟩ => ⟨S128x1024, .i1⟩
  | .hbm, ⟨29, _⟩ => ⟨S128x1024, .i1⟩
  | .hbm, ⟨30, _⟩ => ⟨S_, .i32⟩
  | .hbm, ⟨31, _⟩ => ⟨S128x1024, .i32⟩
  | .hbm, ⟨32, _⟩ => ⟨S128x1024, .i32⟩
  | .hbm, ⟨33, _⟩ => ⟨S128x1024, .i32⟩
  | .hbm, ⟨34, _⟩ => ⟨S128x1024, .i1⟩
  | .hbm, ⟨35, _⟩ => ⟨S_, .i32⟩
  | .hbm, ⟨36, _⟩ => ⟨S128x1024, .i32⟩
  | .hbm, ⟨37, _⟩ => ⟨S128x1024, .i32⟩
  | .hbm, ⟨38, _⟩ => ⟨S128x1024, .i1⟩
  | .hbm, ⟨39, _⟩ => ⟨S128x1024, .i1⟩
  | .hbm, ⟨40, _⟩ => ⟨S128x1024, .bf16⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S_, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i1⟩
  | .hbm, ⟨52, _⟩ => ⟨S512x512, .i32⟩
  | .hbm, ⟨53, _⟩ => ⟨S512x512, .i32⟩
  | .hbm, ⟨54, _⟩ => ⟨S_, .i32⟩
  | .hbm, ⟨55, _⟩ => ⟨S512x512, .i32⟩
  | .hbm, ⟨56, _⟩ => ⟨S512x512, .i1⟩
  | .hbm, ⟨57, _⟩ => ⟨S512x512, .i1⟩
  | .hbm, ⟨58, _⟩ => ⟨S_, .i32⟩
  | .hbm, ⟨59, _⟩ => ⟨S512x512, .i32⟩
  | .hbm, ⟨60, _⟩ => ⟨S512x512, .i32⟩
  | .hbm, ⟨61, _⟩ => ⟨S512x512, .i32⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S512x512, .i32⟩
  | .hbm, ⟨67, _⟩ => ⟨S_, .i32⟩
  | .hbm, ⟨68, _⟩ => ⟨S512x512, .i32⟩
  | .hbm, ⟨69, _⟩ => ⟨S512x512, .i1⟩
  | .hbm, ⟨70, _⟩ => ⟨S512x512, .i32⟩
  | .hbm, ⟨71, _⟩ => ⟨S512x512, .i32⟩
  | .hbm, ⟨72, _⟩ => ⟨S_, .i32⟩
  | .hbm, ⟨73, _⟩ => ⟨S512x512, .i32⟩
  | .hbm, ⟨74, _⟩ => ⟨S512x512, .i1⟩
  | .hbm, ⟨75, _⟩ => ⟨S512x512, .i1⟩
  | .hbm, ⟨76, _⟩ => ⟨S_, .i32⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S512x512, .i1⟩
  | .hbm, ⟨81, _⟩ => ⟨S512x512, .i1⟩
  | .hbm, ⟨82, _⟩ => ⟨S512x512, .bf16⟩
  | .hbm, ⟨83, _⟩ => ⟨S16x64, .f32⟩
  | .hbm, ⟨84, _⟩ => ⟨S1024, .f32⟩
  | .hbm, ⟨85, _⟩ => ⟨S1x1024, .f32⟩
  | .hbm, ⟨86, _⟩ => ⟨S16x64, .f32⟩
  | .hbm, ⟨87, _⟩ => ⟨S1024, .f32⟩
  | .hbm, ⟨88, _⟩ => ⟨S1x1024, .f32⟩
  | .hbm, ⟨89, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S520x2048, .f32⟩
  | .local _ .vmem, ⟨17, _⟩ => ⟨S8x2048, .f32⟩
  | .local _ .vmem, ⟨18, _⟩ => ⟨S4x128x256, .f32⟩
  | .local _ .vmem, ⟨19, _⟩ => ⟨S512x2048, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S32768x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v7 : Ref sig .tc := ⟨.hbm, 33, rfl⟩
abbrev main_v8 : Ref sig .tc := ⟨.hbm, 34, rfl⟩
abbrev main_c_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v17 : Ref sig .tc := ⟨.hbm, 61, rfl⟩
abbrev main_c_3 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let c0_i32 : BitVec 32 := 0#32
  ![v1.toNat, c32_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.Keeps.lean ====
/- A body that only loads, stores, branches, counts and calls its own parts keeps what it is given: from buffers held at
   some contents it ends with the same buffers held at some contents, and nothing on the way faults. One lemma per
   construct (`Keeps.…`), so that a long body is gone through by its shape alone, whatever it computes. -/
module

public import proofs.«01_k».proof.Kernel
public import Idealize.ShloMosaic.Lib.Pipeline.FrameBody
public import Idealize.ShloMosaic.Lib.Tactic
public import Idealize.ShloMosaic.Lib.Scf

@[expose] public section

noncomputable section

namespace Cert.Proof.Attention

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Cert.Kernel.Facts]

local notation "𝕄" => MT nD τ sig Unit (Elt F) ℕ (UR sig nD τ) ℕ

/-- The program `p`, run on core `c` from the resources `R`, faults nowhere and ends with the resources `R`. -/
def Keeps (c : Dev nD) (R : sProp 𝕄) {α : Type} (p : Prog (TpuEff nD τ sig (Elt F) Λ₀ .tc) α) : Prop :=
  R ⊢ wp frame (wpE (defs₀ (F := F)) Variants.none (c : Thread nD τ) none) Set.univ p fun _ => R

/-- Among the resources `R` is the whole buffer under `M`, at some contents, and `R` asks for no more of it than that. -/
def Held (c : Dev nD) (R : sProp 𝕄) {sp : CoreSpace} {s : Shape} {e : EltTy} (M : Memref sig .tc sp s e) : Prop :=
  ∃ G : sProp 𝕄, (R ⊢ iprop(∃ f : Buf (Elt F) (M.view.loc (c : Thread nD τ)), (M.view.loc (c : Thread nD τ) ↦{fullShare} f) ∗ G))
    ∧ ∀ f : Buf (Elt F) (M.view.loc (c : Thread nD τ)), iprop((M.view.loc (c : Thread nD τ) ↦{fullShare} f) ∗ G) ⊢ R

variable {c : Dev nD} {R : sProp (MT nD τ sig Unit (Elt F) ℕ (UR sig nD τ) ℕ)}

theorem Keeps.pure {α : Type} (a : α) : Keeps c R (pure a : Prog (TpuEff nD τ sig (Elt F) Λ₀ .tc) α) := by
  unfold Keeps
  rw [wp_pure]
  iintro H
  imodintro
  iexact H

theorem Keeps.bind {α β : Type} {p : Prog (TpuEff nD τ sig (Elt F) Λ₀ .tc) α} {k : α → Prog (TpuEff nD τ sig (Elt F) Λ₀ .tc) β}
    (hp : Keeps c R p) (hk : ∀ a, Keeps c R (k a)) : Keeps c R (p >>= k) := by
  unfold Keeps
  rw [wp_bind]
  exact hp.trans (wp_mono _ _ _ fun a => hk a)

theorem Keeps.load {sp : CoreSpace} {s : Shape} {e : EltTy} {M : Memref sig .tc sp s e} {r : LoadRect s} {hl : M.view.LoadsAt r}
    (h : Held c R M) : Keeps c R (Prog.lift (.load M r hl)) := by
  obtain ⟨G, h1, h2⟩ := h
  unfold Keeps
  refine h1.trans ?_
  iintro ⟨%f, Hf, HG⟩
  iapply (wp_load (c := (c : Thread nD τ)) Variants.none none Set.univ (m := M) (r := r) (hl := hl) (f := f) (q := fullShare) (S := Finset.univ) (Finset.subset_univ _)) $$ Hf
  iintro Hf
  rw [wp_ret]
  imodintro
  iapply (h2 f)
  isplitl [Hf]
  · iexact Hf
  · iexact HG

theorem Keeps.store {sp : CoreSpace} {s : Shape} {e : EltTy} {M : Memref sig .tc sp s e} {r : Rect s} {w : r.shape.Idx → Elt F e}
    {Mk : Finset r.shape.Idx} {hx : (M.access r).Stores Mk} {hm : Mk = Finset.univ ∨ ∀ a, r.stride a = 1}
    (h : Held c R M) : Keeps c R (Prog.lift (.store M r w Mk hx hm)) := by
  obtain ⟨G, h1, h2⟩ := h
  unfold Keeps
  refine h1.trans ?_
  iintro ⟨%f, Hf, HG⟩
  iapply (wp_store (c := (c : Thread nD τ)) Variants.none none Set.univ (m := M) (r := r) (w := w) (hx := hx) (hm := hm) (f := f) (S := Finset.univ) (Finset.subset_univ _)) $$ Hf
  iintro Hf
  rw [wp_ret]
  imodintro
  iapply (h2 ((M.access r).write (Elt F) f w Mk))
  isplitl [Hf]
  · iexact Hf
  · iexact HG

theorem Keeps.dite {α : Type} {P : Prop} [Decidable P] {p : P → Prog (TpuEff nD τ sig (Elt F) Λ₀ .tc) α}
    {q : ¬P → Prog (TpuEff nD τ sig (Elt F) Λ₀ .tc) α} (hp : ∀ h, Keeps c R (p h)) (hq : ∀ h, Keeps c R (q h)) :
    Keeps c R (if h : P then p h else q h) := by
  by_cases h : P
  · rw [dif_pos h]; exact hp h
  · rw [dif_neg h]; exact hq h

theorem Keeps.ite {α : Type} {P : Prop} [Decidable P] {p q : Prog (TpuEff nD τ sig (Elt F) Λ₀ .tc) α}
    (hp : Keeps c R p) (hq : Keeps c R q) : Keeps c R (if P then p else q) := by
  by_cases h : P
  · rw [if_pos h]; exact hp
  · rw [if_neg h]; exact hq

theorem Keeps.for {w : Nat} {α : Type} {lb ub st : BitVec w} {hok : Scf.OK lb ub st} {init : α}
    {body : Fin (Scf.trips lb ub st) → α → Prog (TpuEff nD τ sig (Elt F) Λ₀ .tc) α} (h : ∀ k acc, Keeps c R (body k acc)) :
    Keeps c R (Scf.for lb ub st hok init body) := by
  unfold Keeps
  refine BIBase.Entails.trans ?_ (Scf.wp_for _ _ _ lb ub st hok init body (fun _ _ => R) (fun k acc => h k acc))
  iintro H
  isplitl [H]
  · iexact H
  · iintro %acc H; iexact H

/-! ## The body's parts

Every part of the body takes the grid point and the same sixteen buffers, then values. -/

/-- The grid point and the sixteen buffers of the body, each held among `R`. -/
structure Refs (c : Dev nD) (R : sProp 𝕄) where
  i : grid0.Coords
  arg2 : Memref sig .tc .vmem S1024x256 .bf16
  harg2 : arg2.IsWhole
  held2 : Held c R arg2
  arg3 : Memref sig .tc .vmem S1024x256 .bf16
  harg3 : arg3.IsWhole
  held3 : Held c R arg3
  arg4 : Memref sig .tc .vmem S16x256 .f32
  harg4 : arg4.IsWhole
  held4 : Held c R arg4
  arg5 : Memref sig .tc .vmem S256x1024 .f32
  harg5 : arg5.IsWhole
  held5 : Held c R arg5
  arg6 : Memref sig .tc .vmem S4096x256 .bf16
  harg6 : arg6.IsWhole
  held6 : Held c R arg6
  arg7 : Memref sig .tc .vmem S16x288x256 .bf16
  harg7 : arg7.IsWhole
  held7 : Held c R arg7
  arg8 : Memref sig .tc .vmem S4096x64 .bf16
  harg8 : arg8.IsWhole
  held8 : Held c R arg8
  arg9 : Memref sig .tc .vmem S256x1024 .bf16
  harg9 : arg9.IsWhole
  held9 : Held c R arg9
  arg10 : Memref sig .tc .vmem S4096x256 .i32
  harg10 : arg10.IsWhole
  held10 : Held c R arg10
  arg11 : Memref sig .tc .vmem S32x128x256 .i32
  harg11 : arg11.IsWhole
  held11 : Held c R arg11
  arg12 : Memref sig .tc .vmem S4096x256 .f32
  harg12 : arg12.IsWhole
  held12 : Held c R arg12
  arg13 : Memref sig .tc .vmem S2x1024 .f32
  harg13 : arg13.IsWhole
  held13 : Held c R arg13
  arg14 : Memref sig .tc .vmem S2x1024 .f32
  harg14 : arg14.IsWhole
  held14 : Held c R arg14
  arg15 : Memref sig .tc .vmem S2x128x1024 .f32
  harg15 : arg15.IsWhole
  held15 : Held c R arg15
  arg16 : Memref sig .tc .vmem S2x256x2048 .f32
  harg16 : arg16.IsWhole
  held16 : Held c R arg16
  arg17 : Memref sig .tc .vmem S2x8x256 .f32
  harg17 : arg17.IsWhole
  held17 : Held c R arg17

variable (r : Refs c R)

/-- A part at the point and the buffers of `r`. -/
abbrev Refs.at {X : grid0.Coords → Type 1} (p : (i : grid0.Coords) → (arg2 : Memref sig .tc .vmem S1024x256 .bf16) → (harg2 : arg2.IsWhole) → (arg3 : Memref sig .tc .vmem S1024x256 .bf16) → (harg3 : arg3.IsWhole) → (arg4 : Memref sig .tc .vmem S16x256 .f32) → (harg4 : arg4.IsWhole) → (arg5 : Memref sig .tc .vmem S256x1024 .f32) → (harg5 : arg5.IsWhole) → (arg6 : Memref sig .tc .vmem S4096x256 .bf16) → (harg6 : arg6.IsWhole) → (arg7 : Memref sig .tc .vmem S16x288x256 .bf16) → (harg7 : arg7.IsWhole) → (arg8 : Memref sig .tc .vmem S4096x64 .bf16) → (harg8 : arg8.IsWhole) → (arg9 : Memref sig .tc .vmem S256x1024 .bf16) → (harg9 : arg9.IsWhole) → (arg10 : Memref sig .tc .vmem S4096x256 .i32) → (harg10 : arg10.IsWhole) → (arg11 : Memref sig .tc .vmem S32x128x256 .i32) → (harg11 : arg11.IsWhole) → (arg12 : Memref sig .tc .vmem S4096x256 .f32) → (harg12 : arg12.IsWhole) → (arg13 : Memref sig .tc .vmem S2x1024 .f32) → (harg13 : arg13.IsWhole) → (arg14 : Memref sig .tc .vmem S2x1024 .f32) → (harg14 : arg14.IsWhole) → (arg15 : Memref sig .tc .vmem S2x128x1024 .f32) → (harg15 : arg15.IsWhole) → (arg16 : Memref sig .tc .vmem S2x256x2048 .f32) → (harg16 : arg16.IsWhole) → (arg17 : Memref sig .tc .vmem S2x8x256 .f32) → (harg17 : arg17.IsWhole) → X i) : X r.i :=
  p r.i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 r.arg14 r.harg14 r.arg15 r.harg15 r.arg16 r.harg16 r.arg17 r.harg17

/-- What is claimed of a part before its values are given (`Kept.all`): that at all of them it `Keeps` the resources. -/
class Kept (c : Dev nD) (R : sProp 𝕄) (β : Type 1) where
  all : β → Prop

/-- A part at all its values: it keeps the resources. -/
instance Kept.prog {α : Type} : Kept c R (Prog (TpuEff nD τ sig (Elt F) Λ₀ .tc) α) := ⟨Keeps c R⟩

/-- A value: any. -/
instance Kept.value {A : Type} {B : Type 1} [Kept c R B] : Kept c R (A → B) := ⟨fun p => ∀ a, Kept.all c R (p a)⟩

theorem Kept.prog_all {α : Type} {p : Prog (TpuEff nD τ sig (Elt F) Λ₀ .tc) α} (h : Keeps c R p) : Kept.all c R p := h

theorem Kept.value_all {A : Type} {B : Type 1} [Kept c R B] {p : A → B} (h : ∀ a, Kept.all c R (p a)) : Kept.all c R p := h

end Cert.Proof.Attention

end
-- ==== Proof.Leaf1.lean ====
/- The parts of the body that call no other part, each gone through by its shape: every statement keeps what it is given. -/
module

public import proofs.«01_k».proof.Proof.Keeps

@[expose] public section

set_option maxRecDepth 16384
set_option synthInstance.maxSize 4096
set_option maxHeartbeats 1000000

noncomputable section

namespace Cert.Proof.Attention

open Cert.Kernel
open Idealize.ShloMosaic Idealize.SL Idealize.SL.RA Idealize.SL.BI Idealize.SL.Sem

variable {F : FTy → Type} [BitOps F] [Cert.Kernel.Facts]
  {c : Dev nD} {R : sProp (MT nD τ sig Unit (Elt F) ℕ (UR sig nD τ) ℕ)} (r : Refs c R)

theorem kept1 : Kept.all c R (r.at (k0_part1 (F := F))) := by
  with_reducible_and_instances repeat refine Kept.value_all fun _ => ?_
  refine Kept.prog_all ?_
  delta Refs.at k0_part1
  with_reducible_and_instances repeat first | exact Keeps.pure _ | refine Keeps.bind ?_ fun _ => ?_ | exact Keeps.load r.held10

theorem kept2 : Kept.all c R (r.at (k0_part2 (F := F))) := by
  with_reducible_and_instances repeat refine Kept.value_all fun _ => ?_
  refine Kept.prog_all ?_
  delta Refs.at k0_part2
  with_reducible_and_instances repeat first | exact Keeps.pure _ | refine Keeps.bind ?_ fun _ => ?_

theorem kept3 : Kept.all c R (r.at (k0_part3 (F := F))) := by
  with_reducible_and_instances repeat refine Kept.value_all fun _ => ?_
  refine Kept.prog_all ?_
  delta Refs.at k0_part3
  with_reducible_and_instances repeat first | exact Keeps.pure _ | refine Keeps.bind ?_ fun _ => ?_

theorem kept4 : Kept.all c R (r.at (k0_part4 (F := F))) := by
  with_reducible_and_instances repeat refine Kept.value_all fun _ => ?_
  refine Kept.prog_all ?_
  delta Refs.at k0_part4
  with_reducible_and_instances repeat first | exact Keeps.pure _ | refine Keeps.bind ?_ fun _ => ?_

theorem kept5 : Kept.all c R (r.at (k0_part5 (F := F))) := by
  with_reducible_and_instances repeat refine Kept.value_all fun _ => ?_
  refine Kept.prog_all ?_
  delta Refs.at k0_part5
  with_reducible_and_instances repeat first | exact Keeps.pure _ | refine Keeps.bind ?_ fun _ => ?_

theorem kept6 : Kept.all c R (r.at (k0_part6 (F := F))) := by
  with_reducible_and_instances repeat refine Kept.value_all fun _ => ?_
  refine Kept.prog_all ?_
  delta Refs.at k0_part6
  with_reducible_and_instances repeat first | exact Keeps.pure _ | refine Keeps.bind ?_ fun _ => ?_

theorem kept7 : Kept.all c R (r.at (k0_part7 (F := F))) := by
  with_reducible_and_instances repeat refine Kept.value_all fun _ => ?_
  refine Kept.prog_all ?_
  delta Refs.at k0_part7
  with_reducible_and_instances repeat first | exact Keeps.pure _ | refine Keeps.bind ?_ fun _ => ?_

theorem kept8 : Kept.all c R (r.at (k0_part8 (F := F))) := by
  with_reducible_and_instances repeat refine Kept.value_all fun _ => ?_
  refine Kept.prog_all ?_
  delta Refs.at k0_part8
  with_reducible_and_instances repeat first | exact Keeps.pure _ | refine Keeps.bind ?_ fun _ => ?_

theorem kept9 : Kept.all c R (r.at (k0_part9 (F := F))) := by
  with_reducible_and_instances repeat refine Kept.value_all fun _ => ?_
  refine Kept.prog_all ?_
  delta Refs.at k0_part9
  with_reducible_and_instances repeat first | exact Keeps.pure _ | refine Keeps.bind ?_ fun _ => ?_

theorem kept10 : Kept.all c R (r.at (k0_part10 (F := F))) := by
  with_reducible_and_instances repeat refine Kept.value_all fun _ => ?_
  refine Kept.prog_all ?_
  delta Refs.at k0_part10
  with_reducible_and_instances repeat first | exact Keeps.pure _ | refine Keeps.bind ?_ fun _ => ?_

theorem kept11 : Kept.all c R (r.at (k0_part11 (F := F))) := by
  with_reducible_and_instances repeat refine Kept.value_all fun _ => ?_
  refine Kept.prog_all ?_
  delta Refs.at k0_part11
  with_reducible_and_instances repeat first | exact Keeps.pure _ | refine Keeps.bind ?_ fun _ => ?_

theorem kept12 : Kept.all c R (r.at (k0_part12 (F := F))) := by
  with_reducible_and_instances repeat refine Kept.value_all fun _ => ?_
  refine Kept.prog_all ?_
  delta Refs.at k0_part12
  with_reducible_and_instances repeat first | exact Keeps.pure _ | refine Keeps.bind ?_ fun _ => ?_

theorem kept13 : Kept.all c R (r.at (k0_part13 (F := F))) := by
  with_reducible_and_instances repeat refine Kept.value_all fun _ => ?_
  refine Kept.prog_all ?_
  delta Refs.at k0_part13
  with_reducible_and_instances repeat first | exact Keeps.pure _ | refine Keeps.bind ?_ fun _ => ?_

theorem kept14 : Kept.all c R (r.at (k0_part14 (F := F))) := by
  with_reducible_and_instances repeat refine Kept.value_all fun _ => ?_
  refine Kept.prog_all ?_
  delta Refs.at k0_part14
  with_reducible_and_instances repeat first | exact Keeps.pure _ | refine Keeps.bind ?_ fun _ => ?_

theorem kept15 : Kept.all c R (r.at (k0_part15 (F := F))) := by
  with_reducible_and_instances repeat refine Kept.value_all fun _ => ?_
  refine Kept.prog_all ?_
  delta Refs.at k0_part15
  with_reducible_and_instances repeat first | exact Keeps.pure _ | refine Keeps.bind ?_ fun _ => ?_

theorem kept16 : Kept.all c R (r.at (k0_part16 (F := F))) := by
  with_reducible_and_instances repeat refine Kept.value_all fun _ => ?_
  refine Kept.prog_all ?_
  delta Refs.at k0_part16
  with_reducible_and_instances repeat first | exact Keeps.pure _ | refine Keeps.bind ?_ fun _ => ?_

theorem kept17 : Kept.all c R (r.at (k0_part17 (F := F))) := by
  with_reducible_and_instances repeat refine Kept.value_all fun _ => ?_
  refine Kept.prog_all ?_
  delta Refs.at k0_part17
  with_reducible_and_instances repeat first | exact Keeps.pure _ | refine Keeps.bind ?_ fun _ => ?_ | exact Keeps.load r.held11

theorem kept18 : Kept.all c R (r.at (k0_part18 (F := F))) := by
  with_reducible_and_instances repeat refine Kept.value_all fun _ => ?_
  refine Kept.prog_all ?_
  delta Refs.at k0_part18
  with_reducible_and_instances repeat first | exact Keeps.pure _ | refine Keeps.bind ?_ fun _ => ?_ | exact Keeps.load r.held11 | exact Keeps.store r.held11

theorem kept19 : Kept.all c R (r.at (k0_part19 (F := F))) := by
  with_reducible_and_instances repeat refine Kept.value_all fun _ => ?_
  refine Kept.prog_all ?_
  delta Refs.at k0_part19
  with_reducible_and_instances repeat first | exact Keeps.pure _ | refine Keeps.bind ?_ fun _ => ?_ | exact Keeps.load r.held11 | exact Keeps.store r.held11

theorem kept20 : Kept.all c R (r.at (k0_part20 (F := F))) := by
  with_reducible_and_instances repeat refine Kept.value_all fun _ => ?_
  refine Kept.prog_all ?_
  delta Refs.at k0_part20
  with_reducible_and_instances repeat first | exact Keeps.pure _ | refine Keeps.bind ?_ fun _ => ?_ | exact Keeps.load r.held11 | exact Keeps.store r.held11

theorem kept21 : Kept.all c R (r.at (k0_part21 (F := F))) := by
  with_reducible_and_instances repeat refine Kept.value_all fun _ => ?_
  refine Kept.prog_all ?_
  delta Refs.at k0_part21
  with_reducible_and_instances repeat first | exact Keeps.pure _ | refine Keeps.bind ?_ fun _ => ?_ | exact Keeps.load r.held3 | exact Keeps.load r.held8 | exact Keeps.load r.held11 | exact Keeps.store r.held11

theorem kept22 : Kept.all c R (r.at (k0_part22 (F := F))) := by
  with_reducible_and_instances repeat refine Kept.value_all fun _ => ?_
  refine Kept.prog_all ?_
  delta Refs.at k0_part22
  with_reducible_and_instances repeat first | exact Keeps.pure _ | refine Keeps.bind ?_ fun _ => ?_ | exact Keeps.load r.held3 | exact Keeps.load r.held4

theorem kept23 : Kept.all c R (r.at (k0_part23 (F := F))) := by
  with_reducible_and_instances repeat refine Kept.value_all fun _ => ?_
  refine Kept.prog_all ?_
  delta Refs.at k0_part23
  with_reducible_and_instances repeat first | exact Keeps.pure _ | refine Keeps.bind ?_ fun _ => ?_ | exact Keeps.load r.held3 | exact Keeps.load r.held4

theorem kept24 : Kept.all c R (r.at (k0_part24 (F := F))) := by
  with_reducible_and_instances repeat refine Kept.value_all fun _ => ?_
  refine Kept.prog_all ?_
  delta Refs.at k0_part24
  with_reducible_and_instances repeat first | exact Keeps.pure _ | refine Keeps.bind ?_ fun _ => ?_ | exact Keeps.load r.held3 | exact Keeps.load r.held4

theorem kept25 : Kept.all c R (r.at (k0_part25 (F := F))) := by
  with_reducible_and_instances repeat refine Kept.value_all fun _ => ?_
  refine Kept.prog_all ?_
  delta Refs.at k0_part25
  with_reducible_and_instances repeat first | exact Keeps.pure _ | refine Keeps.bind ?_ fun _ => ?_ | exact Keeps.load r.held3 | exact Keeps.load r.held4 | exact Keeps.load r.held8 | exact Keeps.load r.held10 | exact Keeps.store r.held10

theorem kept26 : Kept.all c R (r.at (k0_part26 (F := F))) := by
  with_reducible_and_instances repeat refine Kept.value_all fun _ => ?_
  refine Kept.prog_all ?_
  delta Refs.at k0_part26
  with_reducible_and_instances repeat first | exact Keeps.pure _ | refine Keeps.bind ?_ fun _ => ?_ | exact Keeps.load r.held3 | exact Keeps.load r.held4

theorem kept27 : Kept.all c R (r.at (k0_part27 (F := F))) := by
  with_reducible_and_instances repeat refine Kept.value_all fun _ => ?_
  refine Kept.prog_all ?_
  delta Refs.at k0_part27
  with_reducible_and_instances repeat first | exact Keeps.pure _ | refine Keeps.bind ?_ fun _ => ?_ | exact Keeps.load r.held3 | exact Keeps.load r.held4

theorem kept28 : Kept.all c R (r.at (k0_part28 (F := F))) := by
  with_reducible_and_instances repeat refine Kept.value_all fun _ => ?_
  refine Kept.prog_all ?_
  delta Refs.at k0_part28
  with_reducible_and_instances repeat first | exact Keeps.pure _ | refine Keeps.bind ?_ fun _ => ?_ | exact Keeps.load r.held3 | exact Keeps.load r.held4

theorem kept29 : Kept.all c R (r.at (k0_part29 (F := F))) := by
  with_reducible_and_instances repeat refine Kept.value_all fun _ => ?_
  refine Kept.prog_all ?_
  delta Refs.at k0_part29
  with_reducible_and_instances repeat first | exact Keeps.pure _ | refine Keeps.bind ?_ fun _ => ?_ | exact Keeps.load r.held3 | exact Keeps.load r.held4 | exact Keeps.load r.held10 | exact Keeps.store r.held10

theorem kept30 : Kept.all c R (r.at (k0_part30 (F := F))) := by
  with_reducible_and_instances repeat refine Kept.value_all fun _ => ?_
  refine Kept.prog_all ?_
  delta Refs.at k0_part30
  with_reducible_and_instances repeat first | exact Keeps.pure _ | refine Keeps.bind ?_ fun _ => ?_ | exact Keeps.load r.held10

theorem kept31 : Kept.all c R (r.at (k0_part31 (F := F))) := by
  with_reducible_and_instances repeat refine Kept.value_all fun _ => ?_
  refine Kept.prog_all ?_
  delta Refs.at k0_part31
  with_reducible_and_instances repeat first | exact Keeps.pure _ | refine Keeps.bind ?_ fun _ => ?_

theorem kept32 : Kept.all c R (r.at (k0_part32 (F := F))) := by
  with_reducible_and_instances repeat refine Kept.value_all fun _ => ?_
  refine Kept.prog_all ?_
  delta Refs.at k0_part32
  with_reducible_and_instances repeat first | exact Keeps.pure _ | refine Keeps.bind ?_ fun _ => ?_

theorem kept33 : Kept.all c R (r.at (k0_part33 (F := F))) := by
  with_reducible_and_instances repeat refine Kept.value_all fun _ => ?_
  refine Kept.prog_all ?_
  delta Refs.at k0_part33
  with_reducible_and_instances repeat first | exact Keeps.pure _ | refine Keeps.bind ?_ fun _ => ?_

theorem kept34 : Kept.all c R (r.at (k0_part34 (F := F))) := by
  with_reducible_and_instances repeat refine Kept.value_all fun _ => ?_
  refine Kept.prog_all ?_
  delta Refs.at k0_part34
  with_reducible_and_instances repeat first | exact Keeps.pure _ | refine Keeps.bind ?_ fun _ => ?_

theorem kept35 : Kept.all c R (r.at (k0_part35 (F := F))) := by
  with_reducible_and_instances repeat refine Kept.value_all fun _ => ?_
  refine Kept.prog_all ?_
  delta Refs.at k0_part35
  with_reducible_and_instances repeat first | exact Keeps.pure _ | refine Keeps.bind ?_ fun _ => ?_

theorem kept36 : Kept.all c R (r.at (k0_part36 (F := F))) := by
  with_reducible_and_instances repeat refine Kept.value_all fun _ => ?_
  refine Kept.prog_all ?_
  delta Refs.at k0_part36
  with_reducible_and_instances repeat first | exact Keeps.pure _ | refine Keeps.bind ?_ fun _ => ?_

theorem kept37 : Kept.all c R (r.at (k0_part37 (F := F))) := by
  with_reducible_and_instances repeat refine Kept.value_all fun _ => ?_
  refine Kept.prog_all ?_
  delta Refs.at k0_part37
  with_reducible_and_instances repeat first | exact Keeps.pure _ | refine Keeps.bind ?_ fun _ => ?_

theorem kept38 : Kept.all c R (r.at (k0_part38 (F := F))) := by
  with_reducible_and_instances repeat refine Kept.value_all fun _ => ?_
  refine Kept.prog_all ?_
  delta Refs.at k0_part38
  with_reducible_and_instances repeat first | exact Keeps.pure _ | refine Keeps.bind ?_ fun _ => ?_

theorem kept39 : Kept.all c R (r.at (k0_part39 (F := F))) := by
  with_reducible_and_instances repeat refine Kept.value_all fun _ => ?_
  refine Kept.prog_all ?_
  delta Refs.at k0_part39
  with_reducible_and_instances repeat first | exact Keeps.pure _ | refine Keeps.bind ?_ fun _ => ?_

theorem kept40 : Kept.all c R (r.at (k0_part40 (F := F))) := by
  with_reducible_and_instances repeat refine Kept.value_all fun _ => ?_
  refine Kept.prog_all ?_
  delta Refs.at k0_part40
  with_reducible_and_instances repeat first | exact Keeps.pure _ | refine Keeps.bind ?_ fun _ => ?_

theorem kept41 : Kept.all c R (r.at (k0_part41 (F := F))) := by
  with_reducible_and_instances repeat refine Kept.value_all fun _ => ?_
  refine Kept.prog_all ?_
  delta Refs.at k0_part41
  with_reducible_and_instances repeat first | exact Keeps.pure _ | refine Keeps.bind ?_ fun _ => ?_

theorem kept42 : Kept.all c R (r.at (k0_part42 (F := F))) := by
  with_reducible_and_instances repeat refine Kept.value_all fun _ => ?_
  refine Kept.prog_all ?_
  delta Refs.at k0_part42
  with_reducible_and_instances repeat first | exact Keeps.pure _ | refine Keeps.bind ?_ fun _ => ?_

theorem kept43 : Kept.all c R (r.at (k0_part43 (F := F))) := by
  with_reducible_and_instances repeat refine Kept.value_all fun _ => ?_
  refine Kept.prog_all ?_
  delta Refs.at k0_part43
  with_reducible_and_instances repeat first | exact Keeps.pure _ | refine Keeps.bind ?_ fun _ => ?_

theorem kept44 : Kept.all c R (r.at (k0_part44 (F := F))) := by
  with_reducible_and_instances repeat refine Kept.value_all fun _ => ?_
  refine Kept.prog_all ?_
  delta Refs.at k0_part44
  with_reducible_and_instances repeat first | exact Keeps.pure _ | refine Keeps.bind ?_ fun _ => ?_

theorem kept45 : Kept.all c R (r.at (k0_part45 (F := F))) := by
  with_reducible_and_instances repeat refine Kept.value_all fun _ => ?_
  refine Kept.prog_all ?_
  delta Refs.at k0_part45
  with_reducible_and_instances repeat first | exact Keeps.pure _ | refine Keeps.bind ?_ fun _ => ?_

theorem kept46 : Kept.all c R (r.at (k0_part46 (F := F))) := by
  with_reducible_and_instances repeat refine Kept.value_all fun _ => ?_
  refine Kept.prog_all ?_
  delta Refs.at k0_part46
  with_reducible_and_instances repeat first | exact Keeps.pure _ | refine Keeps.bind ?_ fun _ => ?_ | exact Keeps.load r.held11 | exact Keeps.store r.held11

theorem kept47 : Kept.all c R (r.at (k0_part47 (F := F))) := by
  with_reducible_and_instances repeat refine Kept.value_all fun _ => ?_
  refine Kept.prog_all ?_
  delta Refs.at k0_part47
  with_reducible_and_instances repeat first | exact Keeps.pure _ | refine Keeps.bind ?_ fun _ => ?_ | exact Keeps.load r.held11 | exact Keeps.store r.held11

theorem kept48 : Kept.all c R (r.at (k0_part48 (F := F))) := by
  with_reducible_and_instances repeat refine Kept.value_all fun _ => ?_
  refine Kept.prog_all ?_
  delta Refs.at k0_part48
  with_reducible_and_instances repeat first | exact Keeps.pure _ | refine Keeps.bind ?_ fun _ => ?_ | exact Keeps.load r.held11 | exact Keeps.store r.held11

theorem kept49 : Kept.all c R (r.at (k0_part49 (F := F))) := by
  with_reducible_and_instances repeat refine Kept.value_all fun _ => ?_
  refine Kept.prog_all ?_
  delta Refs.at k0_part49
  with_reducible_and_instances repeat first | exact Keeps.pure _ | refine Keeps.bind ?_ fun _ => ?_ | exact Keeps.load r.held11 | exact Keeps.store r.held11

theorem kept50 : Kept.all c R (r.at (k0_part50 (F := F))) := by
  with_reducible_and_instances repeat refine Kept.value_all fun _ => ?_
  refine Kept.prog_all ?_
  delta Refs.at k0_part50
  with_reducible_and_instances repeat first | exact Keeps.pure _ | refine Keeps.bind ?_ fun _ => ?_ | exact Keeps.load r.held3 | exact Keeps.load r.held4 | exact Keeps.load r.held8 | exact Keeps.load r.held11 | exact Keeps.store r.held11

theorem kept51 : Kept.all c R (r.at (k0_part51 (F := F))) := by
  with_reducible_and_instances repeat refine Kept.value_all fun _ => ?_
  refine Kept.prog_all ?_
  delta Refs.at k0_part51
  with_reducible_and_instances repeat first | exact Keeps.pure _ | refine Keeps.bind ?_ fun _ => ?_ | exact Keeps.load r.held3 | exact Keeps.load r.held4

theorem kept52 : Kept.all c R (r.at (k0_part52 (F := F))) := by
  with_reducible_and_instances repeat refine Kept.value_all fun _ => ?_
  refine Kept.prog_all ?_
  delta Refs.at k0_part52
  with_reducible_and_instances repeat first | exact Keeps.pure _ | refine Keeps.bind ?_ fun _ => ?_ | exact Keeps.load r.held3 | exact Keeps.load r.held4

theorem kept53 : Kept.all c R (r.at (k0_part53 (F := F))) := by
  with_reducible_and_instances repeat refine Kept.value_all fun _ => ?_
  refine Kept.prog_all ?_
  delta Refs.at k0_part53
  with_reducible_and_instances repeat first | exact Keeps.pure _ | refine Keeps.bind ?_ fun _ => ?_ | exact Keeps.load r.held3 | exact Keeps.load r.held4

theorem kept54 : Kept.all c R (r.at (k0_part54 (F := F))) := by
  with_reducible_and_instances repeat refine Kept.value_all fun _ => ?_
  refine Kept.prog_all ?_
  delta Refs.at k0_part54
  with_reducible_and_instances repeat first | exact Keeps.pure _ | refine Keeps.bind ?_ fun _ => ?_ | exact Keeps.load r.held3 | exact Keeps.load r.held4 | exact Keeps.load r.held8 | exact Keeps.load r.held10 | exact Keeps.store r.held10

theorem kept55 : Kept.all c R (r.at (k0_part55 (F := F))) := by
  with_reducible_and_instances repeat refine Kept.value_all fun _ => ?_
  refine Kept.prog_all ?_
  delta Refs.at k0_part55
  with_reducible_and_instances repeat first | exact Keeps.pure _ | refine Keeps.bind ?_ fun _ => ?_ | exact Keeps.load r.held3 | exact Keeps.load r.held4

theorem kept56 : Kept.all c R (r.at (k0_part56 (F := F))) := by
  with_reducible_and_instances repeat refine Kept.value_all fun _ => ?_
  refine Kept.prog_all ?_
  delta Refs.at k0_part56
  with_reducible_and_instances repeat first | exact Keeps.pure _ | refine Keeps.bind ?_ fun _ => ?_ | exact Keeps.load r.held3 | exact Keeps.load r.held4

theorem kept57 : Kept.all c R (r.at (k0_part57 (F := F))) := by
  with_reducible_and_instances repeat refine Kept.value_all fun _ => ?_
  refine Kept.prog_all ?_
  delta Refs.at k0_part57
  with_reducible_and_instances repeat first | exact Keeps.pure _ | refine Keeps.bind ?_ fun _ => ?_ | exact Keeps.load r.held3 | exact Keeps.load r.held4

theorem kept59 : Kept.all c R (r.at (k0_part59 (F := F))) := by
  with_reducible_and_instances repeat refine Kept.value_all fun _ => ?_
  refine Kept.prog_all ?_
  delta Refs.at k0_part59
  with_reducible_and_instances repeat first | exact Keeps.pure _ | refine Keeps.bind ?_ fun _ => ?_ | exact Keeps.load r.held10

theorem kept60 : Kept.all c R (r.at (k0_part60 (F := F))) := by
  with_reducible_and_instances repeat refine Kept.value_all fun _ => ?_
  refine Kept.prog_all ?_
  delta Refs.at k0_part60
  with_reducible_and_instances repeat first | exact Keeps.pure _ | refine Keeps.bind ?_ fun _ => ?_

theorem kept61 : Kept.all c R (r.at (k0_part61 (F := F))) := by
  with_reducible_and_instances repeat refine Kept.value_all fun _ => ?_
  refine Kept.prog_all ?_
  delta Refs.at k0_part61
  with_reducible_and_instances repeat first | exact Keeps.pure _ | refine Keeps.bind ?_ fun _ => ?_

theorem kept62 : Kept.all c R (r.at (k0_part62 (F := F))) := by
  with_reducible_and_instances repeat refine Kept.value_all fun _ => ?_
  refine Kept.prog_all ?_
  delta Refs.at k0_part62
  with_reducible_and_instances repeat first | exact Keeps.pure _ | refine Keeps.bind ?_ fun _ => ?_

theorem kept63 : Kept.all c R (r.at (k0_part63 (F := F))) := by
  with_reducible_and_instances repeat refine Kept.value_all fun _ => ?_
  refine Kept.prog_all ?_
  delta Refs.at k0_part63
  with_reducible_and_instances repeat first | exact Keeps.pure _ | refine Keeps.bind ?_ fun _ => ?_

theorem kept64 : Kept.all c R (r.at (k0_part64 (F := F))) := by
  with_reducible_and_instances repeat refine Kept.value_all fun _ => ?_
  refine Kept.prog_all ?_
  delta Refs.at k0_part64
  with_reducible_and_instances repeat first | exact Keeps.pure _ | refine Keeps.bind ?_ fun _ => ?_

theorem kept65 : Kept.all c R (r.at (k0_part65 (F := F))) := by
  with_reducible_and_instances repeat refine Kept.value_all fun _ => ?_
  refine Kept.prog_all ?_
  delta Refs.at k0_part65
  with_reducible_and_instances repeat first | exact Keeps.pure _ | refine Keeps.bind ?_ fun _ => ?_

theorem kept66 : Kept.all c R (r.at (k0_part66 (F := F))) := by
  with_reducible_and_instances repeat refine Kept.value_all fun _ => ?_
  refine Kept.prog_all ?_
  delta Refs.at k0_part66
  with_reducible_and_instances repeat first | exact Keeps.pure _ | refine Keeps.bind ?_ fun _ => ?_

theorem kept67 : Kept.all c R (r.at (k0_part67 (F := F))) := by
  with_reducible_and_instances repeat refine Kept.value_all fun _ => ?_
  refine Kept.prog_all ?_
  delta Refs.at k0_part67
  with_reducible_and_instances repeat first | exact Keeps.pure _ | refine Keeps.bind ?_ fun _ => ?_

theorem kept68 : Kept.all c R (r.at (k0_part68 (F := F))) := by
  with_reducible_and_instances repeat refine Kept.value_all fun _ => ?_
  refine Kept.prog_all ?_
  delta Refs.at k0_part68
  with_reducible_and_instances repeat first | exact Keeps.pure _ | refine Keeps.bind ?_ fun _ => ?_

theorem kept69 : Kept.all c R (r.at (k0_part69 (F := F))) := by
  with_reducible_and_instances repeat refine Kept.value_all fun _ => ?_
  refine Kept.prog_all ?_
  delta Refs.at k0_part69
  with_reducible_and_instances repeat first | exact Keeps.pure _ | refine Keeps.bind ?_ fun _ => ?_

theorem kept70 : Kept.all c R (r.at (k0_part70 (F := F))) := by
  with_reducible_and_instances repeat refine Kept.value_all fun _ => ?_
  refine Kept.prog_all ?_
  delta Refs.at k0_part70
  with_reducible_and_instances repeat first | exact Keeps.pure _ | refine Keeps.bind ?_ fun _ => ?_

theorem kept71 : Kept.all c R (r.at (k0_part71 (F := F))) := by
  with_reducible_and_instances repeat refine Kept.value_all fun _ => ?_
  refine Kept.prog_all ?_
  delta Refs.at k0_part71
  with_reducible_and_instances repeat first | exact Keeps.pure _ | refine Keeps.bind ?_ fun _ => ?_

theorem kept72 : Kept.all c R (r.at (k0_part72 (F := F))) := by
  with_reducible_and_instances repeat refine Kept.value_all fun _ => ?_
  refine Kept.prog_all ?_
  delta Refs.at k0_part72
  with_reducible_and_instances repeat first | exact Keeps.pure _ | refine Keeps.bind ?_ fun _ => ?_

theorem kept73 : Kept.all c R (r.at (k0_part73 (F := F))) := by
  with_reducible_and_instances repeat refine Kept.value_all fun _ => ?_
  refine Kept.prog_all ?_
  delta Refs.at k0_part73
  with_reducible_and_instances repeat first | exact Keeps.pure _ | refine Keeps.bind ?_ fun _ => ?_

theorem kept74 : Kept.all c R (r.at (k0_part74 (F := F))) := by
  with_reducible_and_instances repeat refine Kept.value_all fun _ => ?_
  refine Kept.prog_all ?_
  delta Refs.at k0_part74
  with_reducible_and_instances repeat first | exact Keeps.pure _ | refine Keeps.bind ?_ fun _ => ?_

theorem kept75 : Kept.all c R (r.at (k0_part75 (F := F))) := by
  with_reducible_and_instances repeat refine Kept.value_all fun _ => ?_
  refine Kept.prog_all ?_
  delta Refs.at k0_part75
  with_reducible_and_instances repeat first | exact Keeps.pure _ | refine Keeps.bind ?_ fun _ => ?_ | exact Keeps.load r.held11

theorem kept76 : Kept.all c R (r.at (k0_part76 (F := F))) := by
  with_reducible_and_instances repeat refine Kept.value_all fun _ => ?_
  refine Kept.prog_all ?_
  delta Refs.at k0_part76
  with_reducible_and_instances repeat first | exact Keeps.pure _ | refine Keeps.bind ?_ fun _ => ?_ | exact Keeps.load r.held11 | exact Keeps.store r.held11

theorem kept77 : Kept.all c R (r.at (k0_part77 (F := F))) := by
  with_reducible_and_instances repeat refine Kept.value_all fun _ => ?_
  refine Kept.prog_all ?_
  delta Refs.at k0_part77
  with_reducible_and_instances repeat first | exact Keeps.pure _ | refine Keeps.bind ?_ fun _ => ?_ | exact Keeps.load r.held11 | exact Keeps.store r.held11

theorem kept78 : Kept.all c R (r.at (k0_part78 (F := F))) := by
  with_reducible_and_instances repeat refine Kept.value_all fun _ => ?_
  refine Kept.prog_all ?_
  delta Refs.at k0_part78
  with_reducible_and_instances repeat first | exact Keeps.pure _ | refine Keeps.bind ?_ fun _ => ?_ | exact Keeps.load r.held11 | exact Keeps.store r.held11

theorem kept79 : Kept.all c R (r.at (k0_part79 (F := F))) := by
  with_reducible_and_instances repeat refine Kept.value_all fun _ => ?_
  refine Kept.prog_all ?_
  delta Refs.at k0_part79
  with_reducible_and_instances repeat first | exact Keeps.pure _ | refine Keeps.bind ?_ fun _ => ?_ | exact Keeps.load r.held3 | exact Keeps.load r.held8 | exact Keeps.load r.held11 | exact Keeps.store r.held11

theorem kept80 : Kept.all c R (r.at (k0_part80 (F := F))) := by
  with_reducible_and_instances repeat refine Kept.value_all fun _ => ?_
  refine Kept.prog_all ?_
  delta Refs.at k0_part80
  with_reducible_and_instances repeat first | exact Keeps.pure _ | refine Keeps.bind ?_ fun _ => ?_ | exact Keeps.load r.held3 | exact Keeps.load r.held4

end Cert.Proof.Attention

end
-- ==== Proof.Leaf2.lean ====
/- The parts of the body that call no other part, each gone through by its shape: every statement keeps what it is given. -/
module

public import proofs.«01_k».proof.Proof.Keeps

@[expose] public section

set_option maxRecDepth 16384
set_option synthInstance.maxSize 4096
set_option maxHeartbeats 1000000

noncomputable section

namespace Cert.Proof.Attention

open Cert.Kernel
open Idealize.ShloMosaic Idealize.SL Idealize.SL.RA Idealize.SL.BI Idealize.SL.Sem

variable {F : FTy → Type} [BitOps F] [Cert.Kernel.Facts]
  {c : Dev nD} {R : sProp (MT nD τ sig Unit (Elt F) ℕ (UR sig nD τ) ℕ)} (r : Refs c R)

theorem kept81 : Kept.all c R (r.at (k0_part81 (F := F))) := by
  with_reducible_and_instances repeat refine Kept.value_all fun _ => ?_
  refine Kept.prog_all ?_
  delta Refs.at k0_part81
  with_reducible_and_instances repeat first | exact Keeps.pure _ | refine Keeps.bind ?_ fun _ => ?_ | exact Keeps.load r.held3 | exact Keeps.load r.held4

theorem kept82 : Kept.all c R (r.at (k0_part82 (F := F))) := by
  with_reducible_and_instances repeat refine Kept.value_all fun _ => ?_
  refine Kept.prog_all ?_
  delta Refs.at k0_part82
  with_reducible_and_instances repeat first | exact Keeps.pure _ | refine Keeps.bind ?_ fun _ => ?_ | exact Keeps.load r.held3 | exact Keeps.load r.held4

theorem kept83 : Kept.all c R (r.at (k0_part83 (F := F))) := by
  with_reducible_and_instances repeat refine Kept.value_all fun _ => ?_
  refine Kept.prog_all ?_
  delta Refs.at k0_part83
  with_reducible_and_instances repeat first | exact Keeps.pure _ | refine Keeps.bind ?_ fun _ => ?_ | exact Keeps.load r.held3 | exact Keeps.load r.held4 | exact Keeps.load r.held8 | exact Keeps.load r.held10 | exact Keeps.store r.held10

theorem kept84 : Kept.all c R (r.at (k0_part84 (F := F))) := by
  with_reducible_and_instances repeat refine Kept.value_all fun _ => ?_
  refine Kept.prog_all ?_
  delta Refs.at k0_part84
  with_reducible_and_instances repeat first | exact Keeps.pure _ | refine Keeps.bind ?_ fun _ => ?_ | exact Keeps.load r.held3 | exact Keeps.load r.held4

theorem kept85 : Kept.all c R (r.at (k0_part85 (F := F))) := by
  with_reducible_and_instances repeat refine Kept.value_all fun _ => ?_
  refine Kept.prog_all ?_
  delta Refs.at k0_part85
  with_reducible_and_instances repeat first | exact Keeps.pure _ | refine Keeps.bind ?_ fun _ => ?_ | exact Keeps.load r.held3 | exact Keeps.load r.held4

theorem kept86 : Kept.all c R (r.at (k0_part86 (F := F))) := by
  with_reducible_and_instances repeat refine Kept.value_all fun _ => ?_
  refine Kept.prog_all ?_
  delta Refs.at k0_part86
  with_reducible_and_instances repeat first | exact Keeps.pure _ | refine Keeps.bind ?_ fun _ => ?_ | exact Keeps.load r.held3 | exact Keeps.load r.held4

theorem kept87 : Kept.all c R (r.at (k0_part87 (F := F))) := by
  with_reducible_and_instances repeat refine Kept.value_all fun _ => ?_
  refine Kept.prog_all ?_
  delta Refs.at k0_part87
  with_reducible_and_instances repeat first | exact Keeps.pure _ | refine Keeps.bind ?_ fun _ => ?_ | exact Keeps.load r.held3 | exact Keeps.load r.held4 | exact Keeps.load r.held10 | exact Keeps.store r.held10

theorem kept88 : Kept.all c R (r.at (k0_part88 (F := F))) := by
  with_reducible_and_instances repeat refine Kept.value_all fun _ => ?_
  refine Kept.prog_all ?_
  delta Refs.at k0_part88
  with_reducible_and_instances repeat first | exact Keeps.pure _ | refine Keeps.bind ?_ fun _ => ?_ | exact Keeps.load r.held10

theorem kept89 : Kept.all c R (r.at (k0_part89 (F := F))) := by
  with_reducible_and_instances repeat refine Kept.value_all fun _ => ?_
  refine Kept.prog_all ?_
  delta Refs.at k0_part89
  with_reducible_and_instances repeat first | exact Keeps.pure _ | refine Keeps.bind ?_ fun _ => ?_

theorem kept90 : Kept.all c R (r.at (k0_part90 (F := F))) := by
  with_reducible_and_instances repeat refine Kept.value_all fun _ => ?_
  refine Kept.prog_all ?_
  delta Refs.at k0_part90
  with_reducible_and_instances repeat first | exact Keeps.pure _ | refine Keeps.bind ?_ fun _ => ?_

theorem kept91 : Kept.all c R (r.at (k0_part91 (F := F))) := by
  with_reducible_and_instances repeat refine Kept.value_all fun _ => ?_
  refine Kept.prog_all ?_
  delta Refs.at k0_part91
  with_reducible_and_instances repeat first | exact Keeps.pure _ | refine Keeps.bind ?_ fun _ => ?_

theorem kept92 : Kept.all c R (r.at (k0_part92 (F := F))) := by
  with_reducible_and_instances repeat refine Kept.value_all fun _ => ?_
  refine Kept.prog_all ?_
  delta Refs.at k0_part92
  with_reducible_and_instances repeat first | exact Keeps.pure _ | refine Keeps.bind ?_ fun _ => ?_

theorem kept93 : Kept.all c R (r.at (k0_part93 (F := F))) := by
  with_reducible_and_instances repeat refine Kept.value_all fun _ => ?_
  refine Kept.prog_all ?_
  delta Refs.at k0_part93
  with_reducible_and_instances repeat first | exact Keeps.pure _ | refine Keeps.bind ?_ fun _ => ?_

theorem kept94 : Kept.all c R (r.at (k0_part94 (F := F))) := by
  with_reducible_and_instances repeat refine Kept.value_all fun _ => ?_
  refine Kept.prog_all ?_
  delta Refs.at k0_part94
  with_reducible_and_instances repeat first | exact Keeps.pure _ | refine Keeps.bind ?_ fun _ => ?_

theorem kept95 : Kept.all c R (r.at (k0_part95 (F := F))) := by
  with_reducible_and_instances repeat refine Kept.value_all fun _ => ?_
  refine Kept.prog_all ?_
  delta Refs.at k0_part95
  with_reducible_and_instances repeat first | exact Keeps.pure _ | refine Keeps.bind ?_ fun _ => ?_

theorem kept96 : Kept.all c R (r.at (k0_part96 (F := F))) := by
  with_reducible_and_instances repeat refine Kept.value_all fun _ => ?_
  refine Kept.prog_all ?_
  delta Refs.at k0_part96
  with_reducible_and_instances repeat first | exact Keeps.pure _ | refine Keeps.bind ?_ fun _ => ?_

theorem kept97 : Kept.all c R (r.at (k0_part97 (F := F))) := by
  with_reducible_and_instances repeat refine Kept.value_all fun _ => ?_
  refine Kept.prog_all ?_
  delta Refs.at k0_part97
  with_reducible_and_instances repeat first | exact Keeps.pure _ | refine Keeps.bind ?_ fun _ => ?_

theorem kept98 : Kept.all c R (r.at (k0_part98 (F := F))) := by
  with_reducible_and_instances repeat refine Kept.value_all fun _ => ?_
  refine Kept.prog_all ?_
  delta Refs.at k0_part98
  with_reducible_and_instances repeat first | exact Keeps.pure _ | refine Keeps.bind ?_ fun _ => ?_

theorem kept99 : Kept.all c R (r.at (k0_part99 (F := F))) := by
  with_reducible_and_instances repeat refine Kept.value_all fun _ => ?_
  refine Kept.prog_all ?_
  delta Refs.at k0_part99
  with_reducible_and_instances repeat first | exact Keeps.pure _ | refine Keeps.bind ?_ fun _ => ?_

theorem kept100 : Kept.all c R (r.at (k0_part100 (F := F))) := by
  with_reducible_and_instances repeat refine Kept.value_all fun _ => ?_
  refine Kept.prog_all ?_
  delta Refs.at k0_part100
  with_reducible_and_instances repeat first | exact Keeps.pure _ | refine Keeps.bind ?_ fun _ => ?_

theorem kept101 : Kept.all c R (r.at (k0_part101 (F := F))) := by
  with_reducible_and_instances repeat refine Kept.value_all fun _ => ?_
  refine Kept.prog_all ?_
  delta Refs.at k0_part101
  with_reducible_and_instances repeat first | exact Keeps.pure _ | refine Keeps.bind ?_ fun _ => ?_

theorem kept102 : Kept.all c R (r.at (k0_part102 (F := F))) := by
  with_reducible_and_instances repeat refine Kept.value_all fun _ => ?_
  refine Kept.prog_all ?_
  delta Refs.at k0_part102
  with_reducible_and_instances repeat first | exact Keeps.pure _ | refine Keeps.bind ?_ fun _ => ?_

theorem kept103 : Kept.all c R (r.at (k0_part103 (F := F))) := by
  with_reducible_and_instances repeat refine Kept.value_all fun _ => ?_
  refine Kept.prog_all ?_
  delta Refs.at k0_part103
  with_reducible_and_instances repeat first | exact Keeps.pure _ | refine Keeps.bind ?_ fun _ => ?_

theorem kept104 : Kept.all c R (r.at (k0_part104 (F := F))) := by
  with_reducible_and_instances repeat refine Kept.value_all fun _ => ?_
  refine Kept.prog_all ?_
  delta Refs.at k0_part104
  with_reducible_and_instances repeat first | exact Keeps.pure _ | refine Keeps.bind ?_ fun _ => ?_ | exact Keeps.load r.held11 | exact Keeps.store r.held11

theorem kept105 : Kept.all c R (r.at (k0_part105 (F := F))) := by
  with_reducible_and_instances repeat refine Kept.value_all fun _ => ?_
  refine Kept.prog_all ?_
  delta Refs.at k0_part105
  with_reducible_and_instances repeat first | exact Keeps.pure _ | refine Keeps.bind ?_ fun _ => ?_ | exact Keeps.load r.held11 | exact Keeps.store r.held11

theorem kept106 : Kept.all c R (r.at (k0_part106 (F := F))) := by
  with_reducible_and_instances repeat refine Kept.value_all fun _ => ?_
  refine Kept.prog_all ?_
  delta Refs.at k0_part106
  with_reducible_and_instances repeat first | exact Keeps.pure _ | refine Keeps.bind ?_ fun _ => ?_ | exact Keeps.load r.held11 | exact Keeps.store r.held11

theorem kept107 : Kept.all c R (r.at (k0_part107 (F := F))) := by
  with_reducible_and_instances repeat refine Kept.value_all fun _ => ?_
  refine Kept.prog_all ?_
  delta Refs.at k0_part107
  with_reducible_and_instances repeat first | exact Keeps.pure _ | refine Keeps.bind ?_ fun _ => ?_ | exact Keeps.load r.held11 | exact Keeps.store r.held11

theorem kept108 : Kept.all c R (r.at (k0_part108 (F := F))) := by
  with_reducible_and_instances repeat refine Kept.value_all fun _ => ?_
  refine Kept.prog_all ?_
  delta Refs.at k0_part108
  with_reducible_and_instances repeat first | exact Keeps.pure _ | refine Keeps.bind ?_ fun _ => ?_ | exact Keeps.load r.held3 | exact Keeps.load r.held4 | exact Keeps.load r.held8 | exact Keeps.load r.held11 | exact Keeps.store r.held11

theorem kept109 : Kept.all c R (r.at (k0_part109 (F := F))) := by
  with_reducible_and_instances repeat refine Kept.value_all fun _ => ?_
  refine Kept.prog_all ?_
  delta Refs.at k0_part109
  with_reducible_and_instances repeat first | exact Keeps.pure _ | refine Keeps.bind ?_ fun _ => ?_ | exact Keeps.load r.held3 | exact Keeps.load r.held4

theorem kept110 : Kept.all c R (r.at (k0_part110 (F := F))) := by
  with_reducible_and_instances repeat refine Kept.value_all fun _ => ?_
  refine Kept.prog_all ?_
  delta Refs.at k0_part110
  with_reducible_and_instances repeat first | exact Keeps.pure _ | refine Keeps.bind ?_ fun _ => ?_ | exact Keeps.load r.held3 | exact Keeps.load r.held4

theorem kept111 : Kept.all c R (r.at (k0_part111 (F := F))) := by
  with_reducible_and_instances repeat refine Kept.value_all fun _ => ?_
  refine Kept.prog_all ?_
  delta Refs.at k0_part111
  with_reducible_and_instances repeat first | exact Keeps.pure _ | refine Keeps.bind ?_ fun _ => ?_ | exact Keeps.load r.held3 | exact Keeps.load r.held4

theorem kept112 : Kept.all c R (r.at (k0_part112 (F := F))) := by
  with_reducible_and_instances repeat refine Kept.value_all fun _ => ?_
  refine Kept.prog_all ?_
  delta Refs.at k0_part112
  with_reducible_and_instances repeat first | exact Keeps.pure _ | refine Keeps.bind ?_ fun _ => ?_ | exact Keeps.load r.held3 | exact Keeps.load r.held4 | exact Keeps.load r.held8 | exact Keeps.load r.held10 | exact Keeps.store r.held10

theorem kept113 : Kept.all c R (r.at (k0_part113 (F := F))) := by
  with_reducible_and_instances repeat refine Kept.value_all fun _ => ?_
  refine Kept.prog_all ?_
  delta Refs.at k0_part113
  with_reducible_and_instances repeat first | exact Keeps.pure _ | refine Keeps.bind ?_ fun _ => ?_ | exact Keeps.load r.held3 | exact Keeps.load r.held4

theorem kept114 : Kept.all c R (r.at (k0_part114 (F := F))) := by
  with_reducible_and_instances repeat refine Kept.value_all fun _ => ?_
  refine Kept.prog_all ?_
  delta Refs.at k0_part114
  with_reducible_and_instances repeat first | exact Keeps.pure _ | refine Keeps.bind ?_ fun _ => ?_ | exact Keeps.load r.held3 | exact Keeps.load r.held4

theorem kept115 : Kept.all c R (r.at (k0_part115 (F := F))) := by
  with_reducible_and_instances repeat refine Kept.value_all fun _ => ?_
  refine Kept.prog_all ?_
  delta Refs.at k0_part115
  with_reducible_and_instances repeat first | exact Keeps.pure _ | refine Keeps.bind ?_ fun _ => ?_ | exact Keeps.load r.held3 | exact Keeps.load r.held4

theorem kept117 : Kept.all c R (r.at (k0_part117 (F := F))) := by
  with_reducible_and_instances repeat refine Kept.value_all fun _ => ?_
  refine Kept.prog_all ?_
  delta Refs.at k0_part117
  with_reducible_and_instances repeat first | exact Keeps.pure _ | refine Keeps.bind ?_ fun _ => ?_ | exact Keeps.load r.held10

theorem kept118 : Kept.all c R (r.at (k0_part118 (F := F))) := by
  with_reducible_and_instances repeat refine Kept.value_all fun _ => ?_
  refine Kept.prog_all ?_
  delta Refs.at k0_part118
  with_reducible_and_instances repeat first | exact Keeps.pure _ | refine Keeps.bind ?_ fun _ => ?_

theorem kept119 : Kept.all c R (r.at (k0_part119 (F := F))) := by
  with_reducible_and_instances repeat refine Kept.value_all fun _ => ?_
  refine Kept.prog_all ?_
  delta Refs.at k0_part119
  with_reducible_and_instances repeat first | exact Keeps.pure _ | refine Keeps.bind ?_ fun _ => ?_

theorem kept120 : Kept.all c R (r.at (k0_part120 (F := F))) := by
  with_reducible_and_instances repeat refine Kept.value_all fun _ => ?_
  refine Kept.prog_all ?_
  delta Refs.at k0_part120
  with_reducible_and_instances repeat first | exact Keeps.pure _ | refine Keeps.bind ?_ fun _ => ?_

theorem kept121 : Kept.all c R (r.at (k0_part121 (F := F))) := by
  with_reducible_and_instances repeat refine Kept.value_all fun _ => ?_
  refine Kept.prog_all ?_
  delta Refs.at k0_part121
  with_reducible_and_instances repeat first | exact Keeps.pure _ | refine Keeps.bind ?_ fun _ => ?_

theorem kept122 : Kept.all c R (r.at (k0_part122 (F := F))) := by
  with_reducible_and_instances repeat refine Kept.value_all fun _ => ?_
  refine Kept.prog_all ?_
  delta Refs.at k0_part122
  with_reducible_and_instances repeat first | exact Keeps.pure _ | refine Keeps.bind ?_ fun _ => ?_

theorem kept123 : Kept.all c R (r.at (k0_part123 (F := F))) := by
  with_reducible_and_instances repeat refine Kept.value_all fun _ => ?_
  refine Kept.prog_all ?_
  delta Refs.at k0_part123
  with_reducible_and_instances repeat first | exact Keeps.pure _ | refine Keeps.bind ?_ fun _ => ?_

theorem kept124 : Kept.all c R (r.at (k0_part124 (F := F))) := by
  with_reducible_and_instances repeat refine Kept.value_all fun _ => ?_
  refine Kept.prog_all ?_
  delta Refs.at k0_part124
  with_reducible_and_instances repeat first | exact Keeps.pure _ | refine Keeps.bind ?_ fun _ => ?_

theorem kept125 : Kept.all c R (r.at (k0_part125 (F := F))) := by
  with_reducible_and_instances repeat refine Kept.value_all fun _ => ?_
  refine Kept.prog_all ?_
  delta Refs.at k0_part125
  with_reducible_and_instances repeat first | exact Keeps.pure _ | refine Keeps.bind ?_ fun _ => ?_

theorem kept126 : Kept.all c R (r.at (k0_part126 (F := F))) := by
  with_reducible_and_instances repeat refine Kept.value_all fun _ => ?_
  refine Kept.prog_all ?_
  delta Refs.at k0_part126
  with_reducible_and_instances repeat first | exact Keeps.pure _ | refine Keeps.bind ?_ fun _ => ?_

theorem kept127 : Kept.all c R (r.at (k0_part127 (F := F))) := by
  with_reducible_and_instances repeat refine Kept.value_all fun _ => ?_
  refine Kept.prog_all ?_
  delta Refs.at k0_part127
  with_reducible_and_instances repeat first | exact Keeps.pure _ | refine Keeps.bind ?_ fun _ => ?_

theorem kept128 : Kept.all c R (r.at (k0_part128 (F := F))) := by
  with_reducible_and_instances repeat refine Kept.value_all fun _ => ?_
  refine Kept.prog_all ?_
  delta Refs.at k0_part128
  with_reducible_and_instances repeat first | exact Keeps.pure _ | refine Keeps.bind ?_ fun _ => ?_

theorem kept129 : Kept.all c R (r.at (k0_part129 (F := F))) := by
  with_reducible_and_instances repeat refine Kept.value_all fun _ => ?_
  refine Kept.prog_all ?_
  delta Refs.at k0_part129
  with_reducible_and_instances repeat first | exact Keeps.pure _ | refine Keeps.bind ?_ fun _ => ?_

theorem kept130 : Kept.all c R (r.at (k0_part130 (F := F))) := by
  with_reducible_and_instances repeat refine Kept.value_all fun _ => ?_
  refine Kept.prog_all ?_
  delta Refs.at k0_part130
  with_reducible_and_instances repeat first | exact Keeps.pure _ | refine Keeps.bind ?_ fun _ => ?_

theorem kept131 : Kept.all c R (r.at (k0_part131 (F := F))) := by
  with_reducible_and_instances repeat refine Kept.value_all fun _ => ?_
  refine Kept.prog_all ?_
  delta Refs.at k0_part131
  with_reducible_and_instances repeat first | exact Keeps.pure _ | refine Keeps.bind ?_ fun _ => ?_

theorem kept132 : Kept.all c R (r.at (k0_part132 (F := F))) := by
  with_reducible_and_instances repeat refine Kept.value_all fun _ => ?_
  refine Kept.prog_all ?_
  delta Refs.at k0_part132
  with_reducible_and_instances repeat first | exact Keeps.pure _ | refine Keeps.bind ?_ fun _ => ?_

theorem kept133 : Kept.all c R (r.at (k0_part133 (F := F))) := by
  with_reducible_and_instances repeat refine Kept.value_all fun _ => ?_
  refine Kept.prog_all ?_
  delta Refs.at k0_part133
  with_reducible_and_instances repeat first | exact Keeps.pure _ | refine Keeps.bind ?_ fun _ => ?_ | exact Keeps.load r.held11 | exact Keeps.store r.held11

theorem kept134 : Kept.all c R (r.at (k0_part134 (F := F))) := by
  with_reducible_and_instances repeat refine Kept.value_all fun _ => ?_
  refine Kept.prog_all ?_
  delta Refs.at k0_part134
  with_reducible_and_instances repeat first | exact Keeps.pure _ | refine Keeps.bind ?_ fun _ => ?_ | exact Keeps.load r.held11 | exact Keeps.store r.held11

theorem kept135 : Kept.all c R (r.at (k0_part135 (F := F))) := by
  with_reducible_and_instances repeat refine Kept.value_all fun _ => ?_
  refine Kept.prog_all ?_
  delta Refs.at k0_part135
  with_reducible_and_instances repeat first | exact Keeps.pure _ | refine Keeps.bind ?_ fun _ => ?_ | exact Keeps.load r.held11 | exact Keeps.store r.held11

theorem kept136 : Kept.all c R (r.at (k0_part136 (F := F))) := by
  with_reducible_and_instances repeat refine Kept.value_all fun _ => ?_
  refine Kept.prog_all ?_
  delta Refs.at k0_part136
  with_reducible_and_instances repeat first | exact Keeps.pure _ | refine Keeps.bind ?_ fun _ => ?_ | exact Keeps.load r.held11 | exact Keeps.store r.held11

theorem kept137 : Kept.all c R (r.at (k0_part137 (F := F))) := by
  with_reducible_and_instances repeat refine Kept.value_all fun _ => ?_
  refine Kept.prog_all ?_
  delta Refs.at k0_part137
  with_reducible_and_instances repeat first | exact Keeps.pure _ | refine Keeps.bind ?_ fun _ => ?_ | exact Keeps.load r.held3 | exact Keeps.load r.held4 | exact Keeps.load r.held8 | exact Keeps.load r.held11 | exact Keeps.store r.held11

theorem kept138 : Kept.all c R (r.at (k0_part138 (F := F))) := by
  with_reducible_and_instances repeat refine Kept.value_all fun _ => ?_
  refine Kept.prog_all ?_
  delta Refs.at k0_part138
  with_reducible_and_instances repeat first | exact Keeps.pure _ | refine Keeps.bind ?_ fun _ => ?_ | exact Keeps.load r.held3 | exact Keeps.load r.held4

theorem kept139 : Kept.all c R (r.at (k0_part139 (F := F))) := by
  with_reducible_and_instances repeat refine Kept.value_all fun _ => ?_
  refine Kept.prog_all ?_
  delta Refs.at k0_part139
  with_reducible_and_instances repeat first | exact Keeps.pure _ | refine Keeps.bind ?_ fun _ => ?_ | exact Keeps.load r.held3 | exact Keeps.load r.held4

theorem kept140 : Kept.all c R (r.at (k0_part140 (F := F))) := by
  with_reducible_and_instances repeat refine Kept.value_all fun _ => ?_
  refine Kept.prog_all ?_
  delta Refs.at k0_part140
  with_reducible_and_instances repeat first | exact Keeps.pure _ | refine Keeps.bind ?_ fun _ => ?_ | exact Keeps.load r.held3 | exact Keeps.load r.held4

theorem kept141 : Kept.all c R (r.at (k0_part141 (F := F))) := by
  with_reducible_and_instances repeat refine Kept.value_all fun _ => ?_
  refine Kept.prog_all ?_
  delta Refs.at k0_part141
  with_reducible_and_instances repeat first | exact Keeps.pure _ | refine Keeps.bind ?_ fun _ => ?_ | exact Keeps.load r.held3 | exact Keeps.load r.held4 | exact Keeps.load r.held8 | exact Keeps.load r.held10 | exact Keeps.store r.held10

theorem kept142 : Kept.all c R (r.at (k0_part142 (F := F))) := by
  with_reducible_and_instances repeat refine Kept.value_all fun _ => ?_
  refine Kept.prog_all ?_
  delta Refs.at k0_part142
  with_reducible_and_instances repeat first | exact Keeps.pure _ | refine Keeps.bind ?_ fun _ => ?_ | exact Keeps.load r.held3 | exact Keeps.load r.held4

theorem kept143 : Kept.all c R (r.at (k0_part143 (F := F))) := by
  with_reducible_and_instances repeat refine Kept.value_all fun _ => ?_
  refine Kept.prog_all ?_
  delta Refs.at k0_part143
  with_reducible_and_instances repeat first | exact Keeps.pure _ | refine Keeps.bind ?_ fun _ => ?_ | exact Keeps.load r.held3 | exact Keeps.load r.held4

theorem kept144 : Kept.all c R (r.at (k0_part144 (F := F))) := by
  with_reducible_and_instances repeat refine Kept.value_all fun _ => ?_
  refine Kept.prog_all ?_
  delta Refs.at k0_part144
  with_reducible_and_instances repeat first | exact Keeps.pure _ | refine Keeps.bind ?_ fun _ => ?_ | exact Keeps.load r.held3 | exact Keeps.load r.held4

theorem kept146 : Kept.all c R (r.at (k0_part146 (F := F))) := by
  with_reducible_and_instances repeat refine Kept.value_all fun _ => ?_
  refine Kept.prog_all ?_
  delta Refs.at k0_part146
  with_reducible_and_instances repeat first | exact Keeps.pure _ | refine Keeps.bind ?_ fun _ => ?_ | exact Keeps.load r.held10

theorem kept147 : Kept.all c R (r.at (k0_part147 (F := F))) := by
  with_reducible_and_instances repeat refine Kept.value_all fun _ => ?_
  refine Kept.prog_all ?_
  delta Refs.at k0_part147
  with_reducible_and_instances repeat first | exact Keeps.pure _ | refine Keeps.bind ?_ fun _ => ?_

theorem kept148 : Kept.all c R (r.at (k0_part148 (F := F))) := by
  with_reducible_and_instances repeat refine Kept.value_all fun _ => ?_
  refine Kept.prog_all ?_
  delta Refs.at k0_part148
  with_reducible_and_instances repeat first | exact Keeps.pure _ | refine Keeps.bind ?_ fun _ => ?_

theorem kept149 : Kept.all c R (r.at (k0_part149 (F := F))) := by
  with_reducible_and_instances repeat refine Kept.value_all fun _ => ?_
  refine Kept.prog_all ?_
  delta Refs.at k0_part149
  with_reducible_and_instances repeat first | exact Keeps.pure _ | refine Keeps.bind ?_ fun _ => ?_

theorem kept150 : Kept.all c R (r.at (k0_part150 (F := F))) := by
  with_reducible_and_instances repeat refine Kept.value_all fun _ => ?_
  refine Kept.prog_all ?_
  delta Refs.at k0_part150
  with_reducible_and_instances repeat first | exact Keeps.pure _ | refine Keeps.bind ?_ fun _ => ?_

theorem kept151 : Kept.all c R (r.at (k0_part151 (F := F))) := by
  with_reducible_and_instances repeat refine Kept.value_all fun _ => ?_
  refine Kept.prog_all ?_
  delta Refs.at k0_part151
  with_reducible_and_instances repeat first | exact Keeps.pure _ | refine Keeps.bind ?_ fun _ => ?_

theorem kept152 : Kept.all c R (r.at (k0_part152 (F := F))) := by
  with_reducible_and_instances repeat refine Kept.value_all fun _ => ?_
  refine Kept.prog_all ?_
  delta Refs.at k0_part152
  with_reducible_and_instances repeat first | exact Keeps.pure _ | refine Keeps.bind ?_ fun _ => ?_

theorem kept153 : Kept.all c R (r.at (k0_part153 (F := F))) := by
  with_reducible_and_instances repeat refine Kept.value_all fun _ => ?_
  refine Kept.prog_all ?_
  delta Refs.at k0_part153
  with_reducible_and_instances repeat first | exact Keeps.pure _ | refine Keeps.bind ?_ fun _ => ?_

theorem kept154 : Kept.all c R (r.at (k0_part154 (F := F))) := by
  with_reducible_and_instances repeat refine Kept.value_all fun _ => ?_
  refine Kept.prog_all ?_
  delta Refs.at k0_part154
  with_reducible_and_instances repeat first | exact Keeps.pure _ | refine Keeps.bind ?_ fun _ => ?_

theorem kept155 : Kept.all c R (r.at (k0_part155 (F := F))) := by
  with_reducible_and_instances repeat refine Kept.value_all fun _ => ?_
  refine Kept.prog_all ?_
  delta Refs.at k0_part155
  with_reducible_and_instances repeat first | exact Keeps.pure _ | refine Keeps.bind ?_ fun _ => ?_

theorem kept156 : Kept.all c R (r.at (k0_part156 (F := F))) := by
  with_reducible_and_instances repeat refine Kept.value_all fun _ => ?_
  refine Kept.prog_all ?_
  delta Refs.at k0_part156
  with_reducible_and_instances repeat first | exact Keeps.pure _ | refine Keeps.bind ?_ fun _ => ?_

theorem kept157 : Kept.all c R (r.at (k0_part157 (F := F))) := by
  with_reducible_and_instances repeat refine Kept.value_all fun _ => ?_
  refine Kept.prog_all ?_
  delta Refs.at k0_part157
  with_reducible_and_instances repeat first | exact Keeps.pure _ | refine Keeps.bind ?_ fun _ => ?_

theorem kept158 : Kept.all c R (r.at (k0_part158 (F := F))) := by
  with_reducible_and_instances repeat refine Kept.value_all fun _ => ?_
  refine Kept.prog_all ?_
  delta Refs.at k0_part158
  with_reducible_and_instances repeat first | exact Keeps.pure _ | refine Keeps.bind ?_ fun _ => ?_

theorem kept159 : Kept.all c R (r.at (k0_part159 (F := F))) := by
  with_reducible_and_instances repeat refine Kept.value_all fun _ => ?_
  refine Kept.prog_all ?_
  delta Refs.at k0_part159
  with_reducible_and_instances repeat first | exact Keeps.pure _ | refine Keeps.bind ?_ fun _ => ?_

theorem kept160 : Kept.all c R (r.at (k0_part160 (F := F))) := by
  with_reducible_and_instances repeat refine Kept.value_all fun _ => ?_
  refine Kept.prog_all ?_
  delta Refs.at k0_part160
  with_reducible_and_instances repeat first | exact Keeps.pure _ | refine Keeps.bind ?_ fun _ => ?_

theorem kept161 : Kept.all c R (r.at (k0_part161 (F := F))) := by
  with_reducible_and_instances repeat refine Kept.value_all fun _ => ?_
  refine Kept.prog_all ?_
  delta Refs.at k0_part161
  with_reducible_and_instances repeat first | exact Keeps.pure _ | refine Keeps.bind ?_ fun _ => ?_

theorem kept162 : Kept.all c R (r.at (k0_part162 (F := F))) := by
  with_reducible_and_instances repeat refine Kept.value_all fun _ => ?_
  refine Kept.prog_all ?_
  delta Refs.at k0_part162
  with_reducible_and_instances repeat first | exact Keeps.pure _ | refine Keeps.bind ?_ fun _ => ?_ | exact Keeps.load r.held11 | exact Keeps.store r.held11

end Cert.Proof.Attention

end
-- ==== Proof.Leaf3.lean ====
/- The parts of the body that call no other part, each gone through by its shape: every statement keeps what it is given. -/
module

public import proofs.«01_k».proof.Proof.Keeps

@[expose] public section

set_option maxRecDepth 16384
set_option synthInstance.maxSize 4096
set_option maxHeartbeats 1000000

noncomputable section

namespace Cert.Proof.Attention

open Cert.Kernel
open Idealize.ShloMosaic Idealize.SL Idealize.SL.RA Idealize.SL.BI Idealize.SL.Sem

variable {F : FTy → Type} [BitOps F] [Cert.Kernel.Facts]
  {c : Dev nD} {R : sProp (MT nD τ sig Unit (Elt F) ℕ (UR sig nD τ) ℕ)} (r : Refs c R)

theorem kept163 : Kept.all c R (r.at (k0_part163 (F := F))) := by
  with_reducible_and_instances repeat refine Kept.value_all fun _ => ?_
  refine Kept.prog_all ?_
  delta Refs.at k0_part163
  with_reducible_and_instances repeat first | exact Keeps.pure _ | refine Keeps.bind ?_ fun _ => ?_ | exact Keeps.load r.held11 | exact Keeps.store r.held11

theorem kept164 : Kept.all c R (r.at (k0_part164 (F := F))) := by
  with_reducible_and_instances repeat refine Kept.value_all fun _ => ?_
  refine Kept.prog_all ?_
  delta Refs.at k0_part164
  with_reducible_and_instances repeat first | exact Keeps.pure _ | refine Keeps.bind ?_ fun _ => ?_ | exact Keeps.load r.held11 | exact Keeps.store r.held11

theorem kept165 : Kept.all c R (r.at (k0_part165 (F := F))) := by
  with_reducible_and_instances repeat refine Kept.value_all fun _ => ?_
  refine Kept.prog_all ?_
  delta Refs.at k0_part165
  with_reducible_and_instances repeat first | exact Keeps.pure _ | refine Keeps.bind ?_ fun _ => ?_ | exact Keeps.load r.held11 | exact Keeps.store r.held11

theorem kept166 : Kept.all c R (r.at (k0_part166 (F := F))) := by
  with_reducible_and_instances repeat refine Kept.value_all fun _ => ?_
  refine Kept.prog_all ?_
  delta Refs.at k0_part166
  with_reducible_and_instances repeat first | exact Keeps.pure _ | refine Keeps.bind ?_ fun _ => ?_ | exact Keeps.load r.held3 | exact Keeps.load r.held4 | exact Keeps.load r.held8 | exact Keeps.load r.held11 | exact Keeps.store r.held11

theorem kept167 : Kept.all c R (r.at (k0_part167 (F := F))) := by
  with_reducible_and_instances repeat refine Kept.value_all fun _ => ?_
  refine Kept.prog_all ?_
  delta Refs.at k0_part167
  with_reducible_and_instances repeat first | exact Keeps.pure _ | refine Keeps.bind ?_ fun _ => ?_ | exact Keeps.load r.held3 | exact Keeps.load r.held4

theorem kept168 : Kept.all c R (r.at (k0_part168 (F := F))) := by
  with_reducible_and_instances repeat refine Kept.value_all fun _ => ?_
  refine Kept.prog_all ?_
  delta Refs.at k0_part168
  with_reducible_and_instances repeat first | exact Keeps.pure _ | refine Keeps.bind ?_ fun _ => ?_ | exact Keeps.load r.held3 | exact Keeps.load r.held4

theorem kept169 : Kept.all c R (r.at (k0_part169 (F := F))) := by
  with_reducible_and_instances repeat refine Kept.value_all fun _ => ?_
  refine Kept.prog_all ?_
  delta Refs.at k0_part169
  with_reducible_and_instances repeat first | exact Keeps.pure _ | refine Keeps.bind ?_ fun _ => ?_ | exact Keeps.load r.held3 | exact Keeps.load r.held4

theorem kept170 : Kept.all c R (r.at (k0_part170 (F := F))) := by
  with_reducible_and_instances repeat refine Kept.value_all fun _ => ?_
  refine Kept.prog_all ?_
  delta Refs.at k0_part170
  with_reducible_and_instances repeat first | exact Keeps.pure _ | refine Keeps.bind ?_ fun _ => ?_ | exact Keeps.load r.held3 | exact Keeps.load r.held4 | exact Keeps.load r.held8 | exact Keeps.load r.held10 | exact Keeps.store r.held10

theorem kept171 : Kept.all c R (r.at (k0_part171 (F := F))) := by
  with_reducible_and_instances repeat refine Kept.value_all fun _ => ?_
  refine Kept.prog_all ?_
  delta Refs.at k0_part171
  with_reducible_and_instances repeat first | exact Keeps.pure _ | refine Keeps.bind ?_ fun _ => ?_ | exact Keeps.load r.held3 | exact Keeps.load r.held4

theorem kept172 : Kept.all c R (r.at (k0_part172 (F := F))) := by
  with_reducible_and_instances repeat refine Kept.value_all fun _ => ?_
  refine Kept.prog_all ?_
  delta Refs.at k0_part172
  with_reducible_and_instances repeat first | exact Keeps.pure _ | refine Keeps.bind ?_ fun _ => ?_ | exact Keeps.load r.held3 | exact Keeps.load r.held4

theorem kept173 : Kept.all c R (r.at (k0_part173 (F := F))) := by
  with_reducible_and_instances repeat refine Kept.value_all fun _ => ?_
  refine Kept.prog_all ?_
  delta Refs.at k0_part173
  with_reducible_and_instances repeat first | exact Keeps.pure _ | refine Keeps.bind ?_ fun _ => ?_ | exact Keeps.load r.held3 | exact Keeps.load r.held4

theorem kept175 : Kept.all c R (r.at (k0_part175 (F := F))) := by
  with_reducible_and_instances repeat refine Kept.value_all fun _ => ?_
  refine Kept.prog_all ?_
  delta Refs.at k0_part175
  with_reducible_and_instances repeat first | exact Keeps.pure _ | refine Keeps.bind ?_ fun _ => ?_ | exact Keeps.load r.held11

theorem kept176 : Kept.all c R (r.at (k0_part176 (F := F))) := by
  with_reducible_and_instances repeat refine Kept.value_all fun _ => ?_
  refine Kept.prog_all ?_
  delta Refs.at k0_part176
  with_reducible_and_instances repeat first | exact Keeps.pure _ | refine Keeps.bind ?_ fun _ => ?_ | exact Keeps.load r.held11

theorem kept177 : Kept.all c R (r.at (k0_part177 (F := F))) := by
  with_reducible_and_instances repeat refine Kept.value_all fun _ => ?_
  refine Kept.prog_all ?_
  delta Refs.at k0_part177
  with_reducible_and_instances repeat first | exact Keeps.pure _ | refine Keeps.bind ?_ fun _ => ?_ | exact Keeps.load r.held11

theorem kept178 : Kept.all c R (r.at (k0_part178 (F := F))) := by
  with_reducible_and_instances repeat refine Kept.value_all fun _ => ?_
  refine Kept.prog_all ?_
  delta Refs.at k0_part178
  with_reducible_and_instances repeat first | exact Keeps.pure _ | refine Keeps.bind ?_ fun _ => ?_ | exact Keeps.load r.held11

theorem kept179 : Kept.all c R (r.at (k0_part179 (F := F))) := by
  with_reducible_and_instances repeat refine Kept.value_all fun _ => ?_
  refine Kept.prog_all ?_
  delta Refs.at k0_part179
  with_reducible_and_instances repeat first | exact Keeps.pure _ | refine Keeps.bind ?_ fun _ => ?_ | exact Keeps.load r.held11

theorem kept180 : Kept.all c R (r.at (k0_part180 (F := F))) := by
  with_reducible_and_instances repeat refine Kept.value_all fun _ => ?_
  refine Kept.prog_all ?_
  delta Refs.at k0_part180
  with_reducible_and_instances repeat first | exact Keeps.pure _ | refine Keeps.bind ?_ fun _ => ?_ | exact Keeps.load r.held11

theorem kept181 : Kept.all c R (r.at (k0_part181 (F := F))) := by
  with_reducible_and_instances repeat refine Kept.value_all fun _ => ?_
  refine Kept.prog_all ?_
  delta Refs.at k0_part181
  with_reducible_and_instances repeat first | exact Keeps.pure _ | refine Keeps.bind ?_ fun _ => ?_ | exact Keeps.load r.held11

theorem kept182 : Kept.all c R (r.at (k0_part182 (F := F))) := by
  with_reducible_and_instances repeat refine Kept.value_all fun _ => ?_
  refine Kept.prog_all ?_
  delta Refs.at k0_part182
  with_reducible_and_instances repeat first | exact Keeps.pure _ | refine Keeps.bind ?_ fun _ => ?_ | exact Keeps.load r.held11

theorem kept183 : Kept.all c R (r.at (k0_part183 (F := F))) := by
  with_reducible_and_instances repeat refine Kept.value_all fun _ => ?_
  refine Kept.prog_all ?_
  delta Refs.at k0_part183
  with_reducible_and_instances repeat first | exact Keeps.pure _ | refine Keeps.bind ?_ fun _ => ?_ | exact Keeps.load r.held11

theorem kept184 : Kept.all c R (r.at (k0_part184 (F := F))) := by
  with_reducible_and_instances repeat refine Kept.value_all fun _ => ?_
  refine Kept.prog_all ?_
  delta Refs.at k0_part184
  with_reducible_and_instances repeat first | exact Keeps.pure _ | refine Keeps.bind ?_ fun _ => ?_ | exact Keeps.load r.held11

theorem kept185 : Kept.all c R (r.at (k0_part185 (F := F))) := by
  with_reducible_and_instances repeat refine Kept.value_all fun _ => ?_
  refine Kept.prog_all ?_
  delta Refs.at k0_part185
  with_reducible_and_instances repeat first | exact Keeps.pure _ | refine Keeps.bind ?_ fun _ => ?_ | exact Keeps.load r.held11

theorem kept186 : Kept.all c R (r.at (k0_part186 (F := F))) := by
  with_reducible_and_instances repeat refine Kept.value_all fun _ => ?_
  refine Kept.prog_all ?_
  delta Refs.at k0_part186
  with_reducible_and_instances repeat first | exact Keeps.pure _ | refine Keeps.bind ?_ fun _ => ?_ | exact Keeps.load r.held11

theorem kept187 : Kept.all c R (r.at (k0_part187 (F := F))) := by
  with_reducible_and_instances repeat refine Kept.value_all fun _ => ?_
  refine Kept.prog_all ?_
  delta Refs.at k0_part187
  with_reducible_and_instances repeat first | exact Keeps.pure _ | refine Keeps.bind ?_ fun _ => ?_ | exact Keeps.load r.held11

theorem kept188 : Kept.all c R (r.at (k0_part188 (F := F))) := by
  with_reducible_and_instances repeat refine Kept.value_all fun _ => ?_
  refine Kept.prog_all ?_
  delta Refs.at k0_part188
  with_reducible_and_instances repeat first | exact Keeps.pure _ | refine Keeps.bind ?_ fun _ => ?_ | exact Keeps.load r.held11

theorem kept189 : Kept.all c R (r.at (k0_part189 (F := F))) := by
  with_reducible_and_instances repeat refine Kept.value_all fun _ => ?_
  refine Kept.prog_all ?_
  delta Refs.at k0_part189
  with_reducible_and_instances repeat first | exact Keeps.pure _ | refine Keeps.bind ?_ fun _ => ?_ | exact Keeps.load r.held11

theorem kept190 : Kept.all c R (r.at (k0_part190 (F := F))) := by
  with_reducible_and_instances repeat refine Kept.value_all fun _ => ?_
  refine Kept.prog_all ?_
  delta Refs.at k0_part190
  with_reducible_and_instances repeat first | exact Keeps.pure _ | refine Keeps.bind ?_ fun _ => ?_ | exact Keeps.load r.held11

theorem kept191 : Kept.all c R (r.at (k0_part191 (F := F))) := by
  with_reducible_and_instances repeat refine Kept.value_all fun _ => ?_
  refine Kept.prog_all ?_
  delta Refs.at k0_part191
  with_reducible_and_instances repeat first | exact Keeps.pure _ | refine Keeps.bind ?_ fun _ => ?_ | exact Keeps.load r.held11

theorem kept192 : Kept.all c R (r.at (k0_part192 (F := F))) := by
  with_reducible_and_instances repeat refine Kept.value_all fun _ => ?_
  refine Kept.prog_all ?_
  delta Refs.at k0_part192
  with_reducible_and_instances repeat first | exact Keeps.pure _ | refine Keeps.bind ?_ fun _ => ?_ | exact Keeps.load r.held11

theorem kept193 : Kept.all c R (r.at (k0_part193 (F := F))) := by
  with_reducible_and_instances repeat refine Kept.value_all fun _ => ?_
  refine Kept.prog_all ?_
  delta Refs.at k0_part193
  with_reducible_and_instances repeat first | exact Keeps.pure _ | refine Keeps.bind ?_ fun _ => ?_ | exact Keeps.load r.held11

theorem kept194 : Kept.all c R (r.at (k0_part194 (F := F))) := by
  with_reducible_and_instances repeat refine Kept.value_all fun _ => ?_
  refine Kept.prog_all ?_
  delta Refs.at k0_part194
  with_reducible_and_instances repeat first | exact Keeps.pure _ | refine Keeps.bind ?_ fun _ => ?_ | exact Keeps.load r.held11

theorem kept195 : Kept.all c R (r.at (k0_part195 (F := F))) := by
  with_reducible_and_instances repeat refine Kept.value_all fun _ => ?_
  refine Kept.prog_all ?_
  delta Refs.at k0_part195
  with_reducible_and_instances repeat first | exact Keeps.pure _ | refine Keeps.bind ?_ fun _ => ?_ | exact Keeps.load r.held11

theorem kept196 : Kept.all c R (r.at (k0_part196 (F := F))) := by
  with_reducible_and_instances repeat refine Kept.value_all fun _ => ?_
  refine Kept.prog_all ?_
  delta Refs.at k0_part196
  with_reducible_and_instances repeat first | exact Keeps.pure _ | refine Keeps.bind ?_ fun _ => ?_ | exact Keeps.load r.held11

theorem kept197 : Kept.all c R (r.at (k0_part197 (F := F))) := by
  with_reducible_and_instances repeat refine Kept.value_all fun _ => ?_
  refine Kept.prog_all ?_
  delta Refs.at k0_part197
  with_reducible_and_instances repeat first | exact Keeps.pure _ | refine Keeps.bind ?_ fun _ => ?_ | exact Keeps.load r.held11

theorem kept198 : Kept.all c R (r.at (k0_part198 (F := F))) := by
  with_reducible_and_instances repeat refine Kept.value_all fun _ => ?_
  refine Kept.prog_all ?_
  delta Refs.at k0_part198
  with_reducible_and_instances repeat first | exact Keeps.pure _ | refine Keeps.bind ?_ fun _ => ?_ | exact Keeps.load r.held11

theorem kept199 : Kept.all c R (r.at (k0_part199 (F := F))) := by
  with_reducible_and_instances repeat refine Kept.value_all fun _ => ?_
  refine Kept.prog_all ?_
  delta Refs.at k0_part199
  with_reducible_and_instances repeat first | exact Keeps.pure _ | refine Keeps.bind ?_ fun _ => ?_ | exact Keeps.load r.held11

theorem kept200 : Kept.all c R (r.at (k0_part200 (F := F))) := by
  with_reducible_and_instances repeat refine Kept.value_all fun _ => ?_
  refine Kept.prog_all ?_
  delta Refs.at k0_part200
  with_reducible_and_instances repeat first | exact Keeps.pure _ | refine Keeps.bind ?_ fun _ => ?_ | exact Keeps.load r.held11

theorem kept201 : Kept.all c R (r.at (k0_part201 (F := F))) := by
  with_reducible_and_instances repeat refine Kept.value_all fun _ => ?_
  refine Kept.prog_all ?_
  delta Refs.at k0_part201
  with_reducible_and_instances repeat first | exact Keeps.pure _ | refine Keeps.bind ?_ fun _ => ?_ | exact Keeps.load r.held11

theorem kept202 : Kept.all c R (r.at (k0_part202 (F := F))) := by
  with_reducible_and_instances repeat refine Kept.value_all fun _ => ?_
  refine Kept.prog_all ?_
  delta Refs.at k0_part202
  with_reducible_and_instances repeat first | exact Keeps.pure _ | refine Keeps.bind ?_ fun _ => ?_ | exact Keeps.load r.held11

theorem kept203 : Kept.all c R (r.at (k0_part203 (F := F))) := by
  with_reducible_and_instances repeat refine Kept.value_all fun _ => ?_
  refine Kept.prog_all ?_
  delta Refs.at k0_part203
  with_reducible_and_instances repeat first | exact Keeps.pure _ | refine Keeps.bind ?_ fun _ => ?_ | exact Keeps.load r.held11

theorem kept205 : Kept.all c R (r.at (k0_part205 (F := F))) := by
  with_reducible_and_instances repeat refine Kept.value_all fun _ => ?_
  refine Kept.prog_all ?_
  delta Refs.at k0_part205
  with_reducible_and_instances repeat first | exact Keeps.pure _ | refine Keeps.bind ?_ fun _ => ?_ | exact Keeps.load r.held11

theorem kept206 : Kept.all c R (r.at (k0_part206 (F := F))) := by
  with_reducible_and_instances repeat refine Kept.value_all fun _ => ?_
  refine Kept.prog_all ?_
  delta Refs.at k0_part206
  with_reducible_and_instances repeat first | exact Keeps.pure _ | refine Keeps.bind ?_ fun _ => ?_ | exact Keeps.load r.held11

theorem kept207 : Kept.all c R (r.at (k0_part207 (F := F))) := by
  with_reducible_and_instances repeat refine Kept.value_all fun _ => ?_
  refine Kept.prog_all ?_
  delta Refs.at k0_part207
  with_reducible_and_instances repeat first | exact Keeps.pure _ | refine Keeps.bind ?_ fun _ => ?_ | exact Keeps.load r.held11

theorem kept208 : Kept.all c R (r.at (k0_part208 (F := F))) := by
  with_reducible_and_instances repeat refine Kept.value_all fun _ => ?_
  refine Kept.prog_all ?_
  delta Refs.at k0_part208
  with_reducible_and_instances repeat first | exact Keeps.pure _ | refine Keeps.bind ?_ fun _ => ?_ | exact Keeps.load r.held11

theorem kept209 : Kept.all c R (r.at (k0_part209 (F := F))) := by
  with_reducible_and_instances repeat refine Kept.value_all fun _ => ?_
  refine Kept.prog_all ?_
  delta Refs.at k0_part209
  with_reducible_and_instances repeat first | exact Keeps.pure _ | refine Keeps.bind ?_ fun _ => ?_ | exact Keeps.load r.held11

theorem kept210 : Kept.all c R (r.at (k0_part210 (F := F))) := by
  with_reducible_and_instances repeat refine Kept.value_all fun _ => ?_
  refine Kept.prog_all ?_
  delta Refs.at k0_part210
  with_reducible_and_instances repeat first | exact Keeps.pure _ | refine Keeps.bind ?_ fun _ => ?_ | exact Keeps.load r.held11

theorem kept211 : Kept.all c R (r.at (k0_part211 (F := F))) := by
  with_reducible_and_instances repeat refine Kept.value_all fun _ => ?_
  refine Kept.prog_all ?_
  delta Refs.at k0_part211
  with_reducible_and_instances repeat first | exact Keeps.pure _ | refine Keeps.bind ?_ fun _ => ?_ | exact Keeps.load r.held11

theorem kept212 : Kept.all c R (r.at (k0_part212 (F := F))) := by
  with_reducible_and_instances repeat refine Kept.value_all fun _ => ?_
  refine Kept.prog_all ?_
  delta Refs.at k0_part212
  with_reducible_and_instances repeat first | exact Keeps.pure _ | refine Keeps.bind ?_ fun _ => ?_ | exact Keeps.load r.held11

theorem kept213 : Kept.all c R (r.at (k0_part213 (F := F))) := by
  with_reducible_and_instances repeat refine Kept.value_all fun _ => ?_
  refine Kept.prog_all ?_
  delta Refs.at k0_part213
  with_reducible_and_instances repeat first | exact Keeps.pure _ | refine Keeps.bind ?_ fun _ => ?_ | exact Keeps.load r.held11

theorem kept214 : Kept.all c R (r.at (k0_part214 (F := F))) := by
  with_reducible_and_instances repeat refine Kept.value_all fun _ => ?_
  refine Kept.prog_all ?_
  delta Refs.at k0_part214
  with_reducible_and_instances repeat first | exact Keeps.pure _ | refine Keeps.bind ?_ fun _ => ?_ | exact Keeps.load r.held11

theorem kept215 : Kept.all c R (r.at (k0_part215 (F := F))) := by
  with_reducible_and_instances repeat refine Kept.value_all fun _ => ?_
  refine Kept.prog_all ?_
  delta Refs.at k0_part215
  with_reducible_and_instances repeat first | exact Keeps.pure _ | refine Keeps.bind ?_ fun _ => ?_ | exact Keeps.load r.held11

theorem kept216 : Kept.all c R (r.at (k0_part216 (F := F))) := by
  with_reducible_and_instances repeat refine Kept.value_all fun _ => ?_
  refine Kept.prog_all ?_
  delta Refs.at k0_part216
  with_reducible_and_instances repeat first | exact Keeps.pure _ | refine Keeps.bind ?_ fun _ => ?_ | exact Keeps.load r.held11

theorem kept217 : Kept.all c R (r.at (k0_part217 (F := F))) := by
  with_reducible_and_instances repeat refine Kept.value_all fun _ => ?_
  refine Kept.prog_all ?_
  delta Refs.at k0_part217
  with_reducible_and_instances repeat first | exact Keeps.pure _ | refine Keeps.bind ?_ fun _ => ?_ | exact Keeps.load r.held11

theorem kept218 : Kept.all c R (r.at (k0_part218 (F := F))) := by
  with_reducible_and_instances repeat refine Kept.value_all fun _ => ?_
  refine Kept.prog_all ?_
  delta Refs.at k0_part218
  with_reducible_and_instances repeat first | exact Keeps.pure _ | refine Keeps.bind ?_ fun _ => ?_ | exact Keeps.load r.held11

theorem kept219 : Kept.all c R (r.at (k0_part219 (F := F))) := by
  with_reducible_and_instances repeat refine Kept.value_all fun _ => ?_
  refine Kept.prog_all ?_
  delta Refs.at k0_part219
  with_reducible_and_instances repeat first | exact Keeps.pure _ | refine Keeps.bind ?_ fun _ => ?_ | exact Keeps.load r.held11

theorem kept220 : Kept.all c R (r.at (k0_part220 (F := F))) := by
  with_reducible_and_instances repeat refine Kept.value_all fun _ => ?_
  refine Kept.prog_all ?_
  delta Refs.at k0_part220
  with_reducible_and_instances repeat first | exact Keeps.pure _ | refine Keeps.bind ?_ fun _ => ?_ | exact Keeps.load r.held11

theorem kept221 : Kept.all c R (r.at (k0_part221 (F := F))) := by
  with_reducible_and_instances repeat refine Kept.value_all fun _ => ?_
  refine Kept.prog_all ?_
  delta Refs.at k0_part221
  with_reducible_and_instances repeat first | exact Keeps.pure _ | refine Keeps.bind ?_ fun _ => ?_ | exact Keeps.load r.held11

theorem kept222 : Kept.all c R (r.at (k0_part222 (F := F))) := by
  with_reducible_and_instances repeat refine Kept.value_all fun _ => ?_
  refine Kept.prog_all ?_
  delta Refs.at k0_part222
  with_reducible_and_instances repeat first | exact Keeps.pure _ | refine Keeps.bind ?_ fun _ => ?_ | exact Keeps.load r.held11

theorem kept223 : Kept.all c R (r.at (k0_part223 (F := F))) := by
  with_reducible_and_instances repeat refine Kept.value_all fun _ => ?_
  refine Kept.prog_all ?_
  delta Refs.at k0_part223
  with_reducible_and_instances repeat first | exact Keeps.pure _ | refine Keeps.bind ?_ fun _ => ?_ | exact Keeps.load r.held11

theorem kept224 : Kept.all c R (r.at (k0_part224 (F := F))) := by
  with_reducible_and_instances repeat refine Kept.value_all fun _ => ?_
  refine Kept.prog_all ?_
  delta Refs.at k0_part224
  with_reducible_and_instances repeat first | exact Keeps.pure _ | refine Keeps.bind ?_ fun _ => ?_ | exact Keeps.load r.held11

theorem kept225 : Kept.all c R (r.at (k0_part225 (F := F))) := by
  with_reducible_and_instances repeat refine Kept.value_all fun _ => ?_
  refine Kept.prog_all ?_
  delta Refs.at k0_part225
  with_reducible_and_instances repeat first | exact Keeps.pure _ | refine Keeps.bind ?_ fun _ => ?_ | exact Keeps.load r.held11

theorem kept226 : Kept.all c R (r.at (k0_part226 (F := F))) := by
  with_reducible_and_instances repeat refine Kept.value_all fun _ => ?_
  refine Kept.prog_all ?_
  delta Refs.at k0_part226
  with_reducible_and_instances repeat first | exact Keeps.pure _ | refine Keeps.bind ?_ fun _ => ?_ | exact Keeps.load r.held11

theorem kept227 : Kept.all c R (r.at (k0_part227 (F := F))) := by
  with_reducible_and_instances repeat refine Kept.value_all fun _ => ?_
  refine Kept.prog_all ?_
  delta Refs.at k0_part227
  with_reducible_and_instances repeat first | exact Keeps.pure _ | refine Keeps.bind ?_ fun _ => ?_ | exact Keeps.load r.held11

theorem kept228 : Kept.all c R (r.at (k0_part228 (F := F))) := by
  with_reducible_and_instances repeat refine Kept.value_all fun _ => ?_
  refine Kept.prog_all ?_
  delta Refs.at k0_part228
  with_reducible_and_instances repeat first | exact Keeps.pure _ | refine Keeps.bind ?_ fun _ => ?_ | exact Keeps.load r.held11

theorem kept229 : Kept.all c R (r.at (k0_part229 (F := F))) := by
  with_reducible_and_instances repeat refine Kept.value_all fun _ => ?_
  refine Kept.prog_all ?_
  delta Refs.at k0_part229
  with_reducible_and_instances repeat first | exact Keeps.pure _ | refine Keeps.bind ?_ fun _ => ?_ | exact Keeps.load r.held11

theorem kept231 : Kept.all c R (r.at (k0_part231 (F := F))) := by
  with_reducible_and_instances repeat refine Kept.value_all fun _ => ?_
  refine Kept.prog_all ?_
  delta Refs.at k0_part231
  with_reducible_and_instances repeat first | exact Keeps.pure _ | refine Keeps.bind ?_ fun _ => ?_ | exact Keeps.load r.held11

theorem kept232 : Kept.all c R (r.at (k0_part232 (F := F))) := by
  with_reducible_and_instances repeat refine Kept.value_all fun _ => ?_
  refine Kept.prog_all ?_
  delta Refs.at k0_part232
  with_reducible_and_instances repeat first | exact Keeps.pure _ | refine Keeps.bind ?_ fun _ => ?_ | exact Keeps.load r.held11

theorem kept233 : Kept.all c R (r.at (k0_part233 (F := F))) := by
  with_reducible_and_instances repeat refine Kept.value_all fun _ => ?_
  refine Kept.prog_all ?_
  delta Refs.at k0_part233
  with_reducible_and_instances repeat first | exact Keeps.pure _ | refine Keeps.bind ?_ fun _ => ?_ | exact Keeps.load r.held11

theorem kept234 : Kept.all c R (r.at (k0_part234 (F := F))) := by
  with_reducible_and_instances repeat refine Kept.value_all fun _ => ?_
  refine Kept.prog_all ?_
  delta Refs.at k0_part234
  with_reducible_and_instances repeat first | exact Keeps.pure _ | refine Keeps.bind ?_ fun _ => ?_ | exact Keeps.load r.held11

theorem kept235 : Kept.all c R (r.at (k0_part235 (F := F))) := by
  with_reducible_and_instances repeat refine Kept.value_all fun _ => ?_
  refine Kept.prog_all ?_
  delta Refs.at k0_part235
  with_reducible_and_instances repeat first | exact Keeps.pure _ | refine Keeps.bind ?_ fun _ => ?_ | exact Keeps.load r.held11

theorem kept236 : Kept.all c R (r.at (k0_part236 (F := F))) := by
  with_reducible_and_instances repeat refine Kept.value_all fun _ => ?_
  refine Kept.prog_all ?_
  delta Refs.at k0_part236
  with_reducible_and_instances repeat first | exact Keeps.pure _ | refine Keeps.bind ?_ fun _ => ?_ | exact Keeps.load r.held11

theorem kept237 : Kept.all c R (r.at (k0_part237 (F := F))) := by
  with_reducible_and_instances repeat refine Kept.value_all fun _ => ?_
  refine Kept.prog_all ?_
  delta Refs.at k0_part237
  with_reducible_and_instances repeat first | exact Keeps.pure _ | refine Keeps.bind ?_ fun _ => ?_ | exact Keeps.load r.held11

theorem kept238 : Kept.all c R (r.at (k0_part238 (F := F))) := by
  with_reducible_and_instances repeat refine Kept.value_all fun _ => ?_
  refine Kept.prog_all ?_
  delta Refs.at k0_part238
  with_reducible_and_instances repeat first | exact Keeps.pure _ | refine Keeps.bind ?_ fun _ => ?_ | exact Keeps.load r.held11

theorem kept239 : Kept.all c R (r.at (k0_part239 (F := F))) := by
  with_reducible_and_instances repeat refine Kept.value_all fun _ => ?_
  refine Kept.prog_all ?_
  delta Refs.at k0_part239
  with_reducible_and_instances repeat first | exact Keeps.pure _ | refine Keeps.bind ?_ fun _ => ?_ | exact Keeps.load r.held11

theorem kept240 : Kept.all c R (r.at (k0_part240 (F := F))) := by
  with_reducible_and_instances repeat refine Kept.value_all fun _ => ?_
  refine Kept.prog_all ?_
  delta Refs.at k0_part240
  with_reducible_and_instances repeat first | exact Keeps.pure _ | refine Keeps.bind ?_ fun _ => ?_ | exact Keeps.load r.held11

theorem kept241 : Kept.all c R (r.at (k0_part241 (F := F))) := by
  with_reducible_and_instances repeat refine Kept.value_all fun _ => ?_
  refine Kept.prog_all ?_
  delta Refs.at k0_part241
  with_reducible_and_instances repeat first | exact Keeps.pure _ | refine Keeps.bind ?_ fun _ => ?_ | exact Keeps.load r.held11

theorem kept242 : Kept.all c R (r.at (k0_part242 (F := F))) := by
  with_reducible_and_instances repeat refine Kept.value_all fun _ => ?_
  refine Kept.prog_all ?_
  delta Refs.at k0_part242
  with_reducible_and_instances repeat first | exact Keeps.pure _ | refine Keeps.bind ?_ fun _ => ?_ | exact Keeps.load r.held11

theorem kept243 : Kept.all c R (r.at (k0_part243 (F := F))) := by
  with_reducible_and_instances repeat refine Kept.value_all fun _ => ?_
  refine Kept.prog_all ?_
  delta Refs.at k0_part243
  with_reducible_and_instances repeat first | exact Keeps.pure _ | refine Keeps.bind ?_ fun _ => ?_ | exact Keeps.load r.held11

theorem kept244 : Kept.all c R (r.at (k0_part244 (F := F))) := by
  with_reducible_and_instances repeat refine Kept.value_all fun _ => ?_
  refine Kept.prog_all ?_
  delta Refs.at k0_part244
  with_reducible_and_instances repeat first | exact Keeps.pure _ | refine Keeps.bind ?_ fun _ => ?_ | exact Keeps.load r.held11

end Cert.Proof.Attention

end
-- ==== Proof.Leaf4.lean ====
/- The parts of the body that call no other part, each gone through by its shape: every statement keeps what it is given. -/
module

public import proofs.«01_k».proof.Proof.Keeps

@[expose] public section

set_option maxRecDepth 16384
set_option synthInstance.maxSize 4096
set_option maxHeartbeats 1000000

noncomputable section

namespace Cert.Proof.Attention

open Cert.Kernel
open Idealize.ShloMosaic Idealize.SL Idealize.SL.RA Idealize.SL.BI Idealize.SL.Sem

variable {F : FTy → Type} [BitOps F] [Cert.Kernel.Facts]
  {c : Dev nD} {R : sProp (MT nD τ sig Unit (Elt F) ℕ (UR sig nD τ) ℕ)} (r : Refs c R)

theorem kept245 : Kept.all c R (r.at (k0_part245 (F := F))) := by
  with_reducible_and_instances repeat refine Kept.value_all fun _ => ?_
  refine Kept.prog_all ?_
  delta Refs.at k0_part245
  with_reducible_and_instances repeat first | exact Keeps.pure _ | refine Keeps.bind ?_ fun _ => ?_ | exact Keeps.load r.held11

theorem kept246 : Kept.all c R (r.at (k0_part246 (F := F))) := by
  with_reducible_and_instances repeat refine Kept.value_all fun _ => ?_
  refine Kept.prog_all ?_
  delta Refs.at k0_part246
  with_reducible_and_instances repeat first | exact Keeps.pure _ | refine Keeps.bind ?_ fun _ => ?_ | exact Keeps.load r.held11

theorem kept247 : Kept.all c R (r.at (k0_part247 (F := F))) := by
  with_reducible_and_instances repeat refine Kept.value_all fun _ => ?_
  refine Kept.prog_all ?_
  delta Refs.at k0_part247
  with_reducible_and_instances repeat first | exact Keeps.pure _ | refine Keeps.bind ?_ fun _ => ?_ | exact Keeps.load r.held11

theorem kept248 : Kept.all c R (r.at (k0_part248 (F := F))) := by
  with_reducible_and_instances repeat refine Kept.value_all fun _ => ?_
  refine Kept.prog_all ?_
  delta Refs.at k0_part248
  with_reducible_and_instances repeat first | exact Keeps.pure _ | refine Keeps.bind ?_ fun _ => ?_ | exact Keeps.load r.held11

theorem kept249 : Kept.all c R (r.at (k0_part249 (F := F))) := by
  with_reducible_and_instances repeat refine Kept.value_all fun _ => ?_
  refine Kept.prog_all ?_
  delta Refs.at k0_part249
  with_reducible_and_instances repeat first | exact Keeps.pure _ | refine Keeps.bind ?_ fun _ => ?_ | exact Keeps.load r.held11

theorem kept250 : Kept.all c R (r.at (k0_part250 (F := F))) := by
  with_reducible_and_instances repeat refine Kept.value_all fun _ => ?_
  refine Kept.prog_all ?_
  delta Refs.at k0_part250
  with_reducible_and_instances repeat first | exact Keeps.pure _ | refine Keeps.bind ?_ fun _ => ?_ | exact Keeps.load r.held11

theorem kept251 : Kept.all c R (r.at (k0_part251 (F := F))) := by
  with_reducible_and_instances repeat refine Kept.value_all fun _ => ?_
  refine Kept.prog_all ?_
  delta Refs.at k0_part251
  with_reducible_and_instances repeat first | exact Keeps.pure _ | refine Keeps.bind ?_ fun _ => ?_ | exact Keeps.load r.held11

theorem kept252 : Kept.all c R (r.at (k0_part252 (F := F))) := by
  with_reducible_and_instances repeat refine Kept.value_all fun _ => ?_
  refine Kept.prog_all ?_
  delta Refs.at k0_part252
  with_reducible_and_instances repeat first | exact Keeps.pure _ | refine Keeps.bind ?_ fun _ => ?_ | exact Keeps.load r.held11

theorem kept253 : Kept.all c R (r.at (k0_part253 (F := F))) := by
  with_reducible_and_instances repeat refine Kept.value_all fun _ => ?_
  refine Kept.prog_all ?_
  delta Refs.at k0_part253
  with_reducible_and_instances repeat first | exact Keeps.pure _ | refine Keeps.bind ?_ fun _ => ?_ | exact Keeps.load r.held11

theorem kept254 : Kept.all c R (r.at (k0_part254 (F := F))) := by
  with_reducible_and_instances repeat refine Kept.value_all fun _ => ?_
  refine Kept.prog_all ?_
  delta Refs.at k0_part254
  with_reducible_and_instances repeat first | exact Keeps.pure _ | refine Keeps.bind ?_ fun _ => ?_ | exact Keeps.load r.held11

theorem kept255 : Kept.all c R (r.at (k0_part255 (F := F))) := by
  with_reducible_and_instances repeat refine Kept.value_all fun _ => ?_
  refine Kept.prog_all ?_
  delta Refs.at k0_part255
  with_reducible_and_instances repeat first | exact Keeps.pure _ | refine Keeps.bind ?_ fun _ => ?_ | exact Keeps.load r.held11

theorem kept256 : Kept.all c R (r.at (k0_part256 (F := F))) := by
  with_reducible_and_instances repeat refine Kept.value_all fun _ => ?_
  refine Kept.prog_all ?_
  delta Refs.at k0_part256
  with_reducible_and_instances repeat first | exact Keeps.pure _ | refine Keeps.bind ?_ fun _ => ?_ | exact Keeps.load r.held11

theorem kept257 : Kept.all c R (r.at (k0_part257 (F := F))) := by
  with_reducible_and_instances repeat refine Kept.value_all fun _ => ?_
  refine Kept.prog_all ?_
  delta Refs.at k0_part257
  with_reducible_and_instances repeat first | exact Keeps.pure _ | refine Keeps.bind ?_ fun _ => ?_ | exact Keeps.load r.held11

theorem kept258 : Kept.all c R (r.at (k0_part258 (F := F))) := by
  with_reducible_and_instances repeat refine Kept.value_all fun _ => ?_
  refine Kept.prog_all ?_
  delta Refs.at k0_part258
  with_reducible_and_instances repeat first | exact Keeps.pure _ | refine Keeps.bind ?_ fun _ => ?_ | exact Keeps.load r.held11

theorem kept259 : Kept.all c R (r.at (k0_part259 (F := F))) := by
  with_reducible_and_instances repeat refine Kept.value_all fun _ => ?_
  refine Kept.prog_all ?_
  delta Refs.at k0_part259
  with_reducible_and_instances repeat first | exact Keeps.pure _ | refine Keeps.bind ?_ fun _ => ?_ | exact Keeps.load r.held11

theorem kept260 : Kept.all c R (r.at (k0_part260 (F := F))) := by
  with_reducible_and_instances repeat refine Kept.value_all fun _ => ?_
  refine Kept.prog_all ?_
  delta Refs.at k0_part260
  with_reducible_and_instances repeat first | exact Keeps.pure _ | refine Keeps.bind ?_ fun _ => ?_ | exact Keeps.load r.held11

theorem kept261 : Kept.all c R (r.at (k0_part261 (F := F))) := by
  with_reducible_and_instances repeat refine Kept.value_all fun _ => ?_
  refine Kept.prog_all ?_
  delta Refs.at k0_part261
  with_reducible_and_instances repeat first | exact Keeps.pure _ | refine Keeps.bind ?_ fun _ => ?_ | exact Keeps.load r.held11

theorem kept262 : Kept.all c R (r.at (k0_part262 (F := F))) := by
  with_reducible_and_instances repeat refine Kept.value_all fun _ => ?_
  refine Kept.prog_all ?_
  delta Refs.at k0_part262
  with_reducible_and_instances repeat first | exact Keeps.pure _ | refine Keeps.bind ?_ fun _ => ?_ | exact Keeps.load r.held11

theorem kept263 : Kept.all c R (r.at (k0_part263 (F := F))) := by
  with_reducible_and_instances repeat refine Kept.value_all fun _ => ?_
  refine Kept.prog_all ?_
  delta Refs.at k0_part263
  with_reducible_and_instances repeat first | exact Keeps.pure _ | refine Keeps.bind ?_ fun _ => ?_ | exact Keeps.load r.held11

theorem kept264 : Kept.all c R (r.at (k0_part264 (F := F))) := by
  with_reducible_and_instances repeat refine Kept.value_all fun _ => ?_
  refine Kept.prog_all ?_
  delta Refs.at k0_part264
  with_reducible_and_instances repeat first | exact Keeps.pure _ | refine Keeps.bind ?_ fun _ => ?_ | exact Keeps.load r.held11

theorem kept265 : Kept.all c R (r.at (k0_part265 (F := F))) := by
  with_reducible_and_instances repeat refine Kept.value_all fun _ => ?_
  refine Kept.prog_all ?_
  delta Refs.at k0_part265
  with_reducible_and_instances repeat first | exact Keeps.pure _ | refine Keeps.bind ?_ fun _ => ?_ | exact Keeps.load r.held11

theorem kept266 : Kept.all c R (r.at (k0_part266 (F := F))) := by
  with_reducible_and_instances repeat refine Kept.value_all fun _ => ?_
  refine Kept.prog_all ?_
  delta Refs.at k0_part266
  with_reducible_and_instances repeat first | exact Keeps.pure _ | refine Keeps.bind ?_ fun _ => ?_ | exact Keeps.load r.held11

theorem kept267 : Kept.all c R (r.at (k0_part267 (F := F))) := by
  with_reducible_and_instances repeat refine Kept.value_all fun _ => ?_
  refine Kept.prog_all ?_
  delta Refs.at k0_part267
  with_reducible_and_instances repeat first | exact Keeps.pure _ | refine Keeps.bind ?_ fun _ => ?_ | exact Keeps.load r.held11

theorem kept268 : Kept.all c R (r.at (k0_part268 (F := F))) := by
  with_reducible_and_instances repeat refine Kept.value_all fun _ => ?_
  refine Kept.prog_all ?_
  delta Refs.at k0_part268
  with_reducible_and_instances repeat first | exact Keeps.pure _ | refine Keeps.bind ?_ fun _ => ?_ | exact Keeps.load r.held11

theorem kept269 : Kept.all c R (r.at (k0_part269 (F := F))) := by
  with_reducible_and_instances repeat refine Kept.value_all fun _ => ?_
  refine Kept.prog_all ?_
  delta Refs.at k0_part269
  with_reducible_and_instances repeat first | exact Keeps.pure _ | refine Keeps.bind ?_ fun _ => ?_

theorem kept270 : Kept.all c R (r.at (k0_part270 (F := F))) := by
  with_reducible_and_instances repeat refine Kept.value_all fun _ => ?_
  refine Kept.prog_all ?_
  delta Refs.at k0_part270
  with_reducible_and_instances repeat first | exact Keeps.pure _ | refine Keeps.bind ?_ fun _ => ?_

theorem kept271 : Kept.all c R (r.at (k0_part271 (F := F))) := by
  with_reducible_and_instances repeat refine Kept.value_all fun _ => ?_
  refine Kept.prog_all ?_
  delta Refs.at k0_part271
  with_reducible_and_instances repeat first | exact Keeps.pure _ | refine Keeps.bind ?_ fun _ => ?_

theorem kept272 : Kept.all c R (r.at (k0_part272 (F := F))) := by
  with_reducible_and_instances repeat refine Kept.value_all fun _ => ?_
  refine Kept.prog_all ?_
  delta Refs.at k0_part272
  with_reducible_and_instances repeat first | exact Keeps.pure _ | refine Keeps.bind ?_ fun _ => ?_

theorem kept273 : Kept.all c R (r.at (k0_part273 (F := F))) := by
  with_reducible_and_instances repeat refine Kept.value_all fun _ => ?_
  refine Kept.prog_all ?_
  delta Refs.at k0_part273
  with_reducible_and_instances repeat first | exact Keeps.pure _ | refine Keeps.bind ?_ fun _ => ?_

theorem kept274 : Kept.all c R (r.at (k0_part274 (F := F))) := by
  with_reducible_and_instances repeat refine Kept.value_all fun _ => ?_
  refine Kept.prog_all ?_
  delta Refs.at k0_part274
  with_reducible_and_instances repeat first | exact Keeps.pure _ | refine Keeps.bind ?_ fun _ => ?_

theorem kept275 : Kept.all c R (r.at (k0_part275 (F := F))) := by
  with_reducible_and_instances repeat refine Kept.value_all fun _ => ?_
  refine Kept.prog_all ?_
  delta Refs.at k0_part275
  with_reducible_and_instances repeat first | exact Keeps.pure _ | refine Keeps.bind ?_ fun _ => ?_

theorem kept276 : Kept.all c R (r.at (k0_part276 (F := F))) := by
  with_reducible_and_instances repeat refine Kept.value_all fun _ => ?_
  refine Kept.prog_all ?_
  delta Refs.at k0_part276
  with_reducible_and_instances repeat first | exact Keeps.pure _ | refine Keeps.bind ?_ fun _ => ?_

theorem kept277 : Kept.all c R (r.at (k0_part277 (F := F))) := by
  with_reducible_and_instances repeat refine Kept.value_all fun _ => ?_
  refine Kept.prog_all ?_
  delta Refs.at k0_part277
  with_reducible_and_instances repeat first | exact Keeps.pure _ | refine Keeps.bind ?_ fun _ => ?_

theorem kept278 : Kept.all c R (r.at (k0_part278 (F := F))) := by
  with_reducible_and_instances repeat refine Kept.value_all fun _ => ?_
  refine Kept.prog_all ?_
  delta Refs.at k0_part278
  with_reducible_and_instances repeat first | exact Keeps.pure _ | refine Keeps.bind ?_ fun _ => ?_

theorem kept279 : Kept.all c R (r.at (k0_part279 (F := F))) := by
  with_reducible_and_instances repeat refine Kept.value_all fun _ => ?_
  refine Kept.prog_all ?_
  delta Refs.at k0_part279
  with_reducible_and_instances repeat first | exact Keeps.pure _ | refine Keeps.bind ?_ fun _ => ?_

theorem kept280 : Kept.all c R (r.at (k0_part280 (F := F))) := by
  with_reducible_and_instances repeat refine Kept.value_all fun _ => ?_
  refine Kept.prog_all ?_
  delta Refs.at k0_part280
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept281 : Kept.all c R (r.at (k0_part281 (F := F))) := by
  with_reducible_and_instances repeat refine Kept.value_all fun _ => ?_
  refine Kept.prog_all ?_
  delta Refs.at k0_part281
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept282 : Kept.all c R (r.at (k0_part282 (F := F))) := by
  with_reducible_and_instances repeat refine Kept.value_all fun _ => ?_
  refine Kept.prog_all ?_
  delta Refs.at k0_part282
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept283 : Kept.all c R (r.at (k0_part283 (F := F))) := by
  with_reducible_and_instances repeat refine Kept.value_all fun _ => ?_
  refine Kept.prog_all ?_
  delta Refs.at k0_part283
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept284 : Kept.all c R (r.at (k0_part284 (F := F))) := by
  with_reducible_and_instances repeat refine Kept.value_all fun _ => ?_
  refine Kept.prog_all ?_
  delta Refs.at k0_part284
  with_reducible_and_instances repeat first | exact Keeps.pure _ | refine Keeps.bind ?_ fun _ => ?_ | exact Keeps.load r.held12 | exact Keeps.load r.held13 | exact Keeps.load r.held16 | exact Keeps.store r.held16 | exact Keeps.load r.held17 | exact Keeps.store r.held17

theorem kept285 : Kept.all c R (r.at (k0_part285 (F := F))) := by
  with_reducible_and_instances repeat refine Kept.value_all fun _ => ?_
  refine Kept.prog_all ?_
  delta Refs.at k0_part285
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept286 : Kept.all c R (r.at (k0_part286 (F := F))) := by
  with_reducible_and_instances repeat refine Kept.value_all fun _ => ?_
  refine Kept.prog_all ?_
  delta Refs.at k0_part286
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept287 : Kept.all c R (r.at (k0_part287 (F := F))) := by
  with_reducible_and_instances repeat refine Kept.value_all fun _ => ?_
  refine Kept.prog_all ?_
  delta Refs.at k0_part287
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held17

theorem kept288 : Kept.all c R (r.at (k0_part288 (F := F))) := by
  with_reducible_and_instances repeat refine Kept.value_all fun _ => ?_
  refine Kept.prog_all ?_
  delta Refs.at k0_part288
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept289 : Kept.all c R (r.at (k0_part289 (F := F))) := by
  with_reducible_and_instances repeat refine Kept.value_all fun _ => ?_
  refine Kept.prog_all ?_
  delta Refs.at k0_part289
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept290 : Kept.all c R (r.at (k0_part290 (F := F))) := by
  with_reducible_and_instances repeat refine Kept.value_all fun _ => ?_
  refine Kept.prog_all ?_
  delta Refs.at k0_part290
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept291 : Kept.all c R (r.at (k0_part291 (F := F))) := by
  with_reducible_and_instances repeat refine Kept.value_all fun _ => ?_
  refine Kept.prog_all ?_
  delta Refs.at k0_part291
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept292 : Kept.all c R (r.at (k0_part292 (F := F))) := by
  with_reducible_and_instances repeat refine Kept.value_all fun _ => ?_
  refine Kept.prog_all ?_
  delta Refs.at k0_part292
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept293 : Kept.all c R (r.at (k0_part293 (F := F))) := by
  with_reducible_and_instances repeat refine Kept.value_all fun _ => ?_
  refine Kept.prog_all ?_
  delta Refs.at k0_part293
  with_reducible_and_instances repeat first | exact Keeps.pure _ | refine Keeps.bind ?_ fun _ => ?_ | exact Keeps.load r.held2 | exact Keeps.load r.held6 | exact Keeps.load r.held13 | exact Keeps.store r.held13 | exact Keeps.load r.held14 | exact Keeps.store r.held14 | exact Keeps.load r.held15 | exact Keeps.store r.held15

theorem kept294 : Kept.all c R (r.at (k0_part294 (F := F))) := by
  with_reducible_and_instances repeat refine Kept.value_all fun _ => ?_
  refine Kept.prog_all ?_
  delta Refs.at k0_part294
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept295 : Kept.all c R (r.at (k0_part295 (F := F))) := by
  with_reducible_and_instances repeat refine Kept.value_all fun _ => ?_
  refine Kept.prog_all ?_
  delta Refs.at k0_part295
  with_reducible_and_instances repeat first | exact Keeps.pure _ | refine Keeps.bind ?_ fun _ => ?_ | exact Keeps.load r.held2 | exact Keeps.load r.held12 | exact Keeps.load r.held16 | exact Keeps.store r.held16 | exact Keeps.load r.held17 | exact Keeps.store r.held17

theorem kept296 : Kept.all c R (r.at (k0_part296 (F := F))) := by
  with_reducible_and_instances repeat refine Kept.value_all fun _ => ?_
  refine Kept.prog_all ?_
  delta Refs.at k0_part296
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept297 : Kept.all c R (r.at (k0_part297 (F := F))) := by
  with_reducible_and_instances repeat refine Kept.value_all fun _ => ?_
  refine Kept.prog_all ?_
  delta Refs.at k0_part297
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept298 : Kept.all c R (r.at (k0_part298 (F := F))) := by
  with_reducible_and_instances repeat refine Kept.value_all fun _ => ?_
  refine Kept.prog_all ?_
  delta Refs.at k0_part298
  with_reducible_and_instances repeat first | exact Keeps.pure _ | refine Keeps.bind ?_ fun _ => ?_ | exact Keeps.load r.held7 | exact Keeps.load r.held13 | exact Keeps.load r.held14 | exact Keeps.store r.held14 | exact Keeps.load r.held16 | exact Keeps.load r.held17 | exact Keeps.store r.held17

theorem kept299 : Kept.all c R (r.at (k0_part299 (F := F))) := by
  with_reducible_and_instances repeat refine Kept.value_all fun _ => ?_
  refine Kept.prog_all ?_
  delta Refs.at k0_part299
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept300 : Kept.all c R (r.at (k0_part300 (F := F))) := by
  with_reducible_and_instances repeat refine Kept.value_all fun _ => ?_
  refine Kept.prog_all ?_
  delta Refs.at k0_part300
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept301 : Kept.all c R (r.at (k0_part301 (F := F))) := by
  with_reducible_and_instances repeat refine Kept.value_all fun _ => ?_
  refine Kept.prog_all ?_
  delta Refs.at k0_part301
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept302 : Kept.all c R (r.at (k0_part302 (F := F))) := by
  with_reducible_and_instances repeat refine Kept.value_all fun _ => ?_
  refine Kept.prog_all ?_
  delta Refs.at k0_part302
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept303 : Kept.all c R (r.at (k0_part303 (F := F))) := by
  with_reducible_and_instances repeat refine Kept.value_all fun _ => ?_
  refine Kept.prog_all ?_
  delta Refs.at k0_part303
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept304 : Kept.all c R (r.at (k0_part304 (F := F))) := by
  with_reducible_and_instances repeat refine Kept.value_all fun _ => ?_
  refine Kept.prog_all ?_
  delta Refs.at k0_part304
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept305 : Kept.all c R (r.at (k0_part305 (F := F))) := by
  with_reducible_and_instances repeat refine Kept.value_all fun _ => ?_
  refine Kept.prog_all ?_
  delta Refs.at k0_part305
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held17

theorem kept306 : Kept.all c R (r.at (k0_part306 (F := F))) := by
  with_reducible_and_instances repeat refine Kept.value_all fun _ => ?_
  refine Kept.prog_all ?_
  delta Refs.at k0_part306
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept307 : Kept.all c R (r.at (k0_part307 (F := F))) := by
  with_reducible_and_instances repeat refine Kept.value_all fun _ => ?_
  refine Kept.prog_all ?_
  delta Refs.at k0_part307
  with_reducible_and_instances repeat first | exact Keeps.pure _ | refine Keeps.bind ?_ fun _ => ?_ | exact Keeps.load r.held2 | exact Keeps.load r.held6 | exact Keeps.load r.held12 | exact Keeps.load r.held13 | exact Keeps.store r.held13 | exact Keeps.store r.held15 | exact Keeps.load r.held16 | exact Keeps.store r.held16

theorem kept308 : Kept.all c R (r.at (k0_part308 (F := F))) := by
  with_reducible_and_instances repeat refine Kept.value_all fun _ => ?_
  refine Kept.prog_all ?_
  delta Refs.at k0_part308
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept309 : Kept.all c R (r.at (k0_part309 (F := F))) := by
  with_reducible_and_instances repeat refine Kept.value_all fun _ => ?_
  refine Kept.prog_all ?_
  delta Refs.at k0_part309
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept310 : Kept.all c R (r.at (k0_part310 (F := F))) := by
  with_reducible_and_instances repeat refine Kept.value_all fun _ => ?_
  refine Kept.prog_all ?_
  delta Refs.at k0_part310
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept311 : Kept.all c R (r.at (k0_part311 (F := F))) := by
  with_reducible_and_instances repeat refine Kept.value_all fun _ => ?_
  refine Kept.prog_all ?_
  delta Refs.at k0_part311
  with_reducible_and_instances repeat first | exact Keeps.pure _ | refine Keeps.bind ?_ fun _ => ?_ | exact Keeps.load r.held12 | exact Keeps.load r.held13 | exact Keeps.load r.held16 | exact Keeps.store r.held16 | exact Keeps.load r.held17 | exact Keeps.store r.held17

theorem kept312 : Kept.all c R (r.at (k0_part312 (F := F))) := by
  with_reducible_and_instances repeat refine Kept.value_all fun _ => ?_
  refine Kept.prog_all ?_
  delta Refs.at k0_part312
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept313 : Kept.all c R (r.at (k0_part313 (F := F))) := by
  with_reducible_and_instances repeat refine Kept.value_all fun _ => ?_
  refine Kept.prog_all ?_
  delta Refs.at k0_part313
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held16 | exact Keeps.load r.held17

theorem kept314 : Kept.all c R (r.at (k0_part314 (F := F))) := by
  with_reducible_and_instances repeat refine Kept.value_all fun _ => ?_
  refine Kept.prog_all ?_
  delta Refs.at k0_part314
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept315 : Kept.all c R (r.at (k0_part315 (F := F))) := by
  with_reducible_and_instances repeat refine Kept.value_all fun _ => ?_
  refine Kept.prog_all ?_
  delta Refs.at k0_part315
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept316 : Kept.all c R (r.at (k0_part316 (F := F))) := by
  with_reducible_and_instances repeat refine Kept.value_all fun _ => ?_
  refine Kept.prog_all ?_
  delta Refs.at k0_part316
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept317 : Kept.all c R (r.at (k0_part317 (F := F))) := by
  with_reducible_and_instances repeat refine Kept.value_all fun _ => ?_
  refine Kept.prog_all ?_
  delta Refs.at k0_part317
  with_reducible_and_instances repeat first | exact Keeps.pure _ | refine Keeps.bind ?_ fun _ => ?_ | exact Keeps.load r.held7 | exact Keeps.load r.held13 | exact Keeps.store r.held13 | exact Keeps.store r.held14 | exact Keeps.load r.held15 | exact Keeps.store r.held15 | exact Keeps.load r.held16 | exact Keeps.load r.held17

theorem kept318 : Kept.all c R (r.at (k0_part318 (F := F))) := by
  with_reducible_and_instances repeat refine Kept.value_all fun _ => ?_
  refine Kept.prog_all ?_
  delta Refs.at k0_part318
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept319 : Kept.all c R (r.at (k0_part319 (F := F))) := by
  with_reducible_and_instances repeat refine Kept.value_all fun _ => ?_
  refine Kept.prog_all ?_
  delta Refs.at k0_part319
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept320 : Kept.all c R (r.at (k0_part320 (F := F))) := by
  with_reducible_and_instances repeat refine Kept.value_all fun _ => ?_
  refine Kept.prog_all ?_
  delta Refs.at k0_part320
  with_reducible_and_instances repeat first | exact Keeps.pure _ | refine Keeps.bind ?_ fun _ => ?_ | exact Keeps.load r.held2 | exact Keeps.load r.held7 | exact Keeps.load r.held13 | exact Keeps.store r.held13 | exact Keeps.load r.held14 | exact Keeps.store r.held14 | exact Keeps.load r.held15 | exact Keeps.store r.held15

theorem kept321 : Kept.all c R (r.at (k0_part321 (F := F))) := by
  with_reducible_and_instances repeat refine Kept.value_all fun _ => ?_
  refine Kept.prog_all ?_
  delta Refs.at k0_part321
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept322 : Kept.all c R (r.at (k0_part322 (F := F))) := by
  with_reducible_and_instances repeat refine Kept.value_all fun _ => ?_
  refine Kept.prog_all ?_
  delta Refs.at k0_part322
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept323 : Kept.all c R (r.at (k0_part323 (F := F))) := by
  with_reducible_and_instances repeat refine Kept.value_all fun _ => ?_
  refine Kept.prog_all ?_
  delta Refs.at k0_part323
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept324 : Kept.all c R (r.at (k0_part324 (F := F))) := by
  with_reducible_and_instances repeat refine Kept.value_all fun _ => ?_
  refine Kept.prog_all ?_
  delta Refs.at k0_part324
  with_reducible_and_instances repeat first | exact Keeps.pure _ | refine Keeps.bind ?_ fun _ => ?_ | exact Keeps.load r.held12 | exact Keeps.load r.held16 | exact Keeps.store r.held16 | exact Keeps.load r.held17 | exact Keeps.store r.held17

end Cert.Proof.Attention

end
-- ==== Proof.Leaf5.lean ====
/- The parts of the body that call no other part, each gone through by its shape: every statement keeps what it is given. -/
module

public import proofs.«01_k».proof.Proof.Keeps

@[expose] public section

set_option maxRecDepth 16384
set_option synthInstance.maxSize 4096
set_option maxHeartbeats 1000000

noncomputable section

namespace Cert.Proof.Attention

open Cert.Kernel
open Idealize.ShloMosaic Idealize.SL Idealize.SL.RA Idealize.SL.BI Idealize.SL.Sem

variable {F : FTy → Type} [BitOps F] [Cert.Kernel.Facts]
  {c : Dev nD} {R : sProp (MT nD τ sig Unit (Elt F) ℕ (UR sig nD τ) ℕ)} (r : Refs c R)

theorem kept325 : Kept.all c R (r.at (k0_part325 (F := F))) := by
  with_reducible_and_instances repeat refine Kept.value_all fun _ => ?_
  refine Kept.prog_all ?_
  delta Refs.at k0_part325
  with_reducible_and_instances repeat first | exact Keeps.pure _ | refine Keeps.bind ?_ fun _ => ?_ | exact Keeps.load r.held7 | exact Keeps.load r.held13 | exact Keeps.load r.held14 | exact Keeps.load r.held16 | exact Keeps.store r.held16 | exact Keeps.load r.held17 | exact Keeps.store r.held17

theorem kept326 : Kept.all c R (r.at (k0_part326 (F := F))) := by
  with_reducible_and_instances repeat refine Kept.value_all fun _ => ?_
  refine Kept.prog_all ?_
  delta Refs.at k0_part326
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept327 : Kept.all c R (r.at (k0_part327 (F := F))) := by
  with_reducible_and_instances repeat refine Kept.value_all fun _ => ?_
  refine Kept.prog_all ?_
  delta Refs.at k0_part327
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept328 : Kept.all c R (r.at (k0_part328 (F := F))) := by
  with_reducible_and_instances repeat refine Kept.value_all fun _ => ?_
  refine Kept.prog_all ?_
  delta Refs.at k0_part328
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept329 : Kept.all c R (r.at (k0_part329 (F := F))) := by
  with_reducible_and_instances repeat refine Kept.value_all fun _ => ?_
  refine Kept.prog_all ?_
  delta Refs.at k0_part329
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept330 : Kept.all c R (r.at (k0_part330 (F := F))) := by
  with_reducible_and_instances repeat refine Kept.value_all fun _ => ?_
  refine Kept.prog_all ?_
  delta Refs.at k0_part330
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept331 : Kept.all c R (r.at (k0_part331 (F := F))) := by
  with_reducible_and_instances repeat refine Kept.value_all fun _ => ?_
  refine Kept.prog_all ?_
  delta Refs.at k0_part331
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held16 | exact Keeps.load r.held17

theorem kept332 : Kept.all c R (r.at (k0_part332 (F := F))) := by
  with_reducible_and_instances repeat refine Kept.value_all fun _ => ?_
  refine Kept.prog_all ?_
  delta Refs.at k0_part332
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept333 : Kept.all c R (r.at (k0_part333 (F := F))) := by
  with_reducible_and_instances repeat refine Kept.value_all fun _ => ?_
  refine Kept.prog_all ?_
  delta Refs.at k0_part333
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept335 : Kept.all c R (r.at (k0_part335 (F := F))) := by
  with_reducible_and_instances repeat refine Kept.value_all fun _ => ?_
  refine Kept.prog_all ?_
  delta Refs.at k0_part335
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept336 : Kept.all c R (r.at (k0_part336 (F := F))) := by
  with_reducible_and_instances repeat refine Kept.value_all fun _ => ?_
  refine Kept.prog_all ?_
  delta Refs.at k0_part336
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept337 : Kept.all c R (r.at (k0_part337 (F := F))) := by
  with_reducible_and_instances repeat refine Kept.value_all fun _ => ?_
  refine Kept.prog_all ?_
  delta Refs.at k0_part337
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept338 : Kept.all c R (r.at (k0_part338 (F := F))) := by
  with_reducible_and_instances repeat refine Kept.value_all fun _ => ?_
  refine Kept.prog_all ?_
  delta Refs.at k0_part338
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept339 : Kept.all c R (r.at (k0_part339 (F := F))) := by
  with_reducible_and_instances repeat refine Kept.value_all fun _ => ?_
  refine Kept.prog_all ?_
  delta Refs.at k0_part339
  with_reducible_and_instances repeat first | exact Keeps.pure _ | refine Keeps.bind ?_ fun _ => ?_ | exact Keeps.load r.held12 | exact Keeps.load r.held13 | exact Keeps.load r.held16 | exact Keeps.store r.held16 | exact Keeps.load r.held17 | exact Keeps.store r.held17

theorem kept340 : Kept.all c R (r.at (k0_part340 (F := F))) := by
  with_reducible_and_instances repeat refine Kept.value_all fun _ => ?_
  refine Kept.prog_all ?_
  delta Refs.at k0_part340
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept341 : Kept.all c R (r.at (k0_part341 (F := F))) := by
  with_reducible_and_instances repeat refine Kept.value_all fun _ => ?_
  refine Kept.prog_all ?_
  delta Refs.at k0_part341
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept342 : Kept.all c R (r.at (k0_part342 (F := F))) := by
  with_reducible_and_instances repeat refine Kept.value_all fun _ => ?_
  refine Kept.prog_all ?_
  delta Refs.at k0_part342
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held17

theorem kept343 : Kept.all c R (r.at (k0_part343 (F := F))) := by
  with_reducible_and_instances repeat refine Kept.value_all fun _ => ?_
  refine Kept.prog_all ?_
  delta Refs.at k0_part343
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept344 : Kept.all c R (r.at (k0_part344 (F := F))) := by
  with_reducible_and_instances repeat refine Kept.value_all fun _ => ?_
  refine Kept.prog_all ?_
  delta Refs.at k0_part344
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept345 : Kept.all c R (r.at (k0_part345 (F := F))) := by
  with_reducible_and_instances repeat refine Kept.value_all fun _ => ?_
  refine Kept.prog_all ?_
  delta Refs.at k0_part345
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept346 : Kept.all c R (r.at (k0_part346 (F := F))) := by
  with_reducible_and_instances repeat refine Kept.value_all fun _ => ?_
  refine Kept.prog_all ?_
  delta Refs.at k0_part346
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept347 : Kept.all c R (r.at (k0_part347 (F := F))) := by
  with_reducible_and_instances repeat refine Kept.value_all fun _ => ?_
  refine Kept.prog_all ?_
  delta Refs.at k0_part347
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept348 : Kept.all c R (r.at (k0_part348 (F := F))) := by
  with_reducible_and_instances repeat refine Kept.value_all fun _ => ?_
  refine Kept.prog_all ?_
  delta Refs.at k0_part348
  with_reducible_and_instances repeat first | exact Keeps.pure _ | refine Keeps.bind ?_ fun _ => ?_ | exact Keeps.load r.held2 | exact Keeps.load r.held6 | exact Keeps.load r.held13 | exact Keeps.store r.held13 | exact Keeps.load r.held14 | exact Keeps.store r.held14 | exact Keeps.load r.held15 | exact Keeps.store r.held15

theorem kept349 : Kept.all c R (r.at (k0_part349 (F := F))) := by
  with_reducible_and_instances repeat refine Kept.value_all fun _ => ?_
  refine Kept.prog_all ?_
  delta Refs.at k0_part349
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept350 : Kept.all c R (r.at (k0_part350 (F := F))) := by
  with_reducible_and_instances repeat refine Kept.value_all fun _ => ?_
  refine Kept.prog_all ?_
  delta Refs.at k0_part350
  with_reducible_and_instances repeat first | exact Keeps.pure _ | refine Keeps.bind ?_ fun _ => ?_ | exact Keeps.load r.held2 | exact Keeps.load r.held12 | exact Keeps.load r.held16 | exact Keeps.store r.held16 | exact Keeps.load r.held17 | exact Keeps.store r.held17

theorem kept351 : Kept.all c R (r.at (k0_part351 (F := F))) := by
  with_reducible_and_instances repeat refine Kept.value_all fun _ => ?_
  refine Kept.prog_all ?_
  delta Refs.at k0_part351
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept352 : Kept.all c R (r.at (k0_part352 (F := F))) := by
  with_reducible_and_instances repeat refine Kept.value_all fun _ => ?_
  refine Kept.prog_all ?_
  delta Refs.at k0_part352
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept353 : Kept.all c R (r.at (k0_part353 (F := F))) := by
  with_reducible_and_instances repeat refine Kept.value_all fun _ => ?_
  refine Kept.prog_all ?_
  delta Refs.at k0_part353
  with_reducible_and_instances repeat first | exact Keeps.pure _ | refine Keeps.bind ?_ fun _ => ?_ | exact Keeps.load r.held7 | exact Keeps.load r.held13 | exact Keeps.load r.held14 | exact Keeps.store r.held14 | exact Keeps.load r.held16 | exact Keeps.load r.held17 | exact Keeps.store r.held17

theorem kept354 : Kept.all c R (r.at (k0_part354 (F := F))) := by
  with_reducible_and_instances repeat refine Kept.value_all fun _ => ?_
  refine Kept.prog_all ?_
  delta Refs.at k0_part354
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept355 : Kept.all c R (r.at (k0_part355 (F := F))) := by
  with_reducible_and_instances repeat refine Kept.value_all fun _ => ?_
  refine Kept.prog_all ?_
  delta Refs.at k0_part355
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept356 : Kept.all c R (r.at (k0_part356 (F := F))) := by
  with_reducible_and_instances repeat refine Kept.value_all fun _ => ?_
  refine Kept.prog_all ?_
  delta Refs.at k0_part356
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept357 : Kept.all c R (r.at (k0_part357 (F := F))) := by
  with_reducible_and_instances repeat refine Kept.value_all fun _ => ?_
  refine Kept.prog_all ?_
  delta Refs.at k0_part357
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept358 : Kept.all c R (r.at (k0_part358 (F := F))) := by
  with_reducible_and_instances repeat refine Kept.value_all fun _ => ?_
  refine Kept.prog_all ?_
  delta Refs.at k0_part358
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept359 : Kept.all c R (r.at (k0_part359 (F := F))) := by
  with_reducible_and_instances repeat refine Kept.value_all fun _ => ?_
  refine Kept.prog_all ?_
  delta Refs.at k0_part359
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept360 : Kept.all c R (r.at (k0_part360 (F := F))) := by
  with_reducible_and_instances repeat refine Kept.value_all fun _ => ?_
  refine Kept.prog_all ?_
  delta Refs.at k0_part360
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held17

theorem kept361 : Kept.all c R (r.at (k0_part361 (F := F))) := by
  with_reducible_and_instances repeat refine Kept.value_all fun _ => ?_
  refine Kept.prog_all ?_
  delta Refs.at k0_part361
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept362 : Kept.all c R (r.at (k0_part362 (F := F))) := by
  with_reducible_and_instances repeat refine Kept.value_all fun _ => ?_
  refine Kept.prog_all ?_
  delta Refs.at k0_part362
  with_reducible_and_instances repeat first | exact Keeps.pure _ | refine Keeps.bind ?_ fun _ => ?_ | exact Keeps.load r.held2 | exact Keeps.load r.held6 | exact Keeps.load r.held12 | exact Keeps.load r.held13 | exact Keeps.store r.held13 | exact Keeps.store r.held15 | exact Keeps.load r.held16 | exact Keeps.store r.held16

theorem kept363 : Kept.all c R (r.at (k0_part363 (F := F))) := by
  with_reducible_and_instances repeat refine Kept.value_all fun _ => ?_
  refine Kept.prog_all ?_
  delta Refs.at k0_part363
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept364 : Kept.all c R (r.at (k0_part364 (F := F))) := by
  with_reducible_and_instances repeat refine Kept.value_all fun _ => ?_
  refine Kept.prog_all ?_
  delta Refs.at k0_part364
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept365 : Kept.all c R (r.at (k0_part365 (F := F))) := by
  with_reducible_and_instances repeat refine Kept.value_all fun _ => ?_
  refine Kept.prog_all ?_
  delta Refs.at k0_part365
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept366 : Kept.all c R (r.at (k0_part366 (F := F))) := by
  with_reducible_and_instances repeat refine Kept.value_all fun _ => ?_
  refine Kept.prog_all ?_
  delta Refs.at k0_part366
  with_reducible_and_instances repeat first | exact Keeps.pure _ | refine Keeps.bind ?_ fun _ => ?_ | exact Keeps.load r.held12 | exact Keeps.load r.held13 | exact Keeps.load r.held16 | exact Keeps.store r.held16 | exact Keeps.load r.held17 | exact Keeps.store r.held17

theorem kept367 : Kept.all c R (r.at (k0_part367 (F := F))) := by
  with_reducible_and_instances repeat refine Kept.value_all fun _ => ?_
  refine Kept.prog_all ?_
  delta Refs.at k0_part367
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept368 : Kept.all c R (r.at (k0_part368 (F := F))) := by
  with_reducible_and_instances repeat refine Kept.value_all fun _ => ?_
  refine Kept.prog_all ?_
  delta Refs.at k0_part368
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held16 | exact Keeps.load r.held17

theorem kept369 : Kept.all c R (r.at (k0_part369 (F := F))) := by
  with_reducible_and_instances repeat refine Kept.value_all fun _ => ?_
  refine Kept.prog_all ?_
  delta Refs.at k0_part369
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept370 : Kept.all c R (r.at (k0_part370 (F := F))) := by
  with_reducible_and_instances repeat refine Kept.value_all fun _ => ?_
  refine Kept.prog_all ?_
  delta Refs.at k0_part370
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept371 : Kept.all c R (r.at (k0_part371 (F := F))) := by
  with_reducible_and_instances repeat refine Kept.value_all fun _ => ?_
  refine Kept.prog_all ?_
  delta Refs.at k0_part371
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept372 : Kept.all c R (r.at (k0_part372 (F := F))) := by
  with_reducible_and_instances repeat refine Kept.value_all fun _ => ?_
  refine Kept.prog_all ?_
  delta Refs.at k0_part372
  with_reducible_and_instances repeat first | exact Keeps.pure _ | refine Keeps.bind ?_ fun _ => ?_ | exact Keeps.load r.held7 | exact Keeps.load r.held13 | exact Keeps.store r.held13 | exact Keeps.store r.held14 | exact Keeps.load r.held15 | exact Keeps.store r.held15 | exact Keeps.load r.held16 | exact Keeps.load r.held17

theorem kept373 : Kept.all c R (r.at (k0_part373 (F := F))) := by
  with_reducible_and_instances repeat refine Kept.value_all fun _ => ?_
  refine Kept.prog_all ?_
  delta Refs.at k0_part373
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept374 : Kept.all c R (r.at (k0_part374 (F := F))) := by
  with_reducible_and_instances repeat refine Kept.value_all fun _ => ?_
  refine Kept.prog_all ?_
  delta Refs.at k0_part374
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept375 : Kept.all c R (r.at (k0_part375 (F := F))) := by
  with_reducible_and_instances repeat refine Kept.value_all fun _ => ?_
  refine Kept.prog_all ?_
  delta Refs.at k0_part375
  with_reducible_and_instances repeat first | exact Keeps.pure _ | refine Keeps.bind ?_ fun _ => ?_ | exact Keeps.load r.held2 | exact Keeps.load r.held7 | exact Keeps.load r.held13 | exact Keeps.store r.held13 | exact Keeps.load r.held14 | exact Keeps.store r.held14 | exact Keeps.load r.held15 | exact Keeps.store r.held15

theorem kept376 : Kept.all c R (r.at (k0_part376 (F := F))) := by
  with_reducible_and_instances repeat refine Kept.value_all fun _ => ?_
  refine Kept.prog_all ?_
  delta Refs.at k0_part376
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept377 : Kept.all c R (r.at (k0_part377 (F := F))) := by
  with_reducible_and_instances repeat refine Kept.value_all fun _ => ?_
  refine Kept.prog_all ?_
  delta Refs.at k0_part377
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept378 : Kept.all c R (r.at (k0_part378 (F := F))) := by
  with_reducible_and_instances repeat refine Kept.value_all fun _ => ?_
  refine Kept.prog_all ?_
  delta Refs.at k0_part378
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept379 : Kept.all c R (r.at (k0_part379 (F := F))) := by
  with_reducible_and_instances repeat refine Kept.value_all fun _ => ?_
  refine Kept.prog_all ?_
  delta Refs.at k0_part379
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept380 : Kept.all c R (r.at (k0_part380 (F := F))) := by
  with_reducible_and_instances repeat refine Kept.value_all fun _ => ?_
  refine Kept.prog_all ?_
  delta Refs.at k0_part380
  with_reducible_and_instances repeat first | exact Keeps.pure _ | refine Keeps.bind ?_ fun _ => ?_ | exact Keeps.load r.held7 | exact Keeps.load r.held13 | exact Keeps.load r.held14 | exact Keeps.load r.held16 | exact Keeps.store r.held16 | exact Keeps.load r.held17 | exact Keeps.store r.held17

theorem kept381 : Kept.all c R (r.at (k0_part381 (F := F))) := by
  with_reducible_and_instances repeat refine Kept.value_all fun _ => ?_
  refine Kept.prog_all ?_
  delta Refs.at k0_part381
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept382 : Kept.all c R (r.at (k0_part382 (F := F))) := by
  with_reducible_and_instances repeat refine Kept.value_all fun _ => ?_
  refine Kept.prog_all ?_
  delta Refs.at k0_part382
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept383 : Kept.all c R (r.at (k0_part383 (F := F))) := by
  with_reducible_and_instances repeat refine Kept.value_all fun _ => ?_
  refine Kept.prog_all ?_
  delta Refs.at k0_part383
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept384 : Kept.all c R (r.at (k0_part384 (F := F))) := by
  with_reducible_and_instances repeat refine Kept.value_all fun _ => ?_
  refine Kept.prog_all ?_
  delta Refs.at k0_part384
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept385 : Kept.all c R (r.at (k0_part385 (F := F))) := by
  with_reducible_and_instances repeat refine Kept.value_all fun _ => ?_
  refine Kept.prog_all ?_
  delta Refs.at k0_part385
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept386 : Kept.all c R (r.at (k0_part386 (F := F))) := by
  with_reducible_and_instances repeat refine Kept.value_all fun _ => ?_
  refine Kept.prog_all ?_
  delta Refs.at k0_part386
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held16 | exact Keeps.load r.held17

theorem kept387 : Kept.all c R (r.at (k0_part387 (F := F))) := by
  with_reducible_and_instances repeat refine Kept.value_all fun _ => ?_
  refine Kept.prog_all ?_
  delta Refs.at k0_part387
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept388 : Kept.all c R (r.at (k0_part388 (F := F))) := by
  with_reducible_and_instances repeat refine Kept.value_all fun _ => ?_
  refine Kept.prog_all ?_
  delta Refs.at k0_part388
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept390 : Kept.all c R (r.at (k0_part390 (F := F))) := by
  with_reducible_and_instances repeat refine Kept.value_all fun _ => ?_
  refine Kept.prog_all ?_
  delta Refs.at k0_part390
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept391 : Kept.all c R (r.at (k0_part391 (F := F))) := by
  with_reducible_and_instances repeat refine Kept.value_all fun _ => ?_
  refine Kept.prog_all ?_
  delta Refs.at k0_part391
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept392 : Kept.all c R (r.at (k0_part392 (F := F))) := by
  with_reducible_and_instances repeat refine Kept.value_all fun _ => ?_
  refine Kept.prog_all ?_
  delta Refs.at k0_part392
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept393 : Kept.all c R (r.at (k0_part393 (F := F))) := by
  with_reducible_and_instances repeat refine Kept.value_all fun _ => ?_
  refine Kept.prog_all ?_
  delta Refs.at k0_part393
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept394 : Kept.all c R (r.at (k0_part394 (F := F))) := by
  with_reducible_and_instances repeat refine Kept.value_all fun _ => ?_
  refine Kept.prog_all ?_
  delta Refs.at k0_part394
  with_reducible_and_instances repeat first | exact Keeps.pure _ | refine Keeps.bind ?_ fun _ => ?_ | exact Keeps.load r.held12 | exact Keeps.load r.held13 | exact Keeps.load r.held16 | exact Keeps.store r.held16 | exact Keeps.load r.held17 | exact Keeps.store r.held17

theorem kept395 : Kept.all c R (r.at (k0_part395 (F := F))) := by
  with_reducible_and_instances repeat refine Kept.value_all fun _ => ?_
  refine Kept.prog_all ?_
  delta Refs.at k0_part395
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept396 : Kept.all c R (r.at (k0_part396 (F := F))) := by
  with_reducible_and_instances repeat refine Kept.value_all fun _ => ?_
  refine Kept.prog_all ?_
  delta Refs.at k0_part396
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept397 : Kept.all c R (r.at (k0_part397 (F := F))) := by
  with_reducible_and_instances repeat refine Kept.value_all fun _ => ?_
  refine Kept.prog_all ?_
  delta Refs.at k0_part397
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept398 : Kept.all c R (r.at (k0_part398 (F := F))) := by
  with_reducible_and_instances repeat refine Kept.value_all fun _ => ?_
  refine Kept.prog_all ?_
  delta Refs.at k0_part398
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held16 | exact Keeps.load r.held17

theorem kept399 : Kept.all c R (r.at (k0_part399 (F := F))) := by
  with_reducible_and_instances repeat refine Kept.value_all fun _ => ?_
  refine Kept.prog_all ?_
  delta Refs.at k0_part399
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept400 : Kept.all c R (r.at (k0_part400 (F := F))) := by
  with_reducible_and_instances repeat refine Kept.value_all fun _ => ?_
  refine Kept.prog_all ?_
  delta Refs.at k0_part400
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept401 : Kept.all c R (r.at (k0_part401 (F := F))) := by
  with_reducible_and_instances repeat refine Kept.value_all fun _ => ?_
  refine Kept.prog_all ?_
  delta Refs.at k0_part401
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept402 : Kept.all c R (r.at (k0_part402 (F := F))) := by
  with_reducible_and_instances repeat refine Kept.value_all fun _ => ?_
  refine Kept.prog_all ?_
  delta Refs.at k0_part402
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept403 : Kept.all c R (r.at (k0_part403 (F := F))) := by
  with_reducible_and_instances repeat refine Kept.value_all fun _ => ?_
  refine Kept.prog_all ?_
  delta Refs.at k0_part403
  with_reducible_and_instances repeat first | exact Keeps.pure _ | refine Keeps.bind ?_ fun _ => ?_ | exact Keeps.load r.held2 | exact Keeps.load r.held6 | exact Keeps.load r.held13 | exact Keeps.store r.held13 | exact Keeps.load r.held14 | exact Keeps.store r.held14 | exact Keeps.load r.held15 | exact Keeps.store r.held15

theorem kept404 : Kept.all c R (r.at (k0_part404 (F := F))) := by
  with_reducible_and_instances repeat refine Kept.value_all fun _ => ?_
  refine Kept.prog_all ?_
  delta Refs.at k0_part404
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept405 : Kept.all c R (r.at (k0_part405 (F := F))) := by
  with_reducible_and_instances repeat refine Kept.value_all fun _ => ?_
  refine Kept.prog_all ?_
  delta Refs.at k0_part405
  with_reducible_and_instances repeat first | exact Keeps.pure _ | refine Keeps.bind ?_ fun _ => ?_ | exact Keeps.load r.held2 | exact Keeps.load r.held12 | exact Keeps.load r.held16 | exact Keeps.store r.held16 | exact Keeps.load r.held17 | exact Keeps.store r.held17

end Cert.Proof.Attention

end
-- ==== Proof.Leaf6.lean ====
/- The parts of the body that call no other part, each gone through by its shape: every statement keeps what it is given. -/
module

public import proofs.«01_k».proof.Proof.Keeps

@[expose] public section

set_option maxRecDepth 16384
set_option synthInstance.maxSize 4096
set_option maxHeartbeats 1000000

noncomputable section

namespace Cert.Proof.Attention

open Cert.Kernel
open Idealize.ShloMosaic Idealize.SL Idealize.SL.RA Idealize.SL.BI Idealize.SL.Sem

variable {F : FTy → Type} [BitOps F] [Cert.Kernel.Facts]
  {c : Dev nD} {R : sProp (MT nD τ sig Unit (Elt F) ℕ (UR sig nD τ) ℕ)} (r : Refs c R)

theorem kept406 : Kept.all c R (r.at (k0_part406 (F := F))) := by
  with_reducible_and_instances repeat refine Kept.value_all fun _ => ?_
  refine Kept.prog_all ?_
  delta Refs.at k0_part406
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept407 : Kept.all c R (r.at (k0_part407 (F := F))) := by
  with_reducible_and_instances repeat refine Kept.value_all fun _ => ?_
  refine Kept.prog_all ?_
  delta Refs.at k0_part407
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept408 : Kept.all c R (r.at (k0_part408 (F := F))) := by
  with_reducible_and_instances repeat refine Kept.value_all fun _ => ?_
  refine Kept.prog_all ?_
  delta Refs.at k0_part408
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.load r.held16 | exact Keeps.load r.held17 | exact Keeps.store r.held17

theorem kept409 : Kept.all c R (r.at (k0_part409 (F := F))) := by
  with_reducible_and_instances repeat refine Kept.value_all fun _ => ?_
  refine Kept.prog_all ?_
  delta Refs.at k0_part409
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept410 : Kept.all c R (r.at (k0_part410 (F := F))) := by
  with_reducible_and_instances repeat refine Kept.value_all fun _ => ?_
  refine Kept.prog_all ?_
  delta Refs.at k0_part410
  with_reducible_and_instances repeat first | exact Keeps.pure _ | refine Keeps.bind ?_ fun _ => ?_ | exact Keeps.load r.held7 | exact Keeps.load r.held13 | exact Keeps.store r.held13 | exact Keeps.store r.held14 | exact Keeps.load r.held15 | exact Keeps.store r.held15 | exact Keeps.load r.held16 | exact Keeps.load r.held17

theorem kept411 : Kept.all c R (r.at (k0_part411 (F := F))) := by
  with_reducible_and_instances repeat refine Kept.value_all fun _ => ?_
  refine Kept.prog_all ?_
  delta Refs.at k0_part411
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept412 : Kept.all c R (r.at (k0_part412 (F := F))) := by
  with_reducible_and_instances repeat refine Kept.value_all fun _ => ?_
  refine Kept.prog_all ?_
  delta Refs.at k0_part412
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept413 : Kept.all c R (r.at (k0_part413 (F := F))) := by
  with_reducible_and_instances repeat refine Kept.value_all fun _ => ?_
  refine Kept.prog_all ?_
  delta Refs.at k0_part413
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept414 : Kept.all c R (r.at (k0_part414 (F := F))) := by
  with_reducible_and_instances repeat refine Kept.value_all fun _ => ?_
  refine Kept.prog_all ?_
  delta Refs.at k0_part414
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept415 : Kept.all c R (r.at (k0_part415 (F := F))) := by
  with_reducible_and_instances repeat refine Kept.value_all fun _ => ?_
  refine Kept.prog_all ?_
  delta Refs.at k0_part415
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept416 : Kept.all c R (r.at (k0_part416 (F := F))) := by
  with_reducible_and_instances repeat refine Kept.value_all fun _ => ?_
  refine Kept.prog_all ?_
  delta Refs.at k0_part416
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.load r.held16 | exact Keeps.load r.held17

theorem kept417 : Kept.all c R (r.at (k0_part417 (F := F))) := by
  with_reducible_and_instances repeat refine Kept.value_all fun _ => ?_
  refine Kept.prog_all ?_
  delta Refs.at k0_part417
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept418 : Kept.all c R (r.at (k0_part418 (F := F))) := by
  with_reducible_and_instances repeat refine Kept.value_all fun _ => ?_
  refine Kept.prog_all ?_
  delta Refs.at k0_part418
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept419 : Kept.all c R (r.at (k0_part419 (F := F))) := by
  with_reducible_and_instances repeat refine Kept.value_all fun _ => ?_
  refine Kept.prog_all ?_
  delta Refs.at k0_part419
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept420 : Kept.all c R (r.at (k0_part420 (F := F))) := by
  with_reducible_and_instances repeat refine Kept.value_all fun _ => ?_
  refine Kept.prog_all ?_
  delta Refs.at k0_part420
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept421 : Kept.all c R (r.at (k0_part421 (F := F))) := by
  with_reducible_and_instances repeat refine Kept.value_all fun _ => ?_
  refine Kept.prog_all ?_
  delta Refs.at k0_part421
  with_reducible_and_instances repeat first | exact Keeps.pure _ | refine Keeps.bind ?_ fun _ => ?_ | exact Keeps.load r.held12 | exact Keeps.load r.held13 | exact Keeps.load r.held16 | exact Keeps.store r.held16 | exact Keeps.load r.held17 | exact Keeps.store r.held17

theorem kept422 : Kept.all c R (r.at (k0_part422 (F := F))) := by
  with_reducible_and_instances repeat refine Kept.value_all fun _ => ?_
  refine Kept.prog_all ?_
  delta Refs.at k0_part422
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept423 : Kept.all c R (r.at (k0_part423 (F := F))) := by
  with_reducible_and_instances repeat refine Kept.value_all fun _ => ?_
  refine Kept.prog_all ?_
  delta Refs.at k0_part423
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept424 : Kept.all c R (r.at (k0_part424 (F := F))) := by
  with_reducible_and_instances repeat refine Kept.value_all fun _ => ?_
  refine Kept.prog_all ?_
  delta Refs.at k0_part424
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept425 : Kept.all c R (r.at (k0_part425 (F := F))) := by
  with_reducible_and_instances repeat refine Kept.value_all fun _ => ?_
  refine Kept.prog_all ?_
  delta Refs.at k0_part425
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.store r.held15 | exact Keeps.load r.held16 | exact Keeps.load r.held17

theorem kept426 : Kept.all c R (r.at (k0_part426 (F := F))) := by
  with_reducible_and_instances repeat refine Kept.value_all fun _ => ?_
  refine Kept.prog_all ?_
  delta Refs.at k0_part426
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.load r.held16 | exact Keeps.load r.held17

theorem kept427 : Kept.all c R (r.at (k0_part427 (F := F))) := by
  with_reducible_and_instances repeat refine Kept.value_all fun _ => ?_
  refine Kept.prog_all ?_
  delta Refs.at k0_part427
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept428 : Kept.all c R (r.at (k0_part428 (F := F))) := by
  with_reducible_and_instances repeat refine Kept.value_all fun _ => ?_
  refine Kept.prog_all ?_
  delta Refs.at k0_part428
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept429 : Kept.all c R (r.at (k0_part429 (F := F))) := by
  with_reducible_and_instances repeat refine Kept.value_all fun _ => ?_
  refine Kept.prog_all ?_
  delta Refs.at k0_part429
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept430 : Kept.all c R (r.at (k0_part430 (F := F))) := by
  with_reducible_and_instances repeat refine Kept.value_all fun _ => ?_
  refine Kept.prog_all ?_
  delta Refs.at k0_part430
  with_reducible_and_instances repeat first | exact Keeps.pure _ | refine Keeps.bind ?_ fun _ => ?_ | exact Keeps.load r.held2 | exact Keeps.load r.held6 | exact Keeps.load r.held13 | exact Keeps.store r.held13 | exact Keeps.load r.held14 | exact Keeps.store r.held14 | exact Keeps.load r.held15 | exact Keeps.store r.held15

theorem kept431 : Kept.all c R (r.at (k0_part431 (F := F))) := by
  with_reducible_and_instances repeat refine Kept.value_all fun _ => ?_
  refine Kept.prog_all ?_
  delta Refs.at k0_part431
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept432 : Kept.all c R (r.at (k0_part432 (F := F))) := by
  with_reducible_and_instances repeat refine Kept.value_all fun _ => ?_
  refine Kept.prog_all ?_
  delta Refs.at k0_part432
  with_reducible_and_instances repeat first | exact Keeps.pure _ | refine Keeps.bind ?_ fun _ => ?_ | exact Keeps.load r.held2 | exact Keeps.load r.held12 | exact Keeps.load r.held16 | exact Keeps.store r.held16 | exact Keeps.load r.held17 | exact Keeps.store r.held17

theorem kept433 : Kept.all c R (r.at (k0_part433 (F := F))) := by
  with_reducible_and_instances repeat refine Kept.value_all fun _ => ?_
  refine Kept.prog_all ?_
  delta Refs.at k0_part433
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept434 : Kept.all c R (r.at (k0_part434 (F := F))) := by
  with_reducible_and_instances repeat refine Kept.value_all fun _ => ?_
  refine Kept.prog_all ?_
  delta Refs.at k0_part434
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept435 : Kept.all c R (r.at (k0_part435 (F := F))) := by
  with_reducible_and_instances repeat refine Kept.value_all fun _ => ?_
  refine Kept.prog_all ?_
  delta Refs.at k0_part435
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.load r.held16 | exact Keeps.load r.held17 | exact Keeps.store r.held17

theorem kept436 : Kept.all c R (r.at (k0_part436 (F := F))) := by
  with_reducible_and_instances repeat refine Kept.value_all fun _ => ?_
  refine Kept.prog_all ?_
  delta Refs.at k0_part436
  with_reducible_and_instances repeat first | exact Keeps.pure _ | refine Keeps.bind ?_ fun _ => ?_ | exact Keeps.load r.held7 | exact Keeps.load r.held13 | exact Keeps.store r.held13 | exact Keeps.load r.held14 | exact Keeps.load r.held15 | exact Keeps.store r.held15 | exact Keeps.load r.held16 | exact Keeps.load r.held17

theorem kept437 : Kept.all c R (r.at (k0_part437 (F := F))) := by
  with_reducible_and_instances repeat refine Kept.value_all fun _ => ?_
  refine Kept.prog_all ?_
  delta Refs.at k0_part437
  with_reducible_and_instances repeat first | exact Keeps.pure _ | refine Keeps.bind ?_ fun _ => ?_ | exact Keeps.load r.held7 | exact Keeps.load r.held13 | exact Keeps.store r.held13 | exact Keeps.store r.held14 | exact Keeps.load r.held15 | exact Keeps.store r.held15 | exact Keeps.load r.held16 | exact Keeps.load r.held17

theorem kept438 : Kept.all c R (r.at (k0_part438 (F := F))) := by
  with_reducible_and_instances repeat refine Kept.value_all fun _ => ?_
  refine Kept.prog_all ?_
  delta Refs.at k0_part438
  with_reducible_and_instances repeat first | exact Keeps.pure _ | refine Keeps.bind ?_ fun _ => ?_ | exact Keeps.load r.held13 | exact Keeps.store r.held13 | exact Keeps.load r.held14 | exact Keeps.store r.held14 | exact Keeps.load r.held15 | exact Keeps.store r.held15 | exact Keeps.load r.held16 | exact Keeps.load r.held17

theorem kept439 : Kept.all c R (r.at (k0_part439 (F := F))) := by
  with_reducible_and_instances repeat refine Kept.value_all fun _ => ?_
  refine Kept.prog_all ?_
  delta Refs.at k0_part439
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept440 : Kept.all c R (r.at (k0_part440 (F := F))) := by
  with_reducible_and_instances repeat refine Kept.value_all fun _ => ?_
  refine Kept.prog_all ?_
  delta Refs.at k0_part440
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16 | exact Keeps.load r.held17

theorem kept441 : Kept.all c R (r.at (k0_part441 (F := F))) := by
  with_reducible_and_instances repeat refine Kept.value_all fun _ => ?_
  refine Kept.prog_all ?_
  delta Refs.at k0_part441
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held16

theorem kept442 : Kept.all c R (r.at (k0_part442 (F := F))) := by
  with_reducible_and_instances repeat refine Kept.value_all fun _ => ?_
  refine Kept.prog_all ?_
  delta Refs.at k0_part442
  with_reducible_and_instances repeat first | exact Keeps.pure _ | refine Keeps.bind ?_ fun _ => ?_ | exact Keeps.load r.held7 | exact Keeps.load r.held13 | exact Keeps.store r.held13 | exact Keeps.load r.held14 | exact Keeps.store r.held14 | exact Keeps.load r.held15 | exact Keeps.store r.held15 | exact Keeps.load r.held17

theorem kept443 : Kept.all c R (r.at (k0_part443 (F := F))) := by
  with_reducible_and_instances repeat refine Kept.value_all fun _ => ?_
  refine Kept.prog_all ?_
  delta Refs.at k0_part443
  with_reducible_and_instances repeat first | exact Keeps.pure _ | refine Keeps.bind ?_ fun _ => ?_ | exact Keeps.load r.held7 | exact Keeps.load r.held13 | exact Keeps.load r.held14 | exact Keeps.store r.held14 | exact Keeps.load r.held15 | exact Keeps.load r.held16 | exact Keeps.load r.held17

theorem kept444 : Kept.all c R (r.at (k0_part444 (F := F))) := by
  refine Kept.prog_all ?_
  delta Refs.at k0_part444
  with_reducible_and_instances repeat first | exact Keeps.pure _ | refine Keeps.bind ?_ fun _ => ?_ | exact Keeps.load r.held8 | exact Keeps.load r.held11 | exact Keeps.store r.held11 | refine Keeps.dite (fun _ => ?_) fun _ => ?_

theorem kept445 : Kept.all c R (r.at (k0_part445 (F := F))) := by
  with_reducible_and_instances repeat refine Kept.value_all fun _ => ?_
  refine Kept.prog_all ?_
  delta Refs.at k0_part445
  with_reducible_and_instances repeat first | exact Keeps.pure _ | refine Keeps.bind ?_ fun _ => ?_ | exact Keeps.load r.held3 | exact Keeps.load r.held4

theorem kept446 : Kept.all c R (r.at (k0_part446 (F := F))) := by
  with_reducible_and_instances repeat refine Kept.value_all fun _ => ?_
  refine Kept.prog_all ?_
  delta Refs.at k0_part446
  with_reducible_and_instances repeat first | exact Keeps.pure _ | refine Keeps.bind ?_ fun _ => ?_ | exact Keeps.load r.held3 | exact Keeps.load r.held4

theorem kept447 : Kept.all c R (r.at (k0_part447 (F := F))) := by
  with_reducible_and_instances repeat refine Kept.value_all fun _ => ?_
  refine Kept.prog_all ?_
  delta Refs.at k0_part447
  with_reducible_and_instances repeat first | exact Keeps.pure _ | refine Keeps.bind ?_ fun _ => ?_ | exact Keeps.load r.held3 | exact Keeps.load r.held4

theorem kept448 : Kept.all c R (r.at (k0_part448 (F := F))) := by
  with_reducible_and_instances repeat refine Kept.value_all fun _ => ?_
  refine Kept.prog_all ?_
  delta Refs.at k0_part448
  with_reducible_and_instances repeat first | exact Keeps.pure _ | refine Keeps.bind ?_ fun _ => ?_ | exact Keeps.load r.held3 | exact Keeps.load r.held4

theorem kept449 : Kept.all c R (r.at (k0_part449 (F := F))) := by
  with_reducible_and_instances repeat refine Kept.value_all fun _ => ?_
  refine Kept.prog_all ?_
  delta Refs.at k0_part449
  with_reducible_and_instances repeat first | exact Keeps.pure _ | refine Keeps.bind ?_ fun _ => ?_ | exact Keeps.load r.held3 | exact Keeps.load r.held4 | exact Keeps.load r.held8 | exact Keeps.load r.held10 | exact Keeps.store r.held10

theorem kept450 : Kept.all c R (r.at (k0_part450 (F := F))) := by
  with_reducible_and_instances repeat refine Kept.value_all fun _ => ?_
  refine Kept.prog_all ?_
  delta Refs.at k0_part450
  with_reducible_and_instances repeat first | exact Keeps.pure _ | refine Keeps.bind ?_ fun _ => ?_ | exact Keeps.load r.held3 | exact Keeps.load r.held4

theorem kept451 : Kept.all c R (r.at (k0_part451 (F := F))) := by
  with_reducible_and_instances repeat refine Kept.value_all fun _ => ?_
  refine Kept.prog_all ?_
  delta Refs.at k0_part451
  with_reducible_and_instances repeat first | exact Keeps.pure _ | refine Keeps.bind ?_ fun _ => ?_ | exact Keeps.load r.held3 | exact Keeps.load r.held4

theorem kept452 : Kept.all c R (r.at (k0_part452 (F := F))) := by
  with_reducible_and_instances repeat refine Kept.value_all fun _ => ?_
  refine Kept.prog_all ?_
  delta Refs.at k0_part452
  with_reducible_and_instances repeat first | exact Keeps.pure _ | refine Keeps.bind ?_ fun _ => ?_ | exact Keeps.load r.held3 | exact Keeps.load r.held4

theorem kept453 : Kept.all c R (r.at (k0_part453 (F := F))) := by
  with_reducible_and_instances repeat refine Kept.value_all fun _ => ?_
  refine Kept.prog_all ?_
  delta Refs.at k0_part453
  with_reducible_and_instances repeat first | exact Keeps.pure _ | refine Keeps.bind ?_ fun _ => ?_ | exact Keeps.load r.held3 | exact Keeps.load r.held4

theorem kept454 : Kept.all c R (r.at (k0_part454 (F := F))) := by
  with_reducible_and_instances repeat refine Kept.value_all fun _ => ?_
  refine Kept.prog_all ?_
  delta Refs.at k0_part454
  with_reducible_and_instances repeat first | exact Keeps.pure _ | refine Keeps.bind ?_ fun _ => ?_ | exact Keeps.load r.held10 | exact Keeps.store r.held10

theorem kept456 : Kept.all c R (r.at (k0_part456 (F := F))) := by
  with_reducible_and_instances repeat refine Kept.value_all fun _ => ?_
  refine Kept.prog_all ?_
  delta Refs.at k0_part456
  with_reducible_and_instances repeat first | exact Keeps.pure _ | refine Keeps.bind ?_ fun _ => ?_

theorem kept457 : Kept.all c R (r.at (k0_part457 (F := F))) := by
  with_reducible_and_instances repeat refine Kept.value_all fun _ => ?_
  refine Kept.prog_all ?_
  delta Refs.at k0_part457
  with_reducible_and_instances repeat first | exact Keeps.pure _ | refine Keeps.bind ?_ fun _ => ?_

theorem kept458 : Kept.all c R (r.at (k0_part458 (F := F))) := by
  with_reducible_and_instances repeat refine Kept.value_all fun _ => ?_
  refine Kept.prog_all ?_
  delta Refs.at k0_part458
  with_reducible_and_instances repeat first | exact Keeps.pure _ | refine Keeps.bind ?_ fun _ => ?_

theorem kept459 : Kept.all c R (r.at (k0_part459 (F := F))) := by
  with_reducible_and_instances repeat refine Kept.value_all fun _ => ?_
  refine Kept.prog_all ?_
  delta Refs.at k0_part459
  with_reducible_and_instances repeat first | exact Keeps.pure _ | refine Keeps.bind ?_ fun _ => ?_

theorem kept460 : Kept.all c R (r.at (k0_part460 (F := F))) := by
  with_reducible_and_instances repeat refine Kept.value_all fun _ => ?_
  refine Kept.prog_all ?_
  delta Refs.at k0_part460
  with_reducible_and_instances repeat first | exact Keeps.pure _ | refine Keeps.bind ?_ fun _ => ?_

theorem kept461 : Kept.all c R (r.at (k0_part461 (F := F))) := by
  with_reducible_and_instances repeat refine Kept.value_all fun _ => ?_
  refine Kept.prog_all ?_
  delta Refs.at k0_part461
  with_reducible_and_instances repeat first | exact Keeps.pure _ | refine Keeps.bind ?_ fun _ => ?_

theorem kept462 : Kept.all c R (r.at (k0_part462 (F := F))) := by
  with_reducible_and_instances repeat refine Kept.value_all fun _ => ?_
  refine Kept.prog_all ?_
  delta Refs.at k0_part462
  with_reducible_and_instances repeat first | exact Keeps.pure _ | refine Keeps.bind ?_ fun _ => ?_

theorem kept463 : Kept.all c R (r.at (k0_part463 (F := F))) := by
  with_reducible_and_instances repeat refine Kept.value_all fun _ => ?_
  refine Kept.prog_all ?_
  delta Refs.at k0_part463
  with_reducible_and_instances repeat first | exact Keeps.pure _ | refine Keeps.bind ?_ fun _ => ?_

theorem kept464 : Kept.all c R (r.at (k0_part464 (F := F))) := by
  with_reducible_and_instances repeat refine Kept.value_all fun _ => ?_
  refine Kept.prog_all ?_
  delta Refs.at k0_part464
  with_reducible_and_instances repeat first | exact Keeps.pure _ | refine Keeps.bind ?_ fun _ => ?_

theorem kept465 : Kept.all c R (r.at (k0_part465 (F := F))) := by
  with_reducible_and_instances repeat refine Kept.value_all fun _ => ?_
  refine Kept.prog_all ?_
  delta Refs.at k0_part465
  with_reducible_and_instances repeat first | exact Keeps.pure _ | refine Keeps.bind ?_ fun _ => ?_

theorem kept466 : Kept.all c R (r.at (k0_part466 (F := F))) := by
  with_reducible_and_instances repeat refine Kept.value_all fun _ => ?_
  refine Kept.prog_all ?_
  delta Refs.at k0_part466
  with_reducible_and_instances repeat first | exact Keeps.pure _ | refine Keeps.bind ?_ fun _ => ?_

theorem kept467 : Kept.all c R (r.at (k0_part467 (F := F))) := by
  with_reducible_and_instances repeat refine Kept.value_all fun _ => ?_
  refine Kept.prog_all ?_
  delta Refs.at k0_part467
  with_reducible_and_instances repeat first | exact Keeps.pure _ | refine Keeps.bind ?_ fun _ => ?_

theorem kept468 : Kept.all c R (r.at (k0_part468 (F := F))) := by
  with_reducible_and_instances repeat refine Kept.value_all fun _ => ?_
  refine Kept.prog_all ?_
  delta Refs.at k0_part468
  with_reducible_and_instances repeat first | exact Keeps.pure _ | refine Keeps.bind ?_ fun _ => ?_

theorem kept469 : Kept.all c R (r.at (k0_part469 (F := F))) := by
  with_reducible_and_instances repeat refine Kept.value_all fun _ => ?_
  refine Kept.prog_all ?_
  delta Refs.at k0_part469
  with_reducible_and_instances repeat first | exact Keeps.pure _ | refine Keeps.bind ?_ fun _ => ?_

theorem kept470 : Kept.all c R (r.at (k0_part470 (F := F))) := by
  with_reducible_and_instances repeat refine Kept.value_all fun _ => ?_
  refine Kept.prog_all ?_
  delta Refs.at k0_part470
  with_reducible_and_instances repeat first | exact Keeps.pure _ | refine Keeps.bind ?_ fun _ => ?_

theorem kept471 : Kept.all c R (r.at (k0_part471 (F := F))) := by
  with_reducible_and_instances repeat refine Kept.value_all fun _ => ?_
  refine Kept.prog_all ?_
  delta Refs.at k0_part471
  with_reducible_and_instances repeat first | exact Keeps.pure _ | refine Keeps.bind ?_ fun _ => ?_

theorem kept472 : Kept.all c R (r.at (k0_part472 (F := F))) := by
  with_reducible_and_instances repeat refine Kept.value_all fun _ => ?_
  refine Kept.prog_all ?_
  delta Refs.at k0_part472
  with_reducible_and_instances repeat first | exact Keeps.pure _ | refine Keeps.bind ?_ fun _ => ?_ | exact Keeps.load r.held11 | exact Keeps.store r.held11

theorem kept473 : Kept.all c R (r.at (k0_part473 (F := F))) := by
  with_reducible_and_instances repeat refine Kept.value_all fun _ => ?_
  refine Kept.prog_all ?_
  delta Refs.at k0_part473
  with_reducible_and_instances repeat first | exact Keeps.pure _ | refine Keeps.bind ?_ fun _ => ?_ | exact Keeps.load r.held11 | exact Keeps.store r.held11

theorem kept474 : Kept.all c R (r.at (k0_part474 (F := F))) := by
  with_reducible_and_instances repeat refine Kept.value_all fun _ => ?_
  refine Kept.prog_all ?_
  delta Refs.at k0_part474
  with_reducible_and_instances repeat first | exact Keeps.pure _ | refine Keeps.bind ?_ fun _ => ?_ | exact Keeps.load r.held11 | exact Keeps.store r.held11

theorem kept475 : Kept.all c R (r.at (k0_part475 (F := F))) := by
  with_reducible_and_instances repeat refine Kept.value_all fun _ => ?_
  refine Kept.prog_all ?_
  delta Refs.at k0_part475
  with_reducible_and_instances repeat first | exact Keeps.pure _ | refine Keeps.bind ?_ fun _ => ?_ | exact Keeps.load r.held11 | exact Keeps.store r.held11

theorem kept476 : Kept.all c R (r.at (k0_part476 (F := F))) := by
  with_reducible_and_instances repeat refine Kept.value_all fun _ => ?_
  refine Kept.prog_all ?_
  delta Refs.at k0_part476
  with_reducible_and_instances repeat first | exact Keeps.pure _ | refine Keeps.bind ?_ fun _ => ?_ | exact Keeps.load r.held11 | exact Keeps.store r.held11

theorem kept479 : Kept.all c R (r.at (k0_part479 (F := F))) := by
  with_reducible_and_instances repeat refine Kept.value_all fun _ => ?_
  refine Kept.prog_all ?_
  delta Refs.at k0_part479
  with_reducible_and_instances repeat first | exact Keeps.pure _ | refine Keeps.bind ?_ fun _ => ?_ | exact Keeps.load r.held2 | exact Keeps.load r.held6 | exact Keeps.load r.held12 | exact Keeps.store r.held12 | exact Keeps.load r.held13 | exact Keeps.store r.held13 | exact Keeps.load r.held14 | exact Keeps.store r.held14 | exact Keeps.load r.held15 | exact Keeps.store r.held15 | refine Keeps.dite (fun _ => ?_) fun _ => ?_

theorem kept480 : Kept.all c R (r.at (k0_part480 (F := F))) := by
  with_reducible_and_instances repeat refine Kept.value_all fun _ => ?_
  refine Kept.prog_all ?_
  delta Refs.at k0_part480
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept481 : Kept.all c R (r.at (k0_part481 (F := F))) := by
  with_reducible_and_instances repeat refine Kept.value_all fun _ => ?_
  refine Kept.prog_all ?_
  delta Refs.at k0_part481
  with_reducible_and_instances repeat first | exact Keeps.pure _ | refine Keeps.bind ?_ fun _ => ?_ | exact Keeps.load r.held2 | exact Keeps.load r.held12 | exact Keeps.load r.held16 | exact Keeps.store r.held16 | exact Keeps.load r.held17 | exact Keeps.store r.held17

theorem kept482 : Kept.all c R (r.at (k0_part482 (F := F))) := by
  with_reducible_and_instances repeat refine Kept.value_all fun _ => ?_
  refine Kept.prog_all ?_
  delta Refs.at k0_part482
  with_reducible_and_instances repeat first | exact Keeps.pure _ | refine Keeps.bind ?_ fun _ => ?_ | exact Keeps.load r.held2 | exact Keeps.load r.held6 | exact Keeps.load r.held12 | exact Keeps.load r.held16 | exact Keeps.store r.held16 | exact Keeps.load r.held17 | exact Keeps.store r.held17

theorem kept483 : Kept.all c R (r.at (k0_part483 (F := F))) := by
  with_reducible_and_instances repeat refine Kept.value_all fun _ => ?_
  refine Kept.prog_all ?_
  delta Refs.at k0_part483
  with_reducible_and_instances repeat first | exact Keeps.pure _ | refine Keeps.bind ?_ fun _ => ?_ | exact Keeps.load r.held12 | exact Keeps.load r.held16 | exact Keeps.store r.held16 | exact Keeps.load r.held17 | exact Keeps.store r.held17

theorem kept484 : Kept.all c R (r.at (k0_part484 (F := F))) := by
  with_reducible_and_instances repeat refine Kept.value_all fun _ => ?_
  refine Kept.prog_all ?_
  delta Refs.at k0_part484
  with_reducible_and_instances repeat first | exact Keeps.pure _ | refine Keeps.bind ?_ fun _ => ?_ | exact Keeps.load r.held17 | exact Keeps.store r.held17

theorem kept486 : Kept.all c R (r.at (k0_part486 (F := F))) := by
  with_reducible_and_instances repeat refine Kept.value_all fun _ => ?_
  refine Kept.prog_all ?_
  delta Refs.at k0_part486
  with_reducible_and_instances repeat first | exact Keeps.pure _ | refine Keeps.bind ?_ fun _ => ?_ | exact Keeps.load r.held5 | exact Keeps.load r.held9 | exact Keeps.store r.held9 | exact Keeps.load r.held14 | exact Keeps.load r.held15

theorem kept487 : Kept.all c R (r.at (k0_part487 (F := F))) := by
  with_reducible_and_instances repeat refine Kept.value_all fun _ => ?_
  refine Kept.prog_all ?_
  delta Refs.at k0_part487
  with_reducible_and_instances repeat first | exact Keeps.pure _ | refine Keeps.bind ?_ fun _ => ?_ | exact Keeps.load r.held5 | exact Keeps.load r.held9 | exact Keeps.store r.held9 | exact Keeps.load r.held14 | exact Keeps.load r.held15

theorem kept488 : Kept.all c R (r.at (k0_part488 (F := F))) := by
  with_reducible_and_instances repeat refine Kept.value_all fun _ => ?_
  refine Kept.prog_all ?_
  delta Refs.at k0_part488
  with_reducible_and_instances repeat first | exact Keeps.pure _ | refine Keeps.bind ?_ fun _ => ?_ | exact Keeps.load r.held5 | exact Keeps.load r.held9 | exact Keeps.store r.held9 | exact Keeps.load r.held14 | exact Keeps.load r.held15

theorem kept489 : Kept.all c R (r.at (k0_part489 (F := F))) := by
  with_reducible_and_instances repeat refine Kept.value_all fun _ => ?_
  refine Kept.prog_all ?_
  delta Refs.at k0_part489
  with_reducible_and_instances repeat first | exact Keeps.pure _ | refine Keeps.bind ?_ fun _ => ?_ | exact Keeps.load r.held5 | exact Keeps.load r.held9 | exact Keeps.store r.held9 | exact Keeps.load r.held14 | exact Keeps.load r.held15

end Cert.Proof.Attention

end
-- ==== Proof.Body.lean ====
/- The parts that call other parts, and the whole body: each call keeps what it is given, by the part called. -/
module

public import proofs.«01_k».proof.Proof.Leaf1
public import proofs.«01_k».proof.Proof.Leaf2
public import proofs.«01_k».proof.Proof.Leaf3
public import proofs.«01_k».proof.Proof.Leaf4
public import proofs.«01_k».proof.Proof.Leaf5
public import proofs.«01_k».proof.Proof.Leaf6

@[expose] public section

set_option maxRecDepth 16384
set_option synthInstance.maxSize 4096
set_option maxHeartbeats 1000000

noncomputable section

namespace Cert.Proof.Attention

open Cert.Kernel
open Idealize.ShloMosaic Idealize.SL Idealize.SL.RA Idealize.SL.BI Idealize.SL.Sem

variable {F : FTy → Type} [BitOps F] [Cert.Kernel.Facts]
  {c : Dev nD} {R : sProp (MT nD τ sig Unit (Elt F) ℕ (UR sig nD τ) ℕ)} (r : Refs c R)

theorem kept58 : Kept.all c R (r.at (k0_part58 (F := F))) := by
  with_reducible_and_instances repeat refine Kept.value_all fun _ => ?_
  refine Kept.prog_all ?_
  delta Refs.at k0_part58
  with_reducible_and_instances
    repeat first | exact Keeps.pure _ | refine Keeps.bind ?_ fun _ => ?_
    exact kept1 r _ _ _ _
    repeat first | exact Keeps.pure _ | refine Keeps.bind ?_ fun _ => ?_
    exact kept2 r _ _ _ _ _ _ _ _ _ _ _ _ _
    repeat first | exact Keeps.pure _ | refine Keeps.bind ?_ fun _ => ?_
    exact kept3 r _ _ _ _ _ _ _ _ _ _ _ _ _
    repeat first | exact Keeps.pure _ | refine Keeps.bind ?_ fun _ => ?_
    exact kept4 r _ _ _ _ _ _ _ _ _ _ _ _ _
    repeat first | exact Keeps.pure _ | refine Keeps.bind ?_ fun _ => ?_
    exact kept5 r _ _ _ _ _ _ _ _ _ _ _ _ _
    repeat first | exact Keeps.pure _ | refine Keeps.bind ?_ fun _ => ?_
    exact kept6 r _ _ _ _ _ _ _ _ _ _ _ _ _
    repeat first | exact Keeps.pure _ | refine Keeps.bind ?_ fun _ => ?_
    exact kept7 r _ _ _ _ _ _ _ _ _ _ _ _ _
    repeat first | exact Keeps.pure _ | refine Keeps.bind ?_ fun _ => ?_
    exact kept8 r _ _ _ _ _ _ _ _ _ _ _ _ _
    repeat first | exact Keeps.pure _ | refine Keeps.bind ?_ fun _ => ?_
    exact kept9 r _ _ _ _ _ _ _ _ _ _ _ _ _
    repeat first | exact Keeps.pure _ | refine Keeps.bind ?_ fun _ => ?_
    exact kept10 r _ _ _ _ _ _ _ _ _ _ _ _ _
    repeat first | exact Keeps.pure _ | refine Keeps.bind ?_ fun _ => ?_
    exact kept11 r _ _ _ _ _ _ _ _ _ _ _ _ _
    repeat first | exact Keeps.pure _ | refine Keeps.bind ?_ fun _ => ?_
    exact kept12 r _ _ _ _ _ _ _ _ _ _ _ _ _
    repeat first | exact Keeps.pure _ | refine Keeps.bind ?_ fun _ => ?_
    exact kept13 r _ _ _ _ _ _ _ _ _ _ _ _ _
    repeat first | exact Keeps.pure _ | refine Keeps.bind ?_ fun _ => ?_
    exact kept14 r _ _ _ _ _ _ _ _ _ _ _ _ _
    repeat first | exact Keeps.pure _ | refine Keeps.bind ?_ fun _ => ?_
    exact kept15 r _ _ _ _ _ _ _ _ _ _ _ _ _
    repeat first | exact Keeps.pure _ | refine Keeps.bind ?_ fun _ => ?_
    exact kept16 r _ _ _ _ _ _ _ _ _ _ _ _ _
    repeat first | exact Keeps.pure _ | refine Keeps.bind ?_ fun _ => ?_
    exact kept17 r _ _ _ _ _ _ _ _ _ _ _ _ _ _
    repeat first | exact Keeps.pure _ | refine Keeps.bind ?_ fun _ => ?_
    exact kept18 r _ _ _ _ _ _ _ _ _ _ _
    repeat first | exact Keeps.pure _ | refine Keeps.bind ?_ fun _ => ?_
    exact kept19 r _ _ _ _ _ _ _ _ _ _ _
    repeat first | exact Keeps.pure _ | refine Keeps.bind ?_ fun _ => ?_
    exact kept20 r _ _ _ _ _ _ _ _ _ _
    repeat first | exact Keeps.pure _ | refine Keeps.bind ?_ fun _ => ?_
    exact kept21 r _ _ _ _ _ _ _ _ _ _
    repeat first | exact Keeps.pure _ | refine Keeps.bind ?_ fun _ => ?_
    exact kept22 r _ _ _
    repeat first | exact Keeps.pure _ | refine Keeps.bind ?_ fun _ => ?_
    exact kept23 r _ _
    repeat first | exact Keeps.pure _ | refine Keeps.bind ?_ fun _ => ?_
    exact kept24 r _ _ _ _
    repeat first | exact Keeps.pure _ | refine Keeps.bind ?_ fun _ => ?_
    exact kept25 r _ _ _ _ _ _
    repeat first | exact Keeps.pure _ | refine Keeps.bind ?_ fun _ => ?_
    exact kept26 r _ _
    repeat first | exact Keeps.pure _ | refine Keeps.bind ?_ fun _ => ?_
    exact kept27 r _ _ _ _
    repeat first | exact Keeps.pure _ | refine Keeps.bind ?_ fun _ => ?_
    exact kept28 r _ _ _
    repeat first | exact Keeps.pure _ | refine Keeps.bind ?_ fun _ => ?_
    exact kept29 r _ _ _ _ _ _ _
    repeat first | exact Keeps.pure _ | refine Keeps.bind ?_ fun _ => ?_
    exact kept30 r _ _ _
    repeat first | exact Keeps.pure _ | refine Keeps.bind ?_ fun _ => ?_
    exact kept31 r _ _ _ _ _ _ _ _ _ _ _ _ _
    repeat first | exact Keeps.pure _ | refine Keeps.bind ?_ fun _ => ?_
    exact kept32 r _ _ _ _ _ _ _ _ _ _ _ _ _
    repeat first | exact Keeps.pure _ | refine Keeps.bind ?_ fun _ => ?_
    exact kept33 r _ _ _ _ _ _ _ _ _ _ _ _ _
    repeat first | exact Keeps.pure _ | refine Keeps.bind ?_ fun _ => ?_
    exact kept34 r _ _ _ _ _ _ _ _ _ _ _ _ _
    repeat first | exact Keeps.pure _ | refine Keeps.bind ?_ fun _ => ?_
    exact kept35 r _ _ _ _ _ _ _ _ _ _ _ _ _
    repeat first | exact Keeps.pure _ | refine Keeps.bind ?_ fun _ => ?_
    exact kept36 r _ _ _ _ _ _ _ _ _ _ _ _ _
    repeat first | exact Keeps.pure _ | refine Keeps.bind ?_ fun _ => ?_
    exact kept37 r _ _ _ _ _ _ _ _ _ _ _ _ _
    repeat first | exact Keeps.pure _ | refine Keeps.bind ?_ fun _ => ?_
    exact kept38 r _ _ _ _ _ _ _ _ _ _ _ _ _
    repeat first | exact Keeps.pure _ | refine Keeps.bind ?_ fun _ => ?_
    exact kept39 r _ _ _ _ _ _ _ _ _ _ _ _ _
    repeat first | exact Keeps.pure _ | refine Keeps.bind ?_ fun _ => ?_
    exact kept40 r _ _ _ _ _ _ _ _ _ _ _ _ _
    repeat first | exact Keeps.pure _ | refine Keeps.bind ?_ fun _ => ?_
    exact kept41 r _ _ _ _ _ _ _ _ _ _ _ _ _
    repeat first | exact Keeps.pure _ | refine Keeps.bind ?_ fun _ => ?_
    exact kept42 r _ _ _ _ _ _ _ _ _ _ _ _ _
    repeat first | exact Keeps.pure _ | refine Keeps.bind ?_ fun _ => ?_
    exact kept43 r _ _ _ _ _ _ _ _ _ _ _ _ _
    repeat first | exact Keeps.pure _ | refine Keeps.bind ?_ fun _ => ?_
    exact kept44 r _ _ _ _ _ _ _ _ _ _ _ _ _
    repeat first | exact Keeps.pure _ | refine Keeps.bind ?_ fun _ => ?_
    exact kept45 r _ _ _ _ _ _ _ _ _ _ _ _ _
    repeat first | exact Keeps.pure _ | refine Keeps.bind ?_ fun _ => ?_
    exact kept46 r _ _ _ _ _ _ _ _ _ _ _ _ _ _
    repeat first | exact Keeps.pure _ | refine Keeps.bind ?_ fun _ => ?_
    exact kept47 r _ _ _ _ _ _ _ _ _ _
    repeat first | exact Keeps.pure _ | refine Keeps.bind ?_ fun _ => ?_
    exact kept48 r _ _ _ _ _ _ _ _ _ _ _ _
    repeat first | exact Keeps.pure _ | refine Keeps.bind ?_ fun _ => ?_
    exact kept49 r _ _ _ _ _ _ _ _ _ _
    repeat first | exact Keeps.pure _ | refine Keeps.bind ?_ fun _ => ?_
    exact kept50 r _ _ _ _ _ _ _ _ _
    repeat first | exact Keeps.pure _ | refine Keeps.bind ?_ fun _ => ?_
    exact kept51 r _ _ _ _
    repeat first | exact Keeps.pure _ | refine Keeps.bind ?_ fun _ => ?_
    exact kept52 r _ _
    repeat first | exact Keeps.pure _ | refine Keeps.bind ?_ fun _ => ?_
    exact kept53 r _ _ _
    repeat first | exact Keeps.pure _ | refine Keeps.bind ?_ fun _ => ?_
    exact kept54 r _ _ _ _ _ _
    repeat first | exact Keeps.pure _ | refine Keeps.bind ?_ fun _ => ?_
    exact kept55 r _ _
    repeat first | exact Keeps.pure _ | refine Keeps.bind ?_ fun _ => ?_
    exact kept56 r _ _ _
    repeat first | exact Keeps.pure _ | refine Keeps.bind ?_ fun _ => ?_
    exact kept57 r _ _ _
    repeat first | exact Keeps.pure _ | refine Keeps.bind ?_ fun _ => ?_

theorem kept116 : Kept.all c R (r.at (k0_part116 (F := F))) := by
  with_reducible_and_instances repeat refine Kept.value_all fun _ => ?_
  refine Kept.prog_all ?_
  delta Refs.at k0_part116
  with_reducible_and_instances
    repeat first | exact Keeps.pure _ | refine Keeps.bind ?_ fun _ => ?_
    exact kept59 r _ _ _ _
    repeat first | exact Keeps.pure _ | refine Keeps.bind ?_ fun _ => ?_
    exact kept60 r _ _ _ _ _ _ _ _ _ _ _ _ _
    repeat first | exact Keeps.pure _ | refine Keeps.bind ?_ fun _ => ?_
    exact kept61 r _ _ _ _ _ _ _ _ _ _ _ _ _
    repeat first | exact Keeps.pure _ | refine Keeps.bind ?_ fun _ => ?_
    exact kept62 r _ _ _ _ _ _ _ _ _ _ _ _ _
    repeat first | exact Keeps.pure _ | refine Keeps.bind ?_ fun _ => ?_
    exact kept63 r _ _ _ _ _ _ _ _ _ _ _ _ _
    repeat first | exact Keeps.pure _ | refine Keeps.bind ?_ fun _ => ?_
    exact kept64 r _ _ _ _ _ _ _ _ _ _ _ _ _
    repeat first | exact Keeps.pure _ | refine Keeps.bind ?_ fun _ => ?_
    exact kept65 r _ _ _ _ _ _ _ _ _ _ _ _ _
    repeat first | exact Keeps.pure _ | refine Keeps.bind ?_ fun _ => ?_
    exact kept66 r _ _ _ _ _ _ _ _ _ _ _ _ _
    repeat first | exact Keeps.pure _ | refine Keeps.bind ?_ fun _ => ?_
    exact kept67 r _ _ _ _ _ _ _ _ _ _ _ _ _
    repeat first | exact Keeps.pure _ | refine Keeps.bind ?_ fun _ => ?_
    exact kept68 r _ _ _ _ _ _ _ _ _ _ _ _ _
    repeat first | exact Keeps.pure _ | refine Keeps.bind ?_ fun _ => ?_
    exact kept69 r _ _ _ _ _ _ _ _ _ _ _ _ _
    repeat first | exact Keeps.pure _ | refine Keeps.bind ?_ fun _ => ?_
    exact kept70 r _ _ _ _ _ _ _ _ _ _ _ _ _
    repeat first | exact Keeps.pure _ | refine Keeps.bind ?_ fun _ => ?_
    exact kept71 r _ _ _ _ _ _ _ _ _ _ _ _ _
    repeat first | exact Keeps.pure _ | refine Keeps.bind ?_ fun _ => ?_
    exact kept72 r _ _ _ _ _ _ _ _ _ _ _ _ _
    repeat first | exact Keeps.pure _ | refine Keeps.bind ?_ fun _ => ?_
    exact kept73 r _ _ _ _ _ _ _ _ _ _ _ _ _
    repeat first | exact Keeps.pure _ | refine Keeps.bind ?_ fun _ => ?_
    exact kept74 r _ _ _ _ _ _ _ _ _ _ _ _ _
    repeat first | exact Keeps.pure _ | refine Keeps.bind ?_ fun _ => ?_
    exact kept75 r _ _ _ _ _ _ _ _ _ _ _ _ _ _
    repeat first | exact Keeps.pure _ | refine Keeps.bind ?_ fun _ => ?_
    exact kept76 r _ _ _ _ _ _ _ _ _ _ _
    repeat first | exact Keeps.pure _ | refine Keeps.bind ?_ fun _ => ?_
    exact kept77 r _ _ _ _ _ _ _ _ _ _ _
    repeat first | exact Keeps.pure _ | refine Keeps.bind ?_ fun _ => ?_
    exact kept78 r _ _ _ _ _ _ _ _ _ _
    repeat first | exact Keeps.pure _ | refine Keeps.bind ?_ fun _ => ?_
    exact kept79 r _ _ _ _ _ _ _ _ _ _
    repeat first | exact Keeps.pure _ | refine Keeps.bind ?_ fun _ => ?_
    exact kept80 r _ _ _
    repeat first | exact Keeps.pure _ | refine Keeps.bind ?_ fun _ => ?_
    exact kept81 r _ _
    repeat first | exact Keeps.pure _ | refine Keeps.bind ?_ fun _ => ?_
    exact kept82 r _ _ _ _
    repeat first | exact Keeps.pure _ | refine Keeps.bind ?_ fun _ => ?_
    exact kept83 r _ _ _ _ _ _
    repeat first | exact Keeps.pure _ | refine Keeps.bind ?_ fun _ => ?_
    exact kept84 r _ _
    repeat first | exact Keeps.pure _ | refine Keeps.bind ?_ fun _ => ?_
    exact kept85 r _ _ _ _
    repeat first | exact Keeps.pure _ | refine Keeps.bind ?_ fun _ => ?_
    exact kept86 r _ _ _
    repeat first | exact Keeps.pure _ | refine Keeps.bind ?_ fun _ => ?_
    exact kept87 r _ _ _ _ _ _ _
    repeat first | exact Keeps.pure _ | refine Keeps.bind ?_ fun _ => ?_
    exact kept88 r _ _ _
    repeat first | exact Keeps.pure _ | refine Keeps.bind ?_ fun _ => ?_
    exact kept89 r _ _ _ _ _ _ _ _ _ _ _ _ _
    repeat first | exact Keeps.pure _ | refine Keeps.bind ?_ fun _ => ?_
    exact kept90 r _ _ _ _ _ _ _ _ _ _ _ _ _
    repeat first | exact Keeps.pure _ | refine Keeps.bind ?_ fun _ => ?_
    exact kept91 r _ _ _ _ _ _ _ _ _ _ _ _ _
    repeat first | exact Keeps.pure _ | refine Keeps.bind ?_ fun _ => ?_
    exact kept92 r _ _ _ _ _ _ _ _ _ _ _ _ _
    repeat first | exact Keeps.pure _ | refine Keeps.bind ?_ fun _ => ?_
    exact kept93 r _ _ _ _ _ _ _ _ _ _ _ _ _
    repeat first | exact Keeps.pure _ | refine Keeps.bind ?_ fun _ => ?_
    exact kept94 r _ _ _ _ _ _ _ _ _ _ _ _ _
    repeat first | exact Keeps.pure _ | refine Keeps.bind ?_ fun _ => ?_
    exact kept95 r _ _ _ _ _ _ _ _ _ _ _ _ _
    repeat first | exact Keeps.pure _ | refine Keeps.bind ?_ fun _ => ?_
    exact kept96 r _ _ _ _ _ _ _ _ _ _ _ _ _
    repeat first | exact Keeps.pure _ | refine Keeps.bind ?_ fun _ => ?_
    exact kept97 r _ _ _ _ _ _ _ _ _ _ _ _ _
    repeat first | exact Keeps.pure _ | refine Keeps.bind ?_ fun _ => ?_
    exact kept98 r _ _ _ _ _ _ _ _ _ _ _ _ _
    repeat first | exact Keeps.pure _ | refine Keeps.bind ?_ fun _ => ?_
    exact kept99 r _ _ _ _ _ _ _ _ _ _ _ _ _
    repeat first | exact Keeps.pure _ | refine Keeps.bind ?_ fun _ => ?_
    exact kept100 r _ _ _ _ _ _ _ _ _ _ _ _ _
    repeat first | exact Keeps.pure _ | refine Keeps.bind ?_ fun _ => ?_
    exact kept101 r _ _ _ _ _ _ _ _ _ _ _ _ _
    repeat first | exact Keeps.pure _ | refine Keeps.bind ?_ fun _ => ?_
    exact kept102 r _ _ _ _ _ _ _ _ _ _ _ _ _
    repeat first | exact Keeps.pure _ | refine Keeps.bind ?_ fun _ => ?_
    exact kept103 r _ _ _ _ _ _ _ _ _ _ _ _ _
    repeat first | exact Keeps.pure _ | refine Keeps.bind ?_ fun _ => ?_
    exact kept104 r _ _ _ _ _ _ _ _ _ _ _ _ _ _
    repeat first | exact Keeps.pure _ | refine Keeps.bind ?_ fun _ => ?_
    exact kept105 r _ _ _ _ _ _ _ _ _ _
    repeat first | exact Keeps.pure _ | refine Keeps.bind ?_ fun _ => ?_
    exact kept106 r _ _ _ _ _ _ _ _ _ _ _ _
    repeat first | exact Keeps.pure _ | refine Keeps.bind ?_ fun _ => ?_
    exact kept107 r _ _ _ _ _ _ _ _ _ _
    repeat first | exact Keeps.pure _ | refine Keeps.bind ?_ fun _ => ?_
    exact kept108 r _ _ _ _ _ _ _ _ _
    repeat first | exact Keeps.pure _ | refine Keeps.bind ?_ fun _ => ?_
    exact kept109 r _ _ _ _
    repeat first | exact Keeps.pure _ | refine Keeps.bind ?_ fun _ => ?_
    exact kept110 r _ _
    repeat first | exact Keeps.pure _ | refine Keeps.bind ?_ fun _ => ?_
    exact kept111 r _ _ _
    repeat first | exact Keeps.pure _ | refine Keeps.bind ?_ fun _ => ?_
    exact kept112 r _ _ _ _ _ _
    repeat first | exact Keeps.pure _ | refine Keeps.bind ?_ fun _ => ?_
    exact kept113 r _ _
    repeat first | exact Keeps.pure _ | refine Keeps.bind ?_ fun _ => ?_
    exact kept114 r _ _ _
    repeat first | exact Keeps.pure _ | refine Keeps.bind ?_ fun _ => ?_
    exact kept115 r _ _ _
    repeat first | exact Keeps.pure _ | refine Keeps.bind ?_ fun _ => ?_

theorem kept145 : Kept.all c R (r.at (k0_part145 (F := F))) := by
  with_reducible_and_instances repeat refine Kept.value_all fun _ => ?_
  refine Kept.prog_all ?_
  delta Refs.at k0_part145
  with_reducible_and_instances
    repeat first | exact Keeps.pure _ | refine Keeps.bind ?_ fun _ => ?_ | exact Keeps.load r.held3 | exact Keeps.load r.held4
    exact kept117 r _ _ _ _
    repeat first | exact Keeps.pure _ | refine Keeps.bind ?_ fun _ => ?_ | exact Keeps.load r.held3 | exact Keeps.load r.held4
    exact kept118 r _ _ _ _ _ _ _ _ _ _ _ _
    repeat first | exact Keeps.pure _ | refine Keeps.bind ?_ fun _ => ?_ | exact Keeps.load r.held3 | exact Keeps.load r.held4
    exact kept119 r _ _ _ _ _ _ _ _ _ _ _ _
    repeat first | exact Keeps.pure _ | refine Keeps.bind ?_ fun _ => ?_ | exact Keeps.load r.held3 | exact Keeps.load r.held4
    exact kept120 r _ _ _ _ _ _ _ _ _ _ _ _
    repeat first | exact Keeps.pure _ | refine Keeps.bind ?_ fun _ => ?_ | exact Keeps.load r.held3 | exact Keeps.load r.held4
    exact kept121 r _ _ _ _ _ _ _ _ _ _ _ _
    repeat first | exact Keeps.pure _ | refine Keeps.bind ?_ fun _ => ?_ | exact Keeps.load r.held3 | exact Keeps.load r.held4
    exact kept122 r _ _ _ _ _ _ _ _ _ _ _ _
    repeat first | exact Keeps.pure _ | refine Keeps.bind ?_ fun _ => ?_ | exact Keeps.load r.held3 | exact Keeps.load r.held4
    exact kept123 r _ _ _ _ _ _ _ _ _ _ _ _
    repeat first | exact Keeps.pure _ | refine Keeps.bind ?_ fun _ => ?_ | exact Keeps.load r.held3 | exact Keeps.load r.held4
    exact kept124 r _ _ _ _ _ _ _ _ _ _ _ _
    repeat first | exact Keeps.pure _ | refine Keeps.bind ?_ fun _ => ?_ | exact Keeps.load r.held3 | exact Keeps.load r.held4
    exact kept125 r _ _ _ _ _ _ _ _ _ _ _ _
    repeat first | exact Keeps.pure _ | refine Keeps.bind ?_ fun _ => ?_ | exact Keeps.load r.held3 | exact Keeps.load r.held4
    exact kept126 r _ _ _ _ _ _ _ _ _ _ _ _
    repeat first | exact Keeps.pure _ | refine Keeps.bind ?_ fun _ => ?_ | exact Keeps.load r.held3 | exact Keeps.load r.held4
    exact kept127 r _ _ _ _ _ _ _ _ _ _ _ _
    repeat first | exact Keeps.pure _ | refine Keeps.bind ?_ fun _ => ?_ | exact Keeps.load r.held3 | exact Keeps.load r.held4
    exact kept128 r _ _ _ _ _ _ _ _ _ _ _ _
    repeat first | exact Keeps.pure _ | refine Keeps.bind ?_ fun _ => ?_ | exact Keeps.load r.held3 | exact Keeps.load r.held4
    exact kept129 r _ _ _ _ _ _ _ _ _ _ _ _
    repeat first | exact Keeps.pure _ | refine Keeps.bind ?_ fun _ => ?_ | exact Keeps.load r.held3 | exact Keeps.load r.held4
    exact kept130 r _ _ _ _ _ _ _ _ _ _ _ _
    repeat first | exact Keeps.pure _ | refine Keeps.bind ?_ fun _ => ?_ | exact Keeps.load r.held3 | exact Keeps.load r.held4
    exact kept131 r _ _ _ _ _ _ _ _ _ _ _ _
    repeat first | exact Keeps.pure _ | refine Keeps.bind ?_ fun _ => ?_ | exact Keeps.load r.held3 | exact Keeps.load r.held4
    exact kept132 r _ _ _ _ _ _ _ _ _ _ _ _
    repeat first | exact Keeps.pure _ | refine Keeps.bind ?_ fun _ => ?_ | exact Keeps.load r.held3 | exact Keeps.load r.held4
    exact kept133 r _ _ _ _ _ _ _ _ _ _ _ _ _
    repeat first | exact Keeps.pure _ | refine Keeps.bind ?_ fun _ => ?_ | exact Keeps.load r.held3 | exact Keeps.load r.held4
    exact kept134 r _ _ _ _ _ _ _ _ _ _
    repeat first | exact Keeps.pure _ | refine Keeps.bind ?_ fun _ => ?_ | exact Keeps.load r.held3 | exact Keeps.load r.held4
    exact kept135 r _ _ _ _ _ _ _ _ _ _ _
    repeat first | exact Keeps.pure _ | refine Keeps.bind ?_ fun _ => ?_ | exact Keeps.load r.held3 | exact Keeps.load r.held4
    exact kept136 r _ _ _ _ _ _ _ _ _ _ _
    repeat first | exact Keeps.pure _ | refine Keeps.bind ?_ fun _ => ?_ | exact Keeps.load r.held3 | exact Keeps.load r.held4
    exact kept137 r _ _ _ _ _ _ _ _ _
    repeat first | exact Keeps.pure _ | refine Keeps.bind ?_ fun _ => ?_ | exact Keeps.load r.held3 | exact Keeps.load r.held4
    exact kept138 r _ _ _ _
    repeat first | exact Keeps.pure _ | refine Keeps.bind ?_ fun _ => ?_ | exact Keeps.load r.held3 | exact Keeps.load r.held4
    exact kept139 r _ _
    repeat first | exact Keeps.pure _ | refine Keeps.bind ?_ fun _ => ?_ | exact Keeps.load r.held3 | exact Keeps.load r.held4
    exact kept140 r _ _ _ _
    repeat first | exact Keeps.pure _ | refine Keeps.bind ?_ fun _ => ?_ | exact Keeps.load r.held3 | exact Keeps.load r.held4
    exact kept141 r _ _ _ _ _ _
    repeat first | exact Keeps.pure _ | refine Keeps.bind ?_ fun _ => ?_ | exact Keeps.load r.held3 | exact Keeps.load r.held4
    exact kept142 r _ _
    repeat first | exact Keeps.pure _ | refine Keeps.bind ?_ fun _ => ?_ | exact Keeps.load r.held3 | exact Keeps.load r.held4
    exact kept143 r _ _ _ _
    repeat first | exact Keeps.pure _ | refine Keeps.bind ?_ fun _ => ?_ | exact Keeps.load r.held3 | exact Keeps.load r.held4
    exact kept144 r _ _ _
    repeat first | exact Keeps.pure _ | refine Keeps.bind ?_ fun _ => ?_ | exact Keeps.load r.held3 | exact Keeps.load r.held4

theorem kept174 : Kept.all c R (r.at (k0_part174 (F := F))) := by
  with_reducible_and_instances repeat refine Kept.value_all fun _ => ?_
  refine Kept.prog_all ?_
  delta Refs.at k0_part174
  with_reducible_and_instances
    repeat first | exact Keeps.pure _ | refine Keeps.bind ?_ fun _ => ?_ | exact Keeps.load r.held3 | exact Keeps.load r.held4
    exact kept146 r _ _ _ _
    repeat first | exact Keeps.pure _ | refine Keeps.bind ?_ fun _ => ?_ | exact Keeps.load r.held3 | exact Keeps.load r.held4
    exact kept147 r _ _ _ _ _ _ _ _ _ _ _ _
    repeat first | exact Keeps.pure _ | refine Keeps.bind ?_ fun _ => ?_ | exact Keeps.load r.held3 | exact Keeps.load r.held4
    exact kept148 r _ _ _ _ _ _ _ _ _ _ _ _
    repeat first | exact Keeps.pure _ | refine Keeps.bind ?_ fun _ => ?_ | exact Keeps.load r.held3 | exact Keeps.load r.held4
    exact kept149 r _ _ _ _ _ _ _ _ _ _ _ _
    repeat first | exact Keeps.pure _ | refine Keeps.bind ?_ fun _ => ?_ | exact Keeps.load r.held3 | exact Keeps.load r.held4
    exact kept150 r _ _ _ _ _ _ _ _ _ _ _ _
    repeat first | exact Keeps.pure _ | refine Keeps.bind ?_ fun _ => ?_ | exact Keeps.load r.held3 | exact Keeps.load r.held4
    exact kept151 r _ _ _ _ _ _ _ _ _ _ _ _
    repeat first | exact Keeps.pure _ | refine Keeps.bind ?_ fun _ => ?_ | exact Keeps.load r.held3 | exact Keeps.load r.held4
    exact kept152 r _ _ _ _ _ _ _ _ _ _ _ _
    repeat first | exact Keeps.pure _ | refine Keeps.bind ?_ fun _ => ?_ | exact Keeps.load r.held3 | exact Keeps.load r.held4
    exact kept153 r _ _ _ _ _ _ _ _ _ _ _ _
    repeat first | exact Keeps.pure _ | refine Keeps.bind ?_ fun _ => ?_ | exact Keeps.load r.held3 | exact Keeps.load r.held4
    exact kept154 r _ _ _ _ _ _ _ _ _ _ _ _
    repeat first | exact Keeps.pure _ | refine Keeps.bind ?_ fun _ => ?_ | exact Keeps.load r.held3 | exact Keeps.load r.held4
    exact kept155 r _ _ _ _ _ _ _ _ _ _ _ _
    repeat first | exact Keeps.pure _ | refine Keeps.bind ?_ fun _ => ?_ | exact Keeps.load r.held3 | exact Keeps.load r.held4
    exact kept156 r _ _ _ _ _ _ _ _ _ _ _ _
    repeat first | exact Keeps.pure _ | refine Keeps.bind ?_ fun _ => ?_ | exact Keeps.load r.held3 | exact Keeps.load r.held4
    exact kept157 r _ _ _ _ _ _ _ _ _ _ _ _
    repeat first | exact Keeps.pure _ | refine Keeps.bind ?_ fun _ => ?_ | exact Keeps.load r.held3 | exact Keeps.load r.held4
    exact kept158 r _ _ _ _ _ _ _ _ _ _ _ _
    repeat first | exact Keeps.pure _ | refine Keeps.bind ?_ fun _ => ?_ | exact Keeps.load r.held3 | exact Keeps.load r.held4
    exact kept159 r _ _ _ _ _ _ _ _ _ _ _ _
    repeat first | exact Keeps.pure _ | refine Keeps.bind ?_ fun _ => ?_ | exact Keeps.load r.held3 | exact Keeps.load r.held4
    exact kept160 r _ _ _ _ _ _ _ _ _ _ _ _
    repeat first | exact Keeps.pure _ | refine Keeps.bind ?_ fun _ => ?_ | exact Keeps.load r.held3 | exact Keeps.load r.held4
    exact kept161 r _ _ _ _ _ _ _ _ _ _ _ _
    repeat first | exact Keeps.pure _ | refine Keeps.bind ?_ fun _ => ?_ | exact Keeps.load r.held3 | exact Keeps.load r.held4
    exact kept162 r _ _ _ _ _ _ _ _ _ _ _ _ _
    repeat first | exact Keeps.pure _ | refine Keeps.bind ?_ fun _ => ?_ | exact Keeps.load r.held3 | exact Keeps.load r.held4
    exact kept163 r _ _ _ _ _ _ _ _ _ _
    repeat first | exact Keeps.pure _ | refine Keeps.bind ?_ fun _ => ?_ | exact Keeps.load r.held3 | exact Keeps.load r.held4
    exact kept164 r _ _ _ _ _ _ _ _ _ _ _
    repeat first | exact Keeps.pure _ | refine Keeps.bind ?_ fun _ => ?_ | exact Keeps.load r.held3 | exact Keeps.load r.held4
    exact kept165 r _ _ _ _ _ _ _ _ _ _ _
    repeat first | exact Keeps.pure _ | refine Keeps.bind ?_ fun _ => ?_ | exact Keeps.load r.held3 | exact Keeps.load r.held4
    exact kept166 r _ _ _ _ _ _ _ _ _
    repeat first | exact Keeps.pure _ | refine Keeps.bind ?_ fun _ => ?_ | exact Keeps.load r.held3 | exact Keeps.load r.held4
    exact kept167 r _ _ _ _
    repeat first | exact Keeps.pure _ | refine Keeps.bind ?_ fun _ => ?_ | exact Keeps.load r.held3 | exact Keeps.load r.held4
    exact kept168 r _ _
    repeat first | exact Keeps.pure _ | refine Keeps.bind ?_ fun _ => ?_ | exact Keeps.load r.held3 | exact Keeps.load r.held4
    exact kept169 r _ _ _ _
    repeat first | exact Keeps.pure _ | refine Keeps.bind ?_ fun _ => ?_ | exact Keeps.load r.held3 | exact Keeps.load r.held4
    exact kept170 r _ _ _ _ _ _
    repeat first | exact Keeps.pure _ | refine Keeps.bind ?_ fun _ => ?_ | exact Keeps.load r.held3 | exact Keeps.load r.held4
    exact kept171 r _ _
    repeat first | exact Keeps.pure _ | refine Keeps.bind ?_ fun _ => ?_ | exact Keeps.load r.held3 | exact Keeps.load r.held4
    exact kept172 r _ _ _ _
    repeat first | exact Keeps.pure _ | refine Keeps.bind ?_ fun _ => ?_ | exact Keeps.load r.held3 | exact Keeps.load r.held4
    exact kept173 r _ _ _
    repeat first | exact Keeps.pure _ | refine Keeps.bind ?_ fun _ => ?_ | exact Keeps.load r.held3 | exact Keeps.load r.held4

theorem kept204 : Kept.all c R (r.at (k0_part204 (F := F))) := by
  with_reducible_and_instances repeat refine Kept.value_all fun _ => ?_
  refine Kept.prog_all ?_
  delta Refs.at k0_part204
  with_reducible_and_instances
    repeat first | exact Keeps.pure _ | refine Keeps.bind ?_ fun _ => ?_ | exact Keeps.load r.held11
    exact kept175 r _
    repeat first | exact Keeps.pure _ | refine Keeps.bind ?_ fun _ => ?_ | exact Keeps.load r.held11
    exact kept176 r _ _ _
    repeat first | exact Keeps.pure _ | refine Keeps.bind ?_ fun _ => ?_ | exact Keeps.load r.held11
    exact kept177 r _ _ _ _
    repeat first | exact Keeps.pure _ | refine Keeps.bind ?_ fun _ => ?_ | exact Keeps.load r.held11
    exact kept178 r _ _ _ _ _ _
    repeat first | exact Keeps.pure _ | refine Keeps.bind ?_ fun _ => ?_ | exact Keeps.load r.held11
    exact kept179 r _ _ _ _ _ _ _ _ _ _
    repeat first | exact Keeps.pure _ | refine Keeps.bind ?_ fun _ => ?_ | exact Keeps.load r.held11
    exact kept180 r _ _ _ _ _ _ _ _ _ _ _ _ _ _
    repeat first | exact Keeps.pure _ | refine Keeps.bind ?_ fun _ => ?_ | exact Keeps.load r.held11
    exact kept181 r _ _ _ _ _ _ _ _ _ _ _ _ _ _ _ _ _ _
    repeat first | exact Keeps.pure _ | refine Keeps.bind ?_ fun _ => ?_ | exact Keeps.load r.held11
    exact kept182 r _ _ _ _ _ _ _ _ _ _ _ _ _ _ _ _ _ _ _
    repeat first | exact Keeps.pure _ | refine Keeps.bind ?_ fun _ => ?_ | exact Keeps.load r.held11
    exact kept183 r _ _ _ _ _ _ _ _ _ _ _ _ _ _ _
    repeat first | exact Keeps.pure _ | refine Keeps.bind ?_ fun _ => ?_ | exact Keeps.load r.held11
    exact kept184 r _ _ _ _ _ _ _ _ _ _ _
    repeat first | exact Keeps.pure _ | refine Keeps.bind ?_ fun _ => ?_ | exact Keeps.load r.held11
    exact kept185 r _ _ _ _ _ _ _
    repeat first | exact Keeps.pure _ | refine Keeps.bind ?_ fun _ => ?_ | exact Keeps.load r.held11
    exact kept186 r _ _ _ _ _
    repeat first | exact Keeps.pure _ | refine Keeps.bind ?_ fun _ => ?_ | exact Keeps.load r.held11
    exact kept187 r _ _ _ _ _ _
    repeat first | exact Keeps.pure _ | refine Keeps.bind ?_ fun _ => ?_ | exact Keeps.load r.held11
    exact kept188 r _ _ _ _ _ _ _
    repeat first | exact Keeps.pure _ | refine Keeps.bind ?_ fun _ => ?_ | exact Keeps.load r.held11
    exact kept189 r _ _ _ _ _ _
    repeat first | exact Keeps.pure _ | refine Keeps.bind ?_ fun _ => ?_ | exact Keeps.load r.held11
    exact kept190 r _ _ _
    repeat first | exact Keeps.pure _ | refine Keeps.bind ?_ fun _ => ?_ | exact Keeps.load r.held11
    exact kept191 r _ _ _ _
    repeat first | exact Keeps.pure _ | refine Keeps.bind ?_ fun _ => ?_ | exact Keeps.load r.held11
    exact kept192 r _ _ _ _ _ _
    repeat first | exact Keeps.pure _ | refine Keeps.bind ?_ fun _ => ?_ | exact Keeps.load r.held11
    exact kept193 r _ _ _ _ _ _ _ _ _ _
    repeat first | exact Keeps.pure _ | refine Keeps.bind ?_ fun _ => ?_ | exact Keeps.load r.held11
    exact kept194 r _ _ _ _ _ _ _ _ _ _ _ _ _ _
    repeat first | exact Keeps.pure _ | refine Keeps.bind ?_ fun _ => ?_ | exact Keeps.load r.held11
    exact kept195 r _ _ _ _ _ _ _ _ _ _ _ _ _ _ _ _ _ _
    repeat first | exact Keeps.pure _ | refine Keeps.bind ?_ fun _ => ?_ | exact Keeps.load r.held11
    exact kept196 r _ _ _ _ _ _ _ _ _ _ _ _ _ _ _ _ _ _ _
    repeat first | exact Keeps.pure _ | refine Keeps.bind ?_ fun _ => ?_ | exact Keeps.load r.held11
    exact kept197 r _ _ _ _ _ _ _ _ _ _ _ _ _ _ _
    repeat first | exact Keeps.pure _ | refine Keeps.bind ?_ fun _ => ?_ | exact Keeps.load r.held11
    exact kept198 r _ _ _ _ _ _ _ _ _ _ _
    repeat first | exact Keeps.pure _ | refine Keeps.bind ?_ fun _ => ?_ | exact Keeps.load r.held11
    exact kept199 r _ _ _ _ _ _ _
    repeat first | exact Keeps.pure _ | refine Keeps.bind ?_ fun _ => ?_ | exact Keeps.load r.held11
    exact kept200 r _ _ _ _ _
    repeat first | exact Keeps.pure _ | refine Keeps.bind ?_ fun _ => ?_ | exact Keeps.load r.held11
    exact kept201 r _ _ _ _ _ _
    repeat first | exact Keeps.pure _ | refine Keeps.bind ?_ fun _ => ?_ | exact Keeps.load r.held11
    exact kept202 r _ _ _ _ _ _ _
    repeat first | exact Keeps.pure _ | refine Keeps.bind ?_ fun _ => ?_ | exact Keeps.load r.held11
    exact kept203 r _ _ _ _ _ _
    repeat first | exact Keeps.pure _ | refine Keeps.bind ?_ fun _ => ?_ | exact Keeps.load r.held11

theorem kept230 : Kept.all c R (r.at (k0_part230 (F := F))) := by
  with_reducible_and_instances repeat refine Kept.value_all fun _ => ?_
  refine Kept.prog_all ?_
  delta Refs.at k0_part230
  with_reducible_and_instances
    repeat first | exact Keeps.pure _ | refine Keeps.bind ?_ fun _ => ?_
    exact kept205 r _
    repeat first | exact Keeps.pure _ | refine Keeps.bind ?_ fun _ => ?_
    exact kept206 r _ _ _ _ _
    repeat first | exact Keeps.pure _ | refine Keeps.bind ?_ fun _ => ?_
    exact kept207 r _ _ _ _ _ _ _ _ _ _ _ _ _ _ _ _
    repeat first | exact Keeps.pure _ | refine Keeps.bind ?_ fun _ => ?_
    exact kept208 r _ _ _ _ _
    repeat first | exact Keeps.pure _ | refine Keeps.bind ?_ fun _ => ?_
    exact kept209 r _ _ _ _ _
    repeat first | exact Keeps.pure _ | refine Keeps.bind ?_ fun _ => ?_
    exact kept210 r _ _ _ _ _
    repeat first | exact Keeps.pure _ | refine Keeps.bind ?_ fun _ => ?_
    exact kept211 r _ _ _ _ _ _ _ _ _ _ _ _ _ _ _ _
    repeat first | exact Keeps.pure _ | refine Keeps.bind ?_ fun _ => ?_
    exact kept212 r _ _ _ _ _
    repeat first | exact Keeps.pure _ | refine Keeps.bind ?_ fun _ => ?_
    exact kept213 r _ _ _ _ _
    repeat first | exact Keeps.pure _ | refine Keeps.bind ?_ fun _ => ?_
    exact kept214 r _ _ _ _ _
    repeat first | exact Keeps.pure _ | refine Keeps.bind ?_ fun _ => ?_
    exact kept215 r _ _ _ _ _ _ _ _ _ _ _ _ _ _ _ _
    repeat first | exact Keeps.pure _ | refine Keeps.bind ?_ fun _ => ?_
    exact kept216 r _ _ _ _ _
    repeat first | exact Keeps.pure _ | refine Keeps.bind ?_ fun _ => ?_
    exact kept217 r _ _ _ _ _
    repeat first | exact Keeps.pure _ | refine Keeps.bind ?_ fun _ => ?_
    exact kept218 r _ _ _ _ _
    repeat first | exact Keeps.pure _ | refine Keeps.bind ?_ fun _ => ?_
    exact kept219 r _ _ _ _ _ _ _ _ _ _ _ _ _ _ _ _
    repeat first | exact Keeps.pure _ | refine Keeps.bind ?_ fun _ => ?_
    exact kept220 r _ _ _ _ _
    repeat first | exact Keeps.pure _ | refine Keeps.bind ?_ fun _ => ?_
    exact kept221 r _ _ _ _ _
    repeat first | exact Keeps.pure _ | refine Keeps.bind ?_ fun _ => ?_
    exact kept222 r _ _ _ _ _
    repeat first | exact Keeps.pure _ | refine Keeps.bind ?_ fun _ => ?_
    exact kept223 r _ _ _ _ _ _ _ _ _ _ _ _ _ _ _ _
    repeat first | exact Keeps.pure _ | refine Keeps.bind ?_ fun _ => ?_
    exact kept224 r _ _ _ _ _
    repeat first | exact Keeps.pure _ | refine Keeps.bind ?_ fun _ => ?_
    exact kept225 r _ _ _ _ _
    repeat first | exact Keeps.pure _ | refine Keeps.bind ?_ fun _ => ?_
    exact kept226 r _ _ _ _ _
    repeat first | exact Keeps.pure _ | refine Keeps.bind ?_ fun _ => ?_
    exact kept227 r _ _ _ _ _ _ _ _ _ _ _ _ _ _ _ _
    repeat first | exact Keeps.pure _ | refine Keeps.bind ?_ fun _ => ?_
    exact kept228 r _ _ _ _ _
    repeat first | exact Keeps.pure _ | refine Keeps.bind ?_ fun _ => ?_
    exact kept229 r _ _ _ _ _
    repeat first | exact Keeps.pure _ | refine Keeps.bind ?_ fun _ => ?_

theorem kept334 : Kept.all c R (r.at (k0_part334 (F := F))) := by
  with_reducible_and_instances repeat refine Kept.value_all fun _ => ?_
  refine Kept.prog_all ?_
  delta Refs.at k0_part334
  with_reducible_and_instances
    repeat first | exact Keeps.pure _ | refine Keeps.bind ?_ fun _ => ?_ | exact Keeps.load r.held15
    exact kept280 r _ _ _ _
    repeat first | exact Keeps.pure _ | refine Keeps.bind ?_ fun _ => ?_ | exact Keeps.load r.held15
    exact kept281 r _ _ _ _
    repeat first | exact Keeps.pure _ | refine Keeps.bind ?_ fun _ => ?_ | exact Keeps.load r.held15
    exact kept282 r _ _ _ _
    repeat first | exact Keeps.pure _ | refine Keeps.bind ?_ fun _ => ?_ | exact Keeps.load r.held15
    exact kept283 r _ _ _ _ _ _
    repeat first | exact Keeps.pure _ | refine Keeps.bind ?_ fun _ => ?_ | exact Keeps.load r.held15
    exact kept284 r _ _ _ _ _ _
    repeat first | exact Keeps.pure _ | refine Keeps.bind ?_ fun _ => ?_ | exact Keeps.load r.held15
    exact kept285 r _ _ _ _ _ _
    repeat first | exact Keeps.pure _ | refine Keeps.bind ?_ fun _ => ?_ | exact Keeps.load r.held15
    exact kept286 r _ _ _ _ _
    repeat first | exact Keeps.pure _ | refine Keeps.bind ?_ fun _ => ?_ | exact Keeps.load r.held15
    exact kept287 r _ _ _
    repeat first | exact Keeps.pure _ | refine Keeps.bind ?_ fun _ => ?_ | exact Keeps.load r.held15
    exact kept288 r _ _ _
    repeat first | exact Keeps.pure _ | refine Keeps.bind ?_ fun _ => ?_ | exact Keeps.load r.held15
    exact kept289 r _ _ _ _
    repeat first | exact Keeps.pure _ | refine Keeps.bind ?_ fun _ => ?_ | exact Keeps.load r.held15
    exact kept290 r _ _ _ _ _
    repeat first | exact Keeps.pure _ | refine Keeps.bind ?_ fun _ => ?_ | exact Keeps.load r.held15
    exact kept291 r _ _ _ _ _
    repeat first | exact Keeps.pure _ | refine Keeps.bind ?_ fun _ => ?_ | exact Keeps.load r.held15
    exact kept292 r _ _ _ _ _ _ _
    repeat first | exact Keeps.pure _ | refine Keeps.bind ?_ fun _ => ?_ | exact Keeps.load r.held15
    exact kept293 r _ _ _ _ _ _ _
    repeat first | exact Keeps.pure _ | refine Keeps.bind ?_ fun _ => ?_ | exact Keeps.load r.held15
    exact kept294 r _ _ _
    repeat first | exact Keeps.pure _ | refine Keeps.bind ?_ fun _ => ?_ | exact Keeps.load r.held15
    exact kept295 r _ _ _ _
    repeat first | exact Keeps.pure _ | refine Keeps.bind ?_ fun _ => ?_ | exact Keeps.load r.held15
    exact kept296 r _ _ _
    repeat first | exact Keeps.pure _ | refine Keeps.bind ?_ fun _ => ?_ | exact Keeps.load r.held15
    exact kept297 r _ _ _ _ _ _
    repeat first | exact Keeps.pure _ | refine Keeps.bind ?_ fun _ => ?_ | exact Keeps.load r.held15
    exact kept298 r _ _ _ _
    repeat first | exact Keeps.pure _ | refine Keeps.bind ?_ fun _ => ?_ | exact Keeps.load r.held15
    exact kept299 r _ _ _ _ _
    repeat first | exact Keeps.pure _ | refine Keeps.bind ?_ fun _ => ?_ | exact Keeps.load r.held15
    exact kept300 r _ _ _ _ _ _
    repeat first | exact Keeps.pure _ | refine Keeps.bind ?_ fun _ => ?_ | exact Keeps.load r.held15
    exact kept301 r _ _ _ _
    repeat first | exact Keeps.pure _ | refine Keeps.bind ?_ fun _ => ?_ | exact Keeps.load r.held15
    exact kept302 r _ _ _ _
    repeat first | exact Keeps.pure _ | refine Keeps.bind ?_ fun _ => ?_ | exact Keeps.load r.held15
    exact kept303 r _ _ _ _ _ _ _
    repeat first | exact Keeps.pure _ | refine Keeps.bind ?_ fun _ => ?_ | exact Keeps.load r.held15
    exact kept304 r _ _ _ _ _
    repeat first | exact Keeps.pure _ | refine Keeps.bind ?_ fun _ => ?_ | exact Keeps.load r.held15
    exact kept305 r _ _ _
    repeat first | exact Keeps.pure _ | refine Keeps.bind ?_ fun _ => ?_ | exact Keeps.load r.held15
    exact kept306 r _ _ _
    repeat first | exact Keeps.pure _ | refine Keeps.bind ?_ fun _ => ?_ | exact Keeps.load r.held15
    exact kept307 r _ _ _ _ _ _
    repeat first | exact Keeps.pure _ | refine Keeps.bind ?_ fun _ => ?_ | exact Keeps.load r.held15
    exact kept308 r _ _ _ _
    repeat first | exact Keeps.pure _ | refine Keeps.bind ?_ fun _ => ?_ | exact Keeps.load r.held15
    exact kept309 r _ _ _ _
    repeat first | exact Keeps.pure _ | refine Keeps.bind ?_ fun _ => ?_ | exact Keeps.load r.held15
    exact kept310 r _ _ _ _
    repeat first | exact Keeps.pure _ | refine Keeps.bind ?_ fun _ => ?_ | exact Keeps.load r.held15
    exact kept311 r _ _ _ _ _ _ _
    repeat first | exact Keeps.pure _ | refine Keeps.bind ?_ fun _ => ?_ | exact Keeps.load r.held15
    exact kept312 r _ _ _ _
    repeat first | exact Keeps.pure _ | refine Keeps.bind ?_ fun _ => ?_ | exact Keeps.load r.held15
    exact kept313 r _ _
    repeat first | exact Keeps.pure _ | refine Keeps.bind ?_ fun _ => ?_ | exact Keeps.load r.held15
    exact kept314 r _ _ _
    repeat first | exact Keeps.pure _ | refine Keeps.bind ?_ fun _ => ?_ | exact Keeps.load r.held15
    exact kept315 r _ _ _ _
    repeat first | exact Keeps.pure _ | refine Keeps.bind ?_ fun _ => ?_ | exact Keeps.load r.held15
    exact kept316 r _ _ _ _ _ _
    repeat first | exact Keeps.pure _ | refine Keeps.bind ?_ fun _ => ?_ | exact Keeps.load r.held15
    exact kept317 r _ _ _ _ _ _ _
    repeat first | exact Keeps.pure _ | refine Keeps.bind ?_ fun _ => ?_ | exact Keeps.load r.held15
    exact kept318 r _ _ _ _
    repeat first | exact Keeps.pure _ | refine Keeps.bind ?_ fun _ => ?_ | exact Keeps.load r.held15
    exact kept319 r _ _ _ _
    repeat first | exact Keeps.pure _ | refine Keeps.bind ?_ fun _ => ?_ | exact Keeps.load r.held15
    exact kept320 r _ _ _ _ _ _ _ _
    repeat first | exact Keeps.pure _ | refine Keeps.bind ?_ fun _ => ?_ | exact Keeps.load r.held15
    exact kept321 r _ _ _ _
    repeat first | exact Keeps.pure _ | refine Keeps.bind ?_ fun _ => ?_ | exact Keeps.load r.held15
    exact kept322 r _ _ _ _
    repeat first | exact Keeps.pure _ | refine Keeps.bind ?_ fun _ => ?_ | exact Keeps.load r.held15
    exact kept323 r _ _ _
    repeat first | exact Keeps.pure _ | refine Keeps.bind ?_ fun _ => ?_ | exact Keeps.load r.held15
    exact kept324 r _ _ _ _
    repeat first | exact Keeps.pure _ | refine Keeps.bind ?_ fun _ => ?_ | exact Keeps.load r.held15
    exact kept325 r _ _ _ _ _
    repeat first | exact Keeps.pure _ | refine Keeps.bind ?_ fun _ => ?_ | exact Keeps.load r.held15
    exact kept326 r _ _ _ _ _ _
    repeat first | exact Keeps.pure _ | refine Keeps.bind ?_ fun _ => ?_ | exact Keeps.load r.held15
    exact kept327 r _ _ _ _
    repeat first | exact Keeps.pure _ | refine Keeps.bind ?_ fun _ => ?_ | exact Keeps.load r.held15
    exact kept328 r _ _ _ _ _ _
    repeat first | exact Keeps.pure _ | refine Keeps.bind ?_ fun _ => ?_ | exact Keeps.load r.held15
    exact kept329 r _ _ _ _ _ _
    repeat first | exact Keeps.pure _ | refine Keeps.bind ?_ fun _ => ?_ | exact Keeps.load r.held15
    exact kept330 r _ _ _ _
    repeat first | exact Keeps.pure _ | refine Keeps.bind ?_ fun _ => ?_ | exact Keeps.load r.held15
    exact kept331 r _ _
    repeat first | exact Keeps.pure _ | refine Keeps.bind ?_ fun _ => ?_ | exact Keeps.load r.held15
    exact kept332 r _ _ _
    repeat first | exact Keeps.pure _ | refine Keeps.bind ?_ fun _ => ?_ | exact Keeps.load r.held15
    exact kept333 r _ _ _ _
    repeat first | exact Keeps.pure _ | refine Keeps.bind ?_ fun _ => ?_ | exact Keeps.load r.held15

theorem kept389 : Kept.all c R (r.at (k0_part389 (F := F))) := by
  with_reducible_and_instances repeat refine Kept.value_all fun _ => ?_
  refine Kept.prog_all ?_
  delta Refs.at k0_part389
  with_reducible_and_instances
    repeat first | exact Keeps.pure _ | refine Keeps.bind ?_ fun _ => ?_ | exact Keeps.load r.held15
    exact kept335 r _ _ _ _
    repeat first | exact Keeps.pure _ | refine Keeps.bind ?_ fun _ => ?_ | exact Keeps.load r.held15
    exact kept336 r _ _ _ _
    repeat first | exact Keeps.pure _ | refine Keeps.bind ?_ fun _ => ?_ | exact Keeps.load r.held15
    exact kept337 r _ _ _ _
    repeat first | exact Keeps.pure _ | refine Keeps.bind ?_ fun _ => ?_ | exact Keeps.load r.held15
    exact kept338 r _ _ _ _ _ _
    repeat first | exact Keeps.pure _ | refine Keeps.bind ?_ fun _ => ?_ | exact Keeps.load r.held15
    exact kept339 r _ _ _ _ _ _
    repeat first | exact Keeps.pure _ | refine Keeps.bind ?_ fun _ => ?_ | exact Keeps.load r.held15
    exact kept340 r _ _ _ _ _ _
    repeat first | exact Keeps.pure _ | refine Keeps.bind ?_ fun _ => ?_ | exact Keeps.load r.held15
    exact kept341 r _ _ _ _ _
    repeat first | exact Keeps.pure _ | refine Keeps.bind ?_ fun _ => ?_ | exact Keeps.load r.held15
    exact kept342 r _ _ _
    repeat first | exact Keeps.pure _ | refine Keeps.bind ?_ fun _ => ?_ | exact Keeps.load r.held15
    exact kept343 r _ _ _
    repeat first | exact Keeps.pure _ | refine Keeps.bind ?_ fun _ => ?_ | exact Keeps.load r.held15
    exact kept344 r _ _ _ _
    repeat first | exact Keeps.pure _ | refine Keeps.bind ?_ fun _ => ?_ | exact Keeps.load r.held15
    exact kept345 r _ _ _ _ _
    repeat first | exact Keeps.pure _ | refine Keeps.bind ?_ fun _ => ?_ | exact Keeps.load r.held15
    exact kept346 r _ _ _ _ _
    repeat first | exact Keeps.pure _ | refine Keeps.bind ?_ fun _ => ?_ | exact Keeps.load r.held15
    exact kept347 r _ _ _ _ _ _ _
    repeat first | exact Keeps.pure _ | refine Keeps.bind ?_ fun _ => ?_ | exact Keeps.load r.held15
    exact kept348 r _ _ _ _ _ _ _
    repeat first | exact Keeps.pure _ | refine Keeps.bind ?_ fun _ => ?_ | exact Keeps.load r.held15
    exact kept349 r _ _ _
    repeat first | exact Keeps.pure _ | refine Keeps.bind ?_ fun _ => ?_ | exact Keeps.load r.held15
    exact kept350 r _ _ _ _
    repeat first | exact Keeps.pure _ | refine Keeps.bind ?_ fun _ => ?_ | exact Keeps.load r.held15
    exact kept351 r _ _ _
    repeat first | exact Keeps.pure _ | refine Keeps.bind ?_ fun _ => ?_ | exact Keeps.load r.held15
    exact kept352 r _ _ _ _ _ _
    repeat first | exact Keeps.pure _ | refine Keeps.bind ?_ fun _ => ?_ | exact Keeps.load r.held15
    exact kept353 r _ _ _ _
    repeat first | exact Keeps.pure _ | refine Keeps.bind ?_ fun _ => ?_ | exact Keeps.load r.held15
    exact kept354 r _ _ _ _ _
    repeat first | exact Keeps.pure _ | refine Keeps.bind ?_ fun _ => ?_ | exact Keeps.load r.held15
    exact kept355 r _ _ _ _ _ _
    repeat first | exact Keeps.pure _ | refine Keeps.bind ?_ fun _ => ?_ | exact Keeps.load r.held15
    exact kept356 r _ _ _ _
    repeat first | exact Keeps.pure _ | refine Keeps.bind ?_ fun _ => ?_ | exact Keeps.load r.held15
    exact kept357 r _ _ _ _
    repeat first | exact Keeps.pure _ | refine Keeps.bind ?_ fun _ => ?_ | exact Keeps.load r.held15
    exact kept358 r _ _ _ _ _ _ _
    repeat first | exact Keeps.pure _ | refine Keeps.bind ?_ fun _ => ?_ | exact Keeps.load r.held15
    exact kept359 r _ _ _ _ _
    repeat first | exact Keeps.pure _ | refine Keeps.bind ?_ fun _ => ?_ | exact Keeps.load r.held15
    exact kept360 r _ _ _
    repeat first | exact Keeps.pure _ | refine Keeps.bind ?_ fun _ => ?_ | exact Keeps.load r.held15
    exact kept361 r _ _ _
    repeat first | exact Keeps.pure _ | refine Keeps.bind ?_ fun _ => ?_ | exact Keeps.load r.held15
    exact kept362 r _ _ _ _ _ _
    repeat first | exact Keeps.pure _ | refine Keeps.bind ?_ fun _ => ?_ | exact Keeps.load r.held15
    exact kept363 r _ _ _ _
    repeat first | exact Keeps.pure _ | refine Keeps.bind ?_ fun _ => ?_ | exact Keeps.load r.held15
    exact kept364 r _ _ _ _
    repeat first | exact Keeps.pure _ | refine Keeps.bind ?_ fun _ => ?_ | exact Keeps.load r.held15
    exact kept365 r _ _ _ _
    repeat first | exact Keeps.pure _ | refine Keeps.bind ?_ fun _ => ?_ | exact Keeps.load r.held15
    exact kept366 r _ _ _ _ _ _ _
    repeat first | exact Keeps.pure _ | refine Keeps.bind ?_ fun _ => ?_ | exact Keeps.load r.held15
    exact kept367 r _ _ _ _
    repeat first | exact Keeps.pure _ | refine Keeps.bind ?_ fun _ => ?_ | exact Keeps.load r.held15
    exact kept368 r _ _
    repeat first | exact Keeps.pure _ | refine Keeps.bind ?_ fun _ => ?_ | exact Keeps.load r.held15
    exact kept369 r _ _ _
    repeat first | exact Keeps.pure _ | refine Keeps.bind ?_ fun _ => ?_ | exact Keeps.load r.held15
    exact kept370 r _ _ _ _
    repeat first | exact Keeps.pure _ | refine Keeps.bind ?_ fun _ => ?_ | exact Keeps.load r.held15
    exact kept371 r _ _ _ _ _ _
    repeat first | exact Keeps.pure _ | refine Keeps.bind ?_ fun _ => ?_ | exact Keeps.load r.held15
    exact kept372 r _ _ _ _ _ _ _
    repeat first | exact Keeps.pure _ | refine Keeps.bind ?_ fun _ => ?_ | exact Keeps.load r.held15
    exact kept373 r _ _ _ _
    repeat first | exact Keeps.pure _ | refine Keeps.bind ?_ fun _ => ?_ | exact Keeps.load r.held15
    exact kept374 r _ _ _ _
    repeat first | exact Keeps.pure _ | refine Keeps.bind ?_ fun _ => ?_ | exact Keeps.load r.held15
    exact kept375 r _ _ _ _ _ _ _ _
    repeat first | exact Keeps.pure _ | refine Keeps.bind ?_ fun _ => ?_ | exact Keeps.load r.held15
    exact kept376 r _ _ _ _
    repeat first | exact Keeps.pure _ | refine Keeps.bind ?_ fun _ => ?_ | exact Keeps.load r.held15
    exact kept377 r _ _ _ _
    repeat first | exact Keeps.pure _ | refine Keeps.bind ?_ fun _ => ?_ | exact Keeps.load r.held15
    exact kept378 r _ _ _
    repeat first | exact Keeps.pure _ | refine Keeps.bind ?_ fun _ => ?_ | exact Keeps.load r.held15
    exact kept379 r _ _ _ _
    repeat first | exact Keeps.pure _ | refine Keeps.bind ?_ fun _ => ?_ | exact Keeps.load r.held15
    exact kept380 r _ _ _ _ _
    repeat first | exact Keeps.pure _ | refine Keeps.bind ?_ fun _ => ?_ | exact Keeps.load r.held15
    exact kept381 r _ _ _ _ _ _
    repeat first | exact Keeps.pure _ | refine Keeps.bind ?_ fun _ => ?_ | exact Keeps.load r.held15
    exact kept382 r _ _ _ _
    repeat first | exact Keeps.pure _ | refine Keeps.bind ?_ fun _ => ?_ | exact Keeps.load r.held15
    exact kept383 r _ _ _ _ _ _
    repeat first | exact Keeps.pure _ | refine Keeps.bind ?_ fun _ => ?_ | exact Keeps.load r.held15
    exact kept384 r _ _ _ _ _ _
    repeat first | exact Keeps.pure _ | refine Keeps.bind ?_ fun _ => ?_ | exact Keeps.load r.held15
    exact kept385 r _ _ _ _
    repeat first | exact Keeps.pure _ | refine Keeps.bind ?_ fun _ => ?_ | exact Keeps.load r.held15
    exact kept386 r _ _
    repeat first | exact Keeps.pure _ | refine Keeps.bind ?_ fun _ => ?_ | exact Keeps.load r.held15
    exact kept387 r _ _ _
    repeat first | exact Keeps.pure _ | refine Keeps.bind ?_ fun _ => ?_ | exact Keeps.load r.held15
    exact kept388 r _ _ _ _
    repeat first | exact Keeps.pure _ | refine Keeps.bind ?_ fun _ => ?_ | exact Keeps.load r.held15

theorem kept455 : Kept.all c R (r.at (k0_part455 (F := F))) := by
  with_reducible_and_instances repeat refine Kept.value_all fun _ => ?_
  refine Kept.prog_all ?_
  delta Refs.at k0_part455
  with_reducible_and_instances
    repeat first | exact Keeps.pure _ | refine Keeps.bind ?_ fun _ => ?_ | exact Keeps.load r.held3 | exact Keeps.load r.held4 | exact Keeps.load r.held10 | exact Keeps.store r.held10 | refine Keeps.for fun _ _ => ?_
    exact kept58 r _ _ _ _
    repeat first | exact Keeps.pure _ | refine Keeps.bind ?_ fun _ => ?_ | exact Keeps.load r.held3 | exact Keeps.load r.held4 | exact Keeps.load r.held10 | exact Keeps.store r.held10 | refine Keeps.for fun _ _ => ?_
    exact kept116 r _ _ _ _
    repeat first | exact Keeps.pure _ | refine Keeps.bind ?_ fun _ => ?_ | exact Keeps.load r.held3 | exact Keeps.load r.held4 | exact Keeps.load r.held10 | exact Keeps.store r.held10 | refine Keeps.for fun _ _ => ?_
    exact kept145 r _ _ _ _
    repeat first | exact Keeps.pure _ | refine Keeps.bind ?_ fun _ => ?_ | exact Keeps.load r.held3 | exact Keeps.load r.held4 | exact Keeps.load r.held10 | exact Keeps.store r.held10 | refine Keeps.for fun _ _ => ?_
    exact kept174 r _ _ _ _
    repeat first | exact Keeps.pure _ | refine Keeps.bind ?_ fun _ => ?_ | exact Keeps.load r.held3 | exact Keeps.load r.held4 | exact Keeps.load r.held10 | exact Keeps.store r.held10 | refine Keeps.for fun _ _ => ?_

theorem kept477 : Kept.all c R (r.at (k0_part477 (F := F))) := by
  with_reducible_and_instances repeat refine Kept.value_all fun _ => ?_
  refine Kept.prog_all ?_
  delta Refs.at k0_part477
  with_reducible_and_instances
    repeat first
      | exact Keeps.pure _
      | refine Keeps.bind ?_ fun _ => ?_
      | refine Keeps.dite (fun _ => ?_) fun _ => ?_
      | exact kept204 r _
      | exact kept230 r _
      | exact kept231 r _
      | exact kept232 r _ _ _ _ _ _ _ _ _ _ _ _
      | exact kept233 r _ _ _ _ _
      | exact kept234 r _ _ _ _ _ _ _ _ _ _ _ _
      | exact kept235 r _ _ _ _ _
      | exact kept236 r _ _ _ _ _ _ _ _ _ _ _ _
      | exact kept237 r _ _ _ _ _
      | exact kept238 r _ _ _ _ _ _ _ _ _ _ _ _
      | exact kept239 r _ _ _ _ _
      | exact kept240 r _ _ _ _ _ _ _ _ _ _ _ _
      | exact kept241 r _ _ _ _ _
      | exact kept242 r _ _ _ _ _ _ _ _ _ _ _ _
      | exact kept243 r _ _ _ _ _
      | exact kept244 r _ _ _ _ _ _ _ _ _ _ _ _
      | exact kept245 r _ _ _ _ _
      | exact kept246 r _ _ _ _ _ _ _ _ _ _ _ _
      | exact kept247 r _ _ _ _ _
      | exact kept248 r _ _ _ _ _ _ _ _ _ _ _ _
      | exact kept249 r _ _ _ _ _
      | exact kept250 r _ _ _ _ _ _ _ _ _ _ _ _
      | exact kept251 r _ _ _ _ _
      | exact kept252 r _
      | exact kept253 r _ _ _ _ _ _ _
      | exact kept254 r _ _ _ _ _ _
      | exact kept255 r _ _ _ _ _
      | exact kept256 r _ _ _ _ _ _ _ _
      | exact kept257 r _ _ _ _ _
      | exact kept258 r _ _ _
      | exact kept259 r _ _ _ _
      | exact kept260 r _ _ _ _ _
      | exact kept261 r _ _ _ _ _ _ _
      | exact kept262 r _ _ _ _ _ _
      | exact kept263 r _ _ _ _ _
      | exact kept264 r _ _ _ _ _ _ _ _
      | exact kept265 r _ _ _ _ _
      | exact kept266 r _ _ _
      | exact kept267 r _ _ _ _
      | exact kept268 r _ _ _ _ _

theorem kept478 : Kept.all c R (r.at (k0_part478 (F := F))) := by
  with_reducible_and_instances repeat refine Kept.value_all fun _ => ?_
  refine Kept.prog_all ?_
  delta Refs.at k0_part478
  with_reducible_and_instances
    repeat first
      | exact Keeps.pure _
      | refine Keeps.bind ?_ fun _ => ?_
      | exact Keeps.load r.held10
      | exact Keeps.load r.held12
      | exact Keeps.store r.held12
      | refine Keeps.ite ?_ ?_
      | refine Keeps.for fun _ _ => ?_
      | exact kept269 r _ _
      | exact kept270 r _ _ _ _ _
      | exact kept271 r _ _ _ _ _ _ _ _
      | exact kept272 r _ _ _ _ _ _ _
      | exact kept273 r _ _ _ _ _
      | exact kept274 r _ _ _ _
      | exact kept275 r _ _ _ _
      | exact kept276 r _ _ _ _ _ _ _ _ _ _ _ _ _
      | exact kept277 r _ _ _ _ _ _ _ _ _ _ _ _ _ _ _ _ _ _ _ _
      | exact kept278 r _ _ _ _ _ _ _ _ _ _ _ _ _ _ _ _ _ _ _ _
      | exact kept279 r _ _ _ _ _ _ _ _ _ _ _ _ _ _ _ _ _

theorem kept485 : Kept.all c R (r.at (k0_part485 (F := F))) := by
  with_reducible_and_instances repeat refine Kept.value_all fun _ => ?_
  refine Kept.prog_all ?_
  delta Refs.at k0_part485
  with_reducible_and_instances
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept334 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept389 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept390 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept391 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept392 r _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept393 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept394 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept395 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept396 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept397 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept398 r _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept399 r _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept400 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept401 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept402 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept403 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept404 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept405 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept406 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept407 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept408 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept409 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept410 r _ _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept411 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept412 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept413 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept414 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept415 r _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept416 r _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept417 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept418 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept419 r _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept420 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept421 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept422 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept423 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept424 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept425 r _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept426 r _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept427 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept428 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept429 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept430 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept431 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept432 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept433 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept434 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept435 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept436 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept437 r _ _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept438 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept439 r _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept440 r _ _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept441 r _ _ _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept442 r _ _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_
    exact kept443 r _ _
    repeat first | exact Keeps.pure _ | refine Keeps.bind ?_ fun _ => ?_ | exact Keeps.load r.held13 | exact Keeps.store r.held13 | exact Keeps.load r.held14 | exact Keeps.load r.held15 | exact Keeps.store r.held15 | refine Keeps.for fun _ _ => ?_

theorem kept490 : Kept.all c R (r.at (k0_part490 (F := F))) := by
  refine Kept.prog_all ?_
  delta Refs.at k0_part490
  with_reducible_and_instances
    repeat first | exact Keeps.pure _ | refine Keeps.bind ?_ fun _ => ?_ | exact Keeps.load r.held5
    exact kept444 r
    repeat first | exact Keeps.pure _ | refine Keeps.bind ?_ fun _ => ?_ | exact Keeps.load r.held5
    exact kept445 r _ _
    repeat first | exact Keeps.pure _ | refine Keeps.bind ?_ fun _ => ?_ | exact Keeps.load r.held5
    exact kept446 r _ _ _
    repeat first | exact Keeps.pure _ | refine Keeps.bind ?_ fun _ => ?_ | exact Keeps.load r.held5
    exact kept447 r _ _ _
    repeat first | exact Keeps.pure _ | refine Keeps.bind ?_ fun _ => ?_ | exact Keeps.load r.held5
    exact kept448 r _ _ _ _
    repeat first | exact Keeps.pure _ | refine Keeps.bind ?_ fun _ => ?_ | exact Keeps.load r.held5
    exact kept449 r _ _ _ _ _ _ _ _
    repeat first | exact Keeps.pure _ | refine Keeps.bind ?_ fun _ => ?_ | exact Keeps.load r.held5
    exact kept450 r _ _ _ _
    repeat first | exact Keeps.pure _ | refine Keeps.bind ?_ fun _ => ?_ | exact Keeps.load r.held5
    exact kept451 r _ _
    repeat first | exact Keeps.pure _ | refine Keeps.bind ?_ fun _ => ?_ | exact Keeps.load r.held5
    exact kept452 r _ _ _
    repeat first | exact Keeps.pure _ | refine Keeps.bind ?_ fun _ => ?_ | exact Keeps.load r.held5
    exact kept453 r _ _ _ _
    repeat first | exact Keeps.pure _ | refine Keeps.bind ?_ fun _ => ?_ | exact Keeps.load r.held5
    exact kept454 r _ _ _ _ _ _ _ _ _
    repeat first | exact Keeps.pure _ | refine Keeps.bind ?_ fun _ => ?_ | exact Keeps.load r.held5
    exact kept455 r _ _ _
    repeat first | exact Keeps.pure _ | refine Keeps.bind ?_ fun _ => ?_ | exact Keeps.load r.held5
    exact kept456 r _
    repeat first | exact Keeps.pure _ | refine Keeps.bind ?_ fun _ => ?_ | exact Keeps.load r.held5
    exact kept457 r _ _ _ _ _ _ _ _ _ _ _ _ _ _
    repeat first | exact Keeps.pure _ | refine Keeps.bind ?_ fun _ => ?_ | exact Keeps.load r.held5
    exact kept458 r _ _ _ _ _ _ _ _ _ _ _ _ _ _
    repeat first | exact Keeps.pure _ | refine Keeps.bind ?_ fun _ => ?_ | exact Keeps.load r.held5
    exact kept459 r _ _ _ _ _ _ _ _ _ _ _ _ _ _
    repeat first | exact Keeps.pure _ | refine Keeps.bind ?_ fun _ => ?_ | exact Keeps.load r.held5
    exact kept460 r _ _ _ _ _ _ _ _ _ _ _ _ _ _
    repeat first | exact Keeps.pure _ | refine Keeps.bind ?_ fun _ => ?_ | exact Keeps.load r.held5
    exact kept461 r _ _ _ _ _ _ _ _ _ _ _ _ _ _
    repeat first | exact Keeps.pure _ | refine Keeps.bind ?_ fun _ => ?_ | exact Keeps.load r.held5
    exact kept462 r _ _ _ _ _ _ _ _ _ _ _ _ _ _
    repeat first | exact Keeps.pure _ | refine Keeps.bind ?_ fun _ => ?_ | exact Keeps.load r.held5
    exact kept463 r _ _ _ _ _ _ _ _ _ _ _ _ _ _
    repeat first | exact Keeps.pure _ | refine Keeps.bind ?_ fun _ => ?_ | exact Keeps.load r.held5
    exact kept464 r _ _ _ _ _ _ _ _ _ _ _ _ _ _
    repeat first | exact Keeps.pure _ | refine Keeps.bind ?_ fun _ => ?_ | exact Keeps.load r.held5
    exact kept465 r _ _ _ _ _ _ _ _ _ _ _ _ _ _
    repeat first | exact Keeps.pure _ | refine Keeps.bind ?_ fun _ => ?_ | exact Keeps.load r.held5
    exact kept466 r _ _ _ _ _ _ _ _ _ _ _ _ _ _
    repeat first | exact Keeps.pure _ | refine Keeps.bind ?_ fun _ => ?_ | exact Keeps.load r.held5
    exact kept467 r _ _ _ _ _ _ _ _ _ _ _ _ _ _
    repeat first | exact Keeps.pure _ | refine Keeps.bind ?_ fun _ => ?_ | exact Keeps.load r.held5
    exact kept468 r _ _ _ _ _ _ _ _ _ _ _ _ _ _
    repeat first | exact Keeps.pure _ | refine Keeps.bind ?_ fun _ => ?_ | exact Keeps.load r.held5
    exact kept469 r _ _ _ _ _ _ _ _ _ _ _ _ _ _
    repeat first | exact Keeps.pure _ | refine Keeps.bind ?_ fun _ => ?_ | exact Keeps.load r.held5
    exact kept470 r _ _ _ _ _ _ _ _ _ _ _ _ _ _
    repeat first | exact Keeps.pure _ | refine Keeps.bind ?_ fun _ => ?_ | exact Keeps.load r.held5
    exact kept471 r _ _ _ _ _ _ _ _ _ _ _ _ _ _
    repeat first | exact Keeps.pure _ | refine Keeps.bind ?_ fun _ => ?_ | exact Keeps.load r.held5
    exact kept472 r _ _ _ _ _ _ _ _ _ _ _ _
    repeat first | exact Keeps.pure _ | refine Keeps.bind ?_ fun _ => ?_ | exact Keeps.load r.held5
    exact kept473 r _ _ _ _ _ _ _ _ _ _
    repeat first | exact Keeps.pure _ | refine Keeps.bind ?_ fun _ => ?_ | exact Keeps.load r.held5
    exact kept474 r _ _ _ _ _ _ _ _ _ _
    repeat first | exact Keeps.pure _ | refine Keeps.bind ?_ fun _ => ?_ | exact Keeps.load r.held5
    exact kept475 r _ _ _ _ _ _ _ _ _ _
    repeat first | exact Keeps.pure _ | refine Keeps.bind ?_ fun _ => ?_ | exact Keeps.load r.held5
    exact kept476 r _ _ _ _
    repeat first | exact Keeps.pure _ | refine Keeps.bind ?_ fun _ => ?_ | exact Keeps.load r.held5
    exact kept477 r _ _ _ _ _
    repeat first | exact Keeps.pure _ | refine Keeps.bind ?_ fun _ => ?_ | exact Keeps.load r.held5
    exact kept478 r _ _ _ _ _
    repeat first | exact Keeps.pure _ | refine Keeps.bind ?_ fun _ => ?_ | exact Keeps.load r.held5
    exact kept479 r _ _
    repeat first | exact Keeps.pure _ | refine Keeps.bind ?_ fun _ => ?_ | exact Keeps.load r.held5
    exact kept480 r _ _ _
    repeat first | exact Keeps.pure _ | refine Keeps.bind ?_ fun _ => ?_ | exact Keeps.load r.held5
    exact kept481 r _ _ _
    repeat first | exact Keeps.pure _ | refine Keeps.bind ?_ fun _ => ?_ | exact Keeps.load r.held5
    exact kept482 r _ _ _
    repeat first | exact Keeps.pure _ | refine Keeps.bind ?_ fun _ => ?_ | exact Keeps.load r.held5
    exact kept483 r _ _ _
    repeat first | exact Keeps.pure _ | refine Keeps.bind ?_ fun _ => ?_ | exact Keeps.load r.held5
    exact kept484 r _ _
    repeat first | exact Keeps.pure _ | refine Keeps.bind ?_ fun _ => ?_ | exact Keeps.load r.held5
    exact kept485 r _ _ _ _
    repeat first | exact Keeps.pure _ | refine Keeps.bind ?_ fun _ => ?_ | exact Keeps.load r.held5
    exact kept486 r _
    repeat first | exact Keeps.pure _ | refine Keeps.bind ?_ fun _ => ?_ | exact Keeps.load r.held5
    exact kept487 r _
    repeat first | exact Keeps.pure _ | refine Keeps.bind ?_ fun _ => ?_ | exact Keeps.load r.held5
    exact kept488 r _
    repeat first | exact Keeps.pure _ | refine Keeps.bind ?_ fun _ => ?_ | exact Keeps.load r.held5
    exact kept489 r _ _ _
    repeat first | exact Keeps.pure _ | refine Keeps.bind ?_ fun _ => ?_ | exact Keeps.load r.held5

theorem kept_body : Kept.all c R (r.at (cc0_dsa_attention (F := F))) := by
  refine Kept.prog_all ?_
  delta Refs.at cc0_dsa_attention
  with_reducible_and_instances
    repeat first | exact Keeps.pure _ | refine Keeps.bind ?_ fun _ => ?_ | exact Keeps.load r.held9 | exact Keeps.store r.held9
    exact kept490 r
    repeat first | exact Keeps.pure _ | refine Keeps.bind ?_ fun _ => ?_ | exact Keeps.load r.held9 | exact Keeps.store r.held9

end Cert.Proof.Attention

end
-- ==== Proof.Attention.lean ====
/- The attention call runs: at every grid point its body keeps the eight staged windows and its eight scratch buffers,
   whatever they hold, so the launch ends with the argument arrays as they were and every semaphore at zero. -/
module

public import proofs.«01_k».proof.Defs
public import proofs.«01_k».proof.Proof.Body
public import proofs.«01_k».proof.Proof.Gen.Kernel.Frame

@[expose] public section

set_option maxRecDepth 16384

noncomputable section

namespace Cert.Proof.Attention

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The whole buffer under `M`, at some contents. -/
def hold (c : Dev nD) {sp : Space} {s : Shape} {e : EltTy} (M : Memref sig .tc sp s e) : sProp 𝕄 :=
  iprop(∃ f : Buf (Elt F) (M.view.loc (c : Thread nD τ)), M.view.loc (c : Thread nD τ) ↦{fullShare} f)

theorem held_head (c : Dev nD) {sp : CoreSpace} {s : Shape} {e : EltTy} (M : Memref sig .tc sp s e) (G : sProp 𝕄) :
    Held (F := F) c iprop(hold c M ∗ G) M := by
  refine ⟨G, ?_, fun f => ?_⟩
  · unfold hold
    iintro ⟨⟨%f, Hf⟩, HG⟩
    iexists f
    isplitl [Hf]
    · iexact Hf
    · iexact HG
  · unfold hold
    iintro ⟨Hf, HG⟩
    isplitl [Hf]
    · iexists f; iexact Hf
    · iexact HG

theorem held_tail {c : Dev nD} {sp : CoreSpace} {s : Shape} {e : EltTy} {M : Memref sig .tc sp s e} {R : sProp 𝕄} (P : sProp 𝕄)
    (h : Held (F := F) c R M) : Held (F := F) c iprop(P ∗ R) M := by
  obtain ⟨G, h1, h2⟩ := h
  refine ⟨iprop(P ∗ G), ?_, fun f => ?_⟩
  · iintro ⟨HP, HR⟩
    ihave H := h1 $$ HR
    icases H with ⟨%f, Hf, HG⟩
    iexists f
    isplitl [Hf]
    · iexact Hf
    isplitl [HP]
    · iexact HP
    · iexact HG
  · iintro ⟨Hf, HP, HG⟩
    isplitl [HP]
    · iexact HP
    iapply (h2 f)
    isplitl [Hf]
    · iexact Hf
    · iexact HG

/-- What the body is run from at point `t`: the eight staged windows and the eight scratch buffers. -/
def held0 (c : Dev nD) (t : Fin cfg0.N) : sProp 𝕄 :=
  iprop(hold c (st0_0 t) ∗ hold c (st0_1 t) ∗ hold c (st0_2 t) ∗ hold c (st0_3 t) ∗ hold c (st0_4 t) ∗ hold c (st0_5 t)
    ∗ hold c (st0_6 t) ∗ hold c (st0_7 t) ∗ hold c (Memref.whole cc0_scratch0) ∗ hold c (Memref.whole cc0_scratch1)
    ∗ hold c (Memref.whole cc0_scratch2) ∗ hold c (Memref.whole cc0_scratch3) ∗ hold c (Memref.whole cc0_scratch4)
    ∗ hold c (Memref.whole cc0_scratch5) ∗ hold c (Memref.whole cc0_scratch6) ∗ hold c (Memref.whole cc0_scratch7) ∗ BI.emp)

/-- The body at point `t`, over what it is run from. -/
def refs0 (c : Dev nD) (t : Fin cfg0.N) : Refs (F := F) c (held0 c t) where
  i := grid0.coords t
  arg2 := st0_0 t
  harg2 := hstage0_0 ((cfg0.slots t 0).cast nbuf0_0)
  held2 := held_head ..
  arg3 := st0_1 t
  harg3 := hstage0_1 ((cfg0.slots t 1).cast nbuf0_1)
  held3 := held_tail _ <| held_head ..
  arg4 := st0_2 t
  harg4 := hstage0_2 ((cfg0.slots t 2).cast nbuf0_2)
  held4 := held_tail _ <| held_tail _ <| held_head ..
  arg5 := st0_3 t
  harg5 := hstage0_3 ((cfg0.slots t 3).cast nbuf0_3)
  held5 := held_tail _ <| held_tail _ <| held_tail _ <| held_head ..
  arg6 := st0_4 t
  harg6 := hstage0_4 ((cfg0.slots t 4).cast nbuf0_4)
  held6 := held_tail _ <| held_tail _ <| held_tail _ <| held_tail _ <| held_head ..
  arg7 := st0_5 t
  harg7 := hstage0_5 ((cfg0.slots t 5).cast nbuf0_5)
  held7 := held_tail _ <| held_tail _ <| held_tail _ <| held_tail _ <| held_tail _ <| held_head ..
  arg8 := st0_6 t
  harg8 := hstage0_6 ((cfg0.slots t 6).cast nbuf0_6)
  held8 := held_tail _ <| held_tail _ <| held_tail _ <| held_tail _ <| held_tail _ <| held_tail _ <| held_head ..
  arg9 := st0_7 t
  harg9 := hstage0_7 ((cfg0.slots t 7).cast nbuf0_7)
  held9 := held_tail _ <| held_tail _ <| held_tail _ <| held_tail _ <| held_tail _ <| held_tail _ <| held_tail _ <| held_head ..
  arg10 := Memref.whole cc0_scratch0
  harg10 := Memref.isWhole_whole _
  held10 := held_tail _ <| held_tail _ <| held_tail _ <| held_tail _ <| held_tail _ <| held_tail _ <| held_tail _ <| held_tail _ <| held_head ..
  arg11 := Memref.whole cc0_scratch1
  harg11 := Memref.isWhole_whole _
  held11 := held_tail _ <| held_tail _ <| held_tail _ <| held_tail _ <| held_tail _ <| held_tail _ <| held_tail _ <| held_tail _ <| held_tail _ <| held_head ..
  arg12 := Memref.whole cc0_scratch2
  harg12 := Memref.isWhole_whole _
  held12 := held_tail _ <| held_tail _ <| held_tail _ <| held_tail _ <| held_tail _ <| held_tail _ <| held_tail _ <| held_tail _ <| held_tail _ <| held_tail _ <| held_head ..
  arg13 := Memref.whole cc0_scratch3
  harg13 := Memref.isWhole_whole _
  held13 := held_tail _ <| held_tail _ <| held_tail _ <| held_tail _ <| held_tail _ <| held_tail _ <| held_tail _ <| held_tail _ <| held_tail _ <| held_tail _ <| held_tail _ <| held_head ..
  arg14 := Memref.whole cc0_scratch4
  harg14 := Memref.isWhole_whole _
  held14 := held_tail _ <| held_tail _ <| held_tail _ <| held_tail _ <| held_tail _ <| held_tail _ <| held_tail _ <| held_tail _ <| held_tail _ <| held_tail _ <| held_tail _ <| held_tail _ <| held_head ..
  arg15 := Memref.whole cc0_scratch5
  harg15 := Memref.isWhole_whole _
  held15 := held_tail _ <| held_tail _ <| held_tail _ <| held_tail _ <| held_tail _ <| held_tail _ <| held_tail _ <| held_tail _ <| held_tail _ <| held_tail _ <| held_tail _ <| held_tail _ <| held_tail _ <| held_head ..
  arg16 := Memref.whole cc0_scratch6
  harg16 := Memref.isWhole_whole _
  held16 := held_tail _ <| held_tail _ <| held_tail _ <| held_tail _ <| held_tail _ <| held_tail _ <| held_tail _ <| held_tail _ <| held_tail _ <| held_tail _ <| held_tail _ <| held_tail _ <| held_tail _ <| held_tail _ <| held_head ..
  arg17 := Memref.whole cc0_scratch7
  harg17 := Memref.isWhole_whole _
  held17 := held_tail _ <| held_tail _ <| held_tail _ <| held_tail _ <| held_tail _ <| held_tail _ <| held_tail _ <| held_tail _ <| held_tail _ <| held_tail _ <| held_tail _ <| held_tail _ <| held_tail _ <| held_tail _ <| held_tail _ <| held_head ..

theorem body_keeps (c : Dev nD) (t : Fin cfg0.N) :
    held0 c t ⊢ wp frame (wpE (defs₀ (F := F)) Variants.none (c : Thread nD τ) none) Set.univ (bodyAt0 t) fun _ => held0 c t :=
  kept_body (refs0 c t)

theorem hold_of_owns {c : Dev nD} {sp : Space} {s : Shape} {e : EltTy} {M : Memref sig .tc sp s e} (h : M.IsWhole) (X : s.Idx → Elt F e) :
    (owns (c : Thread nD τ) M fullShare X : sProp 𝕄) ⊢ hold c M := by
  unfold owns hold
  rw [h.set_eq_univ]
  iintro ⟨%f, -, Hf⟩
  iexists f
  iexact Hf

theorem owns_of_hold {c : Dev nD} {sp : Space} {s : Shape} {e : EltTy} {M : Memref sig .tc sp s e} (h : M.IsWhole) :
    (hold c M : sProp 𝕄) ⊢ iprop(∃ X, ⌜True⌝ ∗ owns (c : Thread nD τ) M fullShare X) := by
  unfold owns hold
  rw [h.set_eq_univ]
  iintro ⟨%f, Hf⟩
  iexists (M.view.read (Elt F) f)
  isplitr
  · ipureintro; trivial
  iexists f
  isplitr
  · ipureintro; rfl
  iexact Hf

theorem hold_whole (c : Dev nD) {sp : Space} (b : Ref sig .tc) {s : Shape} {e : EltTy} (M : Memref sig .tc sp s e) (h : M.view.loc (c : Thread nD τ) = (c : Thread nD τ).loc b) :
    (hold c M : sProp 𝕄) = iprop(∃ f : Buf (Elt F) ((c : Thread nD τ).loc b), ((c : Thread nD τ).loc b) ↦{fullShare} f) := by
  unfold hold; rw [h]

/-- The call's proof data: nothing is said of what the body leaves in a window's staging buffer. -/
def rdat (m : (ℓ : Loc nD τ sig) → Buf (Elt F) ℓ) (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

theorem body_obligation (m : (ℓ : Loc nD τ sig) → Buf (Elt F) ℓ) (c : Dev nD) :
    (rdat m c).BodyObligation defs₀ Variants.none () Set.univ := fun t Y _ => by
  show iprop(Pipeline.ΦA spec0 c ∗ (rdat m c).owesAt () t.castSucc ∗ _) ⊢ wp frame (wpE (defs₀ (F := F)) Variants.none (c : Thread nD τ) none) Set.univ (bodyAt0 t)
    fun _ => iprop(Pipeline.ΦA spec0 c ∗ (rdat m c).owesAt () t.castSucc ∗ _)
  rw [bigSep_W0, bigSep_W0]
  unfold Pipeline.ΦA
  rw [scopedRest0_eq]
  iintro ⟨⟨⟨S0, S1, S2, S3, S4, S5, S6, S7⟩, HP⟩, HO, W0, W1, W2, W3, W4, W5, W6, W7⟩
  iapply (wp_wand_r frame (wpE (defs₀ (F := F)) Variants.none (c : Thread nD τ) none) Set.univ (p := bodyAt0 t) (Q := fun _ => held0 c t))
  isplitl [S0 S1 S2 S3 S4 S5 S6 S7 W0 W1 W2 W3 W4 W5 W6 W7]
  · iapply (body_keeps c t)
    unfold held0
    rw [hold_whole c cc0_scratch0 (Memref.whole cc0_scratch0) rfl, hold_whole c cc0_scratch1 (Memref.whole cc0_scratch1) rfl, hold_whole c cc0_scratch2 (Memref.whole cc0_scratch2) rfl, hold_whole c cc0_scratch3 (Memref.whole cc0_scratch3) rfl, hold_whole c cc0_scratch4 (Memref.whole cc0_scratch4) rfl, hold_whole c cc0_scratch5 (Memref.whole cc0_scratch5) rfl, hold_whole c cc0_scratch6 (Memref.whole cc0_scratch6) rfl, hold_whole c cc0_scratch7 (Memref.whole cc0_scratch7) rfl]
    isplitl [W0]
    · iapply (hold_of_owns (hstage0_0 ((cfg0.slots t 0).cast nbuf0_0)) (Y 0)); iexact W0
    isplitl [W1]
    · iapply (hold_of_owns (hstage0_1 ((cfg0.slots t 1).cast nbuf0_1)) (Y 1)); iexact W1
    isplitl [W2]
    · iapply (hold_of_owns (hstage0_2 ((cfg0.slots t 2).cast nbuf0_2)) (Y 2)); iexact W2
    isplitl [W3]
    · iapply (hold_of_owns (hstage0_3 ((cfg0.slots t 3).cast nbuf0_3)) (Y 3)); iexact W3
    isplitl [W4]
    · iapply (hold_of_owns (hstage0_4 ((cfg0.slots t 4).cast nbuf0_4)) (Y 4)); iexact W4
    isplitl [W5]
    · iapply (hold_of_owns (hstage0_5 ((cfg0.slots t 5).cast nbuf0_5)) (Y 5)); iexact W5
    isplitl [W6]
    · iapply (hold_of_owns (hstage0_6 ((cfg0.slots t 6).cast nbuf0_6)) (Y 6)); iexact W6
    isplitl [W7]
    · iapply (hold_of_owns (hstage0_7 ((cfg0.slots t 7).cast nbuf0_7)) (Y 7)); iexact W7
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    iempintro
  iintro %_ H
  unfold held0
  rw [hold_whole c cc0_scratch0 (Memref.whole cc0_scratch0) rfl, hold_whole c cc0_scratch1 (Memref.whole cc0_scratch1) rfl, hold_whole c cc0_scratch2 (Memref.whole cc0_scratch2) rfl, hold_whole c cc0_scratch3 (Memref.whole cc0_scratch3) rfl, hold_whole c cc0_scratch4 (Memref.whole cc0_scratch4) rfl, hold_whole c cc0_scratch5 (Memref.whole cc0_scratch5) rfl, hold_whole c cc0_scratch6 (Memref.whole cc0_scratch6) rfl, hold_whole c cc0_scratch7 (Memref.whole cc0_scratch7) rfl]
  icases H with ⟨W0, W1, W2, W3, W4, W5, W6, W7, S0, S1, S2, S3, S4, S5, S6, S7, -⟩
  isplitl [S0 S1 S2 S3 S4 S5 S6 S7 HP]
  · isplitr [HP]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      iexact S7
    · iexact HP
  isplitl [HO]
  · iexact HO
  isplitl [W0]
  · iapply (owns_of_hold (hstage0_0 ((cfg0.slots t 0).cast nbuf0_0))); iexact W0
  isplitl [W1]
  · iapply (owns_of_hold (hstage0_1 ((cfg0.slots t 1).cast nbuf0_1))); iexact W1
  isplitl [W2]
  · iapply (owns_of_hold (hstage0_2 ((cfg0.slots t 2).cast nbuf0_2))); iexact W2
  isplitl [W3]
  · iapply (owns_of_hold (hstage0_3 ((cfg0.slots t 3).cast nbuf0_3))); iexact W3
  isplitl [W4]
  · iapply (owns_of_hold (hstage0_4 ((cfg0.slots t 4).cast nbuf0_4))); iexact W4
  isplitl [W5]
  · iapply (owns_of_hold (hstage0_5 ((cfg0.slots t 5).cast nbuf0_5))); iexact W5
  isplitl [W6]
  · iapply (owns_of_hold (hstage0_6 ((cfg0.slots t 6).cast nbuf0_6))); iexact W6
  · iapply (owns_of_hold (hstage0_7 ((cfg0.slots t 7).cast nbuf0_7))); iexact W7

/-- The launch: the argument arrays end as they were, and every semaphore at zero. -/
theorem quiescent : Cert.quiescent_Kernel := fun m g _ =>
  Pipeline.RDat.θ_run_frame cfgs 0 launch0 defs₀ Variants.none (rdat m) m g main (body_obligation m)
    (fun c w => by unfold Pipeline.RDat.share; split <;> rfl) (fun _ _ => rfl)
    (V m) (hmain m Variants.none) (fun _ _ => rfl) (fun _ _ => rfl) _ fun _ h =>
      ⟨fun c => ⟨h.1.arr_in c 0 rfl, h.1.arr_in c 1 rfl, h.1.arr_in c 2 rfl, h.1.arr_in c 3 rfl, h.1.arr_in c 4 rfl,
        h.1.arr_in c 5 rfl, h.1.arr_in c 6 rfl⟩, h.2⟩

end Cert.Proof.Attention

end
-- ==== Proof.ProjN.lean ====
module
public import proofs.«01_k».proof.Defs
public import proofs.«01_k».proof.Proof.Gen.Kernel2Ideal.Value
public import proofs.«01_k».proof.Proof.Gen.Reference2Ideal.Read
public import Idealize.ShloMosaic.Lib.Pipeline.Value
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.Proof.ProjN

open Idealize.ShloMosaic Idealize.ShloMosaic.TcCoe Idealize.SL.Sem
open Cert.Kernel2Ideal Cert.Kernel2Ideal.Gen
open Idealize.ShloMosaic.Pipeline (Dat Cfg Window)

variable (m : (ℓ : Loc nD τ sig) → Buf (Elt Ideal) ℓ) (ρ : Dev nD → PrngReg)

/-- The weight of column `j` of the result at the input's coordinate `k`: the columns of the projection the kernel is
    called for, gathered in its order, and zero in the last 96. -/
def wn (W : S1x2048x6752.Idx → EReal) (k : Fin 2048) (j : Fin 4224) : EReal :=
  if _ : j.val < 2048 then W (ix3 0 k ⟨4688 + j.val, by omega⟩)
  else if _ : j.val - 2048 < 1024 then W (ix3 0 k ⟨3664 + (j.val - 2048), by omega⟩)
  else if _ : j.val - 2048 - 1024 < 1024 then W (ix3 0 k ⟨1536 + (j.val - 2048 - 1024), by omega⟩)
  else if _ : j.val - 2048 - 1024 - 1024 < 16 then W (ix3 0 k ⟨6736 + (j.val - 2048 - 1024 - 1024), by omega⟩)
  else if _ : j.val - 2048 - 1024 - 1024 - 16 < 16 then W (ix3 0 k ⟨6736 + (j.val - 2048 - 1024 - 1024 - 16), by omega⟩)
  else 0

/-- The projection: row `r` of the input against column `j` of the gathered weights. -/
def G (X : S8x4096x2048.Idx → EReal) (W : S1x2048x6752.Idx → EReal) (i : S32768x4224.Idx) : EReal :=
  ∑ k : Fin 2048, X (ix3 (⟨(i 0).val / 4096, by have h : (i 0).val < 32768 := (i 0).isLt; omega⟩ : Fin 8)
      (⟨(i 0).val % 4096, by omega⟩ : Fin 4096) k) * wn W k (i 1)

/-! ## The reference -/

theorem ref_apply (X : S8x4096x2048.Idx → EReal) (W : S1x2048x6752.Idx → EReal) :
    (Cert.Reference2Ideal.Read.val_main_v8 (F := Ideal) X W : S32768x4224.Idx → EReal) = G X W := by
  funext i
  idx_vars i
  unfold Cert.Reference2Ideal.Read.val_main_v8 Cert.Reference2Ideal.Read.val_main_v7 Cert.Reference2Ideal.Read.val_main_v6
    Cert.Reference2Ideal.Read.val_main_v5 Cert.Reference2Ideal.Read.val_main_v4 Cert.Reference2Ideal.Read.val_main_v3
    Cert.Reference2Ideal.Read.val_main_v2 Cert.Reference2Ideal.Read.val_main_v1 Cert.Reference2Ideal.Read.val_main_v0
    Cert.Reference2Ideal.Read.val_main_cst
  pointwise [G, wn]
  split_ifs
  all_goals first | rfl | simp only [mul_zero, Finset.sum_const_zero]

/-! ## The kernel's launch -/

/-- The input as the kernel finds it: the rows of all batches one after another. -/
theorem entry_x (c : Dev nD) (r : Fin 32768) (k : Fin 2048) :
    (V m c main_v1 : S32768x2048.Idx → EReal) (ix2 r k)
      = (m ((c : Thread nD τ).loc main_arg0) : S8x4096x2048.Idx → EReal)
          (ix3 ⟨r.val / 4096, by omega⟩ ⟨r.val % 4096, by omega⟩ k) := by
  unfold V
  after_reads_at

theorem int_zero : (FloatOps.sitofp (F := Ideal) .f32 (0#32) : EReal) = 0 := by
  show (((0#32 : BitVec 32).toInt : ℝ) : EReal) = 0
  simp

/-- The weights as the kernel finds them. -/
theorem entry_w (c : Dev nD) (k : Fin 2048) (j : Fin 4224) :
    (V m c main_v13 : S2048x4224.Idx → EReal) (ix2 k j) = wn (m ((c : Thread nD τ).loc main_arg1)) k j := by
  unfold V
  after_reads_at
  after_reads_at
  after_reads_at
  unfold wn
  split_ifs
  all_goals first | (exfalso; omega) | with_reducible exact int_zero | with_reducible rfl |
    (refine Eq.trans ?_ (dif_pos (by omega)).symm; rfl)

theorem pay_apply (x0 : Vec Ideal S1024x2048 .bf16) (x1 : Vec Ideal S2048x1408 .bf16) (r : Fin 1024) (j : Fin 1408) :
    (k0_pay1 (F := Ideal) x0 x1 : S1024x1408.Idx → EReal) (ix2 r j)
      = ∑ k : Fin 2048, (x0 : S1024x2048.Idx → EReal) (ix2 r k) * (x1 : S2048x1408.Idx → EReal) (ix2 k j) := by
  pointwise [k0_pay1]

theorem idx_facts : ∀ t : Fin cfg0.N, win0_0.index t 0 = win0_2.index t 0 ∧ win0_0.index t 1 = 0
    ∧ win0_1.index t 0 = 0 ∧ win0_1.index t 1 = win0_2.index t 1 ∧ win0_2.index t 0 < 32 ∧ win0_2.index t 1 < 3 := by
  decide +kernel

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  have hz2 : (![0, 0] : Fin S1024x1408.rank → Nat) = fun _ => 0 := funext fun a => by fin_cases a <;> rfl
  have hz0 : (![0, 0] : Fin S1024x2048.rank → Nat) = fun _ => 0 := funext fun a => by fin_cases a <;> rfl
  have hz1 : (![0, 0] : Fin S2048x1408.rank → Nat) = fun _ => 0 := funext fun a => by fin_cases a <;> rfl
  unfold out0_2
  rw [View.canon_unit_zero hz2, View.ld_unit_zero hz0, View.ld_unit_zero hz1]
  funext y
  obtain ⟨r, j, rfl⟩ : ∃ (r : Fin 1024) (j : Fin 1408), y = ix2 r j := ⟨y 0, y 1, eq_ix2 y⟩
  obtain ⟨e00, e01, e10, e11, h0, h1⟩ := idx_facts t
  have hr : win0_2.index t 0 * 1024 + r.val < 32768 := by omega
  have hj : win0_2.index t 1 * 1408 + j.val < 4224 := by omega
  have e2 : ((cfg0.win 2).blk t).view.emb (ix2 r j) = (ix2 ⟨win0_2.index t 0 * 1024 + r.val, hr⟩ ⟨win0_2.index t 1 * 1408 + j.val, hj⟩ : S32768x4224.Idx) := by
    funext a
    apply Fin.ext
    match a with
    | ⟨0, _⟩ => blk_simp
    | ⟨1, _⟩ => blk_simp
  have e0 (k : Fin 2048) : iblk m c 0 t (ix2 r k) = V m c main_v1 (ix2 ⟨win0_2.index t 0 * 1024 + r.val, hr⟩ k) := by
    show V m c main_v1 (((cfg0.win 0).blk t).view.emb (ix2 r k)) = _
    congr 1
    funext a
    apply Fin.ext
    match a with
    | ⟨0, _⟩ => blk_simp [e00]
    | ⟨1, _⟩ => blk_simp [e01]
  have e1 (k : Fin 2048) : iblk m c 1 t (ix2 k j) = V m c main_v13 (ix2 k ⟨win0_2.index t 1 * 1408 + j.val, hj⟩) := by
    show V m c main_v13 (((cfg0.win 1).blk t).view.emb (ix2 k j)) = _
    congr 1
    funext a
    apply Fin.ext
    match a with
    | ⟨0, _⟩ => blk_simp [e10]
    | ⟨1, _⟩ => blk_simp [e11]
  show (k0_pay1 (F := Ideal) (iblk m c 0 t) (iblk m c 1 t) : S1024x1408.Idx → EReal) (ix2 r j) = G _ _ (((cfg0.win 2).blk t).view.emb (ix2 r j))
  rw [pay_apply, e2]
  refine Finset.sum_congr rfl fun k _ => ?_
  exact congrArg₂ (· * ·) ((e0 k).trans (entry_x m c _ k)) ((e1 k).trans (entry_w m c k _))

theorem mem_blk (t : Fin cfg0.N) (i : S32768x4224.Idx) (h0 : (i 0).val / 1024 = win0_2.index t 0) (h1 : (i 1).val / 1408 = win0_2.index t 1) :
    i ∈ ((cfg0.win 2).blk t).view.set := by
  show i ∈ ((View.whole main_v14).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              omega
  | ⟨1, _⟩ => show win0_2.index t 1 * 1408 ≤ (i 1).val ∧ (i 1).val < win0_2.index t 1 * 1408 + 1408
              omega

theorem surj : ∀ (a : Fin 32) (b : Fin 3), ∃ t : Fin cfg0.N, (cfg0.win 2).flush t = true ∧ a.val = win0_2.index t 0 ∧ b.val = win0_2.index t 1 := by
  decide +kernel

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) fun i => by
    have h0 : (i 0).val < 32768 := (i 0).isLt
    have h1 : (i 1).val < 4224 := (i 1).isLt
    obtain ⟨t, hf, ha, hb⟩ := surj ⟨(i 0).val / 1024, by omega⟩ ⟨(i 1).val / 1408, by omega⟩
    exact ⟨t, hf, mem_blk t i ha hb⟩

/-! ## The claims -/

theorem frame : Cert.quiescent_Kernel2Ideal := fun m ρ _ => Cert.Kernel2Ideal.Gen.frame m ρ

theorem frame_ref : Cert.quiescent_Reference2Ideal := fun m ρ _ =>
  (θ_run Cert.Reference2Ideal.defs _ _).mono (fun r h => ⟨fun c => ⟨(h c).2.1, (h c).2.2⟩,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => G (m ((c : Thread nD τ).loc main_arg0)) (m ((c : Thread nD τ).loc main_arg1)), ?_, ?_⟩
  · exact (θ_run Cert.Kernel2Ideal.defs _ _).mono
      (fun _ h c => ⟨(h c).1.trans (final m c), (h c).2⟩)
      (Value.run_blocks (F := Ideal) m ρ)
  · refine (θ_run Cert.Reference2Ideal.defs _ _).mono (fun _ h c => ⟨(h c).1.trans ?_, (h c).2⟩)
      (Cert.Reference2Ideal.Value.run (F := Ideal) m' ρ')
    rw [(hagree c).1, (hagree c).2]
    exact ref_apply _ _

end Cert.Proof.ProjN

end
-- ==== Proof.OutProj.lean ====
module
public import proofs.«01_k».proof.Defs
public import proofs.«01_k».proof.Proof.Gen.Kernel3Ideal.Value
public import proofs.«01_k».proof.Proof.Gen.Reference3Ideal.Read
public import Idealize.ShloMosaic.Lib.Pipeline.Value
public import Idealize.ShloMosaic.Lib.Pointwise
public import Idealize.ShloMosaic.Lib.StableHlo.ReadAt
public import Idealize.ShloMosaic.Lib.Pipeline.ValueKit.Point

@[expose] public section

/-! # The output projection with its residual and layer normalization

Both programs are read at an index and found to be `G`: a row's projection of the two mixer outputs added to the scaled
residual, then centred, divided by its standard deviation, scaled and shifted. -/

set_option maxRecDepth 16384

noncomputable section

namespace Cert.Proof.OutProj

open Idealize.ShloMosaic Idealize.ShloMosaic.TcCoe Idealize.SL.Sem
open Cert.Kernel3Ideal Cert.Kernel3Ideal.Gen
open Idealize.ShloMosaic.Pipeline (Dat Cfg Window)

variable (m : (ℓ : Loc nD τ sig) → Buf (Elt Ideal) ℓ) (ρ : Dev nD → PrngReg)

/-- A row before its normalization: the scaled residual plus the two mixers' outputs against their halves of the weights. -/
def yrow (a s : Fin 1024 → EReal) (wa ws : Fin 1024 → Fin 2048 → EReal) (x : Fin 2048 → EReal) (j : Fin 2048) : EReal :=
  Ideal.ofBits FTy.f32 0x3F9837F0#32 * x j + (∑ k : Fin 1024, a k * wa k j + ∑ k : Fin 1024, s k * ws k j)

/-- A row's layer normalization. -/
def ln (y g b : Fin 2048 → EReal) (j : Fin 2048) : EReal :=
  (y j - Ideal.div (∑ k : Fin 2048, y k) (Ideal.ofBits FTy.f32 0x45000000#32))
    * Ideal.rsqrt (Ideal.div (∑ k : Fin 2048, (y k - Ideal.div (∑ l : Fin 2048, y l) (Ideal.ofBits FTy.f32 0x45000000#32))
          * (y k - Ideal.div (∑ l : Fin 2048, y l) (Ideal.ofBits FTy.f32 0x45000000#32))) (Ideal.ofBits FTy.f32 0x45000000#32)
        + Ideal.ofBits FTy.f32 0x3727C5AC#32) * g j + b j

/-- The result, index by index. -/
def G (A S : S32768x1024.Idx → EReal) (X : S8x4096x2048.Idx → EReal) (W : S1x2048x2048.Idx → EReal) (g b : S1x2048.Idx → EReal)
    (i : S32768x2048.Idx) : EReal :=
  ln (yrow (fun k => A (ix2 (i 0) k)) (fun k => S (ix2 (i 0) k)) (fun k j => W (ix3 0 ⟨k.val, by omega⟩ j))
      (fun k j => W (ix3 0 ⟨1024 + k.val, by omega⟩ j))
      (fun j => X (ix3 (⟨(i 0).val / 4096, by have h : (i 0).val < 32768 := (i 0).isLt; omega⟩ : Fin 8)
        (⟨(i 0).val % 4096, by omega⟩ : Fin 4096) j)))
    (fun j => g (ix2 0 j)) (fun j => b (ix2 0 j)) (i 1)

/-! ## The reference -/

/-- The reference's rows before their normalization. -/
theorem ref_row (x0 x1 : S32768x1024.Idx → EReal) (x2 : S8x4096x2048.Idx → EReal) (x3 : S1x2048x2048.Idx → EReal)
    (p : Fin 8) (q : Fin 4096) (j : Fin 2048) :
    (Cert.Reference3Ideal.Read.val_main_v9 (F := Ideal) x0 x1 x2 x3 : S8x4096x2048.Idx → EReal) (ix3 p q j)
      = yrow (fun k => x0 (ix2 ⟨p.val * 4096 + q.val, by omega⟩ k)) (fun k => x1 (ix2 ⟨p.val * 4096 + q.val, by omega⟩ k))
          (fun k j => x3 (ix3 0 ⟨k.val, by omega⟩ j)) (fun k j => x3 (ix3 0 ⟨1024 + k.val, by omega⟩ j))
          (fun j => x2 (ix3 p q j)) j := by
  unfold Cert.Reference3Ideal.Read.val_main_v9 Cert.Reference3Ideal.Read.val_main_v8 Cert.Reference3Ideal.Read.val_main_v7 Cert.Reference3Ideal.Read.val_main_v6
    Cert.Reference3Ideal.Read.val_main_v5 Cert.Reference3Ideal.Read.val_main_v4 Cert.Reference3Ideal.Read.val_main_v3
    Cert.Reference3Ideal.Read.val_main_v2 Cert.Reference3Ideal.Read.val_main_v1 Cert.Reference3Ideal.Read.val_main_v0
    Cert.Reference3Ideal.Read.val_main_cst
  pointwise [yrow]

/-- The reference is `G`. -/
theorem ref_apply (x0 x1 : S32768x1024.Idx → EReal) (x2 : S8x4096x2048.Idx → EReal) (x3 : S1x2048x2048.Idx → EReal)
    (x4 x5 : S1x2048.Idx → EReal) :
    (Cert.Reference3Ideal.Read.val_main_v36 (F := Ideal) x0 x1 x2 x3 x4 x5 : S32768x2048.Idx → EReal) = G x0 x1 x2 x3 x4 x5 := by
  funext i
  idx_vars i
  unfold Cert.Reference3Ideal.Read.val_main_v36 Cert.Reference3Ideal.Read.val_main_v35 Cert.Reference3Ideal.Read.val_main_v34
    Cert.Reference3Ideal.Read.val_main_v33 Cert.Reference3Ideal.Read.val_main_v32 Cert.Reference3Ideal.Read.val_main_v31
    Cert.Reference3Ideal.Read.val_main_v30 Cert.Reference3Ideal.Read.val_main_v29 Cert.Reference3Ideal.Read.val_main_v28
    Cert.Reference3Ideal.Read.val_main_v27 Cert.Reference3Ideal.Read.val_main_v26 Cert.Reference3Ideal.Read.val_main_v25
    Cert.Reference3Ideal.Read.val_main_v24 Cert.Reference3Ideal.Read.val_main_v23 Cert.Reference3Ideal.Read.val_main_v22
    Cert.Reference3Ideal.Read.val_main_v21 Cert.Reference3Ideal.Read.val_main_v20 Cert.Reference3Ideal.Read.val_main_v19
    Cert.Reference3Ideal.Read.val_main_v18 Cert.Reference3Ideal.Read.val_main_v17 Cert.Reference3Ideal.Read.val_main_v16
    Cert.Reference3Ideal.Read.val_main_v15 Cert.Reference3Ideal.Read.val_main_v14 Cert.Reference3Ideal.Read.val_main_v13
    Cert.Reference3Ideal.Read.val_main_v12 Cert.Reference3Ideal.Read.val_main_v11 Cert.Reference3Ideal.Read.val_main_v10
    Cert.Reference3Ideal.Read.val_main_cst_0 Cert.Reference3Ideal.Read.val_main_cst_1 Cert.Reference3Ideal.Read.val_main_cst_2
    Cert.Reference3Ideal.Read.val_main_cst_3 Cert.Reference3Ideal.Read.val_main_cst_4
    Cert.Reference3Ideal.Read.val_main_v9 Cert.Reference3Ideal.Read.val_main_v8 Cert.Reference3Ideal.Read.val_main_v7 Cert.Reference3Ideal.Read.val_main_v6
    Cert.Reference3Ideal.Read.val_main_v5 Cert.Reference3Ideal.Read.val_main_v4 Cert.Reference3Ideal.Read.val_main_v3
    Cert.Reference3Ideal.Read.val_main_v2 Cert.Reference3Ideal.Read.val_main_v1 Cert.Reference3Ideal.Read.val_main_v0
    Cert.Reference3Ideal.Read.val_main_cst
  pointwise [G, ln, yrow]

/-! ## The kernel's body -/

section body
variable (a s : Vec Ideal S128x1024 .bf16) (wa ws : Vec Ideal S1024x2048 .bf16) (x : Vec Ideal S128x2048 .f32)
    (g b : Vec Ideal S1x2048 .f32) (r : Fin 128) (j : Fin 2048)

/-- What the body leaves at row `r` of a chunk, of the chunk's rows of the inputs. -/
def chunk : EReal :=
  ln (yrow (fun k => (a : S128x1024.Idx → EReal) (ix2 r k)) (fun k => (s : S128x1024.Idx → EReal) (ix2 r k))
    (fun k j => (wa : S1024x2048.Idx → EReal) (ix2 k j)) (fun k j => (ws : S1024x2048.Idx → EReal) (ix2 k j))
    (fun j => (x : S128x2048.Idx → EReal) (ix2 r j)))
    (fun j => (g : S1x2048.Idx → EReal) (ix2 0 j)) (fun j => (b : S1x2048.Idx → EReal) (ix2 0 j)) j

theorem pay0_apply : (k0_pay4 (F := Ideal) (k0_pay2 a wa s ws x g) (k0_pay3 b) : S128x2048.Idx → EReal) (ix2 r j)
    = chunk a s wa ws x g b r j := by
  pointwise [k0_pay4, k0_pay2, k0_pay3, chunk, ln, yrow]

theorem pay1_apply : (k0_pay6 (F := Ideal) (k0_pay5 a wa s ws x g) b : S128x2048.Idx → EReal) (ix2 r j)
    = chunk a s wa ws x g b r j := by
  pointwise [k0_pay6, k0_pay5, chunk, ln, yrow]

theorem pay2_apply : (k0_pay8 (F := Ideal) (k0_pay7 a wa s ws x) g b : S128x2048.Idx → EReal) (ix2 r j)
    = chunk a s wa ws x g b r j := by
  pointwise [k0_pay8, k0_pay7, chunk, ln, yrow]

theorem pay3_apply : (k0_pay1 (F := Ideal) (k0_pay9 a wa s ws x) (k0_pay10 a wa s ws x) g b : S128x2048.Idx → EReal) (ix2 r j)
    = chunk a s wa ws x g b r j := by
  pointwise [k0_pay1, k0_pay9, k0_pay10, chunk, ln, yrow]

end body

/-- A row inside the last chunk written reads that chunk. -/
theorem canon_in (off : Nat) (inb : ∀ a, (![off, 0] : Fin S512x2048.rank → Nat) a + S128x2048.size a ≤ S512x2048.size a)
    (w : Vec Ideal S128x2048 .f32) (L : List (View.Piece (Elt Ideal) S512x2048 .f32)) (r : Fin 512) (j : Fin 2048) (r' : Fin 128)
    (h : r.val = off + r'.val) :
    View.canon ((⟨Rect.unit (s := S512x2048) ![off, 0] S128x2048.size inb, w⟩ : View.Piece (Elt Ideal) S512x2048 .f32) :: L) (ix2 r j)
      = w (ix2 r' j) := by
  have e : (ix2 r j : S512x2048.Idx) = (Rect.unit (s := S512x2048) ![off, 0] S128x2048.size inb).emb (ix2 r' j : S128x2048.Idx) := by
    funext a
    apply Fin.ext
    match a with
    | ⟨0, _⟩ => show r.val = off + 1 * r'.val
                omega
    | ⟨1, _⟩ => show j.val = 0 + 1 * j.val
                omega
  exact (congrArg (View.canon _) e).trans (View.canon_cons_emb (Rect.unit (s := S512x2048) ![off, 0] S128x2048.size inb) w L (ix2 r' j : S128x2048.Idx))

/-- A row outside it reads the chunks written before. -/
theorem canon_out (off : Nat) (inb : ∀ a, (![off, 0] : Fin S512x2048.rank → Nat) a + S128x2048.size a ≤ S512x2048.size a)
    (w : Vec Ideal S128x2048 .f32) (L : List (View.Piece (Elt Ideal) S512x2048 .f32)) (r : Fin 512) (j : Fin 2048)
    (h : r.val < off) :
    View.canon ((⟨Rect.unit (s := S512x2048) ![off, 0] S128x2048.size inb, w⟩ : View.Piece (Elt Ideal) S512x2048 .f32) :: L) (ix2 r j)
      = View.canon L (ix2 r j) := by
  refine View.canon_cons_of_not_mem _ _ fun hm => ?_
  have hm' : (ix2 r j : S512x2048.Idx) ∈ (Rect.unit (s := S512x2048) ![off, 0] S128x2048.size inb).set := hm
  rw [Rect.mem_set_unit] at hm'
  have h' : off ≤ r.val := (hm' (0 : Fin 2)).1
  omega

/-- The rows a chunk loads. -/
theorem ld_rows {n : Nat} (e : EltTy) (off : Nat) (inb : ∀ a, (![off, 0] : Fin (⟨2, ![512, n]⟩ : Shape).rank → Nat) a
      + (⟨2, ![128, n]⟩ : Shape).size a ≤ (⟨2, ![512, n]⟩ : Shape).size a)
    (x : Vec Ideal ⟨2, ![512, n]⟩ e) (r : Fin 512) (r' : Fin 128) (h : r.val = off + r'.val) (k : Fin n) :
    View.ld x (Rect.unit (s := ⟨2, ![512, n]⟩) ![off, 0] (⟨2, ![128, n]⟩ : Shape).size inb) (ix2 r' k) = x (ix2 r k) := by
  show x _ = x _
  congr 1
  funext a
  apply Fin.ext
  match a with
  | ⟨0, _⟩ => show off + 1 * r'.val = r.val
              omega
  | ⟨1, _⟩ => show 0 + 1 * k.val = k.val
              omega

/-- What the body leaves in its output block, at a row and column, of its input blocks. -/
theorem out_apply (x0 x1 : Vec Ideal S512x1024 .bf16) (x2 : Vec Ideal S512x2048 .f32) (x3 x4 : Vec Ideal S1024x2048 .bf16)
    (x5 x6 : Vec Ideal S1x2048 .f32) (r : Fin 512) (j : Fin 2048) :
    (out0_7 (F := Ideal) x0 x1 x2 x3 x4 x5 x6 : S512x2048.Idx → EReal) (ix2 r j)
      = ln (yrow (fun k => (x0 : S512x1024.Idx → EReal) (ix2 r k)) (fun k => (x1 : S512x1024.Idx → EReal) (ix2 r k))
          (fun k j => (x3 : S1024x2048.Idx → EReal) (ix2 k j)) (fun k j => (x4 : S1024x2048.Idx → EReal) (ix2 k j))
          (fun j => (x2 : S512x2048.Idx → EReal) (ix2 r j)))
          (fun j => (x5 : S1x2048.Idx → EReal) (ix2 0 j)) (fun j => (x6 : S1x2048.Idx → EReal) (ix2 0 j)) j := by
  have hz3 : (![0, 0] : Fin S1024x2048.rank → Nat) = fun _ => 0 := funext fun a => by fin_cases a <;> rfl
  have hz5 : (![0, 0] : Fin S1x2048.rank → Nat) = fun _ => 0 := funext fun a => by fin_cases a <;> rfl
  have hr := r.isLt
  unfold out0_7
  rw [View.ld_unit_zero hz3, View.ld_unit_zero hz3, View.ld_unit_zero hz5, View.ld_unit_zero hz5]
  have key (off : Nat) (i1 i2) (r' : Fin 128) (h : r.val = off + r'.val) :
      chunk (View.ld x0 (Rect.unit (s := S512x1024) ![off, 0] S128x1024.size i1)) (View.ld x1 (Rect.unit (s := S512x1024) ![off, 0] S128x1024.size i1))
        x3 x4 (View.ld x2 (Rect.unit (s := S512x2048) ![off, 0] S128x2048.size i2)) x5 x6 r' j
      = ln (yrow (fun k => (x0 : S512x1024.Idx → EReal) (ix2 r k)) (fun k => (x1 : S512x1024.Idx → EReal) (ix2 r k))
          (fun k j => (x3 : S1024x2048.Idx → EReal) (ix2 k j)) (fun k j => (x4 : S1024x2048.Idx → EReal) (ix2 k j))
          (fun j => (x2 : S512x2048.Idx → EReal) (ix2 r j)))
          (fun j => (x5 : S1x2048.Idx → EReal) (ix2 0 j)) (fun j => (x6 : S1x2048.Idx → EReal) (ix2 0 j)) j := by
    unfold chunk
    congr 2
    · funext k; exact ld_rows .bf16 off i1 x0 r r' h k
    · funext k; exact ld_rows .bf16 off i1 x1 r r' h k
    · funext k; exact ld_rows .f32 off i2 x2 r r' h k
  by_cases h3 : 384 ≤ r.val
  · have h : r.val = 384 + (⟨r.val - 384, by omega⟩ : Fin 128).val := by show r.val = 384 + (r.val - 384); omega
    exact (canon_in 384 _ _ _ r j _ h).trans ((pay3_apply _ _ _ _ _ _ _ _ _).trans (key 384 _ _ _ h))
  refine (canon_out 384 _ _ _ r j (by omega)).trans ?_
  by_cases h2 : 256 ≤ r.val
  · have h : r.val = 256 + (⟨r.val - 256, by omega⟩ : Fin 128).val := by show r.val = 256 + (r.val - 256); omega
    exact (canon_in 256 _ _ _ r j _ h).trans ((pay2_apply _ _ _ _ _ _ _ _ _).trans (key 256 _ _ _ h))
  refine (canon_out 256 _ _ _ r j (by omega)).trans ?_
  by_cases h1 : 128 ≤ r.val
  · have h : r.val = 128 + (⟨r.val - 128, by omega⟩ : Fin 128).val := by show r.val = 128 + (r.val - 128); omega
    exact (canon_in 128 _ _ _ r j _ h).trans ((pay1_apply _ _ _ _ _ _ _ _ _).trans (key 128 _ _ _ h))
  refine (canon_out 128 _ _ _ r j (by omega)).trans ?_
  have h : r.val = 0 + (⟨r.val, by omega⟩ : Fin 128).val := by show r.val = 0 + r.val; omega
  exact (canon_in 0 _ _ _ r j _ h).trans ((pay0_apply _ _ _ _ _ _ _ _ _).trans (key 0 _ _ _ h))

/-! ## The kernel's launch -/

/-- The residual as the kernel finds it: the rows of all batches one after another. -/
theorem entry_x (c : Dev nD) (r : Fin 32768) (k : Fin 2048) :
    (V m c main_v0 : S32768x2048.Idx → EReal) (ix2 r k)
      = (m ((c : Thread nD τ).loc main_arg2) : S8x4096x2048.Idx → EReal) (ix3 ⟨r.val / 4096, by omega⟩ ⟨r.val % 4096, by omega⟩ k) := by
  unfold V
  after_reads_at

/-- The first half of the weights. -/
theorem entry_wa (c : Dev nD) (k : Fin 1024) (j : Fin 2048) :
    (V m c main_v3 : S1024x2048.Idx → EReal) (ix2 k j)
      = (m ((c : Thread nD τ).loc main_arg3) : S1x2048x2048.Idx → EReal) (ix3 0 ⟨k.val, by omega⟩ j) := by
  unfold V
  after_reads_at

/-- The second half of the weights. -/
theorem entry_ws (c : Dev nD) (k : Fin 1024) (j : Fin 2048) :
    (V m c main_v6 : S1024x2048.Idx → EReal) (ix2 k j)
      = (m ((c : Thread nD τ).loc main_arg3) : S1x2048x2048.Idx → EReal) (ix3 0 ⟨1024 + k.val, by omega⟩ j) := by
  unfold V
  after_reads_at

/-- The scale. -/
theorem entry_g (c : Dev nD) (j : Fin 2048) :
    (V m c main_v8 : S1x2048.Idx → EReal) (ix2 0 j) = (m ((c : Thread nD τ).loc main_arg4) : S1x2048.Idx → EReal) (ix2 0 j) := by
  unfold V
  after_reads_at

/-- The shift. -/
theorem entry_b (c : Dev nD) (j : Fin 2048) :
    (V m c main_v10 : S1x2048.Idx → EReal) (ix2 0 j) = (m ((c : Thread nD τ).loc main_arg5) : S1x2048.Idx → EReal) (ix2 0 j) := by
  unfold V
  after_reads_at

/-- Where each window's block lies at each point. -/
theorem idx_facts : ∀ t : Fin cfg0.N, (win0_0.index t 0 = win0_7.index t 0 ∧ win0_0.index t 1 = 0)
    ∧ (win0_1.index t 0 = win0_7.index t 0 ∧ win0_1.index t 1 = 0) ∧ (win0_2.index t 0 = win0_7.index t 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ win0_7.index t 0 < 64 ∧ win0_7.index t 1 = 0 := by
  decide +kernel

/-- What each point writes back is its block of `G`. -/
theorem flushed_eq (c : Dev nD) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed7]
  funext y
  obtain ⟨r, j, rfl⟩ : ∃ (r : Fin 512) (j : Fin 2048), y = ix2 r j := ⟨y 0, y 1, eq_ix2 y⟩
  obtain ⟨⟨e00, e01⟩, ⟨e10, e11⟩, ⟨e20, e21⟩, ⟨e30, e31⟩, ⟨e40, e41⟩, ⟨e50, e51⟩, ⟨e60, e61⟩, h0, h1⟩ := idx_facts t
  have hr : win0_7.index t 0 * 512 + r.val < 32768 := by omega
  have e7 : ((cfg0.win 7).blk t).view.emb (ix2 r j) = (ix2 ⟨win0_7.index t 0 * 512 + r.val, hr⟩ j : S32768x2048.Idx) := by
    funext a
    apply Fin.ext
    match a with
    | ⟨0, _⟩ => blk_simp
    | ⟨1, _⟩ => blk_simp [h1]
  have f0 (k : Fin 1024) : iblk m c 0 t (ix2 r k) = V m c main_arg0 (ix2 ⟨win0_7.index t 0 * 512 + r.val, hr⟩ k) := by
    show V m c main_arg0 (((cfg0.win 0).blk t).view.emb (ix2 r k)) = _
    congr 1
    funext a
    apply Fin.ext
    match a with
    | ⟨0, _⟩ => blk_simp [e00]
    | ⟨1, _⟩ => blk_simp [e01]
  have f1 (k : Fin 1024) : iblk m c 1 t (ix2 r k) = V m c main_arg1 (ix2 ⟨win0_7.index t 0 * 512 + r.val, hr⟩ k) := by
    show V m c main_arg1 (((cfg0.win 1).blk t).view.emb (ix2 r k)) = _
    congr 1
    funext a
    apply Fin.ext
    match a with
    | ⟨0, _⟩ => blk_simp [e10]
    | ⟨1, _⟩ => blk_simp [e11]
  have f2 (k : Fin 2048) : iblk m c 2 t (ix2 r k) = V m c main_v0 (ix2 ⟨win0_7.index t 0 * 512 + r.val, hr⟩ k) := by
    show V m c main_v0 (((cfg0.win 2).blk t).view.emb (ix2 r k)) = _
    congr 1
    funext a
    apply Fin.ext
    match a with
    | ⟨0, _⟩ => blk_simp [e20]
    | ⟨1, _⟩ => blk_simp [e21]
  have f3 (k : Fin 1024) (j : Fin 2048) : iblk m c 3 t (ix2 k j) = V m c main_v3 (ix2 k j) := by
    show V m c main_v3 (((cfg0.win 3).blk t).view.emb (ix2 k j)) = _
    congr 1
    funext a
    apply Fin.ext
    match a with
    | ⟨0, _⟩ => blk_simp [e30]
    | ⟨1, _⟩ => blk_simp [e31]
  have f4 (k : Fin 1024) (j : Fin 2048) : iblk m c 4 t (ix2 k j) = V m c main_v6 (ix2 k j) := by
    show V m c main_v6 (((cfg0.win 4).blk t).view.emb (ix2 k j)) = _
    congr 1
    funext a
    apply Fin.ext
    match a with
    | ⟨0, _⟩ => blk_simp [e40]
    | ⟨1, _⟩ => blk_simp [e41]
  have f5 (j : Fin 2048) : iblk m c 5 t (ix2 0 j) = V m c main_v8 (ix2 0 j) := by
    show V m c main_v8 (((cfg0.win 5).blk t).view.emb (ix2 0 j)) = _
    congr 1
    funext a
    apply Fin.ext
    match a with
    | ⟨0, _⟩ => blk_simp [e50]
    | ⟨1, _⟩ => blk_simp [e51]
  have f6 (j : Fin 2048) : iblk m c 6 t (ix2 0 j) = V m c main_v10 (ix2 0 j) := by
    show V m c main_v10 (((cfg0.win 6).blk t).view.emb (ix2 0 j)) = _
    congr 1
    funext a
    apply Fin.ext
    match a with
    | ⟨0, _⟩ => blk_simp [e60]
    | ⟨1, _⟩ => blk_simp [e61]
  show (out0_7 (F := Ideal) (iblk m c 0 t) (iblk m c 1 t) (iblk m c 2 t) (iblk m c 3 t) (iblk m c 4 t) (iblk m c 5 t) (iblk m c 6 t)
    : S512x2048.Idx → EReal) (ix2 r j) = G _ _ _ _ _ _ (((cfg0.win 7).blk t).view.emb (ix2 r j))
  rw [out_apply, e7]
  unfold G
  congr 1
  · congr 1
    · funext k; exact (f0 k).trans (congrFun (V_main_arg0 m c) _)
    · funext k; exact (f1 k).trans (congrFun (V_main_arg1 m c) _)
    · funext k j; exact (f3 k j).trans (entry_wa m c k j)
    · funext k j; exact (f4 k j).trans (entry_ws m c k j)
    · funext k; exact (f2 k).trans (entry_x m c _ k)
  · funext j; exact (f5 j).trans (entry_g m c j)
  · funext j; exact (f6 j).trans (entry_b m c j)

/-- An index lies in the block its row names. -/
theorem mem_blk (t : Fin cfg0.N) (i : S32768x2048.Idx) (h0 : (i 0).val / 512 = win0_7.index t 0) : i ∈ ((cfg0.win 7).blk t).view.set := by
  have h1 : win0_7.index t 1 = 0 := (idx_facts t).2.2.2.2.2.2.2.2
  have hi : (i 1).val < 2048 := (i 1).isLt
  show i ∈ ((View.whole main_v11).slice (win0_7.rect t)).set
  rw [View.set_slice_whole, Rect.mem_set_unit]
  intro a
  match a with
  | ⟨0, _⟩ => show win0_7.index t 0 * 512 ≤ (i 0).val ∧ (i 0).val < win0_7.index t 0 * 512 + 512
              omega
  | ⟨1, _⟩ => show win0_7.index t 1 * 2048 ≤ (i 1).val ∧ (i 1).val < win0_7.index t 1 * 2048 + 2048
              omega

/-- Every block of rows is some point's. -/
theorem surj : ∀ a : Fin 64, ∃ t : Fin cfg0.N, (cfg0.win 7).flush t = true ∧ a.val = win0_7.index t 0 := by
  decide +kernel

/-- The kernel's result is `G`. -/
theorem final (c : Dev nD) : (dats m 0 c).arrAt 7 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed_eq m c t) fun i => by
    have h0 : (i 0).val < 32768 := (i 0).isLt
    obtain ⟨t, hf, ha⟩ := surj ⟨(i 0).val / 512, by omega⟩
    exact ⟨t, hf, mem_blk t i ha⟩

/-! ## The claims -/

theorem frame : Cert.quiescent_Kernel3Ideal := fun m ρ _ => Cert.Kernel3Ideal.Gen.frame m ρ

theorem frame_ref : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The output projection and its reference, at the extended reals, leave the same result. -/
theorem algebraic : Cert.algebraic_Kernel3Ideal_Reference3Ideal := by
  intro m ρ m' ρ' _ hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)), ?_, ?_⟩
  · exact (θ_run Cert.Kernel3Ideal.defs _ _).mono
      (fun _ h c => ⟨(h c).1.trans (final m c), (h c).2⟩)
      (Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨a0, a1, a2, a3, a4, a5⟩ := hagree c
    refine (Cert.Reference3Ideal.Read.val_main_v36_eq (F := Ideal) m' c).trans ?_
    rw [a0, a1, a2, a3, a4, a5]
    exact ref_apply _ _ _ _ _ _

end Cert.Proof.OutProj

end
-- ==== Proof.Rope.lean ====
module
public import Mathlib.Data.EReal.Operations
public import Idealize.ShloMosaic.Lib.Pointwise

@[expose] public section

/-! # The rotary embedding of one head

The first `half` entries of a head are turned against the second `half` by the position's angles; the rest stays. -/

noncomputable section

namespace Cert.Proof.ProjT

open Idealize.ShloMosaic

/-- A head's entries with their first two halves turned by the angles' cosines and sines. -/
def rope {D half : Nat} (hD : half + half ≤ D) (T : Fin D → EReal) (cs sn : Fin half → EReal) (d : Fin D) : EReal :=
  if h : d.val < half then T d * cs ⟨d.val, h⟩ - T ⟨d.val + half, by omega⟩ * sn ⟨d.val, h⟩
  else if h' : d.val < half + half then T d * cs ⟨d.val - half, by omega⟩ + T ⟨d.val - half, by omega⟩ * sn ⟨d.val - half, by omega⟩
  else T d

/-- In the first half. -/
theorem rope_lo {D half : Nat} (hD : half + half ≤ D) (T : Fin D → EReal) (cs sn : Fin half → EReal) (d : Fin D) (j : Fin half)
    (e : Fin D) (hd : d.val = j.val) (he : e.val = j.val + half) : rope hD T cs sn d = T d * cs j - T e * sn j := by
  unfold rope
  rw [dif_pos (by omega)]
  have hj : (⟨d.val, by omega⟩ : Fin half) = j := Fin.ext hd
  have he' : (⟨d.val + half, by omega⟩ : Fin D) = e := Fin.ext (by show d.val + half = e.val; omega)
  rw [hj, he']

/-- In the second half. -/
theorem rope_hi {D half : Nat} (hD : half + half ≤ D) (T : Fin D → EReal) (cs sn : Fin half → EReal) (d : Fin D) (j : Fin half)
    (e : Fin D) (hd : d.val = j.val + half) (he : e.val = j.val) : rope hD T cs sn d = T d * cs j + T e * sn j := by
  unfold rope
  rw [dif_neg (by omega), dif_pos (by omega)]
  have hj : (⟨d.val - half, by omega⟩ : Fin half) = j := Fin.ext (by show d.val - half = j.val; omega)
  have he' : (⟨d.val - half, by omega⟩ : Fin D) = e := Fin.ext (by show d.val - half = e.val; omega)
  rw [hj, he']

/-- Past both. -/
theorem rope_rest {D half : Nat} (hD : half + half ≤ D) (T : Fin D → EReal) (cs sn : Fin half → EReal) (d : Fin D)
    (hd : half + half ≤ d.val) : rope hD T cs sn d = T d := by
  unfold rope
  rw [dif_neg (by omega), dif_neg (by omega)]

/-- Rows of heads, one head's `D` rows after another's, each head turned. -/
def ropeRow {N D half : Nat} (hD : half + half ≤ D) (hN : D ∣ N) (h0 : 0 < D) (T : Fin N → EReal) (cs sn : Fin half → EReal)
    (c : Fin N) : EReal :=
  rope hD (fun d => T ⟨D * (c.val / D) + d.val, lt_of_lt_of_le (Nat.add_lt_add_left d.isLt _) (by
      obtain ⟨k, rfl⟩ := hN
      have h : c.val / D < k := Nat.div_lt_of_lt_mul c.isLt
      calc D * (c.val / D) + D = D * (c.val / D + 1) := by ring
        _ ≤ D * k := Nat.mul_le_mul_left D h)⟩) cs sn ⟨c.val % D, Nat.mod_lt _ h0⟩

section
variable {N D half : Nat} (hD : half + half ≤ D) (hN : D ∣ N) (h0 : 0 < D) (T : Fin N → EReal) (cs sn : Fin half → EReal)
    (c a b : Fin N) (j j' : Fin half)

theorem ropeRow_lo (ha : a.val = c.val) (hb : b.val = c.val + half) (hj : j.val = c.val % D) (hj' : j'.val = c.val % D) :
    T a * cs j - T b * sn j' = ropeRow hD hN h0 T cs sn c := by
  have hc := Nat.div_add_mod c.val D
  obtain rfl : j' = j := Fin.ext (hj'.trans hj.symm)
  have hlt := j'.isLt
  unfold ropeRow
  rw [rope_lo hD _ cs sn _ j' ⟨j'.val + half, by omega⟩ hj.symm rfl]
  have ea : a = ⟨D * (c.val / D) + c.val % D, by omega⟩ := Fin.ext (by show a.val = D * (c.val / D) + c.val % D; omega)
  have eb : b = ⟨D * (c.val / D) + (j'.val + half), by omega⟩ := Fin.ext (by show b.val = D * (c.val / D) + (j'.val + half); omega)
  exact congrArg₂ (· - ·) (congrArg (· * _) (congrArg T ea)) (congrArg (· * _) (congrArg T eb))

theorem ropeRow_hi (ha : a.val = c.val) (hb : b.val + half = c.val) (hj : j.val + half = c.val % D) (hj' : j'.val + half = c.val % D) :
    T a * cs j + T b * sn j' = ropeRow hD hN h0 T cs sn c := by
  have hc := Nat.div_add_mod c.val D
  obtain rfl : j' = j := Fin.ext (by omega)
  have hlt := j'.isLt
  unfold ropeRow
  rw [rope_hi hD _ cs sn _ j' ⟨j'.val, by omega⟩ hj.symm rfl]
  have ea : a = ⟨D * (c.val / D) + c.val % D, by omega⟩ := Fin.ext (by show a.val = D * (c.val / D) + c.val % D; omega)
  have eb : b = ⟨D * (c.val / D) + j'.val, by omega⟩ := Fin.ext (by show b.val = D * (c.val / D) + j'.val; omega)
  exact congrArg₂ (· + ·) (congrArg (· * _) (congrArg T ea)) (congrArg (· * _) (congrArg T eb))

theorem ropeRow_rest (ha : a.val = c.val) (hj : half + half ≤ c.val % D) : T a = ropeRow hD hN h0 T cs sn c := by
  have hc := Nat.div_add_mod c.val D
  unfold ropeRow
  rw [rope_rest hD _ cs sn _ hj]
  exact congrArg T (Fin.ext (by show a.val = D * (c.val / D) + c.val % D; omega))

end

end Cert.Proof.ProjT

end
-- ==== Proof.Turned.lean ====
module
public import proofs.«01_k».proof.Defs
public import Idealize.ShloMosaic.Lib.Pointwise
public import proofs.«01_k».proof.Proof.Rope

@[expose] public section

/-! # The results of the projections that the attention reads

Each result, index by index, of the input `X` and the weights `W`: columns of the projection, the queries' and the keys'
heads turned by the angles of their position. -/

noncomputable section

namespace Cert.Proof.ProjT

open Idealize.ShloMosaic
open Cert.Kernel4Ideal

/-- A row of the input against a column of the weights. -/
def dotrow (X : S8x4096x2048.Idx → EReal) (W : S1x2048x6752.Idx → EReal) (b : Fin 8) (s : Fin 4096) (e : Fin 6752) : EReal :=
  ∑ k : Fin 2048, X (ix3 b s k) * W (ix3 0 k e)

/-- The angle of position `s` and frequency `j`, of `rot` turned entries. -/
def angle (rot : BitVec 32) {half : Nat} (s : Fin 4096) (j : Fin half) : EReal :=
  (FloatOps.sitofp (F := Ideal) FTy.f32 (BitVec.ofNat 32 s.val) : EReal)
    * Ideal.pow (Ideal.ofBits FTy.f32 0x48F42400#32)
        (Ideal.div (-(FloatOps.sitofp (F := Ideal) FTy.f32 (BitVec.ofNat 32 j.val) : EReal) * Ideal.ofBits FTy.f32 0x40000000#32)
          (Ideal.ofBits FTy.f32 rot))

/-- The angles' cosines. -/
def cosT (rot : BitVec 32) {half : Nat} (s : Fin 4096) (j : Fin half) : EReal := Ideal.cos (angle rot s j)

/-- The angles' sines. -/
def sinT (rot : BitVec 32) {half : Nat} (s : Fin 4096) (j : Fin half) : EReal := Ideal.sin (angle rot s j)

/-- The batch of a row. -/
def bat (r : Fin 32768) : Fin 8 := ⟨r.val / 4096, by omega⟩

/-- The position of a row. -/
def pos (r : Fin 32768) : Fin 4096 := ⟨r.val % 4096, by omega⟩

section
variable (X : S8x4096x2048.Idx → EReal) (W : S1x2048x6752.Idx → EReal)

/-- The queries, turned and scaled. -/
def Gq (e : Fin 1024) (r : Fin 32768) : EReal :=
  ropeRow (D := 128) (half := 16) (by decide) (by decide) (by decide) (fun c : Fin 1024 => dotrow X W (bat r) (pos r) ⟨c.val, by omega⟩)
    (cosT 0x42000000#32 (pos r)) (sinT 0x42000000#32 (pos r)) e * Ideal.ofBits FTy.f32 0x3E0293EE#32

/-- The keys, turned. -/
def Gk (r : Fin 32768) (e : Fin 256) : EReal :=
  ropeRow (D := 128) (half := 16) (by decide) (by decide) (by decide) (fun c : Fin 256 => dotrow X W (bat r) (pos r) ⟨1024 + c.val, by omega⟩)
    (cosT 0x42000000#32 (pos r)) (sinT 0x42000000#32 (pos r)) e

/-- The values, each head's columns followed by sixteen ones. -/
def Gv (b : Fin 128) (e : Fin 288) (t : Fin 256) : EReal :=
  if h : e.val % 144 < 128 then
    dotrow X W ⟨b.val / 16, by omega⟩ ⟨b.val % 16 * 256 + t.val, by omega⟩ ⟨1280 + (e.val / 144 * 128 + e.val % 144), by omega⟩
  else 1

/-- The indexer's queries, turned. -/
def Gqi (e : Fin 1024) (r : Fin 32768) : EReal :=
  ropeRow (D := 64) (half := 8) (by decide) (by decide) (by decide) (fun c : Fin 1024 => dotrow X W (bat r) (pos r) ⟨2560 + c.val, by omega⟩)
    (cosT 0x41800000#32 (pos r)) (sinT 0x41800000#32 (pos r)) e

/-- The indexer's key, turned. -/
def Gki (r : Fin 32768) (e : Fin 64) : EReal :=
  ropeRow (D := 64) (half := 8) (by decide) (by decide) (by decide) (fun c : Fin 64 => dotrow X W (bat r) (pos r) ⟨3584 + c.val, by omega⟩)
    (cosT 0x41800000#32 (pos r)) (sinT 0x41800000#32 (pos r)) e

/-- The indexer's weights, scaled. -/
def Gw (e : Fin 16) (r : Fin 32768) : EReal :=
  dotrow X W (bat r) (pos r) ⟨3648 + e.val, by omega⟩ * Ideal.ofBits FTy.f32 0x3D000000#32

/-- The input itself. -/
def Gx (r : Fin 32768) (k : Fin 2048) : EReal := X (ix3 (bat r) (pos r) k)

end

end Cert.Proof.ProjT

end
-- ==== Proof.TurnedRef.lean ====
module
public import proofs.«01_k».proof.Proof.Turned
public import proofs.«01_k».proof.Proof.Gen.Reference4Ideal.Read
public import Idealize.ShloMosaic.Lib.Pointwise

@[expose] public section

/-! # The reference's results, index by index -/

set_option maxRecDepth 16384

noncomputable section

namespace Cert.Proof.ProjT

open Idealize.ShloMosaic Idealize.ShloMosaic.TcCoe Idealize.SL.Sem
open Cert.Reference4Ideal Cert.Reference4Ideal.Read

/-- The whole projection. -/
theorem ref_dot (x0 : S8x4096x2048.Idx → EReal) (x1 : S1x2048x6752.Idx → EReal) (b : Fin 8) (s : Fin 4096) (e : Fin 6752) :
    (val_main_v2 (F := Ideal) x0 x1 : S8x4096x6752.Idx → EReal) (ix3 b s e) = dotrow x0 x1 b s e := by
  pointwise [val_main_v2, val_main_v1, dotrow]

/-- The cosines of the queries. -/
theorem ref_cos_q (s : Fin 4096) (j : Fin 16) : (val_main_v18 (F := Ideal) : S4096x16.Idx → EReal) (ix2 s j) = cosT 0x42000000#32 s j := by
  pointwise [val_main_v18, val_main_v17, val_main_v16, val_main_v15, val_main_v14, val_main_v13, val_main_v12, val_main_v11, val_main_v10, val_main_v9, val_main_v8, val_main_v7, val_main_v6, val_main_v5, val_main_v0, val_main_cst, val_main_cst_0, val_main_cst_1, cosT, angle]

/-- The sines of the queries. -/
theorem ref_sin_q (s : Fin 4096) (j : Fin 16) : (val_main_v20 (F := Ideal) : S4096x16.Idx → EReal) (ix2 s j) = sinT 0x42000000#32 s j := by
  pointwise [val_main_v20, val_main_v17, val_main_v16, val_main_v15, val_main_v14, val_main_v13, val_main_v12, val_main_v11, val_main_v10, val_main_v9, val_main_v8, val_main_v7, val_main_v6, val_main_v5, val_main_v0, val_main_cst, val_main_cst_0, val_main_cst_1, sinT, angle]

/-- The cosines of the keys. -/
theorem ref_cos_k (s : Fin 4096) (j : Fin 16) : (val_main_v55 (F := Ideal) : S4096x16.Idx → EReal) (ix2 s j) = cosT 0x42000000#32 s j := by
  pointwise [val_main_v55, val_main_v54, val_main_v53, val_main_v52, val_main_v51, val_main_v50, val_main_v49, val_main_v48, val_main_v47, val_main_v46, val_main_v45, val_main_v44, val_main_v43, val_main_v42, val_main_v0, val_main_cst_2, val_main_cst_3, val_main_cst_4, cosT, angle]

/-- The sines of the keys. -/
theorem ref_sin_k (s : Fin 4096) (j : Fin 16) : (val_main_v57 (F := Ideal) : S4096x16.Idx → EReal) (ix2 s j) = sinT 0x42000000#32 s j := by
  pointwise [val_main_v57, val_main_v54, val_main_v53, val_main_v52, val_main_v51, val_main_v50, val_main_v49, val_main_v48, val_main_v47, val_main_v46, val_main_v45, val_main_v44, val_main_v43, val_main_v42, val_main_v0, val_main_cst_2, val_main_cst_3, val_main_cst_4, sinT, angle]

/-- The cosines of the indexer's queries. -/
theorem ref_cos_qi (s : Fin 4096) (j : Fin 8) : (val_main_v93 (F := Ideal) : S4096x8.Idx → EReal) (ix2 s j) = cosT 0x41800000#32 s j := by
  pointwise [val_main_v93, val_main_v92, val_main_v91, val_main_v90, val_main_v89, val_main_v88, val_main_v87, val_main_v86, val_main_v85, val_main_v84, val_main_v83, val_main_v82, val_main_v81, val_main_v80, val_main_v0, val_main_cst_5, val_main_cst_6, val_main_cst_7, cosT, angle]

/-- The sines of the indexer's queries. -/
theorem ref_sin_qi (s : Fin 4096) (j : Fin 8) : (val_main_v95 (F := Ideal) : S4096x8.Idx → EReal) (ix2 s j) = sinT 0x41800000#32 s j := by
  pointwise [val_main_v95, val_main_v92, val_main_v91, val_main_v90, val_main_v89, val_main_v88, val_main_v87, val_main_v86, val_main_v85, val_main_v84, val_main_v83, val_main_v82, val_main_v81, val_main_v80, val_main_v0, val_main_cst_5, val_main_cst_6, val_main_cst_7, sinT, angle]

/-- The cosines of the indexer's key. -/
theorem ref_cos_ki (s : Fin 4096) (j : Fin 8) : (val_main_v130 (F := Ideal) : S4096x8.Idx → EReal) (ix2 s j) = cosT 0x41800000#32 s j := by
  pointwise [val_main_v130, val_main_v129, val_main_v128, val_main_v127, val_main_v126, val_main_v125, val_main_v124, val_main_v123, val_main_v122, val_main_v121, val_main_v120, val_main_v119, val_main_v118, val_main_v117, val_main_v0, val_main_cst_8, val_main_cst_9, val_main_cst_10, cosT, angle]

/-- The sines of the indexer's key. -/
theorem ref_sin_ki (s : Fin 4096) (j : Fin 8) : (val_main_v132 (F := Ideal) : S4096x8.Idx → EReal) (ix2 s j) = sinT 0x41800000#32 s j := by
  pointwise [val_main_v132, val_main_v129, val_main_v128, val_main_v127, val_main_v126, val_main_v125, val_main_v124, val_main_v123, val_main_v122, val_main_v121, val_main_v120, val_main_v119, val_main_v118, val_main_v117, val_main_v0, val_main_cst_8, val_main_cst_9, val_main_cst_10, sinT, angle]

/-- The queries. -/
theorem ref_q (x0 : S8x4096x2048.Idx → EReal) (x1 : S1x2048x6752.Idx → EReal) (e : Fin 1024) (r : Fin 32768) :
    (val_main_v164 (F := Ideal) x0 x1 : S1024x32768.Idx → EReal) (ix2 e r) = Gq x0 x1 e r := by
  have he := e.isLt
  have hr := r.isLt
  unfold Gq bat pos
  pointwise [val_main_v164, val_main_v163, val_main_v162, val_main_v157, val_main_v156, val_main_cst_12, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_v4, val_main_v3]
  simp only [ref_dot, ref_cos_q, ref_sin_q]
  refine congrArg (· * _) ?_
  split
  · refine Eq.trans ?_ (ropeRow_lo (T := fun c : Fin 1024 => dotrow x0 x1 ⟨r.val / 4096, by omega⟩ ⟨r.val % 4096, by omega⟩ ⟨c.val, by omega⟩)
        (cs := cosT 0x42000000#32 (⟨r.val % 4096, by omega⟩ : Fin 4096))
        (sn := sinT 0x42000000#32 (⟨r.val % 4096, by omega⟩ : Fin 4096)) (by decide) (by decide) (by decide) e e ⟨e.val + 16, by omega⟩ ⟨e.val % 128, by omega⟩ ⟨e.val % 128, by omega⟩ rfl (by dsimp only; try omega) (by dsimp only; try omega) (by dsimp only; try omega))
    refine congrArg₂ (· - ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  split
  · refine Eq.trans ?_ (ropeRow_hi (T := fun c : Fin 1024 => dotrow x0 x1 ⟨r.val / 4096, by omega⟩ ⟨r.val % 4096, by omega⟩ ⟨c.val, by omega⟩)
        (cs := cosT 0x42000000#32 (⟨r.val % 4096, by omega⟩ : Fin 4096))
        (sn := sinT 0x42000000#32 (⟨r.val % 4096, by omega⟩ : Fin 4096)) (by decide) (by decide) (by decide) e e ⟨e.val - 16, by omega⟩ ⟨e.val % 128 - 16, by omega⟩ ⟨e.val % 128 - 16, by omega⟩ rfl (by dsimp only; try omega) (by dsimp only; try omega) (by dsimp only; try omega))
    refine congrArg₂ (· + ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  · refine Eq.trans ?_ (ropeRow_rest (T := fun c : Fin 1024 => dotrow x0 x1 ⟨r.val / 4096, by omega⟩ ⟨r.val % 4096, by omega⟩ ⟨c.val, by omega⟩)
        (cs := cosT 0x42000000#32 (⟨r.val % 4096, by omega⟩ : Fin 4096))
        (sn := sinT 0x42000000#32 (⟨r.val % 4096, by omega⟩ : Fin 4096)) (by decide) (by decide) (by decide) e e rfl (by omega))
    refine congrArg (dotrow x0 x1 _ _) (Fin.ext ?_)
    dsimp only
    omega

/-- The keys. -/
theorem ref_k (x0 : S8x4096x2048.Idx → EReal) (x1 : S1x2048x6752.Idx → EReal) (r : Fin 32768) (e : Fin 256) :
    (val_main_v166 (F := Ideal) x0 x1 : S32768x256.Idx → EReal) (ix2 r e) = Gk x0 x1 r e := by
  have he := e.isLt
  have hr := r.isLt
  unfold Gk bat pos
  pointwise [val_main_v166, val_main_v165, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v56, val_main_v41, val_main_v40]
  simp only [ref_dot, ref_cos_k, ref_sin_k]
  split
  · refine Eq.trans ?_ (ropeRow_lo (T := fun c : Fin 256 => dotrow x0 x1 ⟨r.val / 4096, by omega⟩ ⟨r.val % 4096, by omega⟩ ⟨1024 + c.val, by omega⟩)
        (cs := cosT 0x42000000#32 (⟨r.val % 4096, by omega⟩ : Fin 4096))
        (sn := sinT 0x42000000#32 (⟨r.val % 4096, by omega⟩ : Fin 4096)) (by decide) (by decide) (by decide) e e ⟨e.val + 16, by omega⟩ ⟨e.val % 128, by omega⟩ ⟨e.val % 128, by omega⟩ rfl (by dsimp only; try omega) (by dsimp only; try omega) (by dsimp only; try omega))
    refine congrArg₂ (· - ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  split
  · refine Eq.trans ?_ (ropeRow_hi (T := fun c : Fin 256 => dotrow x0 x1 ⟨r.val / 4096, by omega⟩ ⟨r.val % 4096, by omega⟩ ⟨1024 + c.val, by omega⟩)
        (cs := cosT 0x42000000#32 (⟨r.val % 4096, by omega⟩ : Fin 4096))
        (sn := sinT 0x42000000#32 (⟨r.val % 4096, by omega⟩ : Fin 4096)) (by decide) (by decide) (by decide) e e ⟨e.val - 16, by omega⟩ ⟨e.val % 128 - 16, by omega⟩ ⟨e.val % 128 - 16, by omega⟩ rfl (by dsimp only; try omega) (by dsimp only; try omega) (by dsimp only; try omega))
    refine congrArg₂ (· + ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  · refine Eq.trans ?_ (ropeRow_rest (T := fun c : Fin 256 => dotrow x0 x1 ⟨r.val / 4096, by omega⟩ ⟨r.val % 4096, by omega⟩ ⟨1024 + c.val, by omega⟩)
        (cs := cosT 0x42000000#32 (⟨r.val % 4096, by omega⟩ : Fin 4096))
        (sn := sinT 0x42000000#32 (⟨r.val % 4096, by omega⟩ : Fin 4096)) (by decide) (by decide) (by decide) e e rfl (by omega))
    refine congrArg (dotrow x0 x1 _ _) (Fin.ext ?_)
    dsimp only
    omega

/-- The values. -/
theorem ref_v (x0 : S8x4096x2048.Idx → EReal) (x1 : S1x2048x6752.Idx → EReal) (b : Fin 128) (e : Fin 288) (t : Fin 256) :
    (val_main_v168 (F := Ideal) x0 x1 : S128x288x256.Idx → EReal) (ix3 b e t) = Gv x0 x1 b e t := by
  unfold Gv
  pointwise [val_main_v168, val_main_v167, val_main_v161, val_main_v160, val_main_v159, val_main_v158, val_main_v77, val_main_cst_13]
  simp only [ref_dot]

/-- The indexer's queries. -/
theorem ref_qi (x0 : S8x4096x2048.Idx → EReal) (x1 : S1x2048x6752.Idx → EReal) (e : Fin 1024) (r : Fin 32768) :
    (val_main_v171 (F := Ideal) x0 x1 : S1024x32768.Idx → EReal) (ix2 e r) = Gqi x0 x1 e r := by
  have he := e.isLt
  have hr := r.isLt
  unfold Gqi bat pos
  pointwise [val_main_v171, val_main_v170, val_main_v169, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v94, val_main_v79, val_main_v78]
  simp only [ref_dot, ref_cos_qi, ref_sin_qi]
  split
  · refine Eq.trans ?_ (ropeRow_lo (T := fun c : Fin 1024 => dotrow x0 x1 ⟨r.val / 4096, by omega⟩ ⟨r.val % 4096, by omega⟩ ⟨2560 + c.val, by omega⟩)
        (cs := cosT 0x41800000#32 (⟨r.val % 4096, by omega⟩ : Fin 4096))
        (sn := sinT 0x41800000#32 (⟨r.val % 4096, by omega⟩ : Fin 4096)) (by decide) (by decide) (by decide) e e ⟨e.val + 8, by omega⟩ ⟨e.val % 64, by omega⟩ ⟨e.val % 64, by omega⟩ rfl (by dsimp only; try omega) (by dsimp only; try omega) (by dsimp only; try omega))
    refine congrArg₂ (· - ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  split
  · refine Eq.trans ?_ (ropeRow_hi (T := fun c : Fin 1024 => dotrow x0 x1 ⟨r.val / 4096, by omega⟩ ⟨r.val % 4096, by omega⟩ ⟨2560 + c.val, by omega⟩)
        (cs := cosT 0x41800000#32 (⟨r.val % 4096, by omega⟩ : Fin 4096))
        (sn := sinT 0x41800000#32 (⟨r.val % 4096, by omega⟩ : Fin 4096)) (by decide) (by decide) (by decide) e e ⟨e.val - 8, by omega⟩ ⟨e.val % 64 - 8, by omega⟩ ⟨e.val % 64 - 8, by omega⟩ rfl (by dsimp only; try omega) (by dsimp only; try omega) (by dsimp only; try omega))
    refine congrArg₂ (· + ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  · refine Eq.trans ?_ (ropeRow_rest (T := fun c : Fin 1024 => dotrow x0 x1 ⟨r.val / 4096, by omega⟩ ⟨r.val % 4096, by omega⟩ ⟨2560 + c.val, by omega⟩)
        (cs := cosT 0x41800000#32 (⟨r.val % 4096, by omega⟩ : Fin 4096))
        (sn := sinT 0x41800000#32 (⟨r.val % 4096, by omega⟩ : Fin 4096)) (by decide) (by decide) (by decide) e e rfl (by omega))
    refine congrArg (dotrow x0 x1 _ _) (Fin.ext ?_)
    dsimp only
    omega

/-- The indexer's key. -/
theorem ref_ki (x0 : S8x4096x2048.Idx → EReal) (x1 : S1x2048x6752.Idx → EReal) (r : Fin 32768) (e : Fin 64) :
    (val_main_v173 (F := Ideal) x0 x1 : S32768x64.Idx → EReal) (ix2 r e) = Gki x0 x1 r e := by
  have he := e.isLt
  have hr := r.isLt
  unfold Gki bat pos
  pointwise [val_main_v173, val_main_v172, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v131, val_main_v116, val_main_v115]
  simp only [ref_dot, ref_cos_ki, ref_sin_ki]
  split
  · refine Eq.trans ?_ (ropeRow_lo (T := fun c : Fin 64 => dotrow x0 x1 ⟨r.val / 4096, by omega⟩ ⟨r.val % 4096, by omega⟩ ⟨3584 + c.val, by omega⟩)
        (cs := cosT 0x41800000#32 (⟨r.val % 4096, by omega⟩ : Fin 4096))
        (sn := sinT 0x41800000#32 (⟨r.val % 4096, by omega⟩ : Fin 4096)) (by decide) (by decide) (by decide) e e ⟨e.val + 8, by omega⟩ ⟨e.val % 64, by omega⟩ ⟨e.val % 64, by omega⟩ rfl (by dsimp only; try omega) (by dsimp only; try omega) (by dsimp only; try omega))
    refine congrArg₂ (· - ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  split
  · refine Eq.trans ?_ (ropeRow_hi (T := fun c : Fin 64 => dotrow x0 x1 ⟨r.val / 4096, by omega⟩ ⟨r.val % 4096, by omega⟩ ⟨3584 + c.val, by omega⟩)
        (cs := cosT 0x41800000#32 (⟨r.val % 4096, by omega⟩ : Fin 4096))
        (sn := sinT 0x41800000#32 (⟨r.val % 4096, by omega⟩ : Fin 4096)) (by decide) (by decide) (by decide) e e ⟨e.val - 8, by omega⟩ ⟨e.val % 64 - 8, by omega⟩ ⟨e.val % 64 - 8, by omega⟩ rfl (by dsimp only; try omega) (by dsimp only; try omega) (by dsimp only; try omega))
    refine congrArg₂ (· + ·) (congrArg₂ (· * ·) (congrArg (dotrow x0 x1 _ _) (Fin.ext ?_)) (congrArg (cosT _ _) (Fin.ext ?_))) (congrArg₂ (· * ·) (congrArg (dotrow x0 x1 _ _) (Fin.ext ?_)) (congrArg (sinT _ _) (Fin.ext ?_)))
      <;> dsimp only <;> omega
  · refine Eq.trans ?_ (ropeRow_rest (T := fun c : Fin 64 => dotrow x0 x1 ⟨r.val / 4096, by omega⟩ ⟨r.val % 4096, by omega⟩ ⟨3584 + c.val, by omega⟩)
        (cs := cosT 0x41800000#32 (⟨r.val % 4096, by omega⟩ : Fin 4096))
        (sn := sinT 0x41800000#32 (⟨r.val % 4096, by omega⟩ : Fin 4096)) (by decide) (by decide) (by decide) e e rfl (by omega))
    refine congrArg (dotrow x0 x1 _ _) (Fin.ext ?_)
    dsimp only
    omega

/-- The indexer's weights. -/
theorem ref_w (x0 : S8x4096x2048.Idx → EReal) (x1 : S1x2048x6752.Idx → EReal) (e : Fin 16) (r : Fin 32768) :
    (val_main_v175 (F := Ideal) x0 x1 : S16x32768.Idx → EReal) (ix2 e r) = Gw x0 x1 e r := by
  unfold Gw bat pos
  pointwise [val_main_v175, val_main_v174, val_main_v155, val_main_v154, val_main_v153, val_main_cst_11]
  simp only [ref_dot]

/-- The input. -/
theorem ref_x (x0 : S8x4096x2048.Idx → EReal) (r : Fin 32768) (k : Fin 2048) :
    (val_main_v177 (F := Ideal) x0 : S32768x2048.Idx → EReal) (ix2 r k) = Gx x0 r k := by
  unfold Gx bat pos
  pointwise [val_main_v177, val_main_v176]

end Cert.Proof.ProjT

end
-- ==== Proof.TurnedEntry.lean ====
module
public import proofs.«01_k».proof.Proof.Turned
public import proofs.«01_k».proof.Proof.Gen.Kernel4Ideal.Value
public import Idealize.ShloMosaic.Lib.Pointwise
public import Idealize.ShloMosaic.Lib.StableHlo.ReadAt

@[expose] public section

/-! # What the projection's launch finds: the rows of the input, the weights' columns as rows, the tables of angles -/

set_option maxRecDepth 16384

noncomputable section

namespace Cert.Proof.ProjT

open Idealize.ShloMosaic Idealize.ShloMosaic.TcCoe Idealize.SL.Sem
open Cert.Kernel4Ideal Cert.Kernel4Ideal.Gen

variable (m : (ℓ : Loc nD τ sig) → Buf (Elt Ideal) ℓ)

/-- The input, the rows of all batches one after another. -/
theorem entry_x (c : Dev nD) (r : Fin 32768) (k : Fin 2048) :
    (V m c main_v0 : S32768x2048.Idx → EReal) (ix2 r k) = Gx (m ((c : Thread nD τ).loc main_arg0)) r k := by
  unfold V Gx bat pos
  after_reads_at

/-- The queries' columns. -/
theorem entry_wq (c : Dev nD) (e : Fin 1024) (k : Fin 2048) :
    (V m c main_v9 : S1024x2048.Idx → EReal) (ix2 e k)
      = (m ((c : Thread nD τ).loc main_arg1) : S1x2048x6752.Idx → EReal) (ix3 0 k ⟨e.val, by omega⟩) := by
  unfold V
  after_reads_at

/-- The keys' and values' columns. -/
theorem entry_wkv (c : Dev nD) (e : Fin 512) (k : Fin 2048) :
    (V m c main_v10 : S512x2048.Idx → EReal) (ix2 e k)
      = (m ((c : Thread nD τ).loc main_arg1) : S1x2048x6752.Idx → EReal) (ix3 0 k ⟨1024 + e.val, by omega⟩) := by
  unfold V
  after_reads_at

/-- The indexer's queries' columns. -/
theorem entry_wqi (c : Dev nD) (e : Fin 1024) (k : Fin 2048) :
    (V m c main_v11 : S1024x2048.Idx → EReal) (ix2 e k)
      = (m ((c : Thread nD τ).loc main_arg1) : S1x2048x6752.Idx → EReal) (ix3 0 k ⟨2560 + e.val, by omega⟩) := by
  unfold V
  after_reads_at

/-- The indexer's key's and weights' columns. -/
theorem entry_wkw (c : Dev nD) (e : Fin 80) (k : Fin 2048) :
    (V m c main_v13 : S128x2048.Idx → EReal) (ix2 ⟨e.val, by omega⟩ k)
      = (m ((c : Thread nD τ).loc main_arg1) : S1x2048x6752.Idx → EReal) (ix3 0 k ⟨3584 + e.val, by omega⟩) := by
  unfold V
  after_reads_at
  exact congrArg (fun a : Fin 6752 => (m ((c : Thread nD τ).loc main_arg1) : S1x2048x6752.Idx → EReal) (ix3 0 k a))
    (Fin.ext (by show 2560 + (1024 + e.val) = 3584 + e.val; omega))

/-- The heads' cosines. -/
theorem entry_ca (c : Dev nD) (j : Fin 16) (s : Fin 4096) :
    (V m c main_v28 : S16x4096.Idx → EReal) (ix2 j s) = cosT 0x42000000#32 s j := by
  unfold V cosT angle
  rw [mul_comm]
  after_reads_at

/-- The heads' sines. -/
theorem entry_sa (c : Dev nD) (j : Fin 16) (s : Fin 4096) :
    (V m c main_v29 : S16x4096.Idx → EReal) (ix2 j s) = sinT 0x42000000#32 s j := by
  unfold V sinT angle
  rw [mul_comm]
  after_reads_at

/-- The indexer's cosines. -/
theorem entry_ci (c : Dev nD) (j : Fin 8) (s : Fin 4096) :
    (V m c main_v44 : S8x4096.Idx → EReal) (ix2 j s) = cosT 0x41800000#32 s j := by
  unfold V cosT angle
  rw [mul_comm]
  after_reads_at

/-- The indexer's sines. -/
theorem entry_si (c : Dev nD) (j : Fin 8) (s : Fin 4096) :
    (V m c main_v45 : S8x4096.Idx → EReal) (ix2 j s) = sinT 0x41800000#32 s j := by
  unfold V sinT angle
  rw [mul_comm]
  after_reads_at

end Cert.Proof.ProjT

end
-- ==== Proof.BodyRows.lean ====
module
public import proofs.«01_k».proof.Proof.Gen.Kernel4Ideal.Skeleton
public import Idealize.ShloMosaic.Lib.Pointwise
public import proofs.«01_k».proof.Proof.Rope

@[expose] public section

/-! # The kernel's other blocks, index by index -/

set_option maxRecDepth 16384

noncomputable section

namespace Cert.Proof.ProjT

open Idealize.ShloMosaic Idealize.ShloMosaic.TcCoe Idealize.SL.Sem
open Cert.Kernel4Ideal Cert.Kernel4Ideal.Gen

/-- The keys: each of two heads has its first thirty-two rows turned. -/
theorem k_apply (ca sa : FVec Ideal S16x1024 .f32) (T : FVec Ideal S256x1024 .f32) (r : Fin 1024) (c : Fin 256) :
    (k0_pay26 (F := Ideal) ca sa T : S1024x256.Idx → EReal) (ix2 r c)
      = ropeRow (D := 128) (half := 16) (by decide) (by decide) (by decide) (fun c => (T : S256x1024.Idx → EReal) (ix2 c r))
        (fun j => (ca : S16x1024.Idx → EReal) (ix2 j r)) (fun j => (sa : S16x1024.Idx → EReal) (ix2 j r)) c := by
  have hc := c.isLt
  pointwise [k0_pay26]
  simp only [Nat.sub_sub, Nat.reduceAdd]
  repeat' split
  all_goals first
    | (refine ropeRow_lo (T := fun c => (T : S256x1024.Idx → EReal) (ix2 c r)) (cs := fun j => (ca : S16x1024.Idx → EReal) (ix2 j r))
        (sn := fun j => (sa : S16x1024.Idx → EReal) (ix2 j r)) _ _ _ _ _ _ _ _ ?_ ?_ ?_ ?_ <;> (first | with_reducible rfl | omega | (dsimp only; omega)))
    | (refine ropeRow_hi (T := fun c => (T : S256x1024.Idx → EReal) (ix2 c r)) (cs := fun j => (ca : S16x1024.Idx → EReal) (ix2 j r))
        (sn := fun j => (sa : S16x1024.Idx → EReal) (ix2 j r)) _ _ _ _ _ _ _ _ ?_ ?_ ?_ ?_ <;> (first | with_reducible rfl | omega | (dsimp only; omega)))
    | (refine ropeRow_rest (T := fun c => (T : S256x1024.Idx → EReal) (ix2 c r)) _ _ _ _ _ _ _ ?_ ?_ <;> (first | with_reducible rfl | omega | (dsimp only; omega)))

/-- The indexer's key has its first sixteen rows turned. -/
theorem kidx_apply (x : FVec Ideal S1024x2048 .bf16) (ca sa : FVec Ideal S8x1024 .f32) (w : FVec Ideal S128x2048 .bf16) (r : Fin 1024) (c : Fin 64) :
    (k0_pay120 (F := Ideal) x ca sa w : S1024x64.Idx → EReal) (ix2 r c)
      = ropeRow (D := 64) (half := 8) (by decide) (by decide) (by decide)
        (fun c => (k0_pay119 (F := Ideal) x w : S128x1024.Idx → EReal) (ix2 ⟨c.val, by omega⟩ r))
        (fun j => (ca : S8x1024.Idx → EReal) (ix2 j r)) (fun j => (sa : S8x1024.Idx → EReal) (ix2 j r)) c := by
  have hc := c.isLt
  pointwise [k0_pay120]
  simp only [Nat.sub_sub, Nat.reduceAdd]
  repeat' split
  · exact ropeRow_lo (T := fun c => (k0_pay119 (F := Ideal) x w : S128x1024.Idx → EReal) (ix2 ⟨c.val, by omega⟩ r)) (cs := fun j => (ca : S8x1024.Idx → EReal) (ix2 j r))
        (sn := fun j => (sa : S8x1024.Idx → EReal) (ix2 j r)) _ _ _ _ ⟨c.val, by omega⟩ ⟨8 + c.val, by omega⟩ _ _ rfl (by (try dsimp only); omega) (by (try dsimp only); omega) (by (try dsimp only); omega)
  · exact ropeRow_hi (T := fun c => (k0_pay119 (F := Ideal) x w : S128x1024.Idx → EReal) (ix2 ⟨c.val, by omega⟩ r)) (cs := fun j => (ca : S8x1024.Idx → EReal) (ix2 j r))
        (sn := fun j => (sa : S8x1024.Idx → EReal) (ix2 j r)) _ _ _ _ ⟨8 + (c.val - 8), by omega⟩ ⟨c.val - 8, by omega⟩ _ _ (by (try dsimp only); omega) (by (try dsimp only); omega) (by (try dsimp only); omega) (by (try dsimp only); omega)
  · exact ropeRow_rest (T := fun c => (k0_pay119 (F := Ideal) x w : S128x1024.Idx → EReal) (ix2 ⟨c.val, by omega⟩ r)) _ _ _ _ _ _ ⟨16 + (c.val - 16), by omega⟩ (by (try dsimp only); omega) (by omega)

/-- The projection onto the queries. -/
theorem mm6 (x : Vec Ideal S1024x2048 .f32) (w : Vec Ideal S1024x2048 .bf16) (e : Fin 1024) (r : Fin 1024) :
    (k0_pay6 (F := Ideal) x w : S1024x1024.Idx → EReal) (ix2 e r)
      = ∑ k : Fin 2048, (x : S1024x2048.Idx → EReal) (ix2 r k) * (w : S1024x2048.Idx → EReal) (ix2 e k) := by
  pointwise [k0_pay6, k0_pay1]
  exact Finset.sum_congr rfl fun k _ => mul_comm _ _

/-- The projection onto the keys and values. -/
theorem mm24 (x : Vec Ideal S1024x2048 .bf16) (w : Vec Ideal S512x2048 .bf16) (e : Fin 512) (r : Fin 1024) :
    (k0_pay24 (F := Ideal) x w : S512x1024.Idx → EReal) (ix2 e r)
      = ∑ k : Fin 2048, (x : S1024x2048.Idx → EReal) (ix2 r k) * (w : S512x2048.Idx → EReal) (ix2 e k) := by
  pointwise [k0_pay24]
  exact Finset.sum_congr rfl fun k _ => mul_comm _ _

/-- The projection onto the indexer's queries. -/
theorem mm37 (x : Vec Ideal S1024x2048 .bf16) (w : Vec Ideal S1024x2048 .bf16) (e : Fin 1024) (r : Fin 1024) :
    (k0_pay37 (F := Ideal) x w : S1024x1024.Idx → EReal) (ix2 e r)
      = ∑ k : Fin 2048, (x : S1024x2048.Idx → EReal) (ix2 r k) * (w : S1024x2048.Idx → EReal) (ix2 e k) := by
  pointwise [k0_pay37]
  exact Finset.sum_congr rfl fun k _ => mul_comm _ _

/-- The projection onto the indexer's key and weights. -/
theorem mm119 (x : Vec Ideal S1024x2048 .bf16) (w : Vec Ideal S128x2048 .bf16) (e : Fin 128) (r : Fin 1024) :
    (k0_pay119 (F := Ideal) x w : S128x1024.Idx → EReal) (ix2 e r)
      = ∑ k : Fin 2048, (x : S1024x2048.Idx → EReal) (ix2 r k) * (w : S128x2048.Idx → EReal) (ix2 e k) := by
  pointwise [k0_pay119]
  exact Finset.sum_congr rfl fun k _ => mul_comm _ _

/-- The indexer's weights are the last sixteen of the eighty rows, scaled. -/
theorem w_apply (x : FVec Ideal S1024x2048 .bf16) (w : Vec Ideal S128x2048 .bf16) (e : Fin 16) (r : Fin 1024) :
    (k0_pay121 (F := Ideal) x w : S16x1024.Idx → EReal) (ix2 e r)
      = (k0_pay119 (F := Ideal) x w : S128x1024.Idx → EReal) (ix2 ⟨64 + e.val, by omega⟩ r) * Ideal.ofBits FTy.f32 0x3D000000#32 := by
  pointwise [k0_pay121]

/-- The first half of the keys' and values' rows is the keys'. -/
theorem k_half (x : FVec Ideal S1024x2048 .bf16) (w : Vec Ideal S512x2048 .bf16) (e : Fin 256) (r : Fin 1024) :
    (k0_pay25 (F := Ideal) x w : S256x1024.Idx → EReal) (ix2 e r)
      = (k0_pay24 (F := Ideal) x w : S512x1024.Idx → EReal) (ix2 ⟨e.val, by omega⟩ r) := by
  pointwise [k0_pay25]

/-- A row of a block of values: a column of the second half of the projection, or the ones that follow each head's. -/
def vRow (T : S512x1024.Idx → EReal) (b : Fin 4) (e : Fin 288) (t : Fin 256) : EReal :=
  if h : e.val % 144 < 128 then T (ix2 ⟨256 + (e.val / 144 * 128 + e.val % 144), by omega⟩ ⟨256 * b.val + t.val, by omega⟩) else 1

/-- Block 0, head 0. -/
theorem v_piece_0_0 (T : FVec Ideal S512x1024 .f32) (e : Fin 288) (c : Fin 144) (t : Fin 256) (he : e.val = 0 + c.val) :
    (k0_pay28 (F := Ideal) T : S1x144x256.Idx → EReal) (ix3 0 c t) = vRow T 0 e t := by
  have hc := c.isLt
  unfold vRow
  pointwise [k0_pay28, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

/-- Block 0, head 1. -/
theorem v_piece_0_1 (T : FVec Ideal S512x1024 .f32) (e : Fin 288) (c : Fin 144) (t : Fin 256) (he : e.val = 144 + c.val) :
    (k0_pay29 (F := Ideal) T : S1x144x256.Idx → EReal) (ix3 0 c t) = vRow T 0 e t := by
  have hc := c.isLt
  unfold vRow
  pointwise [k0_pay29, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

/-- Block 1, head 0. -/
theorem v_piece_1_0 (T : FVec Ideal S512x1024 .f32) (e : Fin 288) (c : Fin 144) (t : Fin 256) (he : e.val = 0 + c.val) :
    (k0_pay30 (F := Ideal) T : S1x144x256.Idx → EReal) (ix3 0 c t) = vRow T 1 e t := by
  have hc := c.isLt
  unfold vRow
  pointwise [k0_pay30, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

/-- Block 1, head 1. -/
theorem v_piece_1_1 (T : FVec Ideal S512x1024 .f32) (e : Fin 288) (c : Fin 144) (t : Fin 256) (he : e.val = 144 + c.val) :
    (k0_pay32 (F := Ideal) (k0_pay31 T) : S1x144x256.Idx → EReal) (ix3 0 c t) = vRow T 1 e t := by
  have hc := c.isLt
  unfold vRow
  pointwise [k0_pay32, k0_pay31, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

/-- Block 2, head 0. -/
theorem v_piece_2_0 (T : FVec Ideal S512x1024 .f32) (e : Fin 288) (c : Fin 144) (t : Fin 256) (he : e.val = 0 + c.val) :
    (k0_pay33 (F := Ideal) T k0_pay27 : S1x144x256.Idx → EReal) (ix3 0 c t) = vRow T 2 e t := by
  have hc := c.isLt
  unfold vRow
  pointwise [k0_pay33, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

/-- Block 2, head 1. -/
theorem v_piece_2_1 (T : FVec Ideal S512x1024 .f32) (e : Fin 288) (c : Fin 144) (t : Fin 256) (he : e.val = 144 + c.val) :
    (k0_pay34 (F := Ideal) T k0_pay27 : S1x144x256.Idx → EReal) (ix3 0 c t) = vRow T 2 e t := by
  have hc := c.isLt
  unfold vRow
  pointwise [k0_pay34, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

/-- Block 3, head 0. -/
theorem v_piece_3_0 (T : FVec Ideal S512x1024 .f32) (e : Fin 288) (c : Fin 144) (t : Fin 256) (he : e.val = 0 + c.val) :
    (k0_pay35 (F := Ideal) T k0_pay27 : S1x144x256.Idx → EReal) (ix3 0 c t) = vRow T 3 e t := by
  have hc := c.isLt
  unfold vRow
  pointwise [k0_pay35, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

/-- Block 3, head 1. -/
theorem v_piece_3_1 (T : FVec Ideal S512x1024 .f32) (e : Fin 288) (c : Fin 144) (t : Fin 256) (he : e.val = 144 + c.val) :
    (k0_pay36 (F := Ideal) T k0_pay27 : S1x144x256.Idx → EReal) (ix3 0 c t) = vRow T 3 e t := by
  have hc := c.isLt
  unfold vRow
  pointwise [k0_pay36, k0_pay27]
  split
  · refine Eq.trans ?_ (dif_pos (by omega)).symm
    refine congrArg₂ (fun a b => (T : S512x1024.Idx → EReal) (ix2 a b)) (Fin.ext ?_) (Fin.ext ?_) <;> dsimp <;> omega
  · rw [dif_neg (by omega)]

end Cert.Proof.ProjT

end
-- ==== Proof.CatRow.lean ====
module
public import Idealize.ShloMosaic.Lib.Pointwise
public import Idealize.ShloMosaic.Lib.Pipeline.Value

@[expose] public section

/-! # A row of a concatenation of rows -/

noncomputable section

namespace Cert.Proof.ProjT

open Idealize.ShloMosaic

/-- A row of a concatenation of rows, in the piece that holds it. -/
theorem cat_row {N M n : Nat} (xs : List ((s : Shape) × (s.Idx → EReal))) (h : Shape.Concatenates (xs.map (·.1)) ⟨2, ![N, M]⟩ 0)
    (c : Fin N) (r : Fin M) (k : Nat) (x : (⟨2, ![n, M]⟩ : Shape).Idx → EReal) (hx : xs[k]? = some ⟨⟨2, ![n, M]⟩, x⟩)
    (pre : Nat) (hpre : (((xs.take k).map (·.1)).map fun s => if h : s.rank = 2 then s.size ((0 : Fin 2).cast h.symm) else 0).sum = pre)
    (i : Fin n) (hi : pre + i.val = c.val) : concatenate ⟨2, ![N, M]⟩ 0 xs h (ix2 c r) = x (ix2 i r) := by
  obtain ⟨hk, hx⟩ := List.getElem?_eq_some_iff.mp hx
  refine concatenate_apply_piece (t := ⟨2, ![N, M]⟩) 0 xs h (ix2 c r) k hk ⟨2, ![n, M]⟩ x hx rfl pre hpre (ix2 i r) ?_ hi
  intro b hb
  match b with
  | ⟨0, _⟩ => exact absurd rfl hb
  | ⟨1, _⟩ => rfl

/-- The size of a piece along the rows, as a concatenation counts it. -/
def rowsOf (s : Shape) : Nat := if h : s.rank = 2 then s.size ((0 : Fin 2).cast h.symm) else 0

/-- Pieces that, laid one after another from row `off` on, hold at column `r` what `G` says of their rows. -/
inductive Agree {N M : Nat} (r : Fin M) (G : Fin N → EReal) : List ((s : Shape) × (s.Idx → EReal)) → Nat → Prop
  | nil (off : Nat) : Agree r G [] off
  | cons {n off off' : Nat} (p : (⟨2, ![n, M]⟩ : Shape).Idx → EReal) (xs : List ((s : Shape) × (s.Idx → EReal)))
      (ho : off + n = off') (hp : ∀ (i : Fin n) (e : Fin N), e.val = off + i.val → p (ix2 i r) = G e) (hxs : Agree r G xs off') :
      Agree r G (⟨⟨2, ![n, M]⟩, p⟩ :: xs) off

/-- The piece that holds a row. -/
theorem Agree.find {N M : Nat} {r : Fin M} {G : Fin N → EReal} {xs : List ((s : Shape) × (s.Idx → EReal))} {off : Nat}
    (hA : Agree r G xs off) (c : Fin N) (h0 : off ≤ c.val) (h1 : c.val < off + ((xs.map (·.1)).map rowsOf).sum) :
    ∃ (k n : Nat) (x : (⟨2, ![n, M]⟩ : Shape).Idx → EReal) (i : Fin n), xs[k]? = some ⟨⟨2, ![n, M]⟩, x⟩
      ∧ off + (((xs.take k).map (·.1)).map rowsOf).sum + i.val = c.val ∧ x (ix2 i r) = G c := by
  induction hA with
  | nil off => exact absurd h1 (by simpa using h0)
  | @cons n off off' p xs ho hp hxs ih =>
    have hn : rowsOf ⟨2, ![n, M]⟩ = n := rfl
    by_cases hc : c.val < off + n
    · exact ⟨0, n, p, ⟨c.val - off, by omega⟩, rfl, by show off + 0 + (c.val - off) = c.val; omega,
        hp _ _ (by show c.val = off + (c.val - off); omega)⟩
    · obtain ⟨k, n', x, i, hk, hs, hx⟩ := ih (by omega) (by
        rw [List.map_cons, List.map_cons, List.sum_cons, hn] at h1; omega)
      refine ⟨k + 1, n', x, i, hk, ?_, hx⟩
      rw [List.take_succ_cons, List.map_cons, List.map_cons, List.sum_cons, hn]
      omega

/-- A concatenation of pieces that agree with `G` is `G`. -/
theorem cat_agree {N M : Nat} (xs : List ((s : Shape) × (s.Idx → EReal))) (h : Shape.Concatenates (xs.map (·.1)) ⟨2, ![N, M]⟩ 0)
    (c : Fin N) (r : Fin M) (G : Fin N → EReal) (hA : Agree r G xs 0) : concatenate ⟨2, ![N, M]⟩ 0 xs h (ix2 c r) = G c := by
  obtain ⟨k, n, x, i, hk, hs, hx⟩ := hA.find c (Nat.zero_le _) (by
    have e : ((xs.map (·.1)).map rowsOf).sum = N := h.2.2
    rw [e, Nat.zero_add]; exact c.isLt)
  rw [Nat.zero_add] at hs
  exact (cat_row xs h c r k x hk _ rfl i hs).trans hx

end Cert.Proof.ProjT

end
-- ==== Proof.QueryRows.lean ====
module
public import proofs.«01_k».proof.Proof.Gen.Kernel4Ideal.Skeleton
public import Idealize.ShloMosaic.Lib.Pointwise
public import Idealize.ShloMosaic.Lib.Pipeline.Value
public import proofs.«01_k».proof.Proof.Rope
public import proofs.«01_k».proof.Proof.CatRow

@[expose] public section

/-! # The queries as the body writes them -/

set_option maxRecDepth 16384

noncomputable section

namespace Cert.Proof.ProjT

open Idealize.ShloMosaic Idealize.ShloMosaic.TcCoe Idealize.SL.Sem
open Cert.Kernel4Ideal Cert.Kernel4Ideal.Gen

set_option maxHeartbeats 4000000 in
/-- The queries: each head of their projection turned, then scaled. -/
theorem q_apply (x : Vec Ideal S1024x2048 .f32) (ca sa : Vec Ideal S16x1024 .f32) (w : Vec Ideal S1024x2048 .bf16) (e r : Fin 1024) :
    (k0_pay23 (F := Ideal) (k0_pay2 ca) (k0_pay3 sa) (k0_pay6 x w) (k0_pay9 x ca sa w) (k0_pay10 x ca sa w) (k0_pay11 x w)
      (k0_pay14 x ca sa w) (k0_pay15 x ca sa w) (k0_pay16 x w) (k0_pay19 x ca sa w) (k0_pay20 x ca sa w) (k0_pay21 x w) (k0_pay22 x w)
       : S1024x1024.Idx → EReal) (ix2 e r)
      = ropeRow (D := 128) (half := 16) (by decide) (by decide) (by decide) (fun c => (k0_pay6 (F := Ideal) x w : S1024x1024.Idx → EReal) (ix2 c r))
        (fun j => (ca : S16x1024.Idx → EReal) (ix2 j r)) (fun j => (sa : S16x1024.Idx → EReal) (ix2 j r)) e
        * Ideal.ofBits FTy.f32 0x3E0293EE#32 := by
  have he := e.isLt
  change (concatenate S1024x1024 0 _ _ (ix2 e r) : EReal) * Ideal.ofBits FTy.f32 0x3E0293EE#32 = _
  refine congrArg (· * _) ?_
  refine cat_agree _ _ e r _ ?_
  refine Agree.cons (n := 16) (off' := 16) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 32) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 128) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  refine Agree.cons (n := 16) (off' := 144) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 160) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 256) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  refine Agree.cons (n := 16) (off' := 272) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 288) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 384) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  refine Agree.cons (n := 16) (off' := 400) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 416) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 512) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  refine Agree.cons (n := 16) (off' := 528) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 544) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 640) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  refine Agree.cons (n := 16) (off' := 656) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 672) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 768) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  refine Agree.cons (n := 16) (off' := 784) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 800) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 896) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  refine Agree.cons (n := 16) (off' := 912) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_lo (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 16) (off' := 928) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_hi (T := fun c => (k0_pay6 (F := Ideal) x w : S1024x1024.Idx → EReal) (ix2 c r)) (cs := fun j => (ca : S16x1024.Idx → EReal) (ix2 j r))
      (sn := fun j => (sa : S16x1024.Idx → EReal) (ix2 j r)) _ _ _ _ _ _ _ _ ?_ ?_ ?_ ?_ <;> first | with_reducible rfl | omega | (dsimp only; omega)
  refine Agree.cons (n := 96) (off' := 1024) _ _ rfl (fun i e' he' => ?_) ?_
  · have hi := i.isLt
    pointwise [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22]
    refine ropeRow_rest (T := fun c => (k0_pay6 (F := Ideal) x w : S1024x1024.Idx → EReal) (ix2 c r)) _ _ _ _ _ _ _ ?_ ?_ <;> first | with_reducible rfl | omega | (dsimp only; omega)
  exact Agree.nil _

end Cert.Proof.ProjT

end
-- ==== Proof.IndexRows.lean ====
module
public import proofs.«01_k».proof.Proof.Gen.Kernel4Ideal.Skeleton
public import Idealize.ShloMosaic.Lib.Pointwise
public import Idealize.ShloMosaic.Lib.Pipeline.Value
public import proofs.«01_k».proof.Proof.Rope
public import proofs.«01_k».proof.Proof.CatRow

@[expose] public section

/-! # The indexer's queries as the body writes them -/

set_option maxRecDepth 16384

noncomputable section

namespace Cert.Proof.ProjT

open Idealize.ShloMosaic Idealize.ShloMosaic.TcCoe Idealize.SL.Sem
open Cert.Kernel4Ideal Cert.Kernel4Ideal.Gen

set_option maxHeartbeats 8000000 in
/-- The indexer's queries: each head of their projection turned. -/
theorem qi_apply (x : FVec Ideal S1024x2048 .bf16) (ca sa : FVec Ideal S8x1024 .f32) (w : Vec Ideal S1024x2048 .bf16) (e r : Fin 1024) :
    (k0_pay118 (F := Ideal) (k0_pay117 (k0_pay37 x w) (k0_pay40 x ca sa w) (k0_pay43 (k0_pay41 x ca w) (k0_pay42 x sa
      w)) (k0_pay44 (k0_pay37 x w)) (k0_pay47 ca sa (k0_pay37 x w)) (k0_pay48 ca sa (k0_pay37 x w)) (k0_pay49 (k0_pay37
      x w)) (k0_pay52 ca sa (k0_pay37 x w)) (k0_pay53 ca sa (k0_pay37 x w)) (k0_pay54 (k0_pay37 x w)) (k0_pay57 ca sa
      (k0_pay37 x w)) (k0_pay58 ca sa (k0_pay37 x w)) (k0_pay59 (k0_pay37 x w)) (k0_pay62 ca sa (k0_pay37 x w))
      (k0_pay63 ca sa (k0_pay37 x w)) (k0_pay64 (k0_pay37 x w)) (k0_pay67 ca sa (k0_pay37 x w)) (k0_pay68 ca sa
      (k0_pay37 x w)) (k0_pay69 (k0_pay37 x w)) (k0_pay72 ca sa (k0_pay37 x w)) (k0_pay73 ca sa (k0_pay37 x w))
      (k0_pay74 (k0_pay37 x w)) (k0_pay79 (k0_pay77 ca (k0_pay37 x w)) (k0_pay78 sa (k0_pay37 x w))) (k0_pay80 ca sa
      (k0_pay75 (k0_pay37 x w)) (k0_pay76 (k0_pay37 x w))) (k0_pay81 (k0_pay37 x w)) (k0_pay84 ca sa (k0_pay37 x w))
      (k0_pay85 ca sa (k0_pay37 x w)) (k0_pay86 (k0_pay37 x w)) (k0_pay89 ca sa (k0_pay37 x w)) (k0_pay90 ca sa
      (k0_pay37 x w)) (k0_pay91 (k0_pay37 x w)) (k0_pay94 ca sa (k0_pay37 x w)) (k0_pay95 ca sa (k0_pay37 x w))
      (k0_pay96 (k0_pay37 x w)) (k0_pay99 ca sa (k0_pay37 x w)) (k0_pay100 ca sa (k0_pay37 x w)) (k0_pay101 (k0_pay37 x
      w)) (k0_pay104 ca sa (k0_pay37 x w)) (k0_pay105 ca sa (k0_pay37 x w)) (k0_pay106 (k0_pay37 x w)) (k0_pay109 ca sa
      (k0_pay37 x w)) (k0_pay110 ca sa (k0_pay37 x w)) (k0_pay111 (k0_pay37 x w)) (k0_pay113 ca sa (k0_pay112 (k0_pay37
      x w)) (extractStridedSlice S8x1024 ![904, 0] (k0_pay37 x w) slices_S1024x1024_o904_0_S8x1024)) (k0_pay114 ca sa
      (k0_pay112 (k0_pay37 x w)) (extractStridedSlice S8x1024 ![904, 0] (k0_pay37 x w)
      slices_S1024x1024_o904_0_S8x1024)) (k0_pay115 ca sa (extractStridedSlice S8x1024 ![960, 0] (k0_pay37 x w)
      slices_S1024x1024_o960_0_S8x1024) (extractStridedSlice S8x1024 ![968, 0] (k0_pay37 x w)
      slices_S1024x1024_o968_0_S8x1024)) (k0_pay116 ca sa (extractStridedSlice S8x1024 ![960, 0] (k0_pay37 x w)
      slices_S1024x1024_o960_0_S8x1024) (extractStridedSlice S8x1024 ![968, 0] (k0_pay37 x w)
      slices_S1024x1024_o968_0_S8x1024)))
       : S1024x1024.Idx → EReal) (ix2 e r)
      = ropeRow (D := 64) (half := 8) (by decide) (by decide) (by decide) (fun c => (k0_pay37 (F := Ideal) x w : S1024x1024.Idx → EReal) (ix2 c r))
        (fun j => (ca : S8x1024.Idx → EReal) (ix2 j r)) (fun j => (sa : S8x1024.Idx → EReal) (ix2 j r)) e := by
  have he := e.isLt
  unfold k0_pay118 k0_pay117
  refine cat_agree _ ?_ e r _ ?_
  · exact concatenates_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S1024x1024_d0
  refine Agree.cons (n := 8) (off' := 8) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 16) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 64) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 72) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 80) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 128) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 136) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 144) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 192) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 200) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 208) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 256) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 264) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 272) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 320) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 328) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 336) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 384) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 392) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 400) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 448) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 456) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 464) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 512) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 520) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 528) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 576) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 584) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 592) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 640) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 648) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 656) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 704) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 712) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 720) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 768) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 776) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 784) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 832) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 840) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 848) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 896) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 904) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 912) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 960) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  refine Agree.cons (n := 8) (off' := 968) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_lo (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 8) (off' := 976) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_hi (T := fun c => (k0_pay37 (F := Ideal) x w : S1024x1024.Idx → EReal) (ix2 c r)) (cs := fun j => (ca : S8x1024.Idx → EReal) (ix2 j r))
      (sn := fun j => (sa : S8x1024.Idx → EReal) (ix2 j r)) _ _ _ _ _ _ _ _ ?_ ?_ ?_ ?_ <;> first | with_reducible rfl | omega | (dsimp only; omega)
  refine Agree.cons (n := 48) (off' := 1024) _ _ rfl (fun i e' he' => ?_) ?_
  · have hi := i.isLt
    pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    refine ropeRow_rest (T := fun c => (k0_pay37 (F := Ideal) x w : S1024x1024.Idx → EReal) (ix2 c r)) _ _ _ _ _ _ _ ?_ ?_ <;> first | with_reducible rfl | omega | (dsimp only; omega)
  exact Agree.nil _

end Cert.Proof.ProjT

end
-- ==== Proof.BodyOut.lean ====
module
public import proofs.«01_k».proof.Proof.Gen.Kernel4Ideal.Value
public import proofs.«01_k».proof.Proof.Turned
public import proofs.«01_k».proof.Proof.BodyRows
public import proofs.«01_k».proof.Proof.QueryRows
public import proofs.«01_k».proof.Proof.IndexRows
public import Idealize.ShloMosaic.Lib.Pointwise
public import Idealize.ShloMosaic.Lib.Pipeline.Value
public import Idealize.ShloMosaic.Lib.Pipeline.ValueKit.Point

@[expose] public section

/-! # The kernel's output blocks are blocks of the results

Of blocks that hold the input's rows, the weights and the tables of angles, the body leaves the results' blocks. -/

set_option maxRecDepth 16384

noncomputable section

namespace Cert.Proof.ProjT

open Idealize.ShloMosaic Idealize.ShloMosaic.TcCoe Idealize.SL.Sem
open Cert.Kernel4Ideal Cert.Kernel4Ideal.Gen

/-- Row `r` of block `a`. -/
def rowOf (a : Fin 32) (r : Fin 1024) : Fin 32768 := ⟨a.val * 1024 + r.val, by omega⟩

theorem same1 (x : Vec Ideal S1024x2048 .f32) (i : Fin 1024) (j : Fin 2048) :
    (k0_pay1 (F := Ideal) x : S1024x2048.Idx → EReal) (ix2 i j) = (x : S1024x2048.Idx → EReal) (ix2 i j) := by
  pointwise [k0_pay1]

theorem same2 (x : Vec Ideal S16x1024 .f32) (i : Fin 16) (j : Fin 1024) :
    (k0_pay2 (F := Ideal) x : S16x1024.Idx → EReal) (ix2 i j) = (x : S16x1024.Idx → EReal) (ix2 i j) := by
  pointwise [k0_pay2]

theorem same3 (x : Vec Ideal S16x1024 .f32) (i : Fin 16) (j : Fin 1024) :
    (k0_pay3 (F := Ideal) x : S16x1024.Idx → EReal) (ix2 i j) = (x : S16x1024.Idx → EReal) (ix2 i j) := by
  pointwise [k0_pay3]

theorem same4 (x : Vec Ideal S8x1024 .f32) (i : Fin 8) (j : Fin 1024) :
    (k0_pay4 (F := Ideal) x : S8x1024.Idx → EReal) (ix2 i j) = (x : S8x1024.Idx → EReal) (ix2 i j) := by
  pointwise [k0_pay4]

theorem same5 (x : Vec Ideal S8x1024 .f32) (i : Fin 8) (j : Fin 1024) :
    (k0_pay5 (F := Ideal) x : S8x1024.Idx → EReal) (ix2 i j) = (x : S8x1024.Idx → EReal) (ix2 i j) := by
  pointwise [k0_pay5]

section
variable (X : S8x4096x2048.Idx → EReal) (W : S1x2048x6752.Idx → EReal) (a : Fin 32)
  (x0 : Vec Ideal S1024x2048 .f32) (x1 : Vec Ideal S1024x2048 .bf16) (x2 : Vec Ideal S512x2048 .bf16) (x3 : Vec Ideal S1024x2048 .bf16)
  (x4 : Vec Ideal S128x2048 .bf16) (x5 x6 : Vec Ideal S16x1024 .f32) (x7 x8 : Vec Ideal S8x1024 .f32)

/-- The queries' block. -/
theorem out9_spec (h0 : ∀ r k, (x0 : S1024x2048.Idx → EReal) (ix2 r k) = Gx X (rowOf a r) k)
    (h1 : ∀ (e : Fin 1024) k, (x1 : S1024x2048.Idx → EReal) (ix2 e k) = W (ix3 0 k ⟨e.val, by omega⟩))
    (h5 : ∀ j r, (x5 : S16x1024.Idx → EReal) (ix2 j r) = cosT 0x42000000#32 (pos (rowOf a r)) j)
    (h6 : ∀ j r, (x6 : S16x1024.Idx → EReal) (ix2 j r) = sinT 0x42000000#32 (pos (rowOf a r)) j) (e r : Fin 1024) :
    (out0_9 (F := Ideal) x0 x1 x2 x3 x4 x5 x6 x7 x8 : S1024x1024.Idx → EReal) (ix2 e r) = Gq X W e (rowOf a r) := by
  have hzx : (![0, 0] : Fin S1024x2048.rank → Nat) = fun _ => 0 := funext fun a => by fin_cases a <;> rfl
  have hzt : (![0, 0] : Fin S16x1024.rank → Nat) = fun _ => 0 := funext fun a => by fin_cases a <;> rfl
  have hzo : (![0, 0] : Fin S1024x1024.rank → Nat) = fun _ => 0 := funext fun a => by fin_cases a <;> rfl
  unfold_out out0_9
  rw [View.canon_unit_zero hzo]
  simp only [View.ld_unit_zero (S := S1024x2048) hzx, View.ld_unit_zero (S := S16x1024) hzt]
  refine (q_apply x0 x5 x6 x1 e r).trans ?_
  unfold Gq
  refine congrArg (· * _) ?_
  simp only [mm6, h0, h1, h5, h6]
  rfl

/-- The keys' block. -/
theorem out10_spec (h0 : ∀ r k, (x0 : S1024x2048.Idx → EReal) (ix2 r k) = Gx X (rowOf a r) k)
    (h2 : ∀ (e : Fin 512) k, (x2 : S512x2048.Idx → EReal) (ix2 e k) = W (ix3 0 k ⟨1024 + e.val, by omega⟩))
    (h5 : ∀ j r, (x5 : S16x1024.Idx → EReal) (ix2 j r) = cosT 0x42000000#32 (pos (rowOf a r)) j)
    (h6 : ∀ j r, (x6 : S16x1024.Idx → EReal) (ix2 j r) = sinT 0x42000000#32 (pos (rowOf a r)) j) (r : Fin 1024) (e : Fin 256) :
    (out0_10 (F := Ideal) x0 x1 x2 x3 x4 x5 x6 x7 x8 : S1024x256.Idx → EReal) (ix2 r e) = Gk X W (rowOf a r) e := by
  have hzx : (![0, 0] : Fin S1024x2048.rank → Nat) = fun _ => 0 := funext fun a => by fin_cases a <;> rfl
  have hzw : (![0, 0] : Fin S512x2048.rank → Nat) = fun _ => 0 := funext fun a => by fin_cases a <;> rfl
  have hzt : (![0, 0] : Fin S16x1024.rank → Nat) = fun _ => 0 := funext fun a => by fin_cases a <;> rfl
  have hzo : (![0, 0] : Fin S1024x256.rank → Nat) = fun _ => 0 := funext fun a => by fin_cases a <;> rfl
  unfold_out out0_10
  rw [View.canon_unit_zero hzo]
  simp only [View.ld_unit_zero (S := S1024x2048) hzx, View.ld_unit_zero (S := S16x1024) hzt, View.ld_unit_zero (S := S512x2048) hzw]
  refine (k_apply (k0_pay2 x5) (k0_pay3 x6) (k0_pay25 (k0_pay1 x0) x2) r e).trans ?_
  unfold Gk
  simp only [k_half, mm24, same1, same2, same3, h0, h2, h5, h6]
  rfl

/-- The indexer's queries' block. -/
theorem out12_spec (h0 : ∀ r k, (x0 : S1024x2048.Idx → EReal) (ix2 r k) = Gx X (rowOf a r) k)
    (h3 : ∀ (e : Fin 1024) k, (x3 : S1024x2048.Idx → EReal) (ix2 e k) = W (ix3 0 k ⟨2560 + e.val, by omega⟩))
    (h7 : ∀ j r, (x7 : S8x1024.Idx → EReal) (ix2 j r) = cosT 0x41800000#32 (pos (rowOf a r)) j)
    (h8 : ∀ j r, (x8 : S8x1024.Idx → EReal) (ix2 j r) = sinT 0x41800000#32 (pos (rowOf a r)) j) (e r : Fin 1024) :
    (out0_12 (F := Ideal) x0 x1 x2 x3 x4 x5 x6 x7 x8 : S1024x1024.Idx → EReal) (ix2 e r) = Gqi X W e (rowOf a r) := by
  have hzx : (![0, 0] : Fin S1024x2048.rank → Nat) = fun _ => 0 := funext fun a => by fin_cases a <;> rfl
  have hzt : (![0, 0] : Fin S8x1024.rank → Nat) = fun _ => 0 := funext fun a => by fin_cases a <;> rfl
  have hzo : (![0, 0] : Fin S1024x1024.rank → Nat) = fun _ => 0 := funext fun a => by fin_cases a <;> rfl
  unfold_out out0_12
  rw [View.canon_unit_zero hzo]
  simp only [View.ld_unit_zero (S := S1024x2048) hzx, View.ld_unit_zero (S := S8x1024) hzt]
  refine (qi_apply (k0_pay1 x0) (k0_pay4 x7) (k0_pay5 x8) x3 e r).trans ?_
  unfold Gqi
  simp only [mm37, same1, same4, same5, h0, h3, h7, h8]
  rfl

/-- The indexer's key's block. -/
theorem out13_spec (h0 : ∀ r k, (x0 : S1024x2048.Idx → EReal) (ix2 r k) = Gx X (rowOf a r) k)
    (h4 : ∀ (e : Fin 80) k, (x4 : S128x2048.Idx → EReal) (ix2 ⟨e.val, by omega⟩ k) = W (ix3 0 k ⟨3584 + e.val, by omega⟩))
    (h7 : ∀ j r, (x7 : S8x1024.Idx → EReal) (ix2 j r) = cosT 0x41800000#32 (pos (rowOf a r)) j)
    (h8 : ∀ j r, (x8 : S8x1024.Idx → EReal) (ix2 j r) = sinT 0x41800000#32 (pos (rowOf a r)) j) (r : Fin 1024) (e : Fin 64) :
    (out0_13 (F := Ideal) x0 x1 x2 x3 x4 x5 x6 x7 x8 : S1024x64.Idx → EReal) (ix2 r e) = Gki X W (rowOf a r) e := by
  have hzx : (![0, 0] : Fin S1024x2048.rank → Nat) = fun _ => 0 := funext fun a => by fin_cases a <;> rfl
  have hzw : (![0, 0] : Fin S128x2048.rank → Nat) = fun _ => 0 := funext fun a => by fin_cases a <;> rfl
  have hzt : (![0, 0] : Fin S8x1024.rank → Nat) = fun _ => 0 := funext fun a => by fin_cases a <;> rfl
  have hzo : (![0, 0] : Fin S1024x64.rank → Nat) = fun _ => 0 := funext fun a => by fin_cases a <;> rfl
  unfold_out out0_13
  rw [View.canon_unit_zero hzo]
  simp only [View.ld_unit_zero (S := S1024x2048) hzx, View.ld_unit_zero (S := S8x1024) hzt, View.ld_unit_zero (S := S128x2048) hzw]
  refine (kidx_apply (k0_pay1 x0) (k0_pay4 x7) (k0_pay5 x8) x4 r e).trans ?_
  unfold Gki
  have hT : (fun c : Fin 64 => (k0_pay119 (F := Ideal) (k0_pay1 x0) x4 : S128x1024.Idx → EReal) (ix2 ⟨c.val, by omega⟩ r))
      = fun c : Fin 64 => dotrow X W (bat (rowOf a r)) (pos (rowOf a r)) ⟨3584 + c.val, by omega⟩ := by
    funext c
    refine (mm119 _ _ _ _).trans ?_
    unfold dotrow
    refine Finset.sum_congr rfl fun k _ => ?_
    rw [same1, h0]
    exact congrArg (_ * ·) (h4 ⟨c.val, by omega⟩ k)
  rw [hT]
  simp only [same4, same5, h7, h8]

/-- The indexer's weights' block. -/
theorem out14_spec (h0 : ∀ r k, (x0 : S1024x2048.Idx → EReal) (ix2 r k) = Gx X (rowOf a r) k)
    (h4 : ∀ (e : Fin 80) k, (x4 : S128x2048.Idx → EReal) (ix2 ⟨e.val, by omega⟩ k) = W (ix3 0 k ⟨3584 + e.val, by omega⟩))
    (e : Fin 16) (r : Fin 1024) :
    (out0_14 (F := Ideal) x0 x1 x2 x3 x4 x5 x6 x7 x8 : S16x1024.Idx → EReal) (ix2 e r) = Gw X W e (rowOf a r) := by
  have hzx : (![0, 0] : Fin S1024x2048.rank → Nat) = fun _ => 0 := funext fun a => by fin_cases a <;> rfl
  have hzw : (![0, 0] : Fin S128x2048.rank → Nat) = fun _ => 0 := funext fun a => by fin_cases a <;> rfl
  have hzo : (![0, 0] : Fin S16x1024.rank → Nat) = fun _ => 0 := funext fun a => by fin_cases a <;> rfl
  unfold_out out0_14
  rw [View.canon_unit_zero hzo]
  simp only [View.ld_unit_zero (S := S1024x2048) hzx, View.ld_unit_zero (S := S128x2048) hzw]
  refine (w_apply (k0_pay1 x0) x4 e r).trans ?_
  unfold Gw
  refine congrArg (· * _) ?_
  refine (mm119 _ _ _ _).trans ?_
  unfold dotrow
  refine Finset.sum_congr rfl fun k _ => ?_
  rw [same1, h0]
  refine congrArg (_ * ·) ((h4 ⟨64 + e.val, by omega⟩ k).trans ?_)
  exact congrArg (fun e : Fin 6752 => W (ix3 0 k e)) (Fin.ext (by show 3584 + (64 + e.val) = 3648 + e.val; omega))

/-- The input's block. -/
theorem out15_spec (h0 : ∀ r k, (x0 : S1024x2048.Idx → EReal) (ix2 r k) = Gx X (rowOf a r) k) (r : Fin 1024) (k : Fin 2048) :
    (out0_15 (F := Ideal) x0 x1 x2 x3 x4 x5 x6 x7 x8 : S1024x2048.Idx → EReal) (ix2 r k) = Gx X (rowOf a r) k := by
  have hzx : (![0, 0] : Fin S1024x2048.rank → Nat) = fun _ => 0 := funext fun a => by fin_cases a <;> rfl
  unfold_out out0_15
  rw [View.canon_unit_zero hzx]
  simp only [View.ld_unit_zero (S := S1024x2048) hzx]
  exact (same1 x0 r k).trans (h0 r k)

/-- An entry inside the last piece written reads that piece. -/
theorem v_in (o p : Nat) (inb : ∀ a, (![o, p, 0] : Fin S4x288x256.rank → Nat) a + S1x144x256.size a ≤ S4x288x256.size a)
    (w : Vec Ideal S1x144x256 .bf16) (L : List (View.Piece (Elt Ideal) S4x288x256 .bf16)) (b : Fin 4) (e : Fin 288) (t : Fin 256) (c : Fin 144)
    (hb : b.val = o) (he : e.val = p + c.val) :
    View.canon ((⟨Rect.unit (s := S4x288x256) ![o, p, 0] S1x144x256.size inb, w⟩ : View.Piece (Elt Ideal) S4x288x256 .bf16) :: L) (ix3 b e t)
      = w (ix3 0 c t) := by
  have e' : (ix3 b e t : S4x288x256.Idx) = (Rect.unit (s := S4x288x256) ![o, p, 0] S1x144x256.size inb).emb (ix3 0 c t : S1x144x256.Idx) := by
    funext a
    apply Fin.ext
    match a with
    | ⟨0, _⟩ => show b.val = o + 1 * 0
                omega
    | ⟨1, _⟩ => show e.val = p + 1 * c.val
                omega
    | ⟨2, _⟩ => show t.val = 0 + 1 * t.val
                omega
  exact (congrArg (View.canon _) e').trans (View.canon_cons_emb (Rect.unit (s := S4x288x256) ![o, p, 0] S1x144x256.size inb) w L (ix3 0 c t : S1x144x256.Idx))

/-- An entry outside it reads the pieces written before. -/
theorem v_out (o p : Nat) (inb : ∀ a, (![o, p, 0] : Fin S4x288x256.rank → Nat) a + S1x144x256.size a ≤ S4x288x256.size a)
    (w : Vec Ideal S1x144x256 .bf16) (L : List (View.Piece (Elt Ideal) S4x288x256 .bf16)) (b : Fin 4) (e : Fin 288) (t : Fin 256)
    (h : b.val ≠ o ∨ e.val < p ∨ p + 144 ≤ e.val) :
    View.canon ((⟨Rect.unit (s := S4x288x256) ![o, p, 0] S1x144x256.size inb, w⟩ : View.Piece (Elt Ideal) S4x288x256 .bf16) :: L) (ix3 b e t)
      = View.canon L (ix3 b e t) := by
  refine View.canon_cons_of_not_mem _ _ fun hm => ?_
  have hm' : (ix3 b e t : S4x288x256.Idx) ∈ (Rect.unit (s := S4x288x256) ![o, p, 0] S1x144x256.size inb).set := hm
  rw [Rect.mem_set_unit] at hm'
  have ha : o ≤ b.val ∧ b.val < o + 1 := hm' (0 : Fin 3)
  have hb : p ≤ e.val ∧ e.val < p + 144 := hm' (1 : Fin 3)
  omega

/-- The values' block, of the projection's rows. -/
theorem v_rows (b : Fin 4) (e : Fin 288) (t : Fin 256) :
    (out0_11 (F := Ideal) x0 x1 x2 x3 x4 x5 x6 x7 x8 : S4x288x256.Idx → EReal) (ix3 b e t)
      = vRow (k0_pay24 (F := Ideal) (k0_pay1 x0) x2) b e t := by
  have hzx : (![0, 0] : Fin S1024x2048.rank → Nat) = fun _ => 0 := funext fun a => by fin_cases a <;> rfl
  have hzw : (![0, 0] : Fin S512x2048.rank → Nat) = fun _ => 0 := funext fun a => by fin_cases a <;> rfl
  have he := e.isLt
  unfold_out out0_11
  simp only [View.ld_unit_zero (S := S1024x2048) hzx, View.ld_unit_zero (S := S512x2048) hzw]
  by_cases h31 : b.val = 3 ∧ 144 ≤ e.val
  · obtain rfl : b = 3 := Fin.ext h31.1
    have hc : e.val = 144 + (⟨e.val - 144, by omega⟩ : Fin 144).val := by show e.val = 144 + (e.val - 144); omega
    exact (v_in 3 144 _ _ _ 3 e t _ rfl hc).trans (v_piece_3_1 _ e _ t hc)
  refine (v_out 3 144 _ _ _ b e t (by omega)).trans ?_
  by_cases h30 : b.val = 3 ∧ 0 ≤ e.val ∧ e.val < 144
  · obtain rfl : b = 3 := Fin.ext h30.1
    have hc : e.val = 0 + (⟨e.val - 0, by omega⟩ : Fin 144).val := by show e.val = 0 + (e.val - 0); omega
    exact (v_in 3 0 _ _ _ 3 e t _ rfl hc).trans (v_piece_3_0 _ e _ t hc)
  refine (v_out 3 0 _ _ _ b e t (by omega)).trans ?_
  by_cases h21 : b.val = 2 ∧ 144 ≤ e.val
  · obtain rfl : b = 2 := Fin.ext h21.1
    have hc : e.val = 144 + (⟨e.val - 144, by omega⟩ : Fin 144).val := by show e.val = 144 + (e.val - 144); omega
    exact (v_in 2 144 _ _ _ 2 e t _ rfl hc).trans (v_piece_2_1 _ e _ t hc)
  refine (v_out 2 144 _ _ _ b e t (by omega)).trans ?_
  by_cases h20 : b.val = 2 ∧ 0 ≤ e.val ∧ e.val < 144
  · obtain rfl : b = 2 := Fin.ext h20.1
    have hc : e.val = 0 + (⟨e.val - 0, by omega⟩ : Fin 144).val := by show e.val = 0 + (e.val - 0); omega
    exact (v_in 2 0 _ _ _ 2 e t _ rfl hc).trans (v_piece_2_0 _ e _ t hc)
  refine (v_out 2 0 _ _ _ b e t (by omega)).trans ?_
  by_cases h11 : b.val = 1 ∧ 144 ≤ e.val
  · obtain rfl : b = 1 := Fin.ext h11.1
    have hc : e.val = 144 + (⟨e.val - 144, by omega⟩ : Fin 144).val := by show e.val = 144 + (e.val - 144); omega
    exact (v_in 1 144 _ _ _ 1 e t _ rfl hc).trans (v_piece_1_1 _ e _ t hc)
  refine (v_out 1 144 _ _ _ b e t (by omega)).trans ?_
  by_cases h10 : b.val = 1 ∧ 0 ≤ e.val ∧ e.val < 144
  · obtain rfl : b = 1 := Fin.ext h10.1
    have hc : e.val = 0 + (⟨e.val - 0, by omega⟩ : Fin 144).val := by show e.val = 0 + (e.val - 0); omega
    exact (v_in 1 0 _ _ _ 1 e t _ rfl hc).trans (v_piece_1_0 _ e _ t hc)
  refine (v_out 1 0 _ _ _ b e t (by omega)).trans ?_
  by_cases h01 : b.val = 0 ∧ 144 ≤ e.val
  · obtain rfl : b = 0 := Fin.ext h01.1
    have hc : e.val = 144 + (⟨e.val - 144, by omega⟩ : Fin 144).val := by show e.val = 144 + (e.val - 144); omega
    exact (v_in 0 144 _ _ _ 0 e t _ rfl hc).trans (v_piece_0_1 _ e _ t hc)
  refine (v_out 0 144 _ _ _ b e t (by omega)).trans ?_
  obtain rfl : b = 0 := Fin.ext (by show b.val = 0; omega)
  exact (v_in 0 0 _ _ _ 0 e t ⟨e.val, by omega⟩ rfl (by show e.val = 0 + e.val; omega)).trans (v_piece_0_0 _ e _ t (by show e.val = 0 + e.val; omega))

/-- The values' block. -/
theorem out11_spec (h0 : ∀ r k, (x0 : S1024x2048.Idx → EReal) (ix2 r k) = Gx X (rowOf a r) k)
    (h2 : ∀ (e : Fin 512) k, (x2 : S512x2048.Idx → EReal) (ix2 e k) = W (ix3 0 k ⟨1024 + e.val, by omega⟩))
    (b : Fin 4) (e : Fin 288) (t : Fin 256) :
    (out0_11 (F := Ideal) x0 x1 x2 x3 x4 x5 x6 x7 x8 : S4x288x256.Idx → EReal) (ix3 b e t) = Gv X W ⟨a.val * 4 + b.val, by omega⟩ e t := by
  refine (v_rows x0 x1 x2 x3 x4 x5 x6 x7 x8 b e t).trans ?_
  unfold vRow Gv
  by_cases h : e.val % 144 < 128
  · rw [dif_pos h, dif_pos h]
    refine (mm24 _ _ _ _).trans ?_
    unfold dotrow
    refine Finset.sum_congr rfl fun k _ => ?_
    rw [same1, h0, h2]
    refine congrArg₂ (· * ·) ?_ ?_
    · unfold Gx bat pos rowOf
      refine congrArg₂ (fun (b : Fin 8) (s : Fin 4096) => X (ix3 b s k)) (Fin.ext ?_) (Fin.ext ?_) <;> dsimp only <;> omega
    · exact congrArg (fun e : Fin 6752 => W (ix3 0 k e)) (Fin.ext (by dsimp only; omega))
  · rw [dif_neg h, dif_neg h]

end

end Cert.Proof.ProjT

end
-- ==== Proof.ProjT.lean ====
module
public import proofs.«01_k».proof.Defs
public import proofs.«01_k».proof.Proof.TurnedRef
public import proofs.«01_k».proof.Proof.TurnedEntry
public import proofs.«01_k».proof.Proof.BodyOut
public import proofs.«01_k».proof.Proof.Gen.Kernel4Ideal.Value
public import proofs.«01_k».proof.Proof.Gen.Reference4Ideal.Read
public import Idealize.ShloMosaic.Lib.Pipeline.Value
public import Idealize.ShloMosaic.Lib.Pointwise
public import Idealize.ShloMosaic.Lib.Pipeline.ValueKit.Point

@[expose] public section

/-! # The projections the attention reads

Every result of the kernel and of its reference is found to be the same function of the input and the weights: columns of
the projection, the heads of queries and keys turned by their position's angles. -/

set_option maxRecDepth 16384

noncomputable section

namespace Cert.Proof.ProjT

open Idealize.ShloMosaic Idealize.ShloMosaic.TcCoe Idealize.SL.Sem
open Cert.Kernel4Ideal Cert.Kernel4Ideal.Gen
open Idealize.ShloMosaic.Pipeline (Dat Cfg Window)

variable (m : (ℓ : Loc nD τ sig) → Buf (Elt Ideal) ℓ) (ρ : Dev nD → PrngReg)

/-- The queries as an array. -/
def R9 (X : S8x4096x2048.Idx → EReal) (W : S1x2048x6752.Idx → EReal) : S1024x32768.Idx → EReal :=
  fun i => Gq X W (i 0) (i 1)

/-- The keys as an array. -/
def R10 (X : S8x4096x2048.Idx → EReal) (W : S1x2048x6752.Idx → EReal) : S32768x256.Idx → EReal :=
  fun i => Gk X W (i 0) (i 1)

/-- The values as an array. -/
def R11 (X : S8x4096x2048.Idx → EReal) (W : S1x2048x6752.Idx → EReal) : S128x288x256.Idx → EReal :=
  fun i => Gv X W (i 0) (i 1) (i 2)

/-- The indexer's queries as an array. -/
def R12 (X : S8x4096x2048.Idx → EReal) (W : S1x2048x6752.Idx → EReal) : S1024x32768.Idx → EReal :=
  fun i => Gqi X W (i 0) (i 1)

/-- The indexer's key as an array. -/
def R13 (X : S8x4096x2048.Idx → EReal) (W : S1x2048x6752.Idx → EReal) : S32768x64.Idx → EReal :=
  fun i => Gki X W (i 0) (i 1)

/-- The indexer's weights as an array. -/
def R14 (X : S8x4096x2048.Idx → EReal) (W : S1x2048x6752.Idx → EReal) : S16x32768.Idx → EReal :=
  fun i => Gw X W (i 0) (i 1)

/-- The input as an array. -/
def R15 (X : S8x4096x2048.Idx → EReal) : S32768x2048.Idx → EReal := fun i => Gx X (i 0) (i 1)

/-- Where each window's block lies at each point. -/
theorem idx_facts : ∀ t : Fin cfg0.N, win0_15.index t 0 < 32
    ∧ win0_0.index t 0 = win0_15.index t 0
    ∧ win0_0.index t 1 = 0
    ∧ win0_1.index t 0 = 0
    ∧ win0_1.index t 1 = 0
    ∧ win0_2.index t 0 = 0
    ∧ win0_2.index t 1 = 0
    ∧ win0_3.index t 0 = 0
    ∧ win0_3.index t 1 = 0
    ∧ win0_4.index t 0 = 0
    ∧ win0_4.index t 1 = 0
    ∧ win0_5.index t 0 = 0
    ∧ win0_5.index t 1 = win0_15.index t 0 % 4
    ∧ win0_6.index t 0 = 0
    ∧ win0_6.index t 1 = win0_15.index t 0 % 4
    ∧ win0_7.index t 0 = 0
    ∧ win0_7.index t 1 = win0_15.index t 0 % 4
    ∧ win0_8.index t 0 = 0
    ∧ win0_8.index t 1 = win0_15.index t 0 % 4
    ∧ win0_9.index t 0 = 0
    ∧ win0_9.index t 1 = win0_15.index t 0
    ∧ win0_10.index t 0 = win0_15.index t 0
    ∧ win0_10.index t 1 = 0
    ∧ win0_11.index t 0 = win0_15.index t 0
    ∧ win0_11.index t 1 = 0
    ∧ win0_11.index t 2 = 0
    ∧ win0_12.index t 0 = 0
    ∧ win0_12.index t 1 = win0_15.index t 0
    ∧ win0_13.index t 0 = win0_15.index t 0
    ∧ win0_13.index t 1 = 0
    ∧ win0_14.index t 0 = 0
    ∧ win0_14.index t 1 = win0_15.index t 0
    ∧ win0_15.index t 1 = 0 := by
  decide +kernel

/-- The block of rows a point works on. -/
def blkOf (t : Fin cfg0.N) : Fin 32 := ⟨win0_15.index t 0, (idx_facts t).1⟩

/-- The input's block. -/
theorem blk_x (c : Dev nD) (t : Fin cfg0.N) (r : Fin 1024) (k : Fin 2048) :
    (iblk m c 0 t : S1024x2048.Idx → EReal) (ix2 r k) = Gx (m ((c : Thread nD τ).loc main_arg0)) (rowOf (blkOf t) r) k := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e1_0 e1_1 e2_0 e2_1 e3_0 e3_1 e4_0 e4_1 e5_0 e5_1 e6_0 e6_1 e7_0 e7_1 e8_0 e8_1 e9_0 e9_1 e10_0 e10_1 e11_0 e11_1 e11_2 e12_0 e12_1 e13_0 e13_1 e14_0 e14_1 e15_1
  have hi : ((cfg0.win 0).blk t).view.emb (ix2 r k) = (ix2 ⟨win0_15.index t 0 * 1024 + r.val, by omega⟩ k : S32768x2048.Idx) := by
    funext a
    apply Fin.ext
    match a with
    | ⟨0, _⟩ => blk_simp [e0_0]
    | ⟨1, _⟩ => blk_simp [e0_1]
  show V m c main_v0 (((cfg0.win 0).blk t).view.emb (ix2 r k)) = _
  rw [hi]
  exact entry_x m c _ k

/-- The queries' weights. -/
theorem blk_wq (c : Dev nD) (t : Fin cfg0.N) (e : Fin 1024) (k : Fin 2048) :
    (iblk m c 1 t : S1024x2048.Idx → EReal) (ix2 e k) = (m ((c : Thread nD τ).loc main_arg1) : S1x2048x6752.Idx → EReal) (ix3 0 k ⟨e.val, by omega⟩) := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e2_0 e2_1 e3_0 e3_1 e4_0 e4_1 e5_0 e5_1 e6_0 e6_1 e7_0 e7_1 e8_0 e8_1 e9_0 e9_1 e10_0 e10_1 e11_0 e11_1 e11_2 e12_0 e12_1 e13_0 e13_1 e14_0 e14_1 e15_1
  have hi : ((cfg0.win 1).blk t).view.emb (ix2 e k) = (ix2 e k : S1024x2048.Idx) := by
    funext a
    apply Fin.ext
    match a with
    | ⟨0, _⟩ => blk_simp [e1_0]
    | ⟨1, _⟩ => blk_simp [e1_1]
  show V m c main_v9 (((cfg0.win 1).blk t).view.emb (ix2 e k)) = _
  rw [hi]
  exact entry_wq m c e k

/-- The keys' and values' weights. -/
theorem blk_wkv (c : Dev nD) (t : Fin cfg0.N) (e : Fin 512) (k : Fin 2048) :
    (iblk m c 2 t : S512x2048.Idx → EReal) (ix2 e k) = (m ((c : Thread nD τ).loc main_arg1) : S1x2048x6752.Idx → EReal) (ix3 0 k ⟨1024 + e.val, by omega⟩) := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e1_0 e1_1 e3_0 e3_1 e4_0 e4_1 e5_0 e5_1 e6_0 e6_1 e7_0 e7_1 e8_0 e8_1 e9_0 e9_1 e10_0 e10_1 e11_0 e11_1 e11_2 e12_0 e12_1 e13_0 e13_1 e14_0 e14_1 e15_1
  have hi : ((cfg0.win 2).blk t).view.emb (ix2 e k) = (ix2 e k : S512x2048.Idx) := by
    funext a
    apply Fin.ext
    match a with
    | ⟨0, _⟩ => blk_simp [e2_0]
    | ⟨1, _⟩ => blk_simp [e2_1]
  show V m c main_v10 (((cfg0.win 2).blk t).view.emb (ix2 e k)) = _
  rw [hi]
  exact entry_wkv m c e k

/-- The indexer's queries' weights. -/
theorem blk_wqi (c : Dev nD) (t : Fin cfg0.N) (e : Fin 1024) (k : Fin 2048) :
    (iblk m c 3 t : S1024x2048.Idx → EReal) (ix2 e k) = (m ((c : Thread nD τ).loc main_arg1) : S1x2048x6752.Idx → EReal) (ix3 0 k ⟨2560 + e.val, by omega⟩) := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e1_0 e1_1 e2_0 e2_1 e4_0 e4_1 e5_0 e5_1 e6_0 e6_1 e7_0 e7_1 e8_0 e8_1 e9_0 e9_1 e10_0 e10_1 e11_0 e11_1 e11_2 e12_0 e12_1 e13_0 e13_1 e14_0 e14_1 e15_1
  have hi : ((cfg0.win 3).blk t).view.emb (ix2 e k) = (ix2 e k : S1024x2048.Idx) := by
    funext a
    apply Fin.ext
    match a with
    | ⟨0, _⟩ => blk_simp [e3_0]
    | ⟨1, _⟩ => blk_simp [e3_1]
  show V m c main_v11 (((cfg0.win 3).blk t).view.emb (ix2 e k)) = _
  rw [hi]
  exact entry_wqi m c e k

/-- The indexer's key's and weights' weights. -/
theorem blk_wkw (c : Dev nD) (t : Fin cfg0.N) (e : Fin 80) (k : Fin 2048) :
    (iblk m c 4 t : S128x2048.Idx → EReal) (ix2 ⟨e.val, by omega⟩ k) = (m ((c : Thread nD τ).loc main_arg1) : S1x2048x6752.Idx → EReal) (ix3 0 k ⟨3584 + e.val, by omega⟩) := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e1_0 e1_1 e2_0 e2_1 e3_0 e3_1 e5_0 e5_1 e6_0 e6_1 e7_0 e7_1 e8_0 e8_1 e9_0 e9_1 e10_0 e10_1 e11_0 e11_1 e11_2 e12_0 e12_1 e13_0 e13_1 e14_0 e14_1 e15_1
  have hi : ((cfg0.win 4).blk t).view.emb (ix2 ⟨e.val, by omega⟩ k) = (ix2 ⟨e.val, by omega⟩ k : S128x2048.Idx) := by
    funext a
    apply Fin.ext
    match a with
    | ⟨0, _⟩ => blk_simp [e4_0]
    | ⟨1, _⟩ => blk_simp [e4_1]
  show V m c main_v13 (((cfg0.win 4).blk t).view.emb (ix2 ⟨e.val, by omega⟩ k)) = _
  rw [hi]
  exact entry_wkw m c e k

/-- The heads' cosines. -/
theorem blk_ca (c : Dev nD) (t : Fin cfg0.N) (j : Fin 16) (r : Fin 1024) :
    (iblk m c 5 t : S16x1024.Idx → EReal) (ix2 j r) = cosT 0x42000000#32 (pos (rowOf (blkOf t) r)) j := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e1_0 e1_1 e2_0 e2_1 e3_0 e3_1 e4_0 e4_1 e6_0 e6_1 e7_0 e7_1 e8_0 e8_1 e9_0 e9_1 e10_0 e10_1 e11_0 e11_1 e11_2 e12_0 e12_1 e13_0 e13_1 e14_0 e14_1 e15_1
  have hi : ((cfg0.win 5).blk t).view.emb (ix2 j r) = (ix2 j ⟨win0_15.index t 0 % 4 * 1024 + r.val, by omega⟩ : S16x4096.Idx) := by
    funext a
    apply Fin.ext
    match a with
    | ⟨0, _⟩ => blk_simp [e5_0]
    | ⟨1, _⟩ => blk_simp [e5_1]
  show V m c main_v28 (((cfg0.win 5).blk t).view.emb (ix2 j r)) = _
  rw [hi]
  refine (entry_ca m c j _).trans (congrArg (fun s : Fin 4096 => cosT 0x42000000#32 s j) (Fin.ext ?_))
  show win0_15.index t 0 % 4 * 1024 + r.val = (win0_15.index t 0 * 1024 + r.val) % 4096
  omega

/-- The heads' sines. -/
theorem blk_sa (c : Dev nD) (t : Fin cfg0.N) (j : Fin 16) (r : Fin 1024) :
    (iblk m c 6 t : S16x1024.Idx → EReal) (ix2 j r) = sinT 0x42000000#32 (pos (rowOf (blkOf t) r)) j := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e1_0 e1_1 e2_0 e2_1 e3_0 e3_1 e4_0 e4_1 e5_0 e5_1 e7_0 e7_1 e8_0 e8_1 e9_0 e9_1 e10_0 e10_1 e11_0 e11_1 e11_2 e12_0 e12_1 e13_0 e13_1 e14_0 e14_1 e15_1
  have hi : ((cfg0.win 6).blk t).view.emb (ix2 j r) = (ix2 j ⟨win0_15.index t 0 % 4 * 1024 + r.val, by omega⟩ : S16x4096.Idx) := by
    funext a
    apply Fin.ext
    match a with
    | ⟨0, _⟩ => blk_simp [e6_0]
    | ⟨1, _⟩ => blk_simp [e6_1]
  show V m c main_v29 (((cfg0.win 6).blk t).view.emb (ix2 j r)) = _
  rw [hi]
  refine (entry_sa m c j _).trans (congrArg (fun s : Fin 4096 => sinT 0x42000000#32 s j) (Fin.ext ?_))
  show win0_15.index t 0 % 4 * 1024 + r.val = (win0_15.index t 0 * 1024 + r.val) % 4096
  omega

/-- The indexer's cosines. -/
theorem blk_ci (c : Dev nD) (t : Fin cfg0.N) (j : Fin 8) (r : Fin 1024) :
    (iblk m c 7 t : S8x1024.Idx → EReal) (ix2 j r) = cosT 0x41800000#32 (pos (rowOf (blkOf t) r)) j := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e1_0 e1_1 e2_0 e2_1 e3_0 e3_1 e4_0 e4_1 e5_0 e5_1 e6_0 e6_1 e8_0 e8_1 e9_0 e9_1 e10_0 e10_1 e11_0 e11_1 e11_2 e12_0 e12_1 e13_0 e13_1 e14_0 e14_1 e15_1
  have hi : ((cfg0.win 7).blk t).view.emb (ix2 j r) = (ix2 j ⟨win0_15.index t 0 % 4 * 1024 + r.val, by omega⟩ : S8x4096.Idx) := by
    funext a
    apply Fin.ext
    match a with
    | ⟨0, _⟩ => blk_simp [e7_0]
    | ⟨1, _⟩ => blk_simp [e7_1]
  show V m c main_v44 (((cfg0.win 7).blk t).view.emb (ix2 j r)) = _
  rw [hi]
  refine (entry_ci m c j _).trans (congrArg (fun s : Fin 4096 => cosT 0x41800000#32 s j) (Fin.ext ?_))
  show win0_15.index t 0 % 4 * 1024 + r.val = (win0_15.index t 0 * 1024 + r.val) % 4096
  omega

/-- The indexer's sines. -/
theorem blk_si (c : Dev nD) (t : Fin cfg0.N) (j : Fin 8) (r : Fin 1024) :
    (iblk m c 8 t : S8x1024.Idx → EReal) (ix2 j r) = sinT 0x41800000#32 (pos (rowOf (blkOf t) r)) j := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  clear e0_0 e0_1 e1_0 e1_1 e2_0 e2_1 e3_0 e3_1 e4_0 e4_1 e5_0 e5_1 e6_0 e6_1 e7_0 e7_1 e9_0 e9_1 e10_0 e10_1 e11_0 e11_1 e11_2 e12_0 e12_1 e13_0 e13_1 e14_0 e14_1 e15_1
  have hi : ((cfg0.win 8).blk t).view.emb (ix2 j r) = (ix2 j ⟨win0_15.index t 0 % 4 * 1024 + r.val, by omega⟩ : S8x4096.Idx) := by
    funext a
    apply Fin.ext
    match a with
    | ⟨0, _⟩ => blk_simp [e8_0]
    | ⟨1, _⟩ => blk_simp [e8_1]
  show V m c main_v45 (((cfg0.win 8).blk t).view.emb (ix2 j r)) = _
  rw [hi]
  refine (entry_si m c j _).trans (congrArg (fun s : Fin 4096 => sinT 0x41800000#32 s j) (Fin.ext ?_))
  show win0_15.index t 0 % 4 * 1024 + r.val = (win0_15.index t 0 * 1024 + r.val) % 4096
  omega

/-- Each point writes back its block of the queries. -/
theorem flushed9 (c : Dev nD) (t : Fin cfg0.N) :
    (dats m 0 c).flushed 9 t = ((cfg0.win 9).blk t).view.read (Elt Ideal) (R9 (m ((c : Thread nD τ).loc main_arg0)) (m ((c : Thread nD τ).loc main_arg1))) := by
  rw [Value.flushed9]
  funext y
  obtain ⟨e, r, rfl⟩ : ∃ (e : Fin 1024) (r : Fin 1024), y = ix2 e r := ⟨y 0, y 1, eq_ix2 y⟩
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have hi : ((cfg0.win 9).blk t).view.emb (ix2 e r) = (ix2 e ⟨win0_15.index t 0 * 1024 + r.val, by omega⟩ : S1024x32768.Idx) := by
    funext a
    apply Fin.ext
    match a with
    | ⟨0, _⟩ => blk_simp [e9_0]
    | ⟨1, _⟩ => blk_simp [e9_1]
  show (out0_9 (F := Ideal) (iblk m c 0 t) (iblk m c 1 t) (iblk m c 2 t) (iblk m c 3 t) (iblk m c 4 t) (iblk m c 5 t) (iblk m c 6 t)
    (iblk m c 7 t) (iblk m c 8 t) : S1024x1024.Idx → EReal) (ix2 e r) = R9 _ _ (((cfg0.win 9).blk t).view.emb (ix2 e r))
  rw [hi]
  exact out9_spec (m ((c : Thread nD τ).loc main_arg0)) (m ((c : Thread nD τ).loc main_arg1)) (blkOf t) _ _ _ _ _ _ _ _ _ (blk_x m c t) (blk_wq m c t) (blk_ca m c t) (blk_sa m c t) e r

/-- An index lies in the block it names. -/
theorem mem9 (t : Fin cfg0.N) (i : S1024x32768.Idx) (h : (i 1).val / 1024 = win0_15.index t 0) : i ∈ ((cfg0.win 9).blk t).view.set := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have i0 : (i 0).val < 1024 := (i 0).isLt
  have i1 : (i 1).val < 32768 := (i 1).isLt
  show i ∈ ((View.whole main_v46_0).slice (win0_9.rect t)).set
  rw [View.set_slice_whole, Rect.mem_set_unit]
  intro a
  match a with
  | ⟨0, _⟩ => show win0_9.index t 0 * 1024 ≤ (i 0).val ∧ (i 0).val < win0_9.index t 0 * 1024 + 1024
              omega
  | ⟨1, _⟩ => show win0_9.index t 1 * 1024 ≤ (i 1).val ∧ (i 1).val < win0_9.index t 1 * 1024 + 1024
              omega

/-- Every block is some point's. -/
theorem surj9 : ∀ a : Fin 32, ∃ t : Fin cfg0.N, (cfg0.win 9).flush t = true ∧ a.val = win0_15.index t 0 := by
  decide +kernel

/-- The kernel's queries. -/
theorem final9 (c : Dev nD) : (dats m 0 c).arrAt 9 cfg0.N = R9 (m ((c : Thread nD τ).loc main_arg0)) (m ((c : Thread nD τ).loc main_arg1)) :=
  (dats m 0 c).arrAt_eq_of_cover 9 _ (fun t _ => flushed9 m c t) fun i => by
    have h : (i 1).val < 32768 := (i 1).isLt
    obtain ⟨t, hf, ha⟩ := surj9 ⟨(i 1).val / 1024, by omega⟩
    exact ⟨t, hf, mem9 t i ha⟩

/-- Each point writes back its block of the keys. -/
theorem flushed10 (c : Dev nD) (t : Fin cfg0.N) :
    (dats m 0 c).flushed 10 t = ((cfg0.win 10).blk t).view.read (Elt Ideal) (R10 (m ((c : Thread nD τ).loc main_arg0)) (m ((c : Thread nD τ).loc main_arg1))) := by
  rw [Value.flushed10]
  funext y
  obtain ⟨r, e, rfl⟩ : ∃ (r : Fin 1024) (e : Fin 256), y = ix2 r e := ⟨y 0, y 1, eq_ix2 y⟩
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have hi : ((cfg0.win 10).blk t).view.emb (ix2 r e) = (ix2 ⟨win0_15.index t 0 * 1024 + r.val, by omega⟩ e : S32768x256.Idx) := by
    funext a
    apply Fin.ext
    match a with
    | ⟨0, _⟩ => blk_simp [e10_0]
    | ⟨1, _⟩ => blk_simp [e10_1]
  show (out0_10 (F := Ideal) (iblk m c 0 t) (iblk m c 1 t) (iblk m c 2 t) (iblk m c 3 t) (iblk m c 4 t) (iblk m c 5 t) (iblk m c 6 t)
    (iblk m c 7 t) (iblk m c 8 t) : S1024x256.Idx → EReal) (ix2 r e) = R10 _ _ (((cfg0.win 10).blk t).view.emb (ix2 r e))
  rw [hi]
  exact out10_spec (m ((c : Thread nD τ).loc main_arg0)) (m ((c : Thread nD τ).loc main_arg1)) (blkOf t) _ _ _ _ _ _ _ _ _ (blk_x m c t) (blk_wkv m c t) (blk_ca m c t) (blk_sa m c t) r e

/-- An index lies in the block it names. -/
theorem mem10 (t : Fin cfg0.N) (i : S32768x256.Idx) (h : (i 0).val / 1024 = win0_15.index t 0) : i ∈ ((cfg0.win 10).blk t).view.set := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have i0 : (i 0).val < 32768 := (i 0).isLt
  have i1 : (i 1).val < 256 := (i 1).isLt
  show i ∈ ((View.whole main_v46_1).slice (win0_10.rect t)).set
  rw [View.set_slice_whole, Rect.mem_set_unit]
  intro a
  match a with
  | ⟨0, _⟩ => show win0_10.index t 0 * 1024 ≤ (i 0).val ∧ (i 0).val < win0_10.index t 0 * 1024 + 1024
              omega
  | ⟨1, _⟩ => show win0_10.index t 1 * 256 ≤ (i 1).val ∧ (i 1).val < win0_10.index t 1 * 256 + 256
              omega

/-- Every block is some point's. -/
theorem surj10 : ∀ a : Fin 32, ∃ t : Fin cfg0.N, (cfg0.win 10).flush t = true ∧ a.val = win0_15.index t 0 := by
  decide +kernel

/-- The kernel's keys. -/
theorem final10 (c : Dev nD) : (dats m 0 c).arrAt 10 cfg0.N = R10 (m ((c : Thread nD τ).loc main_arg0)) (m ((c : Thread nD τ).loc main_arg1)) :=
  (dats m 0 c).arrAt_eq_of_cover 10 _ (fun t _ => flushed10 m c t) fun i => by
    have h : (i 0).val < 32768 := (i 0).isLt
    obtain ⟨t, hf, ha⟩ := surj10 ⟨(i 0).val / 1024, by omega⟩
    exact ⟨t, hf, mem10 t i ha⟩

/-- Each point writes back its block of the values. -/
theorem flushed11 (c : Dev nD) (t : Fin cfg0.N) :
    (dats m 0 c).flushed 11 t = ((cfg0.win 11).blk t).view.read (Elt Ideal) (R11 (m ((c : Thread nD τ).loc main_arg0)) (m ((c : Thread nD τ).loc main_arg1))) := by
  rw [Value.flushed11]
  funext y
  obtain ⟨b, e, u, rfl⟩ : ∃ (b : Fin 4) (e : Fin 288) (u : Fin 256), y = ix3 b e u := ⟨y 0, y 1, y 2, eq_ix3 y⟩
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have hi : ((cfg0.win 11).blk t).view.emb (ix3 b e u) = (ix3 ⟨win0_15.index t 0 * 4 + b.val, by omega⟩ e u : S128x288x256.Idx) := by
    funext a
    apply Fin.ext
    match a with
    | ⟨0, _⟩ => blk_simp [e11_0]
    | ⟨1, _⟩ => blk_simp [e11_1]
    | ⟨2, _⟩ => blk_simp [e11_2]
  show (out0_11 (F := Ideal) (iblk m c 0 t) (iblk m c 1 t) (iblk m c 2 t) (iblk m c 3 t) (iblk m c 4 t) (iblk m c 5 t) (iblk m c 6 t)
    (iblk m c 7 t) (iblk m c 8 t) : S4x288x256.Idx → EReal) (ix3 b e u) = R11 _ _ (((cfg0.win 11).blk t).view.emb (ix3 b e u))
  rw [hi]
  exact out11_spec (m ((c : Thread nD τ).loc main_arg0)) (m ((c : Thread nD τ).loc main_arg1)) (blkOf t) _ _ _ _ _ _ _ _ _ (blk_x m c t) (blk_wkv m c t) b e u

/-- An index lies in the block it names. -/
theorem mem11 (t : Fin cfg0.N) (i : S128x288x256.Idx) (h : (i 0).val / 4 = win0_15.index t 0) : i ∈ ((cfg0.win 11).blk t).view.set := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have i0 : (i 0).val < 128 := (i 0).isLt
  have i1 : (i 1).val < 288 := (i 1).isLt
  have i2 : (i 2).val < 256 := (i 2).isLt
  show i ∈ ((View.whole main_v46_2).slice (win0_11.rect t)).set
  rw [View.set_slice_whole, Rect.mem_set_unit]
  intro a
  match a with
  | ⟨0, _⟩ => show win0_11.index t 0 * 4 ≤ (i 0).val ∧ (i 0).val < win0_11.index t 0 * 4 + 4
              omega
  | ⟨1, _⟩ => show win0_11.index t 1 * 288 ≤ (i 1).val ∧ (i 1).val < win0_11.index t 1 * 288 + 288
              omega
  | ⟨2, _⟩ => show win0_11.index t 2 * 256 ≤ (i 2).val ∧ (i 2).val < win0_11.index t 2 * 256 + 256
              omega

/-- Every block is some point's. -/
theorem surj11 : ∀ a : Fin 32, ∃ t : Fin cfg0.N, (cfg0.win 11).flush t = true ∧ a.val = win0_15.index t 0 := by
  decide +kernel

/-- The kernel's values. -/
theorem final11 (c : Dev nD) : (dats m 0 c).arrAt 11 cfg0.N = R11 (m ((c : Thread nD τ).loc main_arg0)) (m ((c : Thread nD τ).loc main_arg1)) :=
  (dats m 0 c).arrAt_eq_of_cover 11 _ (fun t _ => flushed11 m c t) fun i => by
    have h : (i 0).val < 128 := (i 0).isLt
    obtain ⟨t, hf, ha⟩ := surj11 ⟨(i 0).val / 4, by omega⟩
    exact ⟨t, hf, mem11 t i ha⟩

/-- Each point writes back its block of the indexer's queries. -/
theorem flushed12 (c : Dev nD) (t : Fin cfg0.N) :
    (dats m 0 c).flushed 12 t = ((cfg0.win 12).blk t).view.read (Elt Ideal) (R12 (m ((c : Thread nD τ).loc main_arg0)) (m ((c : Thread nD τ).loc main_arg1))) := by
  rw [Value.flushed12]
  funext y
  obtain ⟨e, r, rfl⟩ : ∃ (e : Fin 1024) (r : Fin 1024), y = ix2 e r := ⟨y 0, y 1, eq_ix2 y⟩
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have hi : ((cfg0.win 12).blk t).view.emb (ix2 e r) = (ix2 e ⟨win0_15.index t 0 * 1024 + r.val, by omega⟩ : S1024x32768.Idx) := by
    funext a
    apply Fin.ext
    match a with
    | ⟨0, _⟩ => blk_simp [e12_0]
    | ⟨1, _⟩ => blk_simp [e12_1]
  show (out0_12 (F := Ideal) (iblk m c 0 t) (iblk m c 1 t) (iblk m c 2 t) (iblk m c 3 t) (iblk m c 4 t) (iblk m c 5 t) (iblk m c 6 t)
    (iblk m c 7 t) (iblk m c 8 t) : S1024x1024.Idx → EReal) (ix2 e r) = R12 _ _ (((cfg0.win 12).blk t).view.emb (ix2 e r))
  rw [hi]
  exact out12_spec (m ((c : Thread nD τ).loc main_arg0)) (m ((c : Thread nD τ).loc main_arg1)) (blkOf t) _ _ _ _ _ _ _ _ _ (blk_x m c t) (blk_wqi m c t) (blk_ci m c t) (blk_si m c t) e r

/-- An index lies in the block it names. -/
theorem mem12 (t : Fin cfg0.N) (i : S1024x32768.Idx) (h : (i 1).val / 1024 = win0_15.index t 0) : i ∈ ((cfg0.win 12).blk t).view.set := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have i0 : (i 0).val < 1024 := (i 0).isLt
  have i1 : (i 1).val < 32768 := (i 1).isLt
  show i ∈ ((View.whole main_v46_3).slice (win0_12.rect t)).set
  rw [View.set_slice_whole, Rect.mem_set_unit]
  intro a
  match a with
  | ⟨0, _⟩ => show win0_12.index t 0 * 1024 ≤ (i 0).val ∧ (i 0).val < win0_12.index t 0 * 1024 + 1024
              omega
  | ⟨1, _⟩ => show win0_12.index t 1 * 1024 ≤ (i 1).val ∧ (i 1).val < win0_12.index t 1 * 1024 + 1024
              omega

/-- Every block is some point's. -/
theorem surj12 : ∀ a : Fin 32, ∃ t : Fin cfg0.N, (cfg0.win 12).flush t = true ∧ a.val = win0_15.index t 0 := by
  decide +kernel

/-- The kernel's indexer's queries. -/
theorem final12 (c : Dev nD) : (dats m 0 c).arrAt 12 cfg0.N = R12 (m ((c : Thread nD τ).loc main_arg0)) (m ((c : Thread nD τ).loc main_arg1)) :=
  (dats m 0 c).arrAt_eq_of_cover 12 _ (fun t _ => flushed12 m c t) fun i => by
    have h : (i 1).val < 32768 := (i 1).isLt
    obtain ⟨t, hf, ha⟩ := surj12 ⟨(i 1).val / 1024, by omega⟩
    exact ⟨t, hf, mem12 t i ha⟩

/-- Each point writes back its block of the indexer's key. -/
theorem flushed13 (c : Dev nD) (t : Fin cfg0.N) :
    (dats m 0 c).flushed 13 t = ((cfg0.win 13).blk t).view.read (Elt Ideal) (R13 (m ((c : Thread nD τ).loc main_arg0)) (m ((c : Thread nD τ).loc main_arg1))) := by
  rw [Value.flushed13]
  funext y
  obtain ⟨r, e, rfl⟩ : ∃ (r : Fin 1024) (e : Fin 64), y = ix2 r e := ⟨y 0, y 1, eq_ix2 y⟩
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have hi : ((cfg0.win 13).blk t).view.emb (ix2 r e) = (ix2 ⟨win0_15.index t 0 * 1024 + r.val, by omega⟩ e : S32768x64.Idx) := by
    funext a
    apply Fin.ext
    match a with
    | ⟨0, _⟩ => blk_simp [e13_0]
    | ⟨1, _⟩ => blk_simp [e13_1]
  show (out0_13 (F := Ideal) (iblk m c 0 t) (iblk m c 1 t) (iblk m c 2 t) (iblk m c 3 t) (iblk m c 4 t) (iblk m c 5 t) (iblk m c 6 t)
    (iblk m c 7 t) (iblk m c 8 t) : S1024x64.Idx → EReal) (ix2 r e) = R13 _ _ (((cfg0.win 13).blk t).view.emb (ix2 r e))
  rw [hi]
  exact out13_spec (m ((c : Thread nD τ).loc main_arg0)) (m ((c : Thread nD τ).loc main_arg1)) (blkOf t) _ _ _ _ _ _ _ _ _ (blk_x m c t) (blk_wkw m c t) (blk_ci m c t) (blk_si m c t) r e

/-- An index lies in the block it names. -/
theorem mem13 (t : Fin cfg0.N) (i : S32768x64.Idx) (h : (i 0).val / 1024 = win0_15.index t 0) : i ∈ ((cfg0.win 13).blk t).view.set := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have i0 : (i 0).val < 32768 := (i 0).isLt
  have i1 : (i 1).val < 64 := (i 1).isLt
  show i ∈ ((View.whole main_v46_4).slice (win0_13.rect t)).set
  rw [View.set_slice_whole, Rect.mem_set_unit]
  intro a
  match a with
  | ⟨0, _⟩ => show win0_13.index t 0 * 1024 ≤ (i 0).val ∧ (i 0).val < win0_13.index t 0 * 1024 + 1024
              omega
  | ⟨1, _⟩ => show win0_13.index t 1 * 64 ≤ (i 1).val ∧ (i 1).val < win0_13.index t 1 * 64 + 64
              omega

/-- Every block is some point's. -/
theorem surj13 : ∀ a : Fin 32, ∃ t : Fin cfg0.N, (cfg0.win 13).flush t = true ∧ a.val = win0_15.index t 0 := by
  decide +kernel

/-- The kernel's indexer's key. -/
theorem final13 (c : Dev nD) : (dats m 0 c).arrAt 13 cfg0.N = R13 (m ((c : Thread nD τ).loc main_arg0)) (m ((c : Thread nD τ).loc main_arg1)) :=
  (dats m 0 c).arrAt_eq_of_cover 13 _ (fun t _ => flushed13 m c t) fun i => by
    have h : (i 0).val < 32768 := (i 0).isLt
    obtain ⟨t, hf, ha⟩ := surj13 ⟨(i 0).val / 1024, by omega⟩
    exact ⟨t, hf, mem13 t i ha⟩

/-- Each point writes back its block of the indexer's weights. -/
theorem flushed14 (c : Dev nD) (t : Fin cfg0.N) :
    (dats m 0 c).flushed 14 t = ((cfg0.win 14).blk t).view.read (Elt Ideal) (R14 (m ((c : Thread nD τ).loc main_arg0)) (m ((c : Thread nD τ).loc main_arg1))) := by
  rw [Value.flushed14]
  funext y
  obtain ⟨e, r, rfl⟩ : ∃ (e : Fin 16) (r : Fin 1024), y = ix2 e r := ⟨y 0, y 1, eq_ix2 y⟩
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have hi : ((cfg0.win 14).blk t).view.emb (ix2 e r) = (ix2 e ⟨win0_15.index t 0 * 1024 + r.val, by omega⟩ : S16x32768.Idx) := by
    funext a
    apply Fin.ext
    match a with
    | ⟨0, _⟩ => blk_simp [e14_0]
    | ⟨1, _⟩ => blk_simp [e14_1]
  show (out0_14 (F := Ideal) (iblk m c 0 t) (iblk m c 1 t) (iblk m c 2 t) (iblk m c 3 t) (iblk m c 4 t) (iblk m c 5 t) (iblk m c 6 t)
    (iblk m c 7 t) (iblk m c 8 t) : S16x1024.Idx → EReal) (ix2 e r) = R14 _ _ (((cfg0.win 14).blk t).view.emb (ix2 e r))
  rw [hi]
  exact out14_spec (m ((c : Thread nD τ).loc main_arg0)) (m ((c : Thread nD τ).loc main_arg1)) (blkOf t) _ _ _ _ _ _ _ _ _ (blk_x m c t) (blk_wkw m c t) e r

/-- An index lies in the block it names. -/
theorem mem14 (t : Fin cfg0.N) (i : S16x32768.Idx) (h : (i 1).val / 1024 = win0_15.index t 0) : i ∈ ((cfg0.win 14).blk t).view.set := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have i0 : (i 0).val < 16 := (i 0).isLt
  have i1 : (i 1).val < 32768 := (i 1).isLt
  show i ∈ ((View.whole main_v46_5).slice (win0_14.rect t)).set
  rw [View.set_slice_whole, Rect.mem_set_unit]
  intro a
  match a with
  | ⟨0, _⟩ => show win0_14.index t 0 * 16 ≤ (i 0).val ∧ (i 0).val < win0_14.index t 0 * 16 + 16
              omega
  | ⟨1, _⟩ => show win0_14.index t 1 * 1024 ≤ (i 1).val ∧ (i 1).val < win0_14.index t 1 * 1024 + 1024
              omega

/-- Every block is some point's. -/
theorem surj14 : ∀ a : Fin 32, ∃ t : Fin cfg0.N, (cfg0.win 14).flush t = true ∧ a.val = win0_15.index t 0 := by
  decide +kernel

/-- The kernel's indexer's weights. -/
theorem final14 (c : Dev nD) : (dats m 0 c).arrAt 14 cfg0.N = R14 (m ((c : Thread nD τ).loc main_arg0)) (m ((c : Thread nD τ).loc main_arg1)) :=
  (dats m 0 c).arrAt_eq_of_cover 14 _ (fun t _ => flushed14 m c t) fun i => by
    have h : (i 1).val < 32768 := (i 1).isLt
    obtain ⟨t, hf, ha⟩ := surj14 ⟨(i 1).val / 1024, by omega⟩
    exact ⟨t, hf, mem14 t i ha⟩

/-- Each point writes back its block of the input. -/
theorem flushed15 (c : Dev nD) (t : Fin cfg0.N) :
    (dats m 0 c).flushed 15 t = ((cfg0.win 15).blk t).view.read (Elt Ideal) (R15 (m ((c : Thread nD τ).loc main_arg0))) := by
  rw [Value.flushed15]
  funext y
  obtain ⟨r, k, rfl⟩ : ∃ (r : Fin 1024) (k : Fin 2048), y = ix2 r k := ⟨y 0, y 1, eq_ix2 y⟩
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have hi : ((cfg0.win 15).blk t).view.emb (ix2 r k) = (ix2 ⟨win0_15.index t 0 * 1024 + r.val, by omega⟩ k : S32768x2048.Idx) := by
    funext a
    apply Fin.ext
    match a with
    | ⟨0, _⟩ => blk_simp
    | ⟨1, _⟩ => blk_simp [e15_1]
  show (out0_15 (F := Ideal) (iblk m c 0 t) (iblk m c 1 t) (iblk m c 2 t) (iblk m c 3 t) (iblk m c 4 t) (iblk m c 5 t) (iblk m c 6 t)
    (iblk m c 7 t) (iblk m c 8 t) : S1024x2048.Idx → EReal) (ix2 r k) = R15 _ (((cfg0.win 15).blk t).view.emb (ix2 r k))
  rw [hi]
  exact out15_spec (m ((c : Thread nD τ).loc main_arg0)) (blkOf t) _ _ _ _ _ _ _ _ _ (blk_x m c t) r k

/-- An index lies in the block it names. -/
theorem mem15 (t : Fin cfg0.N) (i : S32768x2048.Idx) (h : (i 0).val / 1024 = win0_15.index t 0) : i ∈ ((cfg0.win 15).blk t).view.set := by
  obtain ⟨hlt, e0_0, e0_1, e1_0, e1_1, e2_0, e2_1, e3_0, e3_1, e4_0, e4_1, e5_0, e5_1, e6_0, e6_1, e7_0, e7_1, e8_0, e8_1, e9_0, e9_1, e10_0, e10_1, e11_0, e11_1, e11_2, e12_0, e12_1, e13_0, e13_1, e14_0, e14_1, e15_1⟩ := idx_facts t
  have i0 : (i 0).val < 32768 := (i 0).isLt
  have i1 : (i 1).val < 2048 := (i 1).isLt
  show i ∈ ((View.whole main_v46_6).slice (win0_15.rect t)).set
  rw [View.set_slice_whole, Rect.mem_set_unit]
  intro a
  match a with
  | ⟨0, _⟩ => show win0_15.index t 0 * 1024 ≤ (i 0).val ∧ (i 0).val < win0_15.index t 0 * 1024 + 1024
              omega
  | ⟨1, _⟩ => show win0_15.index t 1 * 2048 ≤ (i 1).val ∧ (i 1).val < win0_15.index t 1 * 2048 + 2048
              omega

/-- Every block is some point's. -/
theorem surj15 : ∀ a : Fin 32, ∃ t : Fin cfg0.N, (cfg0.win 15).flush t = true ∧ a.val = win0_15.index t 0 := by
  decide +kernel

/-- The kernel's input. -/
theorem final15 (c : Dev nD) : (dats m 0 c).arrAt 15 cfg0.N = R15 (m ((c : Thread nD τ).loc main_arg0)) :=
  (dats m 0 c).arrAt_eq_of_cover 15 _ (fun t _ => flushed15 m c t) fun i => by
    have h : (i 0).val < 32768 := (i 0).isLt
    obtain ⟨t, hf, ha⟩ := surj15 ⟨(i 0).val / 1024, by omega⟩
    exact ⟨t, hf, mem15 t i ha⟩

/-- The reference's queries. -/
theorem whole9 (x0 : S8x4096x2048.Idx → EReal) (x1 : S1x2048x6752.Idx → EReal) :
    (Cert.Reference4Ideal.Read.val_main_v164 (F := Ideal) x0 x1 : S1024x32768.Idx → EReal) = R9 x0 x1 := by
  funext y
  obtain ⟨e, r, rfl⟩ : ∃ (e : Fin 1024) (r : Fin 32768), y = ix2 e r := ⟨y 0, y 1, eq_ix2 y⟩
  exact ref_q x0 x1 e r

/-- The reference's keys. -/
theorem whole10 (x0 : S8x4096x2048.Idx → EReal) (x1 : S1x2048x6752.Idx → EReal) :
    (Cert.Reference4Ideal.Read.val_main_v166 (F := Ideal) x0 x1 : S32768x256.Idx → EReal) = R10 x0 x1 := by
  funext y
  obtain ⟨r, e, rfl⟩ : ∃ (r : Fin 32768) (e : Fin 256), y = ix2 r e := ⟨y 0, y 1, eq_ix2 y⟩
  exact ref_k x0 x1 r e

/-- The reference's values. -/
theorem whole11 (x0 : S8x4096x2048.Idx → EReal) (x1 : S1x2048x6752.Idx → EReal) :
    (Cert.Reference4Ideal.Read.val_main_v168 (F := Ideal) x0 x1 : S128x288x256.Idx → EReal) = R11 x0 x1 := by
  funext y
  obtain ⟨b, e, u, rfl⟩ : ∃ (b : Fin 128) (e : Fin 288) (u : Fin 256), y = ix3 b e u := ⟨y 0, y 1, y 2, eq_ix3 y⟩
  exact ref_v x0 x1 b e u

/-- The reference's indexer's queries. -/
theorem whole12 (x0 : S8x4096x2048.Idx → EReal) (x1 : S1x2048x6752.Idx → EReal) :
    (Cert.Reference4Ideal.Read.val_main_v171 (F := Ideal) x0 x1 : S1024x32768.Idx → EReal) = R12 x0 x1 := by
  funext y
  obtain ⟨e, r, rfl⟩ : ∃ (e : Fin 1024) (r : Fin 32768), y = ix2 e r := ⟨y 0, y 1, eq_ix2 y⟩
  exact ref_qi x0 x1 e r

/-- The reference's indexer's key. -/
theorem whole13 (x0 : S8x4096x2048.Idx → EReal) (x1 : S1x2048x6752.Idx → EReal) :
    (Cert.Reference4Ideal.Read.val_main_v173 (F := Ideal) x0 x1 : S32768x64.Idx → EReal) = R13 x0 x1 := by
  funext y
  obtain ⟨r, e, rfl⟩ : ∃ (r : Fin 32768) (e : Fin 64), y = ix2 r e := ⟨y 0, y 1, eq_ix2 y⟩
  exact ref_ki x0 x1 r e

/-- The reference's indexer's weights. -/
theorem whole14 (x0 : S8x4096x2048.Idx → EReal) (x1 : S1x2048x6752.Idx → EReal) :
    (Cert.Reference4Ideal.Read.val_main_v175 (F := Ideal) x0 x1 : S16x32768.Idx → EReal) = R14 x0 x1 := by
  funext y
  obtain ⟨e, r, rfl⟩ : ∃ (e : Fin 16) (r : Fin 32768), y = ix2 e r := ⟨y 0, y 1, eq_ix2 y⟩
  exact ref_w x0 x1 e r

/-- The reference's input. -/
theorem whole15 (x0 : S8x4096x2048.Idx → EReal) :
    (Cert.Reference4Ideal.Read.val_main_v177 (F := Ideal) x0 : S32768x2048.Idx → EReal) = R15 x0 := by
  funext y
  obtain ⟨r, k, rfl⟩ : ∃ (r : Fin 32768) (k : Fin 2048), y = ix2 r k := ⟨y 0, y 1, eq_ix2 y⟩
  exact ref_x x0 r k

/-! ## The claims -/

/-- The kernel runs to its end and leaves its arguments. -/
theorem frame : Cert.quiescent_Kernel4Ideal := fun m ρ _ => Cert.Kernel4Ideal.Gen.frame m ρ

/-- The reference runs to its end and leaves its arguments. -/
theorem frame_ref : Cert.quiescent_Reference4Ideal := fun m ρ _ =>
  (θ_run Cert.Reference4Ideal.defs _ _).mono (fun r h => ⟨fun c => (h c).2.2.2.2.2.2.2,
      Idealize.ShloMosaic.sem_eq_zero_of_no_sems (by decide) r.2⟩)
    (Cert.Reference4Ideal.Value.run (F := Ideal) m ρ)

/-- The reference's run, its results as the arrays above. -/
theorem ref_run (m' : (ℓ : Loc Cert.Reference4Ideal.nD Cert.Reference4Ideal.τ Cert.Reference4Ideal.sig) → Buf (Elt Ideal) ℓ)
    (ρ' : Dev Cert.Reference4Ideal.nD → PrngReg) :
    θ_run (Cert.Reference4Ideal.defs (F := Ideal)) (onTc (τ := Cert.Reference4Ideal.τ) (Cert.Reference4Ideal.main (F := Ideal))) ⟨m', fun _ => 0, ρ'⟩
      (fun r => ∀ c : Dev Cert.Reference4Ideal.nD,
        r.2.mem ((c.tc : Thread Cert.Reference4Ideal.nD Cert.Reference4Ideal.τ).loc Cert.Reference4Ideal.main_v164) = R9 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
        ∧ r.2.mem ((c.tc : Thread Cert.Reference4Ideal.nD Cert.Reference4Ideal.τ).loc Cert.Reference4Ideal.main_v166) = R10 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
        ∧ r.2.mem ((c.tc : Thread Cert.Reference4Ideal.nD Cert.Reference4Ideal.τ).loc Cert.Reference4Ideal.main_v168) = R11 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
        ∧ r.2.mem ((c.tc : Thread Cert.Reference4Ideal.nD Cert.Reference4Ideal.τ).loc Cert.Reference4Ideal.main_v171) = R12 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
        ∧ r.2.mem ((c.tc : Thread Cert.Reference4Ideal.nD Cert.Reference4Ideal.τ).loc Cert.Reference4Ideal.main_v173) = R13 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
        ∧ r.2.mem ((c.tc : Thread Cert.Reference4Ideal.nD Cert.Reference4Ideal.τ).loc Cert.Reference4Ideal.main_v175) = R14 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
        ∧ r.2.mem ((c.tc : Thread Cert.Reference4Ideal.nD Cert.Reference4Ideal.τ).loc Cert.Reference4Ideal.main_v177) = R15 (m' ((c.tc : Thread Cert.Reference4Ideal.nD Cert.Reference4Ideal.τ).loc Cert.Reference4Ideal.main_arg0))
        ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)) := by
  refine (θ_run Cert.Reference4Ideal.defs _ _).mono (fun r h c => ?_) (Cert.Reference4Ideal.Value.run (F := Ideal) m' ρ')
  have e9 : r.2.mem ((c.tc : Thread Cert.Reference4Ideal.nD Cert.Reference4Ideal.τ).loc Cert.Reference4Ideal.main_v164) = Cert.Reference4Ideal.Read.val_main_v164 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) := (h c).1
  have e10 : r.2.mem ((c.tc : Thread Cert.Reference4Ideal.nD Cert.Reference4Ideal.τ).loc Cert.Reference4Ideal.main_v166) = Cert.Reference4Ideal.Read.val_main_v166 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) := (h c).2.1
  have e11 : r.2.mem ((c.tc : Thread Cert.Reference4Ideal.nD Cert.Reference4Ideal.τ).loc Cert.Reference4Ideal.main_v168) = Cert.Reference4Ideal.Read.val_main_v168 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) := (h c).2.2.1
  have e12 : r.2.mem ((c.tc : Thread Cert.Reference4Ideal.nD Cert.Reference4Ideal.τ).loc Cert.Reference4Ideal.main_v171) = Cert.Reference4Ideal.Read.val_main_v171 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) := (h c).2.2.2.1
  have e13 : r.2.mem ((c.tc : Thread Cert.Reference4Ideal.nD Cert.Reference4Ideal.τ).loc Cert.Reference4Ideal.main_v173) = Cert.Reference4Ideal.Read.val_main_v173 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) := (h c).2.2.2.2.1
  have e14 : r.2.mem ((c.tc : Thread Cert.Reference4Ideal.nD Cert.Reference4Ideal.τ).loc Cert.Reference4Ideal.main_v175) = Cert.Reference4Ideal.Read.val_main_v175 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) := (h c).2.2.2.2.2.1
  have e15 : r.2.mem ((c.tc : Thread Cert.Reference4Ideal.nD Cert.Reference4Ideal.τ).loc Cert.Reference4Ideal.main_v177) = Cert.Reference4Ideal.Read.val_main_v177 (F := Ideal) (m' ((c.tc : Thread Cert.Reference4Ideal.nD Cert.Reference4Ideal.τ).loc Cert.Reference4Ideal.main_arg0)) := (h c).2.2.2.2.2.2.1
  exact ⟨e9.trans (whole9 _ _), e10.trans (whole10 _ _), e11.trans (whole11 _ _), e12.trans (whole12 _ _), e13.trans (whole13 _ _), e14.trans (whole14 _ _), e15.trans (whole15 _), (h c).2.2.2.2.2.2.2⟩

/-- The projections and their reference, at the extended reals, leave the same results. -/
theorem algebraic : Cert.algebraic_Kernel4Ideal_Reference4Ideal := by
  intro m ρ m' ρ' _ hagree
  refine ⟨fun c => R9 (m ((c : Thread nD τ).loc main_arg0)) (m ((c : Thread nD τ).loc main_arg1)),
    fun c => R10 (m ((c : Thread nD τ).loc main_arg0)) (m ((c : Thread nD τ).loc main_arg1)),
    fun c => R11 (m ((c : Thread nD τ).loc main_arg0)) (m ((c : Thread nD τ).loc main_arg1)),
    fun c => R12 (m ((c : Thread nD τ).loc main_arg0)) (m ((c : Thread nD τ).loc main_arg1)),
    fun c => R13 (m ((c : Thread nD τ).loc main_arg0)) (m ((c : Thread nD τ).loc main_arg1)),
    fun c => R14 (m ((c : Thread nD τ).loc main_arg0)) (m ((c : Thread nD τ).loc main_arg1)),
    fun c => R15 (m ((c : Thread nD τ).loc main_arg0)), ?_, ?_⟩
  · refine (θ_run Cert.Kernel4Ideal.defs _ _).mono (fun _ h c => ?_) (Value.run_blocks (F := Ideal) m ρ)
    obtain ⟨h9, h10, h11, h12, h13, h14, h15, ha⟩ := h c
    exact ⟨h9.trans (final9 m c), h10.trans (final10 m c), h11.trans (final11 m c), h12.trans (final12 m c), h13.trans (final13 m c), h14.trans (final14 m c), h15.trans (final15 m c), ha⟩
  · refine (θ_run Cert.Reference4Ideal.defs _ _).mono (fun _ h c => ?_) (ref_run m' ρ')
    obtain ⟨a0, a1⟩ := hagree c
    have hc := h c
    rw [a0, a1] at hc
    rw [a0, a1]
    exact hc

end Cert.Proof.ProjT

end
-- ==== Proof.lean ====
/- The proof of the claims: the attention call's frame, and of the projections each frame and the value against its
   reference. -/
module

public import proofs.«01_k».proof.Defs
public import proofs.«01_k».proof.Proof.Gen.Kernel
public import proofs.«01_k».proof.Proof.Attention
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel2.Frame
public import proofs.«01_k».proof.Proof.Gen.Kernel3.Frame
public import proofs.«01_k».proof.Proof.Gen.Kernel4Ideal.Value
public import proofs.«01_k».proof.Proof.Gen.Reference4Ideal.Read
public import proofs.«01_k».proof.Proof.Gen.Kernel4.Frame
public import proofs.«01_k».proof.Proof.Gen.Kernel5.Frame
public import proofs.«01_k».proof.Proof.ProjN
public import proofs.«01_k».proof.Proof.OutProj
public import proofs.«01_k».proof.Proof.ProjT

@[expose] public section

noncomputable section

namespace Cert.Proof

open Idealize.ShloMosaic

/-- The frame of the call `proj_n`. -/
theorem frame2 : Cert.quiescent_Kernel2 := fun m ρ _ => Cert.Kernel2.Gen.frame m ρ

/-- The frame of the call `out_proj_ln`. -/
theorem frame3 : Cert.quiescent_Kernel3 := fun m ρ _ => Cert.Kernel3.Gen.frame m ρ

/-- The frame of the call `proj_t`. -/
theorem frame4 : Cert.quiescent_Kernel4 := fun m ρ _ => Cert.Kernel4.Gen.frame m ρ

/-- The frame of the call `ssd_mixer`. -/
theorem frame5 : Cert.quiescent_Kernel5 := fun m ρ _ => Cert.Kernel5.Gen.frame m ρ

/-- Everything claimed. -/
theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Attention.quiescent, frame2, ProjN.frame, ProjN.frame_ref, frame3, OutProj.frame, OutProj.frame_ref, frame4, ProjT.frame, ProjT.frame_ref, frame5,
    trivial, ProjN.algebraic, trivial, OutProj.algebraic, trivial, ProjT.algebraic⟩

end Cert.Proof

end
